-- ==== Defs.lean ====
def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_args [hPre_finite_args : Cert.Pre_finite_args.Facts] (m : (ℓ : Loc Cert.AttnIdeal.nD Cert.AttnIdeal.τ Cert.AttnIdeal.sig) → Buf (Elt Ideal) ℓ) : Prop :=
  ∀ c : Dev Cert.AttnIdeal.nD,
    (Cert.Pre_finite_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_args [hPre_finite_args : Cert.Pre_finite_args.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXIdeal_finite_proj [hPre_finite_proj : Cert.Pre_finite_proj.Facts] (m : (ℓ : Loc Cert.GradXIdeal.nD Cert.GradXIdeal.τ Cert.GradXIdeal.sig) → Buf (Elt Ideal) ℓ) : Prop :=
  ∀ c : Dev Cert.GradXIdeal.nD,
    (Cert.Pre_finite_proj.fn (F := Ideal) (m ((c.tc : Thread Cert.GradXIdeal.nD Cert.GradXIdeal.τ).loc Cert.GradXIdeal.main_arg0)) (m ((c.tc : Thread Cert.GradXIdeal.nD Cert.GradXIdeal.τ).loc Cert.GradXIdeal.main_arg1)) (m ((c.tc : Thread Cert.GradXIdeal.nD Cert.GradXIdeal.τ).loc Cert.GradXIdeal.main_arg2)) (m ((c.tc : Thread Cert.GradXIdeal.nD Cert.GradXIdeal.τ).loc Cert.GradXIdeal.main_arg3)) (m ((c.tc : Thread Cert.GradXIdeal.nD Cert.GradXIdeal.τ).loc Cert.GradXIdeal.main_arg4))).1 = (fun _ => 1#1)
    ∧ (Cert.Pre_finite_proj.fn (F := Ideal) (m ((c.tc : Thread Cert.GradXIdeal.nD Cert.GradXIdeal.τ).loc Cert.GradXIdeal.main_arg0)) (m ((c.tc : Thread Cert.GradXIdeal.nD Cert.GradXIdeal.τ).loc Cert.GradXIdeal.main_arg1)) (m ((c.tc : Thread Cert.GradXIdeal.nD Cert.GradXIdeal.τ).loc Cert.GradXIdeal.main_arg2)) (m ((c.tc : Thread Cert.GradXIdeal.nD Cert.GradXIdeal.τ).loc Cert.GradXIdeal.main_arg3)) (m ((c.tc : Thread Cert.GradXIdeal.nD Cert.GradXIdeal.τ).loc Cert.GradXIdeal.main_arg4))).2.1 = (fun _ => 1#1)
    ∧ (Cert.Pre_finite_proj.fn (F := Ideal) (m ((c.tc : Thread Cert.GradXIdeal.nD Cert.GradXIdeal.τ).loc Cert.GradXIdeal.main_arg0)) (m ((c.tc : Thread Cert.GradXIdeal.nD Cert.GradXIdeal.τ).loc Cert.GradXIdeal.main_arg1)) (m ((c.tc : Thread Cert.GradXIdeal.nD Cert.GradXIdeal.τ).loc Cert.GradXIdeal.main_arg2)) (m ((c.tc : Thread Cert.GradXIdeal.nD Cert.GradXIdeal.τ).loc Cert.GradXIdeal.main_arg3)) (m ((c.tc : Thread Cert.GradXIdeal.nD Cert.GradXIdeal.τ).loc Cert.GradXIdeal.main_arg4))).2.2.1 = (fun _ => 1#1)
    ∧ (Cert.Pre_finite_proj.fn (F := Ideal) (m ((c.tc : Thread Cert.GradXIdeal.nD Cert.GradXIdeal.τ).loc Cert.GradXIdeal.main_arg0)) (m ((c.tc : Thread Cert.GradXIdeal.nD Cert.GradXIdeal.τ).loc Cert.GradXIdeal.main_arg1)) (m ((c.tc : Thread Cert.GradXIdeal.nD Cert.GradXIdeal.τ).loc Cert.GradXIdeal.main_arg2)) (m ((c.tc : Thread Cert.GradXIdeal.nD Cert.GradXIdeal.τ).loc Cert.GradXIdeal.main_arg3)) (m ((c.tc : Thread Cert.GradXIdeal.nD Cert.GradXIdeal.τ).loc Cert.GradXIdeal.main_arg4))).2.2.2 = (fun _ => 1#1)

def Pre_GradXRefIdeal (m : (ℓ : Loc Cert.GradXRefIdeal.nD Cert.GradXRefIdeal.τ Cert.GradXRefIdeal.sig) → Buf (Elt Ideal) ℓ) : Prop :=
  True

def Pre_GradXRefIdeal_finite_proj [hPre_finite_proj : Cert.Pre_finite_proj.Facts] (m : (ℓ : Loc Cert.GradXRefIdeal.nD Cert.GradXRefIdeal.τ Cert.GradXRefIdeal.sig) → Buf (Elt Ideal) ℓ) : Prop :=
  ∀ c : Dev Cert.GradXRefIdeal.nD,
    (Cert.Pre_finite_proj.fn (F := Ideal) (m ((c.tc : Thread Cert.GradXRefIdeal.nD Cert.GradXRefIdeal.τ).loc Cert.GradXRefIdeal.main_arg0)) (m ((c.tc : Thread Cert.GradXRefIdeal.nD Cert.GradXRefIdeal.τ).loc Cert.GradXRefIdeal.main_arg1)) (m ((c.tc : Thread Cert.GradXRefIdeal.nD Cert.GradXRefIdeal.τ).loc Cert.GradXRefIdeal.main_arg2)) (m ((c.tc : Thread Cert.GradXRefIdeal.nD Cert.GradXRefIdeal.τ).loc Cert.GradXRefIdeal.main_arg3)) (m ((c.tc : Thread Cert.GradXRefIdeal.nD Cert.GradXRefIdeal.τ).loc Cert.GradXRefIdeal.main_arg4))).1 = (fun _ => 1#1)
    ∧ (Cert.Pre_finite_proj.fn (F := Ideal) (m ((c.tc : Thread Cert.GradXRefIdeal.nD Cert.GradXRefIdeal.τ).loc Cert.GradXRefIdeal.main_arg0)) (m ((c.tc : Thread Cert.GradXRefIdeal.nD Cert.GradXRefIdeal.τ).loc Cert.GradXRefIdeal.main_arg1)) (m ((c.tc : Thread Cert.GradXRefIdeal.nD Cert.GradXRefIdeal.τ).loc Cert.GradXRefIdeal.main_arg2)) (m ((c.tc : Thread Cert.GradXRefIdeal.nD Cert.GradXRefIdeal.τ).loc Cert.GradXRefIdeal.main_arg3)) (m ((c.tc : Thread Cert.GradXRefIdeal.nD Cert.GradXRefIdeal.τ).loc Cert.GradXRefIdeal.main_arg4))).2.1 = (fun _ => 1#1)
    ∧ (Cert.Pre_finite_proj.fn (F := Ideal) (m ((c.tc : Thread Cert.GradXRefIdeal.nD Cert.GradXRefIdeal.τ).loc Cert.GradXRefIdeal.main_arg0)) (m ((c.tc : Thread Cert.GradXRefIdeal.nD Cert.GradXRefIdeal.τ).loc Cert.GradXRefIdeal.main_arg1)) (m ((c.tc : Thread Cert.GradXRefIdeal.nD Cert.GradXRefIdeal.τ).loc Cert.GradXRefIdeal.main_arg2)) (m ((c.tc : Thread Cert.GradXRefIdeal.nD Cert.GradXRefIdeal.τ).loc Cert.GradXRefIdeal.main_arg3)) (m ((c.tc : Thread Cert.GradXRefIdeal.nD Cert.GradXRefIdeal.τ).loc Cert.GradXRefIdeal.main_arg4))).2.2.1 = (fun _ => 1#1)
    ∧ (Cert.Pre_finite_proj.fn (F := Ideal) (m ((c.tc : Thread Cert.GradXRefIdeal.nD Cert.GradXRefIdeal.τ).loc Cert.GradXRefIdeal.main_arg0)) (m ((c.tc : Thread Cert.GradXRefIdeal.nD Cert.GradXRefIdeal.τ).loc Cert.GradXRefIdeal.main_arg1)) (m ((c.tc : Thread Cert.GradXRefIdeal.nD Cert.GradXRefIdeal.τ).loc Cert.GradXRefIdeal.main_arg2)) (m ((c.tc : Thread Cert.GradXRefIdeal.nD Cert.GradXRefIdeal.τ).loc Cert.GradXRefIdeal.main_arg3)) (m ((c.tc : Thread Cert.GradXRefIdeal.nD Cert.GradXRefIdeal.τ).loc Cert.GradXRefIdeal.main_arg4))).2.2.2 = (fun _ => 1#1)

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWIdeal_finite_weight [hPre_finite_weight : Cert.Pre_finite_weight.Facts] (m : (ℓ : Loc Cert.GradWIdeal.nD Cert.GradWIdeal.τ Cert.GradWIdeal.sig) → Buf (Elt Ideal) ℓ) : Prop :=
  ∀ c : Dev Cert.GradWIdeal.nD,
    (Cert.Pre_finite_weight.fn (F := Ideal) (m ((c.tc : Thread Cert.GradWIdeal.nD Cert.GradWIdeal.τ).loc Cert.GradWIdeal.main_arg0)) (m ((c.tc : Thread Cert.GradWIdeal.nD Cert.GradWIdeal.τ).loc Cert.GradWIdeal.main_arg1)) (m ((c.tc : Thread Cert.GradWIdeal.nD Cert.GradWIdeal.τ).loc Cert.GradWIdeal.main_arg2)) (m ((c.tc : Thread Cert.GradWIdeal.nD Cert.GradWIdeal.τ).loc Cert.GradWIdeal.main_arg3))).1 = (fun _ => 1#1)
    ∧ (Cert.Pre_finite_weight.fn (F := Ideal) (m ((c.tc : Thread Cert.GradWIdeal.nD Cert.GradWIdeal.τ).loc Cert.GradWIdeal.main_arg0)) (m ((c.tc : Thread Cert.GradWIdeal.nD Cert.GradWIdeal.τ).loc Cert.GradWIdeal.main_arg1)) (m ((c.tc : Thread Cert.GradWIdeal.nD Cert.GradWIdeal.τ).loc Cert.GradWIdeal.main_arg2)) (m ((c.tc : Thread Cert.GradWIdeal.nD Cert.GradWIdeal.τ).loc Cert.GradWIdeal.main_arg3))).2.1 = (fun _ => 1#1)
    ∧ (Cert.Pre_finite_weight.fn (F := Ideal) (m ((c.tc : Thread Cert.GradWIdeal.nD Cert.GradWIdeal.τ).loc Cert.GradWIdeal.main_arg0)) (m ((c.tc : Thread Cert.GradWIdeal.nD Cert.GradWIdeal.τ).loc Cert.GradWIdeal.main_arg1)) (m ((c.tc : Thread Cert.GradWIdeal.nD Cert.GradWIdeal.τ).loc Cert.GradWIdeal.main_arg2)) (m ((c.tc : Thread Cert.GradWIdeal.nD Cert.GradWIdeal.τ).loc Cert.GradWIdeal.main_arg3))).2.2.1 = (fun _ => 1#1)
    ∧ (Cert.Pre_finite_weight.fn (F := Ideal) (m ((c.tc : Thread Cert.GradWIdeal.nD Cert.GradWIdeal.τ).loc Cert.GradWIdeal.main_arg0)) (m ((c.tc : Thread Cert.GradWIdeal.nD Cert.GradWIdeal.τ).loc Cert.GradWIdeal.main_arg1)) (m ((c.tc : Thread Cert.GradWIdeal.nD Cert.GradWIdeal.τ).loc Cert.GradWIdeal.main_arg2)) (m ((c.tc : Thread Cert.GradWIdeal.nD Cert.GradWIdeal.τ).loc Cert.GradWIdeal.main_arg3))).2.2.2 = (fun _ => 1#1)

def Pre_GradWRefIdeal (m : (ℓ : Loc Cert.GradWRefIdeal.nD Cert.GradWRefIdeal.τ Cert.GradWRefIdeal.sig) → Buf (Elt Ideal) ℓ) : Prop :=
  True

def Pre_GradWRefIdeal_finite_weight [hPre_finite_weight : Cert.Pre_finite_weight.Facts] (m : (ℓ : Loc Cert.GradWRefIdeal.nD Cert.GradWRefIdeal.τ Cert.GradWRefIdeal.sig) → Buf (Elt Ideal) ℓ) : Prop :=
  ∀ c : Dev Cert.GradWRefIdeal.nD,
    (Cert.Pre_finite_weight.fn (F := Ideal) (m ((c.tc : Thread Cert.GradWRefIdeal.nD Cert.GradWRefIdeal.τ).loc Cert.GradWRefIdeal.main_arg0)) (m ((c.tc : Thread Cert.GradWRefIdeal.nD Cert.GradWRefIdeal.τ).loc Cert.GradWRefIdeal.main_arg1)) (m ((c.tc : Thread Cert.GradWRefIdeal.nD Cert.GradWRefIdeal.τ).loc Cert.GradWRefIdeal.main_arg2)) (m ((c.tc : Thread Cert.GradWRefIdeal.nD Cert.GradWRefIdeal.τ).loc Cert.GradWRefIdeal.main_arg3))).1 = (fun _ => 1#1)
    ∧ (Cert.Pre_finite_weight.fn (F := Ideal) (m ((c.tc : Thread Cert.GradWRefIdeal.nD Cert.GradWRefIdeal.τ).loc Cert.GradWRefIdeal.main_arg0)) (m ((c.tc : Thread Cert.GradWRefIdeal.nD Cert.GradWRefIdeal.τ).loc Cert.GradWRefIdeal.main_arg1)) (m ((c.tc : Thread Cert.GradWRefIdeal.nD Cert.GradWRefIdeal.τ).loc Cert.GradWRefIdeal.main_arg2)) (m ((c.tc : Thread Cert.GradWRefIdeal.nD Cert.GradWRefIdeal.τ).loc Cert.GradWRefIdeal.main_arg3))).2.1 = (fun _ => 1#1)
    ∧ (Cert.Pre_finite_weight.fn (F := Ideal) (m ((c.tc : Thread Cert.GradWRefIdeal.nD Cert.GradWRefIdeal.τ).loc Cert.GradWRefIdeal.main_arg0)) (m ((c.tc : Thread Cert.GradWRefIdeal.nD Cert.GradWRefIdeal.τ).loc Cert.GradWRefIdeal.main_arg1)) (m ((c.tc : Thread Cert.GradWRefIdeal.nD Cert.GradWRefIdeal.τ).loc Cert.GradWRefIdeal.main_arg2)) (m ((c.tc : Thread Cert.GradWRefIdeal.nD Cert.GradWRefIdeal.τ).loc Cert.GradWRefIdeal.main_arg3))).2.2.1 = (fun _ => 1#1)
    ∧ (Cert.Pre_finite_weight.fn (F := Ideal) (m ((c.tc : Thread Cert.GradWRefIdeal.nD Cert.GradWRefIdeal.τ).loc Cert.GradWRefIdeal.main_arg0)) (m ((c.tc : Thread Cert.GradWRefIdeal.nD Cert.GradWRefIdeal.τ).loc Cert.GradWRefIdeal.main_arg1)) (m ((c.tc : Thread Cert.GradWRefIdeal.nD Cert.GradWRefIdeal.τ).loc Cert.GradWRefIdeal.main_arg2)) (m ((c.tc : Thread Cert.GradWRefIdeal.nD Cert.GradWRefIdeal.τ).loc Cert.GradWRefIdeal.main_arg3))).2.2.2 = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.2.2.2.2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8)) (m ((c.tc : Thread Cert.MidIdeal.nD Cert.MidIdeal.τ).loc Cert.MidIdeal.main_arg9)) (m ((c.tc : Thread Cert.MidIdeal.nD Cert.MidIdeal.τ).loc Cert.MidIdeal.main_arg10)) (m ((c.tc : Thread Cert.MidIdeal.nD Cert.MidIdeal.τ).loc Cert.MidIdeal.main_arg11)) (m ((c.tc : Thread Cert.MidIdeal.nD Cert.MidIdeal.τ).loc Cert.MidIdeal.main_arg12))).2.2.2.2.2.2.2.2.2.2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.2.2.2.2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8)) (m ((c.tc : Thread Cert.MidRefIdeal.nD Cert.MidRefIdeal.τ).loc Cert.MidRefIdeal.main_arg9)) (m ((c.tc : Thread Cert.MidRefIdeal.nD Cert.MidRefIdeal.τ).loc Cert.MidRefIdeal.main_arg10)) (m ((c.tc : Thread Cert.MidRefIdeal.nD Cert.MidRefIdeal.τ).loc Cert.MidRefIdeal.main_arg11)) (m ((c.tc : Thread Cert.MidRefIdeal.nD Cert.MidRefIdeal.τ).loc Cert.MidRefIdeal.main_arg12))).2.2.2.2.2.2.2.2.2.2.2.2 = (fun _ => 1#1)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_args [hAttnIdeal : Cert.AttnIdeal.Facts] [hPre_finite_args : Cert.Pre_finite_args.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_args m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_args [hAttnRefIdeal : Cert.AttnRefIdeal.Facts] [hPre_finite_args : Cert.Pre_finite_args.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_args m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXIdeal_pre_finite_proj [hGradXIdeal : Cert.GradXIdeal.Facts] [hPre_finite_proj : Cert.Pre_finite_proj.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal_finite_proj m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_GradXRefIdeal_pre_finite_proj [hGradXRefIdeal : Cert.GradXRefIdeal.Facts] [hPre_finite_proj : Cert.Pre_finite_proj.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal_finite_proj m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1)
      ∧ r.2.mem ((c.tc : Thread Cert.GradW.nD Cert.GradW.τ).loc Cert.GradW.main_arg2) = m ((c.tc : Thread Cert.GradW.nD Cert.GradW.τ).loc Cert.GradW.main_arg2)
      ∧ r.2.mem ((c.tc : Thread Cert.GradW.nD Cert.GradW.τ).loc Cert.GradW.main_arg3) = m ((c.tc : Thread Cert.GradW.nD Cert.GradW.τ).loc Cert.GradW.main_arg3))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
      ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
      ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3))
      ∧ r.2.sem = fun _ => 0)

def quiescent_GradWIdeal_pre_finite_weight [hGradWIdeal : Cert.GradWIdeal.Facts] [hPre_finite_weight : Cert.Pre_finite_weight.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal_finite_weight m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
      ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
      ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1)
      ∧ r.2.mem ((c.tc : Thread Cert.GradWRefIdeal.nD Cert.GradWRefIdeal.τ).loc Cert.GradWRefIdeal.main_arg2) = m ((c.tc : Thread Cert.GradWRefIdeal.nD Cert.GradWRefIdeal.τ).loc Cert.GradWRefIdeal.main_arg2)
      ∧ r.2.mem ((c.tc : Thread Cert.GradWRefIdeal.nD Cert.GradWRefIdeal.τ).loc Cert.GradWRefIdeal.main_arg3) = m ((c.tc : Thread Cert.GradWRefIdeal.nD Cert.GradWRefIdeal.τ).loc Cert.GradWRefIdeal.main_arg3))
      ∧ r.2.sem = fun _ => 0)

def quiescent_GradWRefIdeal_pre_finite_weight [hGradWRefIdeal : Cert.GradWRefIdeal.Facts] [hPre_finite_weight : Cert.Pre_finite_weight.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal_finite_weight m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1)
      ∧ r.2.mem ((c.tc : Thread Cert.GradWRefIdeal.nD Cert.GradWRefIdeal.τ).loc Cert.GradWRefIdeal.main_arg2) = m ((c.tc : Thread Cert.GradWRefIdeal.nD Cert.GradWRefIdeal.τ).loc Cert.GradWRefIdeal.main_arg2)
      ∧ r.2.mem ((c.tc : Thread Cert.GradWRefIdeal.nD Cert.GradWRefIdeal.τ).loc Cert.GradWRefIdeal.main_arg3) = m ((c.tc : Thread Cert.GradWRefIdeal.nD Cert.GradWRefIdeal.τ).loc Cert.GradWRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v22) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Attn_AttnIdeal : Prop :=
  IdealRules.named_const.Statement Cert.AttnIdeal.κ "mask" .f32 0xF149F2CA#32 ⊥

def algebraic_AttnIdeal_AttnRefIdeal_pre_finite_args [hAttnIdeal : Cert.AttnIdeal.Facts] [hAttnRefIdeal : Cert.AttnRefIdeal.Facts] [hPre_finite_args : Cert.Pre_finite_args.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_args m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v46_0)) (v1 : (c : Dev Cert.AttnIdeal.nD) → Buf (Elt Ideal) ((c.tc : Thread Cert.AttnIdeal.nD Cert.AttnIdeal.τ).loc Cert.AttnIdeal.main_v46_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46_0) = v0 c
          ∧ r.2.mem ((c.tc : Thread Cert.AttnIdeal.nD Cert.AttnIdeal.τ).loc Cert.AttnIdeal.main_v46_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v214) = v0 c
          ∧ r.2.mem ((c.tc : Thread Cert.AttnRefIdeal.nD Cert.AttnRefIdeal.τ).loc Cert.AttnRefIdeal.main_v153) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_GradX_GradXIdeal : Prop :=
  True

def algebraic_GradXIdeal_GradXRefIdeal_pre_finite_proj [hGradXIdeal : Cert.GradXIdeal.Facts] [hGradXRefIdeal : Cert.GradXRefIdeal.Facts] [hPre_finite_proj : Cert.Pre_finite_proj.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal_finite_proj m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v19)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v19) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v38) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def preserves_GradW_GradWIdeal : Prop :=
  True

def algebraic_GradWIdeal_GradWRefIdeal_pre_finite_weight [hGradWIdeal : Cert.GradWIdeal.Facts] [hGradWRefIdeal : Cert.GradWRefIdeal.Facts] [hPre_finite_weight : Cert.Pre_finite_weight.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal_finite_weight m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)
      ∧ m' ((c.tc : Thread Cert.GradWRefIdeal.nD Cert.GradWRefIdeal.τ).loc Cert.GradWRefIdeal.main_arg2) = m ((c.tc : Thread Cert.GradWIdeal.nD Cert.GradWIdeal.τ).loc Cert.GradWIdeal.main_arg2)
      ∧ m' ((c.tc : Thread Cert.GradWRefIdeal.nD Cert.GradWRefIdeal.τ).loc Cert.GradWRefIdeal.main_arg3) = m ((c.tc : Thread Cert.GradWIdeal.nD Cert.GradWIdeal.τ).loc Cert.GradWIdeal.main_arg3)) →
    ∃ (v0 : (c : Dev Cert.GradWIdeal.nD) → Buf (Elt Ideal) ((c.tc : Thread Cert.GradWIdeal.nD Cert.GradWIdeal.τ).loc Cert.GradWIdeal.main_v29_0)) (v1 : (c : Dev Cert.GradWIdeal.nD) → Buf (Elt Ideal) ((c.tc : Thread Cert.GradWIdeal.nD Cert.GradWIdeal.τ).loc Cert.GradWIdeal.main_v29_1)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v29_0) = v0 c
          ∧ r.2.mem ((c.tc : Thread Cert.GradWIdeal.nD Cert.GradWIdeal.τ).loc Cert.GradWIdeal.main_v29_1) = v1 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1)
          ∧ r.2.mem ((c.tc : Thread Cert.GradWIdeal.nD Cert.GradWIdeal.τ).loc Cert.GradWIdeal.main_arg2) = m ((c.tc : Thread Cert.GradWIdeal.nD Cert.GradWIdeal.τ).loc Cert.GradWIdeal.main_arg2)
          ∧ r.2.mem ((c.tc : Thread Cert.GradWIdeal.nD Cert.GradWIdeal.τ).loc Cert.GradWIdeal.main_arg3) = m ((c.tc : Thread Cert.GradWIdeal.nD Cert.GradWIdeal.τ).loc Cert.GradWIdeal.main_arg3))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v24) = v0 c
          ∧ r.2.mem ((c.tc : Thread Cert.GradWRefIdeal.nD Cert.GradWRefIdeal.τ).loc Cert.GradWRefIdeal.main_v25) = v1 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1)
          ∧ r.2.mem ((c.tc : Thread Cert.GradWRefIdeal.nD Cert.GradWRefIdeal.τ).loc Cert.GradWRefIdeal.main_arg2) = m' ((c.tc : Thread Cert.GradWRefIdeal.nD Cert.GradWRefIdeal.τ).loc Cert.GradWRefIdeal.main_arg2)
          ∧ r.2.mem ((c.tc : Thread Cert.GradWRefIdeal.nD Cert.GradWRefIdeal.τ).loc Cert.GradWRefIdeal.main_arg3) = m' ((c.tc : Thread Cert.GradWRefIdeal.nD Cert.GradWRefIdeal.τ).loc Cert.GradWRefIdeal.main_arg3))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v15_0)) (v1 : (c : Dev Cert.MidIdeal.nD) → Buf (Elt Ideal) ((c.tc : Thread Cert.MidIdeal.nD Cert.MidIdeal.τ).loc Cert.MidIdeal.main_v15_7)) (v2 : (c : Dev Cert.MidIdeal.nD) → Buf (Elt Ideal) ((c.tc : Thread Cert.MidIdeal.nD Cert.MidIdeal.τ).loc Cert.MidIdeal.main_v15_12)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v15_0) = v0 c
          ∧ r.2.mem ((c.tc : Thread Cert.MidIdeal.nD Cert.MidIdeal.τ).loc Cert.MidIdeal.main_v15_7) = v1 c
          ∧ r.2.mem ((c.tc : Thread Cert.MidIdeal.nD Cert.MidIdeal.τ).loc Cert.MidIdeal.main_v15_12) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v163) = v0 c
          ∧ r.2.mem ((c.tc : Thread Cert.MidRefIdeal.nD Cert.MidRefIdeal.τ).loc Cert.MidRefIdeal.main_v164) = v1 c
          ∧ r.2.mem ((c.tc : Thread Cert.MidRefIdeal.nD Cert.MidRefIdeal.τ).loc Cert.MidRefIdeal.main_v165) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12))

def Claim : Prop :=
  ∃ (hBias : Cert.Bias.Facts) (hBiasIdeal : Cert.BiasIdeal.Facts) (hBiasRefIdeal : Cert.BiasRefIdeal.Facts) (hAttn : Cert.Attn.Facts) (hAttnIdeal : Cert.AttnIdeal.Facts) (hAttnRefIdeal : Cert.AttnRefIdeal.Facts) (hGradX : Cert.GradX.Facts) (hGradXIdeal : Cert.GradXIdeal.Facts) (hGradXRefIdeal : Cert.GradXRefIdeal.Facts) (hGradW : Cert.GradW.Facts) (hGradWIdeal : Cert.GradWIdeal.Facts) (hGradWRefIdeal : Cert.GradWRefIdeal.Facts) (hMid : Cert.Mid.Facts) (hMidIdeal : Cert.MidIdeal.Facts) (hMidRefIdeal : Cert.MidRefIdeal.Facts) (hPre_finite_args : Cert.Pre_finite_args.Facts) (hPre_finite_proj : Cert.Pre_finite_proj.Facts) (hPre_finite_weight : Cert.Pre_finite_weight.Facts) (hPre_finite_mid : Cert.Pre_finite_mid.Facts),
    quiescent_Bias (hBias := hBias)
    ∧ quiescent_BiasIdeal (hBiasIdeal := hBiasIdeal)
    ∧ quiescent_BiasRefIdeal (hBiasRefIdeal := hBiasRefIdeal)
    ∧ quiescent_Attn (hAttn := hAttn)
    ∧ quiescent_AttnIdeal (hAttnIdeal := hAttnIdeal)
    ∧ quiescent_AttnIdeal_pre_finite_args (hAttnIdeal := hAttnIdeal) (hPre_finite_args := hPre_finite_args)
    ∧ quiescent_AttnRefIdeal (hAttnRefIdeal := hAttnRefIdeal)
    ∧ quiescent_AttnRefIdeal_pre_finite_args (hAttnRefIdeal := hAttnRefIdeal) (hPre_finite_args := hPre_finite_args)
    ∧ quiescent_GradX (hGradX := hGradX)
    ∧ quiescent_GradXIdeal (hGradXIdeal := hGradXIdeal)
    ∧ quiescent_GradXIdeal_pre_finite_proj (hGradXIdeal := hGradXIdeal) (hPre_finite_proj := hPre_finite_proj)
    ∧ quiescent_GradXRefIdeal (hGradXRefIdeal := hGradXRefIdeal)
    ∧ quiescent_GradXRefIdeal_pre_finite_proj (hGradXRefIdeal := hGradXRefIdeal) (hPre_finite_proj := hPre_finite_proj)
    ∧ quiescent_GradW (hGradW := hGradW)
    ∧ quiescent_GradWIdeal (hGradWIdeal := hGradWIdeal)
    ∧ quiescent_GradWIdeal_pre_finite_weight (hGradWIdeal := hGradWIdeal) (hPre_finite_weight := hPre_finite_weight)
    ∧ quiescent_GradWRefIdeal (hGradWRefIdeal := hGradWRefIdeal)
    ∧ quiescent_GradWRefIdeal_pre_finite_weight (hGradWRefIdeal := hGradWRefIdeal) (hPre_finite_weight := hPre_finite_weight)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ preserves_Bias_BiasIdeal
    ∧ algebraic_BiasIdeal_BiasRefIdeal (hBiasIdeal := hBiasIdeal) (hBiasRefIdeal := hBiasRefIdeal)
    ∧ preserves_Attn_AttnIdeal
    ∧ algebraic_AttnIdeal_AttnRefIdeal_pre_finite_args (hAttnIdeal := hAttnIdeal) (hAttnRefIdeal := hAttnRefIdeal) (hPre_finite_args := hPre_finite_args)
    ∧ preserves_GradX_GradXIdeal
    ∧ algebraic_GradXIdeal_GradXRefIdeal_pre_finite_proj (hGradXIdeal := hGradXIdeal) (hGradXRefIdeal := hGradXRefIdeal) (hPre_finite_proj := hPre_finite_proj)
    ∧ preserves_GradW_GradWIdeal
    ∧ algebraic_GradWIdeal_GradWRefIdeal_pre_finite_weight (hGradWIdeal := hGradWIdeal) (hGradWRefIdeal := hGradWRefIdeal) (hPre_finite_weight := hPre_finite_weight)
    ∧ preserves_Mid_MidIdeal
    ∧ algebraic_MidIdeal_MidRefIdeal_pre_finite_mid (hMidIdeal := hMidIdeal) (hMidRefIdeal := hMidRefIdeal) (hPre_finite_mid := hPre_finite_mid)
-- ==== Pre_finite_args.lean ====
abbrev S1x4096x512 : Shape := ⟨3, ![1, 4096, 512]⟩
abbrev S8x257 : Shape := ⟨2, ![8, 257]⟩
abbrev S_ : Shape := ⟨0, ![]⟩

class Facts : Prop where
  bcast_S_S1x4096x512 : S_.BroadcastsInDim S1x4096x512 (![] : Fin 0 → Fin S1x4096x512.rank)
  bcast_S_S8x257 : S_.BroadcastsInDim S8x257 (![] : Fin 0 → Fin S8x257.rank)

variable [Facts]

def fn {F : FTy → Type} [FloatOps F] (main_arg0 : FVec F S1x4096x512 .f32) (main_arg1 : FVec F S1x4096x512 .f32) (main_arg2 : FVec F S1x4096x512 .f32) (main_arg3 : FVec F S8x257 .f32) (main_arg4 : FVec F S1x4096x512 .f32) : IVec S1x4096x512 1 × IVec S1x4096x512 1 × IVec S1x4096x512 1 × IVec S8x257 1 × IVec S1x4096x512 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_v3 : FVec F S1x4096x512 .f32 := Host.absf main_arg1
  let main_cst_0 : FVec F S_ .f32 := constant S_ .f32 0x7F800000#32
  let main_v4 : FVec F S1x4096x512 .f32 := broadcastInDim S1x4096x512 ![] bcast_S_S1x4096x512 main_cst_0
  let main_v5 : IVec S1x4096x512 1 := cmpf .olt main_v3 main_v4
  let main_v6 : FVec F S1x4096x512 .f32 := Host.absf main_arg2
  let main_cst_1 : FVec F S_ .f32 := constant S_ .f32 0x7F800000#32
  let main_v7 : FVec F S1x4096x512 .f32 := broadcastInDim S1x4096x512 ![] bcast_S_S1x4096x512 main_cst_1
  let main_v8 : IVec S1x4096x512 1 := cmpf .olt main_v6 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_v12 : FVec F S1x4096x512 .f32 := Host.absf main_arg4
  let main_cst_3 : FVec F S_ .f32 := constant S_ .f32 0x7F800000#32
  let main_v13 : FVec F S1x4096x512 .f32 := broadcastInDim S1x4096x512 ![] bcast_S_S1x4096x512 main_cst_3
  let main_v14 : IVec S1x4096x512 1 := cmpf .olt main_v12 main_v13
  (main_v2, main_v5, main_v8, main_v11, main_v14)
-- ==== Pre_finite_mid.lean ====
abbrev S1x4096x1024 : Shape := ⟨3, ![1, 4096, 1024]⟩
abbrev S1x4096x512 : Shape := ⟨3, ![1, 4096, 512]⟩
abbrev S1x4096x5632 : Shape := ⟨3, ![1, 4096, 5632]⟩
abbrev S1x2048 : Shape := ⟨2, ![1, 2048]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1x4096x512 : S_.BroadcastsInDim S1x4096x512 (![] : Fin 0 → Fin S1x4096x512.rank)
  bcast_S_S1x4096x5632 : S_.BroadcastsInDim S1x4096x5632 (![] : Fin 0 → Fin S1x4096x5632.rank)
  bcast_S_S1x2048 : S_.BroadcastsInDim S1x2048 (![] : Fin 0 → Fin S1x2048.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)
  bcast_S_S1024 : S_.BroadcastsInDim S1024 (![] : Fin 0 → Fin S1024.rank)

variable [Facts]

def fn_part2 {F : FTy → Type} [FloatOps F] (main_arg12 : FVec F S1x4096x1024 .f32) (main_v2 : IVec S1x4096x1024 1) (main_v5 : IVec S1x4096x512 1) (main_v8 : IVec S1x4096x5632 1) (main_v11 : IVec S1x2048 1) (main_v14 : IVec S1x512 1) (main_v17 : IVec S1x512 1) (main_v20 : IVec S1x4x128x128 1) (main_v23 : IVec S1x4x128 1) (main_v26 : IVec S1x512x1024 1) (main_v29 : IVec S1x512x1024 1) (main_v32 : IVec S1x1024x1024 1) (main_v35 : IVec S1024 1) : IVec S1x4096x1024 1 × IVec S1x4096x512 1 × IVec S1x4096x5632 1 × IVec S1x2048 1 × IVec S1x512 1 × IVec S1x512 1 × IVec S1x4x128x128 1 × IVec S1x4x128 1 × IVec S1x512x1024 1 × IVec S1x512x1024 1 × IVec S1x1024x1024 1 × IVec S1024 1 × IVec S1x4096x1024 1 :=
  let main_v36 : FVec F S1x4096x1024 .f32 := Host.absf main_arg12
  let main_cst_11 : FVec F S_ .f32 := constant S_ .f32 0x7F800000#32
  let main_v37 : FVec F S1x4096x1024 .f32 := broadcastInDim S1x4096x1024 ![] bcast_S_S1x4096x1024 main_cst_11
  let main_v38 : IVec S1x4096x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S1x4x128x128 .f32) (main_arg7 : FVec F S1x4x128 .f32) (main_arg8 : FVec F S1x512x1024 .f32) (main_arg9 : FVec F S1x512x1024 .f32) (main_arg10 : FVec F S1x1024x1024 .f32) (main_arg11 : FVec F S1024 .f32) (main_arg12 : FVec F S1x4096x1024 .f32) (main_v2 : IVec S1x4096x1024 1) (main_v5 : IVec S1x4096x512 1) (main_v8 : IVec S1x4096x5632 1) (main_v11 : IVec S1x2048 1) (main_v14 : IVec S1x512 1) (main_v17 : IVec S1x512 1) : IVec S1x4096x1024 1 × IVec S1x4096x512 1 × IVec S1x4096x5632 1 × IVec S1x2048 1 × IVec S1x512 1 × IVec S1x512 1 × IVec S1x4x128x128 1 × IVec S1x4x128 1 × IVec S1x512x1024 1 × IVec S1x512x1024 1 × IVec S1x1024x1024 1 × IVec S1024 1 × IVec S1x4096x1024 1 :=
  let main_v18 : FVec F S1x4x128x128 .f32 := Host.absf main_arg6
  let main_cst_5 : FVec F S_ .f32 := constant S_ .f32 0x7F800000#32
  let main_v19 : FVec F S1x4x128x128 .f32 := broadcastInDim S1x4x128x128 ![] bcast_S_S1x4x128x128 main_cst_5
  let main_v20 : IVec S1x4x128x128 1 := cmpf .olt main_v18 main_v19
  let main_v21 : FVec F S1x4x128 .f32 := Host.absf main_arg7
  let main_cst_6 : FVec F S_ .f32 := constant S_ .f32 0x7F800000#32
  let main_v22 : FVec F S1x4x128 .f32 := broadcastInDim S1x4x128 ![] bcast_S_S1x4x128 main_cst_6
  let main_v23 : IVec S1x4x128 1 := cmpf .olt main_v21 main_v22
  let main_v24 : FVec F S1x512x1024 .f32 := Host.absf main_arg8
  let main_cst_7 : FVec F S_ .f32 := constant S_ .f32 0x7F800000#32
  let main_v25 : FVec F S1x512x1024 .f32 := broadcastInDim S1x512x1024 ![] bcast_S_S1x512x1024 main_cst_7
  let main_v26 : IVec S1x512x1024 1 := cmpf .olt main_v24 main_v25
  let main_v27 : FVec F S1x512x1024 .f32 := Host.absf main_arg9
  let main_cst_8 : FVec F S_ .f32 := constant S_ .f32 0x7F800000#32
  let main_v28 : FVec F S1x512x1024 .f32 := broadcastInDim S1x512x1024 ![] bcast_S_S1x512x1024 main_cst_8
  let main_v29 : IVec S1x512x1024 1 := cmpf .olt main_v27 main_v28
  let main_v30 : FVec F S1x1024x1024 .f32 := Host.absf main_arg10
  let main_cst_9 : FVec F S_ .f32 := constant S_ .f32 0x7F800000#32
  let main_v31 : FVec F S1x1024x1024 .f32 := broadcastInDim S1x1024x1024 ![] bcast_S_S1x1024x1024 main_cst_9
  let main_v32 : IVec S1x1024x1024 1 := cmpf .olt main_v30 main_v31
  let main_v33 : FVec F S1024 .f32 := Host.absf main_arg11
  let main_cst_10 : FVec F S_ .f32 := constant S_ .f32 0x7F800000#32
  let main_v34 : FVec F S1024 .f32 := broadcastInDim S1024 ![] bcast_S_S1024 main_cst_10
  let main_v35 : IVec S1024 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S1x4096x1024 .f32) (main_arg1 : FVec F S1x4096x512 .f32) (main_arg2 : FVec F S1x4096x5632 .f32) (main_arg3 : FVec F S1x2048 .f32) (main_arg4 : FVec F S1x512 .f32) (main_arg5 : FVec F S1x512 .f32) (main_arg6 : FVec F S1x4x128x128 .f32) (main_arg7 : FVec F S1x4x128 .f32) (main_arg8 : FVec F S1x512x1024 .f32) (main_arg9 : FVec F S1x512x1024 .f32) (main_arg10 : FVec F S1x1024x1024 .f32) (main_arg11 : FVec F S1024 .f32) (main_arg12 : FVec F S1x4096x1024 .f32) : IVec S1x4096x1024 1 × IVec S1x4096x512 1 × IVec S1x4096x5632 1 × IVec S1x2048 1 × IVec S1x512 1 × IVec S1x512 1 × IVec S1x4x128x128 1 × IVec S1x4x128 1 × IVec S1x512x1024 1 × IVec S1x512x1024 1 × IVec S1x1024x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x512 .f32 := Host.absf main_arg1
  let main_cst_0 : FVec F S_ .f32 := constant S_ .f32 0x7F800000#32
  let main_v4 : FVec F S1x4096x512 .f32 := broadcastInDim S1x4096x512 ![] bcast_S_S1x4096x512 main_cst_0
  let main_v5 : IVec S1x4096x512 1 := cmpf .olt main_v3 main_v4
  let main_v6 : FVec F S1x4096x5632 .f32 := Host.absf main_arg2
  let main_cst_1 : FVec F S_ .f32 := constant S_ .f32 0x7F800000#32
  let main_v7 : FVec F S1x4096x5632 .f32 := broadcastInDim S1x4096x5632 ![] bcast_S_S1x4096x5632 main_cst_1
  let main_v8 : IVec S1x4096x5632 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_arg11 main_arg12 main_v2 main_v5 main_v8 main_v11 main_v14 main_v17
-- ==== Pre_finite_proj.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x4096x5632 : S_.BroadcastsInDim S1x4096x5632 (![] : Fin 0 → Fin S1x4096x5632.rank)

variable [Facts]

def fn {F : FTy → Type} [FloatOps F] (main_arg0 : FVec F S1x4096x1024 .f32) (main_arg1 : FVec F S1x1024 .f32) (main_arg2 : FVec F S1x1024x5632 .f32) (main_arg3 : FVec F S1x4096x5632 .f32) (main_arg4 : FVec F S1x4096x1024 .f32) : IVec S1x4096x1024 1 × IVec S1x1024 1 × IVec S1x1024x5632 1 × IVec S1x4096x5632 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x4096x5632 .f32 := Host.absf main_arg3
  let main_cst_2 : FVec F S_ .f32 := constant S_ .f32 0x7F800000#32
  let main_v10 : FVec F S1x4096x5632 .f32 := broadcastInDim S1x4096x5632 ![] bcast_S_S1x4096x5632 main_cst_2
  let main_v11 : IVec S1x4096x5632 1 := cmpf .olt main_v9 main_v10
  (main_v2, main_v5, main_v8, main_v11)
-- ==== Pre_finite_weight.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x4096x5632 : S_.BroadcastsInDim S1x4096x5632 (![] : Fin 0 → Fin S1x4096x5632.rank)

variable [Facts]

def fn {F : FTy → Type} [FloatOps F] (main_arg0 : FVec F S1x4096x1024 .f32) (main_arg1 : FVec F S1x1024 .f32) (main_arg2 : FVec F S1x1024x5632 .f32) (main_arg3 : FVec F S1x4096x5632 .f32) : IVec S1x4096x1024 1 × IVec S1x1024 1 × IVec S1x1024x5632 1 × IVec S1x4096x5632 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x4096x5632 .f32 := Host.absf main_arg3
  let main_cst_2 : FVec F S_ .f32 := constant S_ .f32 0x7F800000#32
  let main_v10 : FVec F S1x4096x5632 .f32 := broadcastInDim S1x4096x5632 ![] bcast_S_S1x4096x5632 main_cst_2
  let main_v11 : IVec S1x4096x5632 1 := cmpf .olt main_v9 main_v10
  (main_v2, main_v5, main_v8, main_v11)
-- ==== Bias.lean ====
abbrev S8x256x768 : Shape := ⟨3, ![8, 256, 768]⟩
abbrev S8x384 : Shape := ⟨2, ![8, 384]⟩
abbrev S256x256 : Shape := ⟨2, ![256, 256]⟩
abbrev S1024x384 : Shape := ⟨2, ![1024, 384]⟩
abbrev S1x256x768 : Shape := ⟨3, ![1, 256, 768]⟩
abbrev S256x768 : Shape := ⟨2, ![256, 768]⟩
abbrev S256x1024 : Shape := ⟨2, ![256, 1024]⟩
abbrev S1024 : Shape := ⟨1, ![1024]⟩
abbrev S1x1024 : Shape := ⟨2, ![1, 1024]⟩
abbrev S8x1024 : Shape := ⟨2, ![8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x768, .f32⟩
  | .hbm, ⟨1, _⟩ => ⟨S8x384, .f32⟩
  | .local _ .vmem, ⟨0, _⟩ => ⟨S8x256x768, .f32⟩
  | .local _ .vmem, ⟨1, _⟩ => ⟨S8x384, .f32⟩
  | _, _ => ⟨S8x256x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasRefIdeal.lean ====
abbrev S8x256x768 : Shape := ⟨3, ![8, 256, 768]⟩
abbrev S_ : Shape := ⟨0, ![]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S256x768x1 : Shape := ⟨3, ![256, 768, 1]⟩
abbrev S8x384 : Shape := ⟨2, ![8, 384]⟩

abbrev nBuf : Space → Nat
  | .hbm => 39
  | .vmem => 0
  | .smem => 0
  | _ => 0

abbrev bufTy : (tb : Table) → Fin (tcTables nBuf tb) → BufTy
  | .hbm, ⟨0, _⟩ => ⟨S8x256x768, .f32⟩
  | .hbm, ⟨1, _⟩ => ⟨S_, .f32⟩
  | .hbm, ⟨2, _⟩ => ⟨S8x257, .f32⟩
  | .hbm, ⟨3, _⟩ => ⟨S256, .i32⟩
  | .hbm, ⟨4, _⟩ => ⟨S256x1, .i32⟩
  | .hbm, ⟨5, _⟩ => ⟨S768, .i32⟩
  | .hbm, ⟨6, _⟩ => ⟨S1x768, .i32⟩
  | .hbm, ⟨7, _⟩ => ⟨S_, .i32⟩
  | .hbm, ⟨8, _⟩ => ⟨S1x768, .i32⟩
  | .hbm, ⟨9, _⟩ => ⟨S1x768, .i32⟩
  | .hbm, ⟨10, _⟩ => ⟨S256x768, .i32⟩
  | .hbm, ⟨11, _⟩ => ⟨S256x768, .i32⟩
  | .hbm, ⟨12, _⟩ => ⟨S256x768, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S256x768, .i32⟩
  | .hbm, ⟨17, _⟩ => ⟨S256x768, .i32⟩
  | .hbm, ⟨18, _⟩ => ⟨S_, .i32⟩
  | .hbm, ⟨19, _⟩ => ⟨S256x768, .i32⟩
  | .hbm, ⟨20, _⟩ => ⟨S256x768, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S_, .i32⟩
  | .hbm, ⟨25, _⟩ => ⟨S256x768, .i32⟩
  | .hbm, ⟨26, _⟩ => ⟨S256x768, .i1⟩
  | .hbm, ⟨27, _⟩ => ⟨S_, .i32⟩
  | .hbm, ⟨28, _⟩ => ⟨S256x768, .i32⟩
  | .hbm, ⟨29, _⟩ => ⟨S256x768, .i32⟩
  | .hbm, ⟨30, _⟩ => ⟨S256x768, .i32⟩
  | .hbm, ⟨31, _⟩ => ⟨S256x768x1, .i32⟩
  | .hbm, ⟨32, _⟩ => ⟨S8x256x768, .f32⟩
  | .hbm, ⟨33, _⟩ => ⟨S_, .f32⟩
  | .hbm, ⟨34, _⟩ => ⟨S8x257, .f32⟩
  | .hbm, ⟨35, _⟩ => ⟨S8x257, .f32⟩
  | .hbm, ⟨36, _⟩ => ⟨S_, .i32⟩
  | .hbm, ⟨37, _⟩ => ⟨S_, .f32⟩
  | .hbm, ⟨38, _⟩ => ⟨S8x384, .f32⟩
  | _, _ => ⟨S8x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_call1_v0 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Attn.lean ====
abbrev S1x4096x512 : Shape := ⟨3, ![1, 4096, 512]⟩
abbrev S8x257 : Shape := ⟨2, ![8, 257]⟩
abbrev S4096x512 : Shape := ⟨2, ![4096, 512]⟩
abbrev S_ : Shape := ⟨0, ![]⟩
abbrev S4096x1536 : Shape := ⟨2, ![4096, 1536]⟩
abbrev S4608x5632 : Shape := ⟨2, ![4608, 5632]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S256x768x1 : Shape := ⟨3, ![256, 768, 1]⟩
abbrev S8x256x768 : Shape := ⟨3, ![8, 256, 768]⟩
abbrev S3x4096x512 : Shape := ⟨3, ![3, 4096, 512]⟩
abbrev S4608x128 : Shape := ⟨2, ![4608, 128]⟩
abbrev S2x256x768 : Shape := ⟨3, ![2, 256, 768]⟩
abbrev S4096x128 : Shape := ⟨2, ![4096, 128]⟩
abbrev S3x4096x128 : Shape := ⟨3, ![3, 4096, 128]⟩
abbrev S2x512x768 : Shape := ⟨3, ![2, 512, 768]⟩
abbrev S1x128 : Shape := ⟨2, ![1, 128]⟩
abbrev S256x128 : Shape := ⟨2, ![256, 128]⟩
abbrev S512x128 : Shape := ⟨2, ![512, 128]⟩
abbrev S768x128 : Shape := ⟨2, ![768, 128]⟩
abbrev S512x768 : Shape := ⟨2, ![512, 768]⟩
abbrev S1x512x768 : Shape := ⟨3, ![1, 512, 768]⟩
abbrev S16x768 : Shape := ⟨2, ![16, 768]⟩
abbrev S1x16x768 : Shape := ⟨3, ![1, 16, 768]⟩
abbrev S16 : Shape := ⟨1, ![16]⟩
abbrev S16x1 : Shape := ⟨2, ![16, 1]⟩
abbrev S16x1536 : Shape := ⟨2, ![16, 1536]⟩
abbrev S256x1536 : Shape := ⟨2, ![256, 1536]⟩
abbrev S1536x128 : Shape := ⟨2, ![1536, 128]⟩
abbrev S1x256x128 : Shape := ⟨3, ![1, 256, 128]⟩
abbrev S1x4096x128 : Shape := ⟨3, ![1, 4096, 128]⟩

abbrev nBuf : Space → Nat
  | .hbm => 106
  | .vmem => 18
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S8x257, .f32⟩
  | .hbm, ⟨4, _⟩ => ⟨S1x4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1536, .f32⟩
  | .hbm, ⟨12, _⟩ => ⟨S_, .i32⟩
  | .hbm, ⟨13, _⟩ => ⟨S_, .f32⟩
  | .hbm, ⟨14, _⟩ => ⟨S4608x5632, .f32⟩
  | .hbm, ⟨15, _⟩ => ⟨S4608x5632, .bf16⟩
  | .hbm, ⟨16, _⟩ => ⟨S256, .i32⟩
  | .hbm, ⟨17, _⟩ => ⟨S256x1, .i32⟩
  | .hbm, ⟨18, _⟩ => ⟨S768, .i32⟩
  | .hbm, ⟨19, _⟩ => ⟨S1x768, .i32⟩
  | .hbm, ⟨20, _⟩ => ⟨S_, .i32⟩
  | .hbm, ⟨21, _⟩ => ⟨S1x768, .i32⟩
  | .hbm, ⟨22, _⟩ => ⟨S1x768, .i32⟩
  | .hbm, ⟨23, _⟩ => ⟨S256x768, .i32⟩
  | .hbm, ⟨24, _⟩ => ⟨S256x768, .i32⟩
  | .hbm, ⟨25, _⟩ => ⟨S256x768, .i32⟩
  | .hbm, ⟨26, _⟩ => ⟨S256, .i32⟩
  | .hbm, ⟨27, _⟩ => ⟨S256x1, .i32⟩
  | .hbm, ⟨28, _⟩ => ⟨S_, .i32⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S256x1, .i32⟩
  | .hbm, ⟨37, _⟩ => ⟨S256x1, .i32⟩
  | .hbm, ⟨38, _⟩ => ⟨S_, .i32⟩
  | .hbm, ⟨39, _⟩ => ⟨S256x1, .i32⟩
  | .hbm, ⟨40, _⟩ => ⟨S256x1, .i1⟩
  | .hbm, ⟨41, _⟩ => ⟨S256x1, .i1⟩
  | .hbm, ⟨42, _⟩ => ⟨S_, .i32⟩
  | .hbm, ⟨43, _⟩ => ⟨S256x1, .i32⟩
  | .hbm, ⟨44, _⟩ => ⟨S256x1, .i32⟩
  | .hbm, ⟨45, _⟩ => ⟨S256x1, .i32⟩
  | .hbm, ⟨46, _⟩ => ⟨S768, .i32⟩
  | .hbm, ⟨47, _⟩ => ⟨S1x768, .i32⟩
  | .hbm, ⟨48, _⟩ => ⟨S_, .i32⟩
  | .hbm, ⟨49, _⟩ => ⟨S_, .i32⟩
  | .hbm, ⟨50, _⟩ => ⟨S1x768, .i32⟩
  | .hbm, ⟨51, _⟩ => ⟨S1x768, .i32⟩
  | .hbm, ⟨52, _⟩ => ⟨S1x768, .i32⟩
  | .hbm, ⟨53, _⟩ => ⟨S_, .i32⟩
  | .hbm, ⟨54, _⟩ => ⟨S1x768, .i32⟩
  | .hbm, ⟨55, _⟩ => ⟨S1x768, .i1⟩
  | .hbm, ⟨56, _⟩ => ⟨S1x768, .i32⟩
  | .hbm, ⟨57, _⟩ => ⟨S1x768, .i32⟩
  | .hbm, ⟨58, _⟩ => ⟨S_, .i32⟩
  | .hbm, ⟨59, _⟩ => ⟨S1x768, .i32⟩
  | .hbm, ⟨60, _⟩ => ⟨S1x768, .i1⟩
  | .hbm, ⟨61, _⟩ => ⟨S1x768, .i1⟩
  | .hbm, ⟨62, _⟩ => ⟨S_, .i32⟩
  | .hbm, ⟨63, _⟩ => ⟨S1x768, .i32⟩
  | .hbm, ⟨64, _⟩ => ⟨S1x768, .i32⟩
  | .hbm, ⟨65, _⟩ => ⟨S1x768, .i32⟩
  | .hbm, ⟨66, _⟩ => ⟨S256x768, .i32⟩
  | .hbm, ⟨67, _⟩ => ⟨S256x768, .i32⟩
  | .hbm, ⟨68, _⟩ => ⟨S256x768, .i1⟩
  | .hbm, ⟨69, _⟩ => ⟨S_, .i32⟩
  | .hbm, ⟨70, _⟩ => ⟨S256x1, .i32⟩
  | .hbm, ⟨71, _⟩ => ⟨S256x1, .i32⟩
  | .hbm, ⟨72, _⟩ => ⟨S256x768, .i32⟩
  | .hbm, ⟨73, _⟩ => ⟨S256x768, .i32⟩
  | .hbm, ⟨74, _⟩ => ⟨S256x768, .i1⟩
  | .hbm, ⟨75, _⟩ => ⟨S256x768, .i1⟩
  | .hbm, ⟨76, _⟩ => ⟨S1x256x768, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S256x768, .i32⟩
  | .hbm, ⟨81, _⟩ => ⟨S256x768, .i32⟩
  | .hbm, ⟨82, _⟩ => ⟨S_, .i32⟩
  | .hbm, ⟨83, _⟩ => ⟨S256x768, .i32⟩
  | .hbm, ⟨84, _⟩ => ⟨S256x768, .i32⟩
  | .hbm, ⟨85, _⟩ => ⟨S_, .i32⟩
  | .hbm, ⟨86, _⟩ => ⟨S256x768, .i32⟩
  | .hbm, ⟨87, _⟩ => ⟨S256x768, .i32⟩
  | .hbm, ⟨88, _⟩ => ⟨S_, .i32⟩
  | .hbm, ⟨89, _⟩ => ⟨S256x768, .i32⟩
  | .hbm, ⟨90, _⟩ => ⟨S256x768, .i1⟩
  | .hbm, ⟨91, _⟩ => ⟨S_, .i32⟩
  | .hbm, ⟨92, _⟩ => ⟨S256x768, .i32⟩
  | .hbm, ⟨93, _⟩ => ⟨S256x768, .i32⟩
  | .hbm, ⟨94, _⟩ => ⟨S256x768, .i32⟩
  | .hbm, ⟨95, _⟩ => ⟨S256x768x1, .i32⟩
  | .hbm, ⟨96, _⟩ => ⟨S8x256x768, .f32⟩
  | .hbm, ⟨97, _⟩ => ⟨S_, .f32⟩
  | .hbm, ⟨98, _⟩ => ⟨S_, .f32⟩
  | .hbm, ⟨99, _⟩ => ⟨S8x256x768, .i1⟩
  | .hbm, ⟨100, _⟩ => ⟨S8x256x768, .f32⟩
  | .hbm, ⟨101, _⟩ => ⟨S8x256x768, .f32⟩
  | .hbm, ⟨102, _⟩ => ⟨S4096x512, .f32⟩
  | .hbm, ⟨103, _⟩ => ⟨S4096x512, .bf16⟩
  | .hbm, ⟨104, _⟩ => ⟨S3x4096x512, .bf16⟩
  | .hbm, ⟨105, _⟩ => ⟨S8x256x768, .f32⟩
  | .local _ .vmem, ⟨0, _⟩ => ⟨S4608x128, .bf16⟩
  | .local _ .vmem, ⟨1, _⟩ => ⟨S4608x128, .bf16⟩
  | .local _ .vmem, ⟨2, _⟩ => ⟨S4608x128, .bf16⟩
  | .local _ .vmem, ⟨3, _⟩ => ⟨S4608x128, .bf16⟩
  | .local _ .vmem, ⟨4, _⟩ => ⟨S4608x128, .bf16⟩
  | .local _ .vmem, ⟨5, _⟩ => ⟨S4608x128, .bf16⟩
  | .local _ .vmem, ⟨6, _⟩ => ⟨S2x256x768, .f32⟩
  | .local _ .vmem, ⟨7, _⟩ => ⟨S2x256x768, .f32⟩
  | .local _ .vmem, ⟨8, _⟩ => ⟨S4096x128, .bf16⟩
  | .local _ .vmem, ⟨9, _⟩ => ⟨S4096x128, .bf16⟩
  | .local _ .vmem, ⟨10, _⟩ => ⟨S3x4096x128, .bf16⟩
  | .local _ .vmem, ⟨11, _⟩ => ⟨S3x4096x128, .bf16⟩
  | .local _ .vmem, ⟨12, _⟩ => ⟨S2x256x768, .f32⟩
  | .local _ .vmem, ⟨13, _⟩ => ⟨S2x256x768, .f32⟩
  | .local _ .vmem, ⟨14, _⟩ => ⟨S4608x128, .f32⟩
  | .local _ .vmem, ⟨15, _⟩ => ⟨S4608x128, .f32⟩
  | .local _ .vmem, ⟨16, _⟩ => ⟨S2x512x768, .f32⟩
  | .local _ .vmem, ⟨17, _⟩ => ⟨S2x512x768, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_0 : Ref sig .tc := ⟨.hbm, 62, rfl⟩
abbrev main_call2_v12 : Ref sig .tc := ⟨.hbm, 63, rfl⟩
abbrev main_call2_v13 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_3 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_4 : Ref sig .tc := ⟨.hbm, 77, rfl⟩
abbrev main_c_5 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v33 : Ref sig .tc := ⟨.hbm, 84, rfl⟩
abbrev main_c_6 : Ref sig .tc := ⟨.hbm, 85, rfl⟩
abbrev main_v34 : Ref sig .tc := ⟨.hbm, 86, rfl⟩
abbrev main_v35 : Ref sig .tc := ⟨.hbm, 87, rfl⟩
abbrev main_c_7 : Ref sig .tc := ⟨.hbm, 88, rfl⟩
abbrev main_v36 : Ref sig .tc := ⟨.hbm, 89, rfl⟩
abbrev main_v37 : Ref sig .tc := ⟨.hbm, 90, rfl⟩
abbrev main_c_8 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_9 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46_0 : Ref sig .tc := ⟨.hbm, 104, rfl⟩
abbrev main_v46_1 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def k0_mult1 : BitVec 32 :=
  let c0_i32 : BitVec 32 := 0#32
  c0_i32
def k0_off1 : Fin 2 → Nat :=
  let c0_i32 : BitVec 32 := 0#32
  let v14 : BitVec 32 := c0_i32
  let c512_i32 : BitVec 32 := 512#32
  let v15 : BitVec 32 := Scalar.addi v14 c512_i32
  let v16 : Index := Scalar.indexCast v15
  let c0_9 : Index := 0#32
  ![v16.toNat, 0]
@[reducible] def k0_t1_loop : Scf.Loop 32 :=
  let c0_i32_25 : BitVec 32 := 0#32
  let c8_i32 : BitVec 32 := 8#32
  let v54 : BitVec 32 := Scalar.addi c0_i32_25 c8_i32
  let c1_i32 : BitVec 32 := 1#32
  ⟨c0_i32_25, v54, c1_i32⟩
def k0_mult2 (k0_t1 : Fin k0_t1_loop.trips) : BitVec 32 :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c1_i32_34 : BitVec 32 := 1#32
  let v66 : BitVec 32 := Scalar.addi v65 c1_i32_34
  let c256_i32 : BitVec 32 := 256#32
  let v67 : BitVec 32 := Scalar.muli v66 c256_i32
  v67
def k0_off2 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c1_i32_34 : BitVec 32 := 1#32
  let v66 : BitVec 32 := Scalar.addi v65 c1_i32_34
  let c256_i32 : BitVec 32 := 256#32
  let v67 : BitVec 32 := Scalar.muli v66 c256_i32
  let v68 : BitVec 32 := v67
  let c512_i32_35 : BitVec 32 := 512#32
  let v69 : BitVec 32 := Scalar.addi v68 c512_i32_35
  let v70 : Index := Scalar.indexCast v69
  let c0_36 : Index := 0#32
  ![v70.toNat, 0]
def k0_off3 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c1_i32_34 : BitVec 32 := 1#32
  let v66 : BitVec 32 := Scalar.addi v65 c1_i32_34
  let c256_i32 : BitVec 32 := 256#32
  let v67 : BitVec 32 := Scalar.muli v66 c256_i32
  let v68 : BitVec 32 := v67
  let v82 : Index := Scalar.indexCast v68
  let c0_39 : Index := 0#32
  ![v82.toNat, 0]
def k0_off4 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c1_i32_34 : BitVec 32 := 1#32
  let v66 : BitVec 32 := Scalar.addi v65 c1_i32_34
  let c256_i32 : BitVec 32 := 256#32
  let v67 : BitVec 32 := Scalar.muli v66 c256_i32
  let v68 : BitVec 32 := v67
  let v94 : Index := Scalar.indexCast v68
  let c0_42 : Index := 0#32
  ![v94.toNat, 0]
def k0_mult3 (k0_t1 : Fin k0_t1_loop.trips) : BitVec 32 :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c256_i32_52 : BitVec 32 := 256#32
  let v108 : BitVec 32 := Scalar.muli v65 c256_i32_52
  v108
def k0_off5 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c256_i32_52 : BitVec 32 := 256#32
  let v108 : BitVec 32 := Scalar.muli v65 c256_i32_52
  let v109 : BitVec 32 := v108
  let c512_i32_53 : BitVec 32 := 512#32
  let v110 : BitVec 32 := Scalar.addi v109 c512_i32_53
  let v111 : Index := Scalar.indexCast v110
  let c0_54 : Index := 0#32
  ![v111.toNat, 0]
def k0_off6 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c256_i32_52 : BitVec 32 := 256#32
  let v108 : BitVec 32 := Scalar.muli v65 c256_i32_52
  let v109 : BitVec 32 := v108
  let v123 : Index := Scalar.indexCast v109
  let c0_57 : Index := 0#32
  ![v123.toNat, 0]
def k0_off7 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c256_i32_52 : BitVec 32 := 256#32
  let v108 : BitVec 32 := Scalar.muli v65 c256_i32_52
  let v109 : BitVec 32 := v108
  let v135 : Index := Scalar.indexCast v109
  let c0_60 : Index := 0#32
  ![v135.toNat, 0]
def k0_off8 (k0_t1 : Fin k0_t1_loop.trips) : Fin 3 → Nat :=
  let c0_740 : Index := 0#32
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c256_i32_52 : BitVec 32 := 256#32
  let v108 : BitVec 32 := Scalar.muli v65 c256_i32_52
  let v109 : BitVec 32 := v108
  let v1357 : Index := Scalar.indexCast v109
  let c0_741 : Index := 0#32
  ![0, v1357.toNat, 0]
def k0_mult4 (k0_t1 : Fin k0_t1_loop.trips) : BitVec 32 :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c2_i32_748 : BitVec 32 := 2#32
  let v1379 : BitVec 32 := Scalar.addi v65 c2_i32_748
  let c15_i32 : BitVec 32 := 15#32
  let v1380 : BitVec 32 := Scalar.minsi v1379 c15_i32
  let c256_i32_749 : BitVec 32 := 256#32
  let v1381 : BitVec 32 := Scalar.muli v1380 c256_i32_749
  v1381
def k0_off9 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c2_i32_748 : BitVec 32 := 2#32
  let v1379 : BitVec 32 := Scalar.addi v65 c2_i32_748
  let c15_i32 : BitVec 32 := 15#32
  let v1380 : BitVec 32 := Scalar.minsi v1379 c15_i32
  let c256_i32_749 : BitVec 32 := 256#32
  let v1381 : BitVec 32 := Scalar.muli v1380 c256_i32_749
  let v1382 : BitVec 32 := v1381
  let c512_i32_750 : BitVec 32 := 512#32
  let v1383 : BitVec 32 := Scalar.addi v1382 c512_i32_750
  let v1384 : Index := Scalar.indexCast v1383
  let c0_751 : Index := 0#32
  ![v1384.toNat, 0]
def k0_off10 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c2_i32_748 : BitVec 32 := 2#32
  let v1379 : BitVec 32 := Scalar.addi v65 c2_i32_748
  let c15_i32 : BitVec 32 := 15#32
  let v1380 : BitVec 32 := Scalar.minsi v1379 c15_i32
  let c256_i32_749 : BitVec 32 := 256#32
  let v1381 : BitVec 32 := Scalar.muli v1380 c256_i32_749
  let v1382 : BitVec 32 := v1381
  let v1396 : Index := Scalar.indexCast v1382
  let c0_754 : Index := 0#32
  ![v1396.toNat, 0]
def k0_off11 (k0_t1 : Fin k0_t1_loop.trips) : Fin 2 → Nat :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c2_i32_748 : BitVec 32 := 2#32
  let v1379 : BitVec 32 := Scalar.addi v65 c2_i32_748
  let c15_i32 : BitVec 32 := 15#32
  let v1380 : BitVec 32 := Scalar.minsi v1379 c15_i32
  let c256_i32_749 : BitVec 32 := 256#32
  let v1381 : BitVec 32 := Scalar.muli v1380 c256_i32_749
  let v1382 : BitVec 32 := v1381
  let v1408 : Index := Scalar.indexCast v1382
  let c0_757 : Index := 0#32
  ![v1408.toNat, 0]
def k0_mult5 (k0_t1 : Fin k0_t1_loop.trips) : BitVec 32 :=
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c1_i32_767 : BitVec 32 := 1#32
  let v1422 : BitVec 32 := Scalar.addi v65 c1_i32_767
  let c256_i32_768 : BitVec 32 := 256#32
  let v1423 : BitVec 32 := Scalar.muli v1422 c256_i32_768
  v1423
def k0_off12 (k0_t1 : Fin k0_t1_loop.trips) : Fin 3 → Nat :=
  let c0_1487 : Index := 0#32
  let c2_i32 : BitVec 32 := 2#32
  let c0_i32_25 : BitVec 32 := 0#32
  let c1_i32 : BitVec 32 := 1#32
  let arg12 : BitVec 32 := Scf.iv c0_i32_25 c1_i32 k0_t1
  let v65 : BitVec 32 := Scalar.muli c2_i32 arg12
  let c1_i32_767 : BitVec 32 := 1#32
  let v1422 : BitVec 32 := Scalar.addi v65 c1_i32_767
  let c256_i32_768 : BitVec 32 := 256#32
  let v1423 : BitVec 32 := Scalar.muli v1422 c256_i32_768
  let v1424 : BitVec 32 := v1423
  let v2672 : Index := Scalar.indexCast v1424
  let c0_1488 : Index := 0#32
  ![0, v2672.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4608x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S1x4096x512 : Shape := ⟨3, ![1, 4096, 512]⟩
abbrev S8x257 : Shape := ⟨2, ![8, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S8x256x768 : Shape := ⟨3, ![8, 256, 768]⟩
abbrev S1x64x64x8x64 : Shape := ⟨5, ![1, 64, 64, 8, 64]⟩
abbrev S1x8x64x8x64 : Shape := ⟨5, ![1, 8, 64, 8, 64]⟩
abbrev S1x72x64x8x64 : Shape := ⟨5, ![1, 72, 64, 8, 64]⟩
abbrev S1x64x576x8x64 : Shape := ⟨5, ![1, 64, 576, 8, 64]⟩
abbrev S576 : Shape := ⟨1, ![576]⟩
abbrev S8x64x576 : Shape := ⟨3, ![8, 64, 576]⟩
abbrev S8x1x64x576 : Shape := ⟨4, ![8, 1, 64, 576]⟩
abbrev S8x4x64x576 : Shape := ⟨4, ![8, 4, 64, 576]⟩
abbrev S1x8x1x4x1x64x1x576 : Shape := ⟨8, ![1, 8, 1, 4, 1, 64, 1, 576]⟩
abbrev S1x8x16x4x1x64x1x576 : Shape := ⟨8, ![1, 8, 16, 4, 1, 64, 1, 576]⟩
abbrev S8x64x64x576 : Shape := ⟨4, ![8, 64, 64, 576]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S1x8x64x64x576 : Shape := ⟨5, ![1, 8, 64, 64, 576]⟩
abbrev S1x1x64x1x576 : Shape := ⟨5, ![1, 1, 64, 1, 576]⟩
abbrev S1x8x64x64 : Shape := ⟨4, ![1, 8, 64, 64]⟩
abbrev S1x8x64x64x1 : Shape := ⟨5, ![1, 8, 64, 64, 1]⟩
abbrev S1x64x8x64x64 : Shape := ⟨5, ![1, 64, 8, 64, 64]⟩
abbrev S1x64x8x64x576 : Shape := ⟨5, ![1, 64, 8, 64, 576]⟩
abbrev S8x64x64 : Shape := ⟨3, ![8, 64, 64]⟩
abbrev S1x8x64x576x64 : Shape := ⟨5, ![1, 8, 64, 576, 64]⟩
abbrev S1x8x64x64x64 : Shape := ⟨5, ![1, 8, 64, 64, 64]⟩
abbrev S3x4096x512 : Shape := ⟨3, ![3, 4096, 512]⟩

abbrev nBuf : Space → Nat
  | .hbm => 300
  | .vmem => 0
  | .smem => 0
  | _ => 0

abbrev hbmTy0_0 (i : Nat) : BufTy := match i % 128 with
  | 0 => ⟨S1x4096x512, .f32⟩
  | 1 => ⟨S1x4096x512, .f32⟩
  | 2 => ⟨S1x4096x512, .f32⟩
  | 3 => ⟨S8x257, .f32⟩
  | 4 => ⟨S1x4096x512, .f32⟩
  | 5 => ⟨S256, .i32⟩
  | 6 => ⟨S256x1, .i32⟩
  | 7 => ⟨S768, .i32⟩
  | 8 => ⟨S1x768, .i32⟩
  | 9 => ⟨S_, .i32⟩
  | 10 => ⟨S1x768, .i32⟩
  | 11 => ⟨S1x768, .i32⟩
  | 12 => ⟨S256x768, .i32⟩
  | 13 => ⟨S256x768, .i32⟩
  | 14 => ⟨S256x768, .i32⟩
  | 15 => ⟨S_, .i32⟩
  | 16 => ⟨S_, .i32⟩
  | 17 => ⟨S_, .i32⟩
  | 18 => ⟨S256x768, .i32⟩
  | 19 => ⟨S256x768, .i32⟩
  | 20 => ⟨S_, .i32⟩
  | 21 => ⟨S256x768, .i32⟩
  | 22 => ⟨S256x768, .i32⟩
  | 23 => ⟨S_, .i32⟩
  | 24 => ⟨S256x768, .i32⟩
  | 25 => ⟨S256x768, .i32⟩
  | 26 => ⟨S_, .i32⟩
  | 27 => ⟨S256x768, .i32⟩
  | 28 => ⟨S256x768, .i1⟩
  | 29 => ⟨S_, .i32⟩
  | 30 => ⟨S256x768, .i32⟩
  | 31 => ⟨S256x768, .i32⟩
  | 32 => ⟨S256x768, .i32⟩
  | 33 => ⟨S256x768x1, .i32⟩
  | 34 => ⟨S8x256x768, .f32⟩
  | 35 => ⟨S1x64x64x8x64, .f32⟩
  | 36 => ⟨S1x64x64x8x64, .f32⟩
  | 37 => ⟨S_, .f32⟩
  | 38 => ⟨S1x8x64x8x64, .f32⟩
  | 39 => ⟨S1x72x64x8x64, .f32⟩
  | 40 => ⟨S_, .f32⟩
  | 41 => ⟨S1x8x64x8x64, .f32⟩
  | 42 => ⟨S1x64x64x8x64, .f32⟩
  | 43 => ⟨S1x64x64x8x64, .f32⟩
  | 44 => ⟨S1x64x64x8x64, .f32⟩
  | 45 => ⟨S1x64x64x8x64, .f32⟩
  | 46 => ⟨S1x64x64x8x64, .f32⟩
  | 47 => ⟨S1x64x64x8x64, .f32⟩
  | 48 => ⟨S1x64x64x8x64, .f32⟩
  | 49 => ⟨S1x64x64x8x64, .f32⟩
  | 50 => ⟨S1x64x64x8x64, .f32⟩
  | 51 => ⟨S1x64x576x8x64, .f32⟩
  | 52 => ⟨S1x64x64x8x64, .f32⟩
  | 53 => ⟨S_, .f32⟩
  | 54 => ⟨S1x8x64x8x64, .f32⟩
  | 55 => ⟨S1x72x64x8x64, .f32⟩
  | 56 => ⟨S_, .f32⟩
  | 57 => ⟨S1x8x64x8x64, .f32⟩
  | 58 => ⟨S1x64x64x8x64, .f32⟩
  | 59 => ⟨S1x64x64x8x64, .f32⟩
  | 60 => ⟨S1x64x64x8x64, .f32⟩
  | 61 => ⟨S1x64x64x8x64, .f32⟩
  | 62 => ⟨S1x64x64x8x64, .f32⟩
  | 63 => ⟨S1x64x64x8x64, .f32⟩
  | 64 => ⟨S1x64x64x8x64, .f32⟩
  | 65 => ⟨S1x64x64x8x64, .f32⟩
  | 66 => ⟨S1x64x64x8x64, .f32⟩
  | 67 => ⟨S1x64x576x8x64, .f32⟩
  | 68 => ⟨S576, .i32⟩
  | 69 => ⟨S_, .i32⟩
  | 70 => ⟨S576, .i32⟩
  | 71 => ⟨S576, .i32⟩
  | 72 => ⟨S8x64x576, .f32⟩
  | 73 => ⟨S8x64x576, .f32⟩
  | 74 => ⟨S8x64x576, .f32⟩
  | 75 => ⟨S8x64x576, .f32⟩
  | 76 => ⟨S8x1x64x576, .f32⟩
  | 77 => ⟨S8x1x64x576, .f32⟩
  | 78 => ⟨S8x1x64x576, .f32⟩
  | 79 => ⟨S8x1x64x576, .f32⟩
  | 80 => ⟨S8x4x64x576, .f32⟩
  | 81 => ⟨S1x8x1x4x1x64x1x576, .f32⟩
  | 82 => ⟨S1x8x16x4x1x64x1x576, .f32⟩
  | 83 => ⟨S8x64x64x576, .f32⟩
  | 84 => ⟨S64, .i32⟩
  | 85 => ⟨S64x1, .i32⟩
  | 86 => ⟨S1x576, .i32⟩
  | 87 => ⟨S_, .i32⟩
  | 88 => ⟨S_, .i32⟩
  | 89 => ⟨S1x576, .i32⟩
  | 90 => ⟨S1x576, .i32⟩
  | 91 => ⟨S1x576, .i32⟩
  | 92 => ⟨S_, .i32⟩
  | 93 => ⟨S1x576, .i32⟩
  | 94 => ⟨S1x576, .i1⟩
  | 95 => ⟨S1x576, .i32⟩
  | 96 => ⟨S1x576, .i32⟩
  | 97 => ⟨S_, .i32⟩
  | 98 => ⟨S1x576, .i32⟩
  | 99 => ⟨S1x576, .i1⟩
  | 100 => ⟨S1x576, .i1⟩
  | 101 => ⟨S_, .i32⟩
  | 102 => ⟨S1x576, .i32⟩
  | 103 => ⟨S1x576, .i32⟩
  | 104 => ⟨S1x576, .i32⟩
  | 105 => ⟨S64x576, .i32⟩
  | 106 => ⟨S64x576, .i32⟩
  | 107 => ⟨S64x576, .i32⟩
  | 108 => ⟨S_, .i32⟩
  | 109 => ⟨S64x576, .i32⟩
  | 110 => ⟨S64x576, .i1⟩
  | 111 => ⟨S1x8x64x64x576, .f32⟩
  | 112 => ⟨S_, .f32⟩
  | 113 => ⟨S1x8x64x64x576, .f32⟩
  | 114 => ⟨S1x8x64x64x576, .f32⟩
  | 115 => ⟨S1x8x64x64x576, .f32⟩
  | 116 => ⟨S1x8x64x64x576, .f32⟩
  | 117 => ⟨S1x1x64x1x576, .i1⟩
  | 118 => ⟨S_, .f32⟩
  | 119 => ⟨S_, .f32⟩
  | 120 => ⟨S1x8x64x64x576, .i1⟩
  | 121 => ⟨S1x8x64x64x576, .f32⟩
  | 122 => ⟨S1x8x64x64x576, .f32⟩
  | 123 => ⟨S_, .f32⟩
  | 124 => ⟨S1x8x64x64x576, .f32⟩
  | 125 => ⟨S_, .f32⟩
  | 126 => ⟨S1x8x64x64, .f32⟩
  | 127 => ⟨S1x8x64x64x1, .f32⟩
  | _ => ⟨S1x4096x512, .f32⟩

abbrev hbmTy0_1 (i : Nat) : BufTy := match i % 128 with
  | 0 => ⟨S1x8x64x64x576, .f32⟩
  | 1 => ⟨S1x8x64x64x576, .i1⟩
  | 2 => ⟨S1x8x64x64x576, .f32⟩
  | 3 => ⟨S_, .f32⟩
  | 4 => ⟨S1x8x64x64, .f32⟩
  | 5 => ⟨S_, .f32⟩
  | 6 => ⟨S1x8x64x64, .f32⟩
  | 7 => ⟨S1x8x64x64, .f32⟩
  | 8 => ⟨S_, .f32⟩
  | 9 => ⟨S1x8x64x64, .f32⟩
  | 10 => ⟨S1x8x64x64, .i1⟩
  | 11 => ⟨S_, .f32⟩
  | 12 => ⟨S1x8x64x64, .f32⟩
  | 13 => ⟨S1x8x64x64, .i1⟩
  | 14 => ⟨S_, .f32⟩
  | 15 => ⟨S1x8x64x64, .f32⟩
  | 16 => ⟨S_, .f32⟩
  | 17 => ⟨S1x8x64x64, .f32⟩
  | 18 => ⟨S_, .f32⟩
  | 19 => ⟨S1x8x64x64, .f32⟩
  | 20 => ⟨S1x8x64x64, .f32⟩
  | 21 => ⟨S1x8x64x64, .f32⟩
  | 22 => ⟨S1x8x64x64x1, .f32⟩
  | 23 => ⟨S1x8x64x64x576, .f32⟩
  | 24 => ⟨S1x8x64x64x576, .f32⟩
  | 25 => ⟨S1x8x64x64x576, .f32⟩
  | 26 => ⟨S_, .f32⟩
  | 27 => ⟨S1x8x64x64, .f32⟩
  | 28 => ⟨S1x8x64x64x1, .f32⟩
  | 29 => ⟨S1x8x64x64x576, .f32⟩
  | 30 => ⟨S1x8x64x64x576, .f32⟩
  | 31 => ⟨S1x8x64x64x1, .f32⟩
  | 32 => ⟨S_, .f32⟩
  | 33 => ⟨S1x8x64x64x1, .f32⟩
  | 34 => ⟨S1x8x64x64x1, .f32⟩
  | 35 => ⟨S1x64x8x64x64, .f32⟩
  | 36 => ⟨S1x64x64x8x64, .f32⟩
  | 37 => ⟨S1x4096x512, .f32⟩
  | 38 => ⟨S1x64x64x8x64, .f32⟩
  | 39 => ⟨S1x64x8x64x64, .f32⟩
  | 40 => ⟨S1x64x8x64x576, .f32⟩
  | 41 => ⟨S1x8x64x64x576, .f32⟩
  | 42 => ⟨S1x64x8x64x576, .f32⟩
  | 43 => ⟨S1x64x576x8x64, .f32⟩
  | 44 => ⟨S1x8x64x64x576, .f32⟩
  | 45 => ⟨S1x8x64x64x576, .f32⟩
  | 46 => ⟨S1x8x64x64x576, .f32⟩
  | 47 => ⟨S_, .f32⟩
  | 48 => ⟨S1x8x64x64, .f32⟩
  | 49 => ⟨S1x8x64x64x1, .f32⟩
  | 50 => ⟨S1x8x64x64x1, .f32⟩
  | 51 => ⟨S1x8x64x64x576, .f32⟩
  | 52 => ⟨S1x8x64x64x576, .f32⟩
  | 53 => ⟨S_, .f32⟩
  | 54 => ⟨S8x64x64, .f32⟩
  | 55 => ⟨S1x8x64x64, .f32⟩
  | 56 => ⟨S1x8x64x64x576, .f32⟩
  | 57 => ⟨S1x8x64x64x576, .f32⟩
  | 58 => ⟨S1x8x64x64x576, .f32⟩
  | 59 => ⟨S_, .f32⟩
  | 60 => ⟨S1x8x64x64x576, .f32⟩
  | 61 => ⟨S1x8x64x64x576, .f32⟩
  | 62 => ⟨S_, .f32⟩
  | 63 => ⟨S8x64x64x576, .f32⟩
  | 64 => ⟨S_, .f32⟩
  | 65 => ⟨S1x8x64x64x576, .f32⟩
  | 66 => ⟨S1x8x64x64x576, .f32⟩
  | 67 => ⟨S1x8x64x576x64, .f32⟩
  | 68 => ⟨S1x64x576x8x64, .f32⟩
  | 69 => ⟨S1x8x64x64x64, .f32⟩
  | 70 => ⟨S1x64x64x8x64, .f32⟩
  | 71 => ⟨S1x8x16x4x1x64x1x576, .f32⟩
  | 72 => ⟨S_, .f32⟩
  | 73 => ⟨S8x4x64x576, .f32⟩
  | 74 => ⟨S8x1x64x576, .f32⟩
  | 75 => ⟨S8x64x576, .f32⟩
  | 76 => ⟨S8x1x64x576, .f32⟩
  | 77 => ⟨S8x64x576, .f32⟩
  | 78 => ⟨S8x1x64x576, .f32⟩
  | 79 => ⟨S8x64x576, .f32⟩
  | 80 => ⟨S8x1x64x576, .f32⟩
  | 81 => ⟨S8x64x576, .f32⟩
  | 82 => ⟨S_, .f32⟩
  | 83 => ⟨S8x256x768, .f32⟩
  | 84 => ⟨S_, .f32⟩
  | 85 => ⟨S8x256x768, .f32⟩
  | 86 => ⟨S8x256x768, .f32⟩
  | 87 => ⟨S_, .f32⟩
  | 88 => ⟨S8x256x768, .f32⟩
  | 89 => ⟨S8x256x768, .f32⟩
  | 90 => ⟨S_, .f32⟩
  | 91 => ⟨S8x256x768, .f32⟩
  | 92 => ⟨S8x256x768, .f32⟩
  | 93 => ⟨S1x64x64x8x64, .f32⟩
  | 94 => ⟨S1x64x64x8x64, .f32⟩
  | 95 => ⟨S1x64x64x8x64, .f32⟩
  | 96 => ⟨S1x64x64x8x64, .f32⟩
  | 97 => ⟨S1x64x64x8x64, .f32⟩
  | 98 => ⟨S1x64x64x8x64, .f32⟩
  | 99 => ⟨S1x64x64x8x64, .f32⟩
  | 100 => ⟨S1x64x64x8x64, .f32⟩
  | 101 => ⟨S1x64x64x8x64, .f32⟩
  | 102 => ⟨S_, .f32⟩
  | 103 => ⟨S1x72x64x8x64, .f32⟩
  | 104 => ⟨S_, .f32⟩
  | 105 => ⟨S1x72x64x8x64, .f32⟩
  | 106 => ⟨S1x72x64x8x64, .f32⟩
  | 107 => ⟨S_, .f32⟩
  | 108 => ⟨S1x72x64x8x64, .f32⟩
  | 109 => ⟨S1x72x64x8x64, .f32⟩
  | 110 => ⟨S_, .f32⟩
  | 111 => ⟨S1x72x64x8x64, .f32⟩
  | 112 => ⟨S1x72x64x8x64, .f32⟩
  | 113 => ⟨S_, .f32⟩
  | 114 => ⟨S1x72x64x8x64, .f32⟩
  | 115 => ⟨S1x72x64x8x64, .f32⟩
  | 116 => ⟨S_, .f32⟩
  | 117 => ⟨S1x72x64x8x64, .f32⟩
  | 118 => ⟨S1x72x64x8x64, .f32⟩
  | 119 => ⟨S_, .f32⟩
  | 120 => ⟨S1x72x64x8x64, .f32⟩
  | 121 => ⟨S1x72x64x8x64, .f32⟩
  | 122 => ⟨S_, .f32⟩
  | 123 => ⟨S1x72x64x8x64, .f32⟩
  | 124 => ⟨S1x72x64x8x64, .f32⟩
  | 125 => ⟨S_, .f32⟩
  | 126 => ⟨S1x72x64x8x64, .f32⟩
  | 127 => ⟨S1x72x64x8x64, .f32⟩
  | _ => ⟨S1x4096x512, .f32⟩

abbrev hbmTy0_2 (i : Nat) : BufTy := match i % 128 with
  | 0 => ⟨S1x8x64x8x64, .f32⟩
  | 1 => ⟨S1x64x64x8x64, .f32⟩
  | 2 => ⟨S1x4096x512, .f32⟩
  | 3 => ⟨S1x64x64x8x64, .f32⟩
  | 4 => ⟨S1x64x64x8x64, .f32⟩
  | 5 => ⟨S1x64x64x8x64, .f32⟩
  | 6 => ⟨S1x64x64x8x64, .f32⟩
  | 7 => ⟨S1x64x64x8x64, .f32⟩
  | 8 => ⟨S1x64x64x8x64, .f32⟩
  | 9 => ⟨S1x64x64x8x64, .f32⟩
  | 10 => ⟨S1x64x64x8x64, .f32⟩
  | 11 => ⟨S1x64x64x8x64, .f32⟩
  | 12 => ⟨S_, .f32⟩
  | 13 => ⟨S1x72x64x8x64, .f32⟩
  | 14 => ⟨S_, .f32⟩
  | 15 => ⟨S1x72x64x8x64, .f32⟩
  | 16 => ⟨S1x72x64x8x64, .f32⟩
  | 17 => ⟨S_, .f32⟩
  | 18 => ⟨S1x72x64x8x64, .f32⟩
  | 19 => ⟨S1x72x64x8x64, .f32⟩
  | 20 => ⟨S_, .f32⟩
  | 21 => ⟨S1x72x64x8x64, .f32⟩
  | 22 => ⟨S1x72x64x8x64, .f32⟩
  | 23 => ⟨S_, .f32⟩
  | 24 => ⟨S1x72x64x8x64, .f32⟩
  | 25 => ⟨S1x72x64x8x64, .f32⟩
  | 26 => ⟨S_, .f32⟩
  | 27 => ⟨S1x72x64x8x64, .f32⟩
  | 28 => ⟨S1x72x64x8x64, .f32⟩
  | 29 => ⟨S_, .f32⟩
  | 30 => ⟨S1x72x64x8x64, .f32⟩
  | 31 => ⟨S1x72x64x8x64, .f32⟩
  | 32 => ⟨S_, .f32⟩
  | 33 => ⟨S1x72x64x8x64, .f32⟩
  | 34 => ⟨S1x72x64x8x64, .f32⟩
  | 35 => ⟨S_, .f32⟩
  | 36 => ⟨S1x72x64x8x64, .f32⟩
  | 37 => ⟨S1x72x64x8x64, .f32⟩
  | 38 => ⟨S1x8x64x8x64, .f32⟩
  | 39 => ⟨S1x64x64x8x64, .f32⟩
  | 40 => ⟨S1x4096x512, .f32⟩
  | 41 => ⟨S1x4096x512, .f32⟩
  | 42 => ⟨S3x4096x512, .f32⟩
  | 43 => ⟨S3x4096x512, .bf16⟩
  | _ => ⟨S1x4096x512, .f32⟩

abbrev hbmTy (i : Nat) : BufTy := match i / 128 with
  | 0 => hbmTy0_0 i
  | 1 => hbmTy0_1 i
  | 2 => hbmTy0_2 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_c : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_0 : Ref sig .tc := ⟨.hbm, 101, rfl⟩
abbrev main_call1_v12 : Ref sig .tc := ⟨.hbm, 102, rfl⟩
abbrev main_call1_v13 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_10 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_11 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_12 : Ref sig .tc := ⟨.hbm, 118, rfl⟩
abbrev main_call2_v0 : Ref sig .tc := ⟨.hbm, 119, rfl⟩
abbrev main_v78_1 : Ref sig .tc := ⟨.hbm, 120, rfl⟩
abbrev main_call2_v2 : Ref sig .tc := ⟨.hbm, 121, rfl⟩
abbrev main_v78_0 : Ref sig .tc := ⟨.hbm, 122, rfl⟩
abbrev main_call2_cst : Ref sig .tc := ⟨.hbm, 123, rfl⟩
abbrev main_v78_2 : Ref sig .tc := ⟨.hbm, 124, rfl⟩
abbrev main_cst_13 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_14 : Ref sig .tc := ⟨.hbm, 131, rfl⟩
abbrev main_v84 : Ref sig .tc := ⟨.hbm, 132, rfl⟩
abbrev main_cst_15 : Ref sig .tc := ⟨.hbm, 133, rfl⟩
abbrev main_v85 : Ref sig .tc := ⟨.hbm, 134, rfl⟩
abbrev main_v86 : Ref sig .tc := ⟨.hbm, 135, rfl⟩
abbrev main_cst_16 : Ref sig .tc := ⟨.hbm, 136, rfl⟩
abbrev main_v87 : Ref sig .tc := ⟨.hbm, 137, rfl⟩
abbrev main_v88 : Ref sig .tc := ⟨.hbm, 138, rfl⟩
abbrev main_cst_17 : Ref sig .tc := ⟨.hbm, 139, rfl⟩
abbrev main_v89 : Ref sig .tc := ⟨.hbm, 140, rfl⟩
abbrev main_v90 : Ref sig .tc := ⟨.hbm, 141, rfl⟩
abbrev main_cst_18 : Ref sig .tc := ⟨.hbm, 142, rfl⟩
abbrev main_v91 : Ref sig .tc := ⟨.hbm, 143, rfl⟩
abbrev main_cst_19 : Ref sig .tc := ⟨.hbm, 144, rfl⟩
abbrev main_v92 : Ref sig .tc := ⟨.hbm, 145, rfl⟩
abbrev main_cst_20 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_21 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_22 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_23 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_24 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_call3_cst : Ref sig .tc := ⟨.hbm, 187, rfl⟩
abbrev main_call3_v0 : Ref sig .tc := ⟨.hbm, 188, rfl⟩
abbrev main_v129 : Ref sig .tc := ⟨.hbm, 189, rfl⟩
abbrev main_cst_25 : Ref sig .tc := ⟨.hbm, 190, rfl⟩
abbrev main_v130 : Ref sig .tc := ⟨.hbm, 191, rfl⟩
abbrev main_cst_26 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_27 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_28 : Ref sig .tc := ⟨.hbm, 210, rfl⟩
abbrev main_v147 : Ref sig .tc := ⟨.hbm, 211, rfl⟩
abbrev main_cst_29 : Ref sig .tc := ⟨.hbm, 212, rfl⟩
abbrev main_v148 : Ref sig .tc := ⟨.hbm, 213, rfl⟩
abbrev main_v149 : Ref sig .tc := ⟨.hbm, 214, rfl⟩
abbrev main_cst_30 : Ref sig .tc := ⟨.hbm, 215, rfl⟩
abbrev main_v150 : Ref sig .tc := ⟨.hbm, 216, rfl⟩
abbrev main_v151 : Ref sig .tc := ⟨.hbm, 217, rfl⟩
abbrev main_cst_31 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_cst_32 : Ref sig .tc := ⟨.hbm, 230, rfl⟩
abbrev main_v163 : Ref sig .tc := ⟨.hbm, 231, rfl⟩
abbrev main_cst_33 : Ref sig .tc := ⟨.hbm, 232, rfl⟩
abbrev main_v164 : Ref sig .tc := ⟨.hbm, 233, rfl⟩
abbrev main_v165 : Ref sig .tc := ⟨.hbm, 234, rfl⟩
abbrev main_cst_34 : Ref sig .tc := ⟨.hbm, 235, rfl⟩
abbrev main_v166 : Ref sig .tc := ⟨.hbm, 236, rfl⟩
abbrev main_v167 : Ref sig .tc := ⟨.hbm, 237, rfl⟩
abbrev main_cst_35 : Ref sig .tc := ⟨.hbm, 238, rfl⟩
abbrev main_v168 : Ref sig .tc := ⟨.hbm, 239, rfl⟩
abbrev main_v169 : Ref sig .tc := ⟨.hbm, 240, rfl⟩
abbrev main_cst_36 : Ref sig .tc := ⟨.hbm, 241, rfl⟩
abbrev main_v170 : Ref sig .tc := ⟨.hbm, 242, rfl⟩
abbrev main_v171 : Ref sig .tc := ⟨.hbm, 243, rfl⟩
abbrev main_cst_37 : Ref sig .tc := ⟨.hbm, 244, rfl⟩
abbrev main_v172 : Ref sig .tc := ⟨.hbm, 245, rfl⟩
abbrev main_v173 : Ref sig .tc := ⟨.hbm, 246, rfl⟩
abbrev main_cst_38 : Ref sig .tc := ⟨.hbm, 247, rfl⟩
abbrev main_v174 : Ref sig .tc := ⟨.hbm, 248, rfl⟩
abbrev main_v175 : Ref sig .tc := ⟨.hbm, 249, rfl⟩
abbrev main_cst_39 : Ref sig .tc := ⟨.hbm, 250, rfl⟩
abbrev main_v176 : Ref sig .tc := ⟨.hbm, 251, rfl⟩
abbrev main_v177 : Ref sig .tc := ⟨.hbm, 252, rfl⟩
abbrev main_cst_40 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_cst_41 : Ref sig .tc := ⟨.hbm, 268, rfl⟩
abbrev main_v192 : Ref sig .tc := ⟨.hbm, 269, rfl⟩
abbrev main_cst_42 : Ref sig .tc := ⟨.hbm, 270, rfl⟩
abbrev main_v193 : Ref sig .tc := ⟨.hbm, 271, rfl⟩
abbrev main_v194 : Ref sig .tc := ⟨.hbm, 272, rfl⟩
abbrev main_cst_43 : Ref sig .tc := ⟨.hbm, 273, rfl⟩
abbrev main_v195 : Ref sig .tc := ⟨.hbm, 274, rfl⟩
abbrev main_v196 : Ref sig .tc := ⟨.hbm, 275, rfl⟩
abbrev main_cst_44 : Ref sig .tc := ⟨.hbm, 276, rfl⟩
abbrev main_v197 : Ref sig .tc := ⟨.hbm, 277, rfl⟩
abbrev main_v198 : Ref sig .tc := ⟨.hbm, 278, rfl⟩
abbrev main_cst_45 : Ref sig .tc := ⟨.hbm, 279, rfl⟩
abbrev main_v199 : Ref sig .tc := ⟨.hbm, 280, rfl⟩
abbrev main_v200 : Ref sig .tc := ⟨.hbm, 281, rfl⟩
abbrev main_cst_46 : Ref sig .tc := ⟨.hbm, 282, rfl⟩
abbrev main_v201 : Ref sig .tc := ⟨.hbm, 283, rfl⟩
abbrev main_v202 : Ref sig .tc := ⟨.hbm, 284, rfl⟩
abbrev main_cst_47 : Ref sig .tc := ⟨.hbm, 285, rfl⟩
abbrev main_v203 : Ref sig .tc := ⟨.hbm, 286, rfl⟩
abbrev main_v204 : Ref sig .tc := ⟨.hbm, 287, rfl⟩
abbrev main_cst_48 : Ref sig .tc := ⟨.hbm, 288, rfl⟩
abbrev main_v205 : Ref sig .tc := ⟨.hbm, 289, rfl⟩
abbrev main_v206 : Ref sig .tc := ⟨.hbm, 290, rfl⟩
abbrev main_cst_49 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩

abbrev nD : Nat := 1
abbrev τ : Topo := Topo.v7x

variable {F : FTy → Type} [FloatOps F]

def κ : String → Option EReal := fun
  | "mask" => some ⊥
  | _ => none
-- ==== GradX.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S1x4096x512 : Shape := ⟨3, ![1, 4096, 512]⟩
abbrev S4096x512 : Shape := ⟨2, ![4096, 512]⟩
abbrev S3x4096x512 : Shape := ⟨3, ![3, 4096, 512]⟩
abbrev S1x4096x4096 : Shape := ⟨3, ![1, 4096, 4096]⟩
abbrev S4096x4096 : Shape := ⟨2, ![4096, 4096]⟩
abbrev S4096x1024 : Shape := ⟨2, ![4096, 1024]⟩
abbrev S1024x5632 : Shape := ⟨2, ![1024, 5632]⟩
abbrev S5632x1024 : Shape := ⟨2, ![5632, 1024]⟩
abbrev S3x512x512 : Shape := ⟨3, ![3, 512, 512]⟩
abbrev S512x4096 : Shape := ⟨2, ![512, 4096]⟩
abbrev S512x1024 : Shape := ⟨2, ![512, 1024]⟩
abbrev S_ : Shape := ⟨0, ![]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x4096x5632, .f32⟩
  | .hbm, ⟨4, _⟩ => ⟨S1x4096x1024, .f32⟩
  | .hbm, ⟨5, _⟩ => ⟨S1x4096x512, .f32⟩
  | .hbm, ⟨6, _⟩ => ⟨S4096x512, .f32⟩
  | .hbm, ⟨7, _⟩ => ⟨S1x4096x512, .f32⟩
  | .hbm, ⟨8, _⟩ => ⟨S4096x512, .f32⟩
  | .hbm, ⟨9, _⟩ => ⟨S1x4096x512, .f32⟩
  | .hbm, ⟨10, _⟩ => ⟨S4096x512, .f32⟩
  | .hbm, ⟨11, _⟩ => ⟨S1x4096x512, .f32⟩
  | .hbm, ⟨12, _⟩ => ⟨S1x4096x512, .f32⟩
  | .hbm, ⟨13, _⟩ => ⟨S1x4096x512, .f32⟩
  | .hbm, ⟨14, _⟩ => ⟨S3x4096x512, .f32⟩
  | .hbm, ⟨15, _⟩ => ⟨S3x4096x512, .bf16⟩
  | .hbm, ⟨16, _⟩ => ⟨S1x4096x4096, .f32⟩
  | .hbm, ⟨17, _⟩ => ⟨S4096x4096, .f32⟩
  | .hbm, ⟨18, _⟩ => ⟨S4096x4096, .bf16⟩
  | .hbm, ⟨19, _⟩ => ⟨S4096x1024, .f32⟩
  | .hbm, ⟨20, _⟩ => ⟨S4096x1024, .f32⟩
  | .hbm, ⟨21, _⟩ => ⟨S1024x5632, .f32⟩
  | .hbm, ⟨22, _⟩ => ⟨S5632x1024, .f32⟩
  | .hbm, ⟨23, _⟩ => ⟨S5632x1024, .bf16⟩
  | .hbm, ⟨24, _⟩ => ⟨S4096x1024, .f32⟩
  | .local _ .vmem, ⟨0, _⟩ => ⟨S3x512x512, .bf16⟩
  | .local _ .vmem, ⟨1, _⟩ => ⟨S3x512x512, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S5632x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GradXRefIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S1024 : Shape := ⟨1, ![1024]⟩
abbrev S1024x5632 : Shape := ⟨2, ![1024, 5632]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩
abbrev S4096x1024 : Shape := ⟨2, ![4096, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x4096x5632, .f32⟩
  | .hbm, ⟨4, _⟩ => ⟨S1x4096x1024, .f32⟩
  | .hbm, ⟨5, _⟩ => ⟨S1024, .f32⟩
  | .hbm, ⟨6, _⟩ => ⟨S1024x5632, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x5632, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096, .f32⟩
  | .hbm, ⟨34, _⟩ => ⟨S1x4096x1, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== GradW.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S1x4096x512 : Shape := ⟨3, ![1, 4096, 512]⟩
abbrev S4096x512 : Shape := ⟨2, ![4096, 512]⟩
abbrev S3x4096x512 : Shape := ⟨3, ![3, 4096, 512]⟩
abbrev S1x4096x4096 : Shape := ⟨3, ![1, 4096, 4096]⟩
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S5632x1024 : Shape := ⟨2, ![5632, 1024]⟩
abbrev S512x1024 : Shape := ⟨2, ![512, 1024]⟩
abbrev S1024 : Shape := ⟨1, ![1024]⟩

abbrev nBuf : Space → Nat
  | .hbm => 38
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x4096x5632, .f32⟩
  | .hbm, ⟨4, _⟩ => ⟨S1x4096x512, .f32⟩
  | .hbm, ⟨5, _⟩ => ⟨S4096x512, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S4096x512, .f32⟩
  | .hbm, ⟨10, _⟩ => ⟨S1x4096x512, .f32⟩
  | .hbm, ⟨11, _⟩ => ⟨S1x4096x512, .f32⟩
  | .hbm, ⟨12, _⟩ => ⟨S1x4096x512, .f32⟩
  | .hbm, ⟨13, _⟩ => ⟨S3x4096x512, .f32⟩
  | .hbm, ⟨14, _⟩ => ⟨S3x4096x512, .bf16⟩
  | .hbm, ⟨15, _⟩ => ⟨S1x4096x4096, .f32⟩
  | .hbm, ⟨16, _⟩ => ⟨S4096x4096, .f32⟩
  | .hbm, ⟨17, _⟩ => ⟨S4096x4096, .bf16⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S1024x5632, .f32⟩
  | .hbm, ⟨34, _⟩ => ⟨S5632x1024, .f32⟩
  | .hbm, ⟨35, _⟩ => ⟨S5632x1024, .bf16⟩
  | .hbm, ⟨36, _⟩ => ⟨S5632x1024, .bf16⟩
  | .hbm, ⟨37, _⟩ => ⟨S1x1024, .f32⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S4096x512, .bf16⟩
  | .local _ .vmem, ⟨4, _⟩ => ⟨S4096x512, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![11, 1], ![false, false]⟩

def k0_cond5 (i : grid0.Coords) : BitVec 1 :=
  let arg1 : BitVec 32 := BitVec.ofNat 32 (i 1).val
  let c0_i32_7 : BitVec 32 := 0#32
  let v14 : BitVec 1 := Scalar.cmpi .eq arg1 c0_i32_7
  let v15 : BitVec 32 := Scalar.extui v14
  let c0_i32_8 : BitVec 32 := 0#32
  let v16 : BitVec 1 := Scalar.cmpi .ne v15 c0_i32_8
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg0 c2_i32
  let c3_i32 : BitVec 32 := 3#32
  let v1 : BitVec 1 := Scalar.cmpi .slt arg0 c3_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c0_i32 : BitVec 32 := 0#32
  let v1 : BitVec 32 := Scalar.select v0 arg1 c0_i32
  let c3_i32_0 : BitVec 32 := 3#32
  let v2 : BitVec 32 := Scalar.subi arg0 c3_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GradWRefIdeal.lean ====
abbrev S1x4096x1024 : Shape := ⟨3, ![1, 4096, 1024]⟩
abbrev S1x1024 : Shape := ⟨2, ![1, 1024]⟩
abbrev S1x1024x5632 : Shape := ⟨3, ![1, 1024, 5632]⟩
abbrev S1x4096x5632 : Shape := ⟨3, ![1, 4096, 5632]⟩
abbrev S1024 : Shape := ⟨1, ![1024]⟩
abbrev S1024x5632 : Shape := ⟨2, ![1024, 5632]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S5632x1024 : Shape := ⟨2, ![5632, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5632, .f32⟩
  | .hbm, ⟨3, _⟩ => ⟨S1x4096x5632, .f32⟩
  | .hbm, ⟨4, _⟩ => ⟨S1024, .f32⟩
  | .hbm, ⟨5, _⟩ => ⟨S1024x5632, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1024, .f32⟩
  | .hbm, ⟨18, _⟩ => ⟨S1x4096x1024, .f32⟩
  | .hbm, ⟨19, _⟩ => ⟨S1x1x1024, .f32⟩
  | .hbm, ⟨20, _⟩ => ⟨S1x4096x1024, .f32⟩
  | .hbm, ⟨21, _⟩ => ⟨S1x4096x1024, .f32⟩
  | .hbm, ⟨22, _⟩ => ⟨S1x4096x5632, .f32⟩
  | .hbm, ⟨23, _⟩ => ⟨S5632x1024, .f32⟩
  | .hbm, ⟨24, _⟩ => ⟨S1024x5632, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x1024, .f32⟩
  | .hbm, ⟨29, _⟩ => ⟨S1x1x1024, .f32⟩
  | .hbm, ⟨30, _⟩ => ⟨S_, .f32⟩
  | .hbm, ⟨31, _⟩ => ⟨S1024, .f32⟩
  | .hbm, ⟨32, _⟩ => ⟨S5632x1024, .f32⟩
  | .hbm, ⟨33, _⟩ => ⟨S5632x1024, .bf16⟩
  | .hbm, ⟨34, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Mid.lean ====
abbrev S1x4096x1024 : Shape := ⟨3, ![1, 4096, 1024]⟩
abbrev S1x4096x512 : Shape := ⟨3, ![1, 4096, 512]⟩
abbrev S1x4096x5632 : Shape := ⟨3, ![1, 4096, 5632]⟩
abbrev S1x2048 : Shape := ⟨2, ![1, 2048]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S4096x5632 : Shape := ⟨2, ![4096, 5632]⟩
abbrev S_ : Shape := ⟨0, ![]⟩
abbrev S4608x5632 : Shape := ⟨2, ![4608, 5632]⟩
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S4x128x128 : Shape := ⟨3, ![4, 128, 128]⟩
abbrev S4x128x1 : Shape := ⟨3, ![4, 128, 1]⟩
abbrev S1x1024 : Shape := ⟨2, ![1, 1024]⟩
abbrev S4096x4096 : Shape := ⟨2, ![4096, 4096]⟩
abbrev S8x128x1024 : Shape := ⟨3, ![8, 128, 1024]⟩
abbrev S8x512x128 : Shape := ⟨3, ![8, 512, 128]⟩
abbrev S1x1 : Shape := ⟨2, ![1, 1]⟩
abbrev S256x1024 : Shape := ⟨2, ![256, 1024]⟩
abbrev S256x512 : Shape := ⟨2, ![256, 512]⟩
abbrev S256x4096 : Shape := ⟨2, ![256, 4096]⟩
abbrev S3 : Shape := ⟨1, ![3]⟩
abbrev S1 : Shape := ⟨1, ![1]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S1x128x1 : Shape := ⟨3, ![1, 128, 1]⟩
abbrev S128x1 : Shape := ⟨2, ![128, 1]⟩
abbrev S128x512 : Shape := ⟨2, ![128, 512]⟩
abbrev S128 : Shape := ⟨1, ![128]⟩
abbrev S512 : Shape := ⟨1, ![512]⟩
abbrev S128x1024 : Shape := ⟨2, ![128, 1024]⟩
abbrev S1x128x1024 : Shape := ⟨3, ![1, 128, 1024]⟩
abbrev S512x128 : Shape := ⟨2, ![512, 128]⟩
abbrev S1x512x128 : Shape := ⟨3, ![1, 512, 128]⟩

abbrev nBuf : Space → Nat
  | .hbm => 43
  | .vmem => 51
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x5632, .f32⟩
  | .hbm, ⟨3, _⟩ => ⟨S1x2048, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1024, .f32⟩
  | .hbm, ⟨12, _⟩ => ⟨S1x4096x1024, .f32⟩
  | .hbm, ⟨13, _⟩ => ⟨S4096x5632, .f32⟩
  | .hbm, ⟨14, _⟩ => ⟨S_, .i32⟩
  | .hbm, ⟨15, _⟩ => ⟨S_, .f32⟩
  | .hbm, ⟨16, _⟩ => ⟨S4608x5632, .f32⟩
  | .hbm, ⟨17, _⟩ => ⟨S4608x5632, .bf16⟩
  | .hbm, ⟨18, _⟩ => ⟨S4096x1024, .f32⟩
  | .hbm, ⟨19, _⟩ => ⟨S4096x1024, .f32⟩
  | .hbm, ⟨20, _⟩ => ⟨S4096x512, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S4x128x128, .f32⟩
  | .hbm, ⟨28, _⟩ => ⟨S4x128x1, .f32⟩
  | .hbm, ⟨29, _⟩ => ⟨S1x1024, .f32⟩
  | .hbm, ⟨30, _⟩ => ⟨S4096x1024, .f32⟩
  | .hbm, ⟨31, _⟩ => ⟨S4096x512, .bf16⟩
  | .hbm, ⟨32, _⟩ => ⟨S4096x4096, .bf16⟩
  | .hbm, ⟨33, _⟩ => ⟨S8x128x1024, .bf16⟩
  | .hbm, ⟨34, _⟩ => ⟨S8x512x128, .bf16⟩
  | .hbm, ⟨35, _⟩ => ⟨S8x512x128, .bf16⟩
  | .hbm, ⟨36, _⟩ => ⟨S1x2048, .f32⟩
  | .hbm, ⟨37, _⟩ => ⟨S1x1024, .f32⟩
  | .hbm, ⟨38, _⟩ => ⟨S1x512, .f32⟩
  | .hbm, ⟨39, _⟩ => ⟨S1x512, .f32⟩
  | .hbm, ⟨40, _⟩ => ⟨S4x128x128, .f32⟩
  | .hbm, ⟨41, _⟩ => ⟨S4x128x1, .f32⟩
  | .hbm, ⟨42, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S1x2048, .f32⟩
  | .local _ .vmem, ⟨23, _⟩ => ⟨S1x512, .f32⟩
  | .local _ .vmem, ⟨24, _⟩ => ⟨S1x512, .f32⟩
  | .local _ .vmem, ⟨25, _⟩ => ⟨S4x128x128, .f32⟩
  | .local _ .vmem, ⟨26, _⟩ => ⟨S4x128x1, .f32⟩
  | .local _ .vmem, ⟨27, _⟩ => ⟨S1x1024, .f32⟩
  | .local _ .vmem, ⟨28, _⟩ => ⟨S256x1024, .f32⟩
  | .local _ .vmem, ⟨29, _⟩ => ⟨S256x1024, .f32⟩
  | .local _ .vmem, ⟨30, _⟩ => ⟨S256x512, .bf16⟩
  | .local _ .vmem, ⟨31, _⟩ => ⟨S256x512, .bf16⟩
  | .local _ .vmem, ⟨32, _⟩ => ⟨S256x4096, .bf16⟩
  | .local _ .vmem, ⟨33, _⟩ => ⟨S256x4096, .bf16⟩
  | .local _ .vmem, ⟨34, _⟩ => ⟨S1x2048, .f32⟩
  | .local _ .vmem, ⟨35, _⟩ => ⟨S1x1024, .f32⟩
  | .local _ .vmem, ⟨36, _⟩ => ⟨S1x512, .f32⟩
  | .local _ .vmem, ⟨37, _⟩ => ⟨S1x512, .f32⟩
  | .local _ .vmem, ⟨38, _⟩ => ⟨S4x128x128, .f32⟩
  | .local _ .vmem, ⟨39, _⟩ => ⟨S4x128x1, .f32⟩
  | .local _ .vmem, ⟨40, _⟩ => ⟨S1x1, .f32⟩
  | .local _ .vmem, ⟨41, _⟩ => ⟨S512x1024, .bf16⟩
  | .local _ .vmem, ⟨42, _⟩ => ⟨S512x1024, .bf16⟩
  | .local _ .vmem, ⟨43, _⟩ => ⟨S1024x1024, .bf16⟩
  | .local _ .vmem, ⟨44, _⟩ => ⟨S4x128x128, .bf16⟩
  | .local _ .vmem, ⟨45, _⟩ => ⟨S1024x1024, .f32⟩
  | .local _ .vmem, ⟨46, _⟩ => ⟨S512x1024, .f32⟩
  | .local _ .vmem, ⟨47, _⟩ => ⟨S512x1024, .f32⟩
  | .local _ .vmem, ⟨48, _⟩ => ⟨S8x128x1024, .bf16⟩
  | .local _ .vmem, ⟨49, _⟩ => ⟨S8x512x128, .bf16⟩
  | .local _ .vmem, ⟨50, _⟩ => ⟨S8x512x128, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev main_v15_5 : Ref sig .tc := ⟨.hbm, 35, rfl⟩
abbrev main_v15_6 : Ref sig .tc := ⟨.hbm, 36, rfl⟩
abbrev main_v15_7 : Ref sig .tc := ⟨.hbm, 37, rfl⟩
abbrev main_v15_8 : Ref sig .tc := ⟨.hbm, 38, rfl⟩
abbrev main_v15_9 : Ref sig .tc := ⟨.hbm, 39, rfl⟩
abbrev main_v15_10 : Ref sig .tc := ⟨.hbm, 40, rfl⟩
abbrev main_v15_11 : Ref sig .tc := ⟨.hbm, 41, rfl⟩
abbrev main_v15_12 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_scratch6 : Ref sig .tc := ⟨.vmem, 47, rfl⟩
abbrev cc0_scratch7 : Ref sig .tc := ⟨.vmem, 48, rfl⟩
abbrev cc0_scratch8 : Ref sig .tc := ⟨.vmem, 49, rfl⟩
abbrev cc0_scratch9 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c7_i32 : BitVec 32 := 7#32
  let c0_i32 : BitVec 32 := 0#32
  ![v0.toNat, c7_i32.toNat]

def cc0_transform_8 (i : grid0.Coords) : Fin 2 → Nat :=
  let arg0 : BitVec 32 := BitVec.ofNat 32 (i 0).val
  let c2_i32 : BitVec 32 := 2#32
  let v0 : BitVec 32 := Scalar.addi arg0 c2_i32
  let c8_i32 : BitVec 32 := 8#32
  let c0_i32 : BitVec 32 := 0#32
  ![v0.toNat, c8_i32.toNat]

def cc0_transform_9 (i : grid0.Coords) : Fin 2 → Nat :=
  let arg0 : BitVec 32 := BitVec.ofNat 32 (i 0).val
  let c2_i32 : BitVec 32 := 2#32
  let v0 : BitVec 32 := Scalar.addi arg0 c2_i32
  let c9_i32 : BitVec 32 := 9#32
  let c0_i32 : BitVec 32 := 0#32
  ![v0.toNat, c9_i32.toNat]

def cc0_transform_10 (i : grid0.Coords) : Fin 2 → Nat :=
  let arg0 : BitVec 32 := BitVec.ofNat 32 (i 0).val
  let c2_i32 : BitVec 32 := 2#32
  let v0 : BitVec 32 := Scalar.addi arg0 c2_i32
  let c10_i32 : BitVec 32 := 10#32
  let c0_i32 : BitVec 32 := 0#32
  ![v0.toNat, c10_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x4096 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S4x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S4x128x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MidRefIdeal.lean ====
abbrev S1x4096x1024 : Shape := ⟨3, ![1, 4096, 1024]⟩
abbrev S1x4096x512 : Shape := ⟨3, ![1, 4096, 512]⟩
abbrev S1x4096x5632 : Shape := ⟨3, ![1, 4096, 5632]⟩
abbrev S1x2048 : Shape := ⟨2, ![1, 2048]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S512x1024 : Shape := ⟨2, ![512, 1024]⟩
abbrev S1x1024 : Shape := ⟨2, ![1, 1024]⟩
abbrev S1x1x1024 : Shape := ⟨3, ![1, 1, 1024]⟩
abbrev S1024x1024 : Shape := ⟨2, ![1024, 1024]⟩
abbrev S4096 : Shape := ⟨1, ![4096]⟩
abbrev S4096x1024 : Shape := ⟨2, ![4096, 1024]⟩
abbrev S1x1 : Shape := ⟨2, ![1, 1]⟩

abbrev nBuf : Space → Nat
  | .hbm => 240
  | .vmem => 0
  | .smem => 0
  | _ => 0

abbrev hbmTy0_0 (i : Nat) : BufTy := match i % 128 with
  | 0 => ⟨S1x4096x1024, .f32⟩
  | 1 => ⟨S1x4096x512, .f32⟩
  | 2 => ⟨S1x4096x5632, .f32⟩
  | 3 => ⟨S1x2048, .f32⟩
  | 4 => ⟨S1x512, .f32⟩
  | 5 => ⟨S1x512, .f32⟩
  | 6 => ⟨S1x4x128x128, .f32⟩
  | 7 => ⟨S1x4x128, .f32⟩
  | 8 => ⟨S1x512x1024, .f32⟩
  | 9 => ⟨S1x512x1024, .f32⟩
  | 10 => ⟨S1x1024x1024, .f32⟩
  | 11 => ⟨S1024, .f32⟩
  | 12 => ⟨S1x4096x1024, .f32⟩
  | 13 => ⟨S1x4096x512, .f32⟩
  | 14 => ⟨S1x4096x512, .f32⟩
  | 15 => ⟨S1x4096x512, .f32⟩
  | 16 => ⟨S1x4096x512, .f32⟩
  | 17 => ⟨S1x4096x1024, .f32⟩
  | 18 => ⟨S1x4096x1024, .f32⟩
  | 19 => ⟨S1x4096x512, .f32⟩
  | 20 => ⟨S1x4096x512, .f32⟩
  | 21 => ⟨S_, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S1x4096x512, .f32⟩
  | 28 => ⟨S1x4096x512, .f32⟩
  | 29 => ⟨S1x4096x512, .f32⟩
  | 30 => ⟨S1x4096x512, .f32⟩
  | 31 => ⟨S_, .f32⟩
  | 32 => ⟨S1x4096x512, .f32⟩
  | 33 => ⟨S1x4096x512, .f32⟩
  | 34 => ⟨S1x4096x512, .f32⟩
  | 35 => ⟨S_, .f32⟩
  | 36 => ⟨S1x4096x512, .f32⟩
  | 37 => ⟨S1x4096x512, .f32⟩
  | 38 => ⟨S1x4096x512, .f32⟩
  | 39 => ⟨S_, .f32⟩
  | 40 => ⟨S1x4096x512, .f32⟩
  | 41 => ⟨S1x4096x512, .f32⟩
  | 42 => ⟨S_, .f32⟩
  | 43 => ⟨S1x4096x512, .f32⟩
  | 44 => ⟨S1x4096x512, .f32⟩
  | 45 => ⟨S1x4096x512, .f32⟩
  | 46 => ⟨S1x4096x512, .f32⟩
  | 47 => ⟨S1x4096x512, .f32⟩
  | 48 => ⟨S_, .f32⟩
  | 49 => ⟨S1x4096x512, .f32⟩
  | 50 => ⟨S1x4096x512, .f32⟩
  | 51 => ⟨S1x4096x512, .f32⟩
  | 52 => ⟨S_, .f32⟩
  | 53 => ⟨S1x4096x512, .f32⟩
  | 54 => ⟨S1x4096x512, .f32⟩
  | 55 => ⟨S1x4096x512, .f32⟩
  | 56 => ⟨S_, .f32⟩
  | 57 => ⟨S1x4096x512, .f32⟩
  | 58 => ⟨S1x4096x512, .f32⟩
  | 59 => ⟨S_, .f32⟩
  | 60 => ⟨S1x4096x512, .f32⟩
  | 61 => ⟨S1x4096x512, .f32⟩
  | 62 => ⟨S1x4096x512, .f32⟩
  | 63 => ⟨S512, .f32⟩
  | 64 => ⟨S512, .f32⟩
  | 65 => ⟨S4x128x128, .f32⟩
  | 66 => ⟨S4x128, .f32⟩
  | 67 => ⟨S_, .f32⟩
  | 68 => ⟨S1x4096, .f32⟩
  | 69 => ⟨S1x4096x1, .f32⟩
  | 70 => ⟨S_, .f32⟩
  | 71 => ⟨S1x4096x1, .f32⟩
  | 72 => ⟨S1x4096x1, .f32⟩
  | 73 => ⟨S1x4096x512, .f32⟩
  | 74 => ⟨S1x4096x512, .f32⟩
  | 75 => ⟨S1x4096x512, .f32⟩
  | 76 => ⟨S_, .f32⟩
  | 77 => ⟨S1x4096, .f32⟩
  | 78 => ⟨S1x4096x1, .f32⟩
  | 79 => ⟨S_, .f32⟩
  | 80 => ⟨S1x4096x1, .f32⟩
  | 81 => ⟨S1x4096x1, .f32⟩
  | 82 => ⟨S1x4096x512, .f32⟩
  | 83 => ⟨S1x4096x512, .f32⟩
  | 84 => ⟨S_, .f32⟩
  | 85 => ⟨S1x4096x1, .f32⟩
  | 86 => ⟨S1x4096x1, .f32⟩
  | 87 => ⟨S1x4096x1, .f32⟩
  | 88 => ⟨S1x4096x512, .f32⟩
  | 89 => ⟨S1x4096x512, .f32⟩
  | 90 => ⟨S1x1x512, .f32⟩
  | 91 => ⟨S1x4096x512, .f32⟩
  | 92 => ⟨S1x4096x512, .f32⟩
  | 93 => ⟨S1x1x512, .f32⟩
  | 94 => ⟨S1x4096x512, .f32⟩
  | 95 => ⟨S1x4096x512, .f32⟩
  | 96 => ⟨S1x32x128x4x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S1x128x128, .i1⟩
  | 109 => ⟨S_, .f32⟩
  | 110 => ⟨S4x128x128, .f32⟩
  | 111 => ⟨S4x128x128, .i1⟩
  | 112 => ⟨S4x128x128, .f32⟩
  | 113 => ⟨S4x1x32x128x128, .f32⟩
  | 114 => ⟨S1x32x128x4x128, .f32⟩
  | 115 => ⟨S128x4, .f32⟩
  | 116 => ⟨S128x4x1, .f32⟩
  | 117 => ⟨S1x1x128x4x1, .f32⟩
  | 118 => ⟨S1x32x128x4x128, .f32⟩
  | 119 => ⟨S1x32x128x4x128, .f32⟩
  | 120 => ⟨S1x4096x512, .f32⟩
  | 121 => ⟨S1x4096x512, .f32⟩
  | 122 => ⟨S1x4096x512, .f32⟩
  | 123 => ⟨S1x4096x512, .f32⟩
  | 124 => ⟨S_, .f32⟩
  | 125 => ⟨S1x4096x512, .f32⟩
  | 126 => ⟨S1x4096x512, .f32⟩
  | 127 => ⟨S_, .f32⟩
  | _ => ⟨S1x4096x1024, .f32⟩

abbrev hbmTy0_1 (i : Nat) : BufTy := match i % 128 with
  | 0 => ⟨S1x4096x512, .f32⟩
  | 1 => ⟨S1x4096x512, .f32⟩
  | 2 => ⟨S1x4096x512, .f32⟩
  | 3 => ⟨S1x4096x512, .f32⟩
  | 4 => ⟨S512x1024, .f32⟩
  | 5 => ⟨S1x4096x1024, .f32⟩
  | 6 => ⟨S512x1024, .f32⟩
  | 7 => ⟨S1x4096x1024, .f32⟩
  | 8 => ⟨S1x1024, .f32⟩
  | 9 => ⟨S1024, .f32⟩
  | 10 => ⟨S1x1x1024, .f32⟩
  | 11 => ⟨S1x4096x1024, .f32⟩
  | 12 => ⟨S1x4096x1024, .f32⟩
  | 13 => ⟨S1x4096x1024, .f32⟩
  | 14 => ⟨S1x4096x1024, .f32⟩
  | 15 => ⟨S_, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S1x1024, .f32⟩
  | 22 => ⟨S1024, .f32⟩
  | 23 => ⟨S1x1x1024, .f32⟩
  | 24 => ⟨S1x4096x1024, .f32⟩
  | 25 => ⟨S1x4096x1024, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S1x4096x1024, .f32⟩
  | 35 => ⟨S1x4096x1024, .f32⟩
  | 36 => ⟨S1x4096x1024, .f32⟩
  | 37 => ⟨S1024x1024, .f32⟩
  | 38 => ⟨S1x4096x1024, .f32⟩
  | 39 => ⟨S1x4096x1024, .f32⟩
  | 40 => ⟨S1x4096x1024, .f32⟩
  | 41 => ⟨S_, .f32⟩
  | 42 => ⟨S1x4096, .f32⟩
  | 43 => ⟨S1x4096x1, .f32⟩
  | 44 => ⟨S_, .f32⟩
  | 45 => ⟨S1x4096x1, .f32⟩
  | 46 => ⟨S1x4096x1, .f32⟩
  | 47 => ⟨S_, .f32⟩
  | 48 => ⟨S1x4096x1, .f32⟩
  | 49 => ⟨S1x4096x1, .f32⟩
  | 50 => ⟨S1x4096x1, .f32⟩
  | 51 => ⟨S1x4096x1, .f32⟩
  | 52 => ⟨S_, .f32⟩
  | 53 => ⟨S1x4096x1, .f32⟩
  | 54 => ⟨S1x4096x1, .f32⟩
  | 55 => ⟨S1x4096x1024, .f32⟩
  | 56 => ⟨S1x4096x1024, .f32⟩
  | 57 => ⟨S1x1x1024, .f32⟩
  | 58 => ⟨S1x4096x1024, .f32⟩
  | 59 => ⟨S1x4096x1024, .f32⟩
  | 60 => ⟨S1x4096x1024, .f32⟩
  | 61 => ⟨S1x4096x1024, .f32⟩
  | 62 => ⟨S_, .f32⟩
  | 63 => ⟨S1x4096x1024, .f32⟩
  | 64 => ⟨S1x4096x1024, .f32⟩
  | 65 => ⟨S_, .f32⟩
  | 66 => ⟨S1x4096, .f32⟩
  | 67 => ⟨S_, .f32⟩
  | 68 => ⟨S1x4096, .f32⟩
  | 69 => ⟨S1x4096, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1x4096, .f32⟩
  | 78 => ⟨S_, .f32⟩
  | 79 => ⟨S1x4096, .f32⟩
  | 80 => ⟨S1x4096, .f32⟩
  | 81 => ⟨S1x4096x1024, .f32⟩
  | 82 => ⟨S1x4096x1024, .f32⟩
  | 83 => ⟨S1x4096x1024, .f32⟩
  | 84 => ⟨S_, .f32⟩
  | 85 => ⟨S1x1024, .f32⟩
  | 86 => ⟨S1x1x1024, .f32⟩
  | 87 => ⟨S1x4096x1024, .f32⟩
  | 88 => ⟨S1x4096x1024, .f32⟩
  | 89 => ⟨S_, .f32⟩
  | 90 => ⟨S1024, .f32⟩
  | 91 => ⟨S1x4096x1024, .f32⟩
  | 92 => ⟨S_, .f32⟩
  | 93 => ⟨S1x4096, .f32⟩
  | 94 => ⟨S1x4096x1, .f32⟩
  | 95 => ⟨S1x4096x1024, .f32⟩
  | 96 => ⟨S1x4096x1024, .f32⟩
  | 97 => ⟨S1x4096x1, .f32⟩
  | 98 => ⟨S_, .f32⟩
  | 99 => ⟨S1x4096x1, .f32⟩
  | 100 => ⟨S1x4096x1, .f32⟩
  | 101 => ⟨S_, .f32⟩
  | 102 => ⟨S4096, .f32⟩
  | 103 => ⟨S1x4096, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S4096x1024, .f32⟩
  | 110 => ⟨S1x1024, .f32⟩
  | 111 => ⟨S1x1, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c : Ref sig .tc := ⟨.hbm, 97, rfl⟩
abbrev main_v63 : Ref sig .tc := ⟨.hbm, 98, rfl⟩
abbrev main_call1_v0 : Ref sig .tc := ⟨.hbm, 99, rfl⟩
abbrev main_call1_c : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_c_0 : Ref sig .tc := ⟨.hbm, 105, rfl⟩
abbrev main_call1_v5 : Ref sig .tc := ⟨.hbm, 106, rfl⟩
abbrev main_v64 : Ref sig .tc := ⟨.hbm, 107, rfl⟩
abbrev main_v65 : Ref sig .tc := ⟨.hbm, 108, rfl⟩
abbrev main_cst_12 : Ref sig .tc := ⟨.hbm, 109, rfl⟩
abbrev main_v66 : Ref sig .tc := ⟨.hbm, 110, rfl⟩
abbrev main_call2_v0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_call3_v0 : Ref sig .tc := ⟨.hbm, 122, rfl⟩
abbrev main_call3_v1 : Ref sig .tc := ⟨.hbm, 123, rfl⟩
abbrev main_call3_cst : Ref sig .tc := ⟨.hbm, 124, rfl⟩
abbrev main_call3_v2 : Ref sig .tc := ⟨.hbm, 125, rfl⟩
abbrev main_call3_v3 : Ref sig .tc := ⟨.hbm, 126, rfl⟩
abbrev main_call3_cst_0 : Ref sig .tc := ⟨.hbm, 127, rfl⟩
abbrev main_call3_v4 : Ref sig .tc := ⟨.hbm, 128, rfl⟩
abbrev main_call3_v5 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_13 : Ref sig .tc := ⟨.hbm, 143, rfl⟩
abbrev main_v90 : Ref sig .tc := ⟨.hbm, 144, rfl⟩
abbrev main_v91 : Ref sig .tc := ⟨.hbm, 145, rfl⟩
abbrev main_cst_14 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_15 : Ref sig .tc := ⟨.hbm, 156, rfl⟩
abbrev main_v101 : Ref sig .tc := ⟨.hbm, 157, rfl⟩
abbrev main_v102 : Ref sig .tc := ⟨.hbm, 158, rfl⟩
abbrev main_cst_16 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_17 : Ref sig .tc := ⟨.hbm, 169, rfl⟩
abbrev main_v112 : Ref sig .tc := ⟨.hbm, 170, rfl⟩
abbrev main_v113 : Ref sig .tc := ⟨.hbm, 171, rfl⟩
abbrev main_cst_18 : Ref sig .tc := ⟨.hbm, 172, rfl⟩
abbrev main_v114 : Ref sig .tc := ⟨.hbm, 173, rfl⟩
abbrev main_v115 : Ref sig .tc := ⟨.hbm, 174, rfl⟩
abbrev main_cst_19 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_20 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_cst_21 : Ref sig .tc := ⟨.hbm, 190, rfl⟩
abbrev main_v129 : Ref sig .tc := ⟨.hbm, 191, rfl⟩
abbrev main_v130 : Ref sig .tc := ⟨.hbm, 192, rfl⟩
abbrev main_cst_22 : Ref sig .tc := ⟨.hbm, 193, rfl⟩
abbrev main_v131 : Ref sig .tc := ⟨.hbm, 194, rfl⟩
abbrev main_cst_23 : Ref sig .tc := ⟨.hbm, 195, rfl⟩
abbrev main_v132 : Ref sig .tc := ⟨.hbm, 196, rfl⟩
abbrev main_v133 : Ref sig .tc := ⟨.hbm, 197, rfl⟩
abbrev main_cst_24 : Ref sig .tc := ⟨.hbm, 198, rfl⟩
abbrev main_v134 : Ref sig .tc := ⟨.hbm, 199, rfl⟩
abbrev main_cst_25 : Ref sig .tc := ⟨.hbm, 200, rfl⟩
abbrev main_v135 : Ref sig .tc := ⟨.hbm, 201, rfl⟩
abbrev main_cst_26 : Ref sig .tc := ⟨.hbm, 202, rfl⟩
abbrev main_cst_27 : Ref sig .tc := ⟨.hbm, 203, rfl⟩
abbrev main_v136 : Ref sig .tc := ⟨.hbm, 204, rfl⟩
abbrev main_v137 : Ref sig .tc := ⟨.hbm, 205, rfl⟩
abbrev main_cst_28 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_cst_29 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_cst_30 : Ref sig .tc := ⟨.hbm, 217, rfl⟩
abbrev main_v147 : Ref sig .tc := ⟨.hbm, 218, rfl⟩
abbrev main_v148 : Ref sig .tc := ⟨.hbm, 219, rfl⟩
abbrev main_cst_31 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_32 : Ref sig .tc := ⟨.hbm, 226, rfl⟩
abbrev main_v154 : Ref sig .tc := ⟨.hbm, 227, rfl⟩
abbrev main_v155 : Ref sig .tc := ⟨.hbm, 228, rfl⟩
abbrev main_cst_33 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩

abbrev nD : Nat := 1
abbrev τ : Topo := Topo.v7x

variable {F : FTy → Type} [FloatOps F]
-- ==== Proof.BiasKernel.lean ====
module

public import proofs.«01_k».proof.Proof.Gen.BiasIdeal.Value
public import Idealize.ShloMosaic.Lib.Pointwise
public import Idealize.ShloMosaic.Lib.Pipeline.ValueKit

@[expose] public section

set_option maxRecDepth 16384

noncomputable section

namespace Cert.BiasIdeal.Spec

open Idealize.ShloMosaic Idealize.ShloMosaic.TcCoe Idealize.SL.Sem
open Cert.BiasIdeal Cert.BiasIdeal.Gen

/-- The column of the bias table that entry `c` of the folded row belongs to. -/
def relCol (c : Nat) : Nat := if c ≤ 639 then 256 else 895 - c

/-- A comparison's bit, widened and converted, is 1 where the comparison holds and 0 elsewhere. -/
theorem bit_real (p : Prop) [Decidable p] (b : BitVec 1) (hb : b = if p then 1#1 else 0#1) :
    FloatOps.sitofp (F := Ideal) FTy.f32 (BitVec.setWidth 32 b) = (if p then (1 : EReal) else 0) := by
  subst hb
  by_cases h : p
  · rw [if_pos h, if_pos h]
    show (((BitVec.setWidth 32 1#1).toInt : ℝ) : EReal) = 1
    simp
  · rw [if_neg h, if_neg h]
    show (((BitVec.setWidth 32 0#1).toInt : ℝ) : EReal) = 0
    simp

theorem cmpi_eq (a b : BitVec 32) : IntOp.cmpi CmpIPredicate.eq a b = if a = b then 1#1 else 0#1 := by
  by_cases h : a = b
  · simp [IntOp.cmpi, h]
  · rw [if_neg h]
    simp [IntOp.cmpi, h, beq_eq_false_iff_ne.2 h]

/-- The reversed identity. -/
theorem flip_apply (i m : Fin 256) : k0_pay2 (F := Ideal) (ix2 i m) = if m = Fin.rev i then (1 : EReal) else 0 := by
  unfold k0_pay2
  pointwise
  refine bit_real (m = Fin.rev i) _ ?_
  rw [cmpi_eq]
  have h : (IntOp.addi (BitVec.ofNat 32 i.val) (BitVec.ofNat 32 m.val) = 255#32) ↔ m = Fin.rev i := by
    have hi := i.isLt
    have hm := m.isLt
    rw [Fin.ext_iff, Fin.val_rev]
    simp only [IntOp.addi]
    rw [← BitVec.toNat_inj]
    simp only [BitVec.toNat_add, BitVec.toNat_ofNat]
    omega
  simp only [h]

/-- The word of the column that entry `c` of the folded row is picked for. -/
theorem col_word : ∀ c : Fin 1024,
    (Scalar.select
            (IntOp.cmpi CmpIPredicate.sle
              (Scalar.select (IntOp.cmpi CmpIPredicate.sge (BitVec.ofNat 32 c.val) 255#32)
                (IntOp.subi (BitVec.ofNat 32 c.val) 255#32) (IntOp.addi (BitVec.ofNat 32 c.val) 769#32))
              384#32)
            (256#32)
            (Scalar.select
              (IntOp.cmpi CmpIPredicate.slt
                (Scalar.select (IntOp.cmpi CmpIPredicate.sge (BitVec.ofNat 32 c.val) 255#32)
                  (IntOp.subi (BitVec.ofNat 32 c.val) 255#32) (IntOp.addi (BitVec.ofNat 32 c.val) 769#32))
                640#32)
              (IntOp.subi (640#32)
                (Scalar.select (IntOp.cmpi CmpIPredicate.sge (BitVec.ofNat 32 c.val) 255#32)
                  (IntOp.subi (BitVec.ofNat 32 c.val) 255#32) (IntOp.addi (BitVec.ofNat 32 c.val) 769#32)))
              (Scalar.select
                (IntOp.cmpi CmpIPredicate.sle
                  (Scalar.select (IntOp.cmpi CmpIPredicate.sge (BitVec.ofNat 32 c.val) 255#32)
                    (IntOp.subi (BitVec.ofNat 32 c.val) 255#32) (IntOp.addi (BitVec.ofNat 32 c.val) 769#32))
                  768#32)
                0#32 256#32))) = BitVec.ofNat 32 (relCol c.val) := by
  decide +kernel

/-- The picking matrix: entry `c` of the folded row goes to column `relCol c`. -/
theorem pick_apply (c : Fin 1024) (r : Fin 384) :
    k0_pay3 (F := Ideal) (ix2 c r) = if r.val = relCol c.val then (1 : EReal) else 0 := by
  unfold k0_pay3
  pointwise
  refine bit_real (r.val = relCol c.val) _ ?_
  rw [col_word, cmpi_eq]
  have h : (BitVec.ofNat 32 r.val = BitVec.ofNat 32 (relCol c.val)) ↔ r.val = relCol c.val := by
    have hr := r.isLt
    have hc : relCol c.val < 384 := by unfold relCol; split <;> omega
    rw [← BitVec.toNat_inj]
    simp only [BitVec.toNat_ofNat]
    omega
  simp only [h]

/-- One head's folded row: entry `c` collects, for every query row from the last to the first, the key that lies `c` places on
    along the rotated row. -/
theorem strip_apply (X : Vec Ideal S1x256x768 .f32) (c : Fin 1024) :
    k0_pay5 (k0_pay2 (F := Ideal)) X (ix2 0 c)
      = ∑ i : Fin 256, if h : (c.val + 1024 - i.val % 1024) % 1024 < 768
          then X (ix3 0 (Fin.rev i) ⟨(c.val + 1024 - i.val % 1024) % 1024, h⟩) else 0 := by
  unfold k0_pay5
  pointwise
  refine Finset.sum_congr rfl fun i _ => ?_
  split
  · simp only [flip_apply, ite_mul, one_mul, zero_mul, Finset.sum_ite_eq', Finset.mem_univ, if_true]
  · rfl

/-- For one query row: the sum over the folded row's entries that belong to column `r` is the sum over the row's keys at that
    column's distance. -/
theorem unfold_row (f : Fin 768 → EReal) (i : Fin 256) (r : Nat) :
    (∑ c : Fin 1024, if r = relCol c.val then
        (if h : (c.val + 1024 - i.val % 1024) % 1024 < 768 then f ⟨(c.val + 1024 - i.val % 1024) % 1024, h⟩ else 0) else 0)
      = ∑ k : Fin 768, if r = relCol (k.val + i.val) then f k else 0 := by
  have hi := i.isLt
  symm
  refine Finset.sum_bij_ne_zero (fun k _ _ => (⟨k.val + i.val, by omega⟩ : Fin 1024)) (fun _ _ _ => Finset.mem_univ _)
    (fun a _ _ b _ _ h => Fin.ext (by have := congrArg Fin.val h; dsimp only at this; omega)) ?_ ?_
  · intro c _ hc
    have hlt := c.isLt
    by_cases h1 : (c.val + 1024 - i.val % 1024) % 1024 < 768
    · have hle : i.val ≤ c.val := by omega
      refine ⟨⟨c.val - i.val, by omega⟩, Finset.mem_univ _, ?_, Fin.ext (by dsimp only; omega)⟩
      intro h0
      apply hc
      have e : (c.val + 1024 - i.val % 1024) % 1024 = c.val - i.val := by omega
      have e2 : c.val - i.val + i.val = c.val := by omega
      simp only [e, e2] at h0 ⊢
      rw [dif_pos (by omega)]
      exact h0
    · simp [h1] at hc
  · intro k _ _
    have hk := k.isLt
    have e : (k.val + i.val + 1024 - i.val % 1024) % 1024 = k.val := by omega
    simp only [e]
    rw [dif_pos hk]

/-- The kernel's result at head `h` and column `r`: the sum of the cotangent over all pairs of a query row and a key at that
    column's distance. -/
def spec (A : S8x256x768.Idx → EReal) (h : Fin 8) (r : Nat) : EReal :=
  ∑ q : Fin 256, ∑ k : Fin 768, if r = relCol (k.val + 255 - q.val) then A (ix3 h q k) else 0

/-- One head's folded row times the picking matrix is the head's row of `spec`. -/
theorem strip_pick (X : Vec Ideal S1x256x768 .f32) (r : Fin 384) :
    (∑ c : Fin 1024, k0_pay5 (k0_pay2 (F := Ideal)) X (ix2 0 c) * k0_pay3 (F := Ideal) (ix2 c r))
      = ∑ q : Fin 256, ∑ k : Fin 768, if r.val = relCol (k.val + 255 - q.val) then X (ix3 0 q k) else 0 := by
  simp only [strip_apply, pick_apply, mul_ite, mul_one, mul_zero]
  have e : ∀ c : Fin 1024, (if r.val = relCol c.val then (∑ i : Fin 256, if h : (c.val + 1024 - i.val % 1024) % 1024 < 768
          then X (ix3 0 (Fin.rev i) ⟨(c.val + 1024 - i.val % 1024) % 1024, h⟩) else 0) else 0)
      = ∑ i : Fin 256, if r.val = relCol c.val then (if h : (c.val + 1024 - i.val % 1024) % 1024 < 768
          then X (ix3 0 (Fin.rev i) ⟨(c.val + 1024 - i.val % 1024) % 1024, h⟩) else 0) else 0 := by
    intro c
    split <;> simp
  rw [Finset.sum_congr rfl fun c _ => e c, Finset.sum_comm]
  rw [← Equiv.sum_comp Fin.revPerm]
  refine Finset.sum_congr rfl fun q _ => ?_
  have hq := q.isLt
  rw [unfold_row (fun k => X (ix3 0 (Fin.rev (Fin.revPerm q)) k)) (Fin.revPerm q) r.val]
  refine Finset.sum_congr rfl fun k _ => ?_
  simp only [Fin.revPerm_apply, Fin.rev_rev, Fin.val_rev]
  have e2 : k.val + (256 - (q.val + 1)) = k.val + 255 - q.val := by omega
  rw [e2]

/-- The kernel's array. -/
theorem kernel_apply (A : Vec Ideal S8x256x768 .f32) (h : Fin 8) (r : Fin 384) :
    Value.G1 (F := Ideal) A (ix2 h r) = spec A h r.val := by
  have e : Value.G1 (F := Ideal) A = matmul dot_S8x1024_S1024x384_S8x384_1_0_0_1_n_n (some .fp32)
      (concatenate S8x1024 0
        [⟨S1x1024, k0_pay5 k0_pay2 (View.ld A r0_0)⟩, ⟨S1x1024, k0_pay5 k0_pay2 (View.ld A r0_1)⟩,
          ⟨S1x1024, k0_pay5 k0_pay2 (View.ld A r0_2)⟩, ⟨S1x1024, k0_pay5 k0_pay2 (View.ld A r0_3)⟩,
          ⟨S1x1024, k0_pay5 k0_pay2 (View.ld A r0_4)⟩, ⟨S1x1024, k0_pay5 k0_pay2 (View.ld A r0_5)⟩,
          ⟨S1x1024, k0_pay5 k0_pay2 (View.ld A r0_6)⟩, ⟨S1x1024, k0_pay5 k0_pay2 (View.ld A r0_7)⟩]
        concatenates_S1x1024_S1x1024_S1x1024_S1x1024_S1x1024_S1x1024_S1x1024_S1x1024_S8x1024_d0)
      k0_pay3 (constant S8x384 FTy.f32 0#32) := rfl
  rw [e]
  unfold spec
  pointwise
  fin_cases h
  · exact (strip_pick (View.ld A r0_0) r).trans (Finset.sum_congr rfl fun q _ => Finset.sum_congr rfl fun k _ => by pointwise)
  · exact (strip_pick (View.ld A r0_1) r).trans (Finset.sum_congr rfl fun q _ => Finset.sum_congr rfl fun k _ => by pointwise)
  · exact (strip_pick (View.ld A r0_2) r).trans (Finset.sum_congr rfl fun q _ => Finset.sum_congr rfl fun k _ => by pointwise)
  · exact (strip_pick (View.ld A r0_3) r).trans (Finset.sum_congr rfl fun q _ => Finset.sum_congr rfl fun k _ => by pointwise)
  · exact (strip_pick (View.ld A r0_4) r).trans (Finset.sum_congr rfl fun q _ => Finset.sum_congr rfl fun k _ => by pointwise)
  · exact (strip_pick (View.ld A r0_5) r).trans (Finset.sum_congr rfl fun q _ => Finset.sum_congr rfl fun k _ => by pointwise)
  · exact (strip_pick (View.ld A r0_6) r).trans (Finset.sum_congr rfl fun q _ => Finset.sum_congr rfl fun k _ => by pointwise)
  · exact (strip_pick (View.ld A r0_7) r).trans (Finset.sum_congr rfl fun q _ => Finset.sum_congr rfl fun k _ => by pointwise)

end Cert.BiasIdeal.Spec
-- ==== Proof.BiasHost.lean ====
module

public import proofs.«01_k».proof.Proof.Gen.BiasRefIdeal.Run
public import Idealize.ShloMosaic.Lib.Routing.OpsPair
public import Idealize.ShloMosaic.Lib.Pointwise
public import Idealize.ShloMosaic.Lib.Pipeline.ValueKit

@[expose] public section

set_option maxRecDepth 16384

noncomputable section

namespace Cert.BiasRefIdeal.Spec

open Idealize.ShloMosaic Idealize.ShloMosaic.TcCoe Idealize.SL.Sem
open Cert.BiasRefIdeal

/-- A query row's distance to a key, clipped to 128 on both sides and moved up by 128. -/
def dist : IVec S256x768 32 :=
  addi (minsi (broadcastInDim S256x768 ![] Facts₀.bcast_S_S256x768 (id (constantI S_ 32 128#32)))
    (maxsi (broadcastInDim S256x768 ![] Facts₀.bcast_S_S256x768 (id (constantI S_ 32 4294967168#32)))
      (subi (broadcastInDim S256x768 ![0, 1] Facts₀.bcast_S256x1_S256x768_0_1 (broadcastInDim S256x1 ![0] Facts₀.bcast_S256_S256x1_0 (iotaInDim S256 32 0)))
        (broadcastInDim S256x768 ![0, 1] Facts₀.bcast_S1x768_S256x768_0_1 (subi (broadcastInDim S1x768 ![1] Facts₀.bcast_S768_S1x768_1 (iotaInDim S768 32 0))
          (broadcastInDim S1x768 ![] Facts₀.bcast_S_S1x768 (constantI S_ 32 512#32)))))))
    (broadcastInDim S256x768 ![] Facts₀.bcast_S_S256x768 (constantI S_ 32 128#32))

/-- The word of the column that a query row and a key share in the bias table, as the reference computes it. -/
def colOf : IVec S256x768x1 32 :=
  broadcastInDim S256x768x1 ![0, 1] Facts₀.bcast_S256x768_S256x768x1_0_1
    (select (cmpi .slt dist (broadcastInDim S256x768 ![] Facts₀.bcast_S_S256x768 (constantI S_ 32 0#32)))
      (addi dist (broadcastInDim S256x768 ![] Facts₀.bcast_S_S256x768 (constantI S_ 32 257#32))) dist)

/-- The column of the bias table that belongs to a key `n - 255` places before the query row's own place less 512. -/
def clipCol (n : Nat) : Nat := if 383 ≤ n then 256 else n - 127

theorem dist_word : ∀ n : Fin 1023,
    (Scalar.select
        (IntOp.cmpi CmpIPredicate.slt
          (IntOp.addi (IntOp.minsi (128#32) (IntOp.maxsi (4294967168#32) (IntOp.subi (BitVec.ofNat 32 n.val) 255#32))) 128#32) 0#32)
        (IntOp.addi (IntOp.addi (IntOp.minsi (128#32) (IntOp.maxsi (4294967168#32) (IntOp.subi (BitVec.ofNat 32 n.val) 255#32))) 128#32) 257#32)
        (IntOp.addi (IntOp.minsi (128#32) (IntOp.maxsi (4294967168#32) (IntOp.subi (BitVec.ofNat 32 n.val) 255#32))) 128#32)).toInt
      = (clipCol n.val : Int) := by
  decide +kernel

theorem colOf_apply (q : Fin 256) (k : Fin 768) : (colOf (ix3 q k 0)).toInt = (clipCol (q.val + 767 - k.val) : Int) := by
  have hq := q.isLt
  have hk := k.isLt
  unfold colOf dist
  pointwise
  have e : IntOp.subi (BitVec.ofNat 32 q.val) (IntOp.subi (BitVec.ofNat 32 k.val) 512#32)
      = IntOp.subi (BitVec.ofNat 32 (q.val + 767 - k.val)) 255#32 := by
    simp only [IntOp.subi]
    rw [← BitVec.toNat_inj]
    simp only [BitVec.toNat_sub, BitVec.toNat_ofNat]
    omega
  rw [e]
  exact dist_word ⟨q.val + 767 - k.val, by omega⟩

/-- Update `(h, q, k)` lands on column `c` of row `h'` exactly when the rows are the same and `c` is the pair's column. -/
theorem lands (idx : IVec S256x768x1 32) (h h' : Fin 8) (q : Fin 256) (k : Fin 768) (c : Fin 257) :
    scatter_S8x257_S256x768x1_S8x256x768_0_1_1_2.resultIdx? (ix3 h q k) idx = some (ix2 h' c)
      ↔ h = h' ∧ (idx (ix3 q k 0)).toInt = (c.val : Int) := by
  rw [Routing.resultIdx?_eq_some]
  have hs0 : scatter_S8x257_S256x768x1_S8x256x768_0_1_1_2.start (ix3 h q k) idx 0 = 0 := by
    unfold ScatterDims.start
    rw [dif_neg (by decide)]
  have hw1 : scatter_S8x257_S256x768x1_S8x256x768_0_1_1_2.window (ix3 h q k) 1 = 0 := by
    unfold ScatterDims.window
    rw [dif_neg (by decide)]
  have hw0 : scatter_S8x257_S256x768x1_S8x256x768_0_1_1_2.window (ix3 h q k) 0 = h.val := by
    unfold ScatterDims.window
    rw [dif_pos (by decide)]
    rfl
  have hs1 : scatter_S8x257_S256x768x1_S8x256x768_0_1_1_2.start (ix3 h q k) idx 1 = (idx (ix3 q k 0)).toInt := by
    unfold ScatterDims.start
    rw [dif_pos (by decide)]
    refine congrArg (fun x => (idx x).toInt) ?_
    funext b
    apply Fin.ext
    match b with
    | ⟨0, _⟩ => rfl
    | ⟨1, _⟩ => rfl
    | ⟨2, _⟩ => rfl
  constructor
  · intro e
    have e0 := e 0
    have e1 := e 1
    rw [hs0, hw0] at e0
    rw [hs1, hw1] at e1
    exact ⟨Fin.ext (by simpa using e0), by simpa using e1⟩
  · rintro ⟨rfl, e⟩ a
    match a with
    | ⟨0, _⟩ => show _ + ((scatter_S8x257_S256x768x1_S8x256x768_0_1_1_2.window (ix3 h q k) 0 : Nat) : Int) = _; erw [hs0, hw0]; simp
    | ⟨1, _⟩ => erw [hs1, hw1]; simpa using e

/-- The reference's array at head `h` and a column of the table. -/
theorem host_apply (A : Vec Ideal S8x256x768 .f32) (h : Fin 8) (r : Fin 384) :
    pad S8x384 ![0, 0] ![0, 127] ![0, 0] (Host.scatterAdd (F := Ideal) (φ := .f32) scatter_S8x257_S256x768x1_S8x256x768_0_1_1_2
      (broadcastInDim S8x257 ![] Facts₀.bcast_S_S8x257 (constant S_ .f32 0x00000000#32)) colOf A)
      (sitofp .f32 (constantI S_ 32 0#32)) Facts₀.pads_S8x257_S8x384_000_01270 Facts₀.h_S_ (ix2 h r)
      = ∑ q : Fin 256, ∑ k : Fin 768, if r.val = clipCol (q.val + 767 - k.val) then A (ix3 h q k) else 0 := by
  pointwise
  split
  · next hr =>
    show broadcastInDim S8x257 ![] _ (constant (F := Ideal) S_ FTy.f32 0#32) _ + _ = _
    pointwise
    rw [Finset.sum_filter, sum_idx3, Finset.sum_eq_single h]
    · refine Finset.sum_congr rfl fun q _ => Finset.sum_congr rfl fun k _ => ?_
      simp only [lands, colOf_apply, true_and]
      refine if_congr ?_ rfl rfl
      constructor <;> intro e <;> omega
    · intro b _ hb
      refine Finset.sum_eq_zero fun q _ => Finset.sum_eq_zero fun k _ => ?_
      rw [if_neg]
      intro e
      exact hb ((lands _ _ _ _ _ _).1 e).1
    · intro e
      exact (e (Finset.mem_univ _)).elim
  · next hr =>
    have e0 : (FloatOps.sitofp (F := Ideal) FTy.f32 (0#32) : EReal) = 0 := by
      show (((0#32).toInt : ℝ) : EReal) = 0
      simp
    refine e0.trans (Eq.symm (Finset.sum_eq_zero fun q _ => Finset.sum_eq_zero fun k _ => if_neg ?_))
    intro e
    have : clipCol (q.val + 767 - k.val) ≤ 256 := by unfold clipCol; have := q.isLt; have := k.isLt; split <;> omega
    omega

end Cert.BiasRefIdeal.Spec
-- ==== Proof.BiasEq.lean ====
module

public import proofs.«01_k».proof.Proof.Gen.BiasRefIdeal.Run
public import proofs.«01_k».proof.Proof.BiasKernel
public import proofs.«01_k».proof.Proof.BiasHost
public import Idealize.ShloMosaic.Lib.Pointwise
public import Idealize.ShloMosaic.Lib.Pipeline.ValueKit

@[expose] public section

set_option maxRecDepth 16384

noncomputable section

namespace Cert.BiasEq

open Idealize.ShloMosaic Idealize.ShloMosaic.TcCoe Idealize.SL.Sem

/-- The reference's array is the kernel's: both collect, at a head and a column, the cotangent of the pairs at that distance. -/
theorem equal (A : Vec Ideal Cert.BiasIdeal.S8x256x768 .f32) :
    pad Cert.BiasRefIdeal.S8x384 ![0, 0] ![0, 127] ![0, 0]
      (Host.scatterAdd (F := Ideal) (φ := .f32) Cert.BiasRefIdeal.scatter_S8x257_S256x768x1_S8x256x768_0_1_1_2
        (broadcastInDim Cert.BiasRefIdeal.S8x257 ![] Cert.BiasRefIdeal.Facts₀.bcast_S_S8x257 (constant Cert.BiasRefIdeal.S_ .f32 0x00000000#32))
        Cert.BiasRefIdeal.Spec.colOf A)
      (sitofp .f32 (constantI Cert.BiasRefIdeal.S_ 32 0#32)) Cert.BiasRefIdeal.Facts₀.pads_S8x257_S8x384_000_01270 Cert.BiasRefIdeal.Facts₀.h_S_
      = Cert.BiasIdeal.Value.G1 (F := Ideal) A := by
  funext j
  obtain ⟨h, r, rfl⟩ : ∃ (h : Fin 8) (r : Fin 384), j = ix2 h r := ⟨j 0, j 1, eq_ix2 j⟩
  refine (Cert.BiasRefIdeal.Spec.host_apply A h r).trans (Eq.symm ((Cert.BiasIdeal.Spec.kernel_apply A h r).trans ?_))
  unfold Cert.BiasIdeal.Spec.spec
  refine Finset.sum_congr rfl fun q _ => Finset.sum_congr rfl fun k _ => ?_
  have e : Cert.BiasIdeal.Spec.relCol (k.val + 255 - q.val) = Cert.BiasRefIdeal.Spec.clipCol (q.val + 767 - k.val) := by
    unfold Cert.BiasIdeal.Spec.relCol Cert.BiasRefIdeal.Spec.clipCol
    have := q.isLt
    have := k.isLt
    split <;> split <;> omega
  rw [e]

end Cert.BiasEq
-- ==== Proof.AttnTrip.lean ====
module

public import proofs.«01_k».proof.Proof.Gen.AttnIdeal.Loops

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One trip of the loop over pairs of query blocks, run at a symbolic trip: what it writes into the six buffers it
    writes, as lists of written rectangles, with the proof that it runs and leaves the other buffers as they were. -/
def trip (c : Dev nD) (i : grid0.Coords)
  (arg1 : Memref sig .tc .vmem S4608x128 .bf16) (harg1 : arg1.IsWhole)
  (arg2 : Memref sig .tc .vmem S4608x128 .bf16) (harg2 : arg2.IsWhole)
  (arg3 : Memref sig .tc .vmem S4608x128 .bf16) (harg3 : arg3.IsWhole)
  (arg4 : Memref sig .tc .vmem S2x256x768 .f32) (harg4 : arg4.IsWhole)
  (arg5 : Memref sig .tc .vmem S4096x128 .bf16) (harg5 : arg5.IsWhole)
  (arg6 : Memref sig .tc .vmem S3x4096x128 .bf16) (harg6 : arg6.IsWhole)
  (arg7 : Memref sig .tc .vmem S2x256x768 .f32) (harg7 : arg7.IsWhole)
  (arg8 : Memref sig .tc .vmem S4608x128 .f32) (harg8 : arg8.IsWhole)
  (arg9 : Memref sig .tc .vmem S4608x128 .f32) (harg9 : arg9.IsWhole)
  (arg10 : Memref sig .tc .vmem S2x512x768 .f32) (harg10 : arg10.IsWhole)
  (arg11 : Memref sig .tc .vmem S2x512x768 .f32) (harg11 : arg11.IsWhole)
  (v12 v13 : IVec S1x128 1) (k : Fin k0_t1_loop.trips)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) :
    Σ' (L6 : List (View.Piece (Elt F) S3x4096x128 .bf16)) (L7 : List (View.Piece (Elt F) S2x256x768 .f32)) (L8 : List (View.Piece (Elt F) S4608x128 .f32))
      (L9 : List (View.Piece (Elt F) S4608x128 .f32)) (L10 : List (View.Piece (Elt F) S2x512x768 .f32)),
      { L11 : List (View.Piece (Elt F) S2x512x768 .f32) //
      (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄) ⊢
        wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 v12 v13 k ⟨⟩)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} (arg6.view.writes (Elt F) f6 L6)) ∗ (arg7.view.loc (c : Thread nD τ) ↦[arg7.view.set]{fullShare} (arg7.view.writes (Elt F) f7 L7)) ∗ (arg8.view.loc (c : Thread nD τ) ↦[arg8.view.set]{fullShare} (arg8.view.writes (Elt F) f8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11)))) } := by
  refine ⟨?_, ?_, ?_, ?_, ?_, ?_, ?run⟩
  case run =>
    unfold k0_t1_body
    iintro ⟨H1, H2, H3, H4, H5, H6, H7, H8, H9, H10, H11⟩
    set_option sl_exec.squeezeSlice true in sl_exec_parts
    sl_step
    sl_close

end Cert.AttnIdeal.Run

end
-- ==== Proof.AttnRun.lean ====
module

public import proofs.«01_k».proof.Proof.AttnTrip
public import proofs.«01_k».proof.Proof.Gen.AttnIdeal.Frame
public import Idealize.ShloMosaic.Lib.Tactic

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of the six buffers that the kernel writes. -/
structure St (c : Dev nD)
  (arg6 : Memref sig .tc .vmem S3x4096x128 .bf16)
  (arg7 : Memref sig .tc .vmem S2x256x768 .f32)
  (arg8 : Memref sig .tc .vmem S4608x128 .f32)
  (arg9 : Memref sig .tc .vmem S4608x128 .f32)
  (arg10 : Memref sig .tc .vmem S2x512x768 .f32)
  (arg11 : Memref sig .tc .vmem S2x512x768 .f32) where
  g6 : Buf (Elt F) (arg6.view.loc (c : Thread nD τ))
  g7 : Buf (Elt F) (arg7.view.loc (c : Thread nD τ))
  g8 : Buf (Elt F) (arg8.view.loc (c : Thread nD τ))
  g9 : Buf (Elt F) (arg9.view.loc (c : Thread nD τ))
  g10 : Buf (Elt F) (arg10.view.loc (c : Thread nD τ))
  g11 : Buf (Elt F) (arg11.view.loc (c : Thread nD τ))

attribute [local irreducible] trip

section

variable (c : Dev nD) (i : grid0.Coords)
  (arg1 : Memref sig .tc .vmem S4608x128 .bf16) (harg1 : arg1.IsWhole)
  (arg2 : Memref sig .tc .vmem S4608x128 .bf16) (harg2 : arg2.IsWhole)
  (arg3 : Memref sig .tc .vmem S4608x128 .bf16) (harg3 : arg3.IsWhole)
  (arg4 : Memref sig .tc .vmem S2x256x768 .f32) (harg4 : arg4.IsWhole)
  (arg5 : Memref sig .tc .vmem S4096x128 .bf16) (harg5 : arg5.IsWhole)
  (arg6 : Memref sig .tc .vmem S3x4096x128 .bf16) (harg6 : arg6.IsWhole)
  (arg7 : Memref sig .tc .vmem S2x256x768 .f32) (harg7 : arg7.IsWhole)
  (arg8 : Memref sig .tc .vmem S4608x128 .f32) (harg8 : arg8.IsWhole)
  (arg9 : Memref sig .tc .vmem S4608x128 .f32) (harg9 : arg9.IsWhole)
  (arg10 : Memref sig .tc .vmem S2x512x768 .f32) (harg10 : arg10.IsWhole)
  (arg11 : Memref sig .tc .vmem S2x512x768 .f32) (harg11 : arg11.IsWhole)
  (v12 v13 : IVec S1x128 1)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))

/-- The six buffers after trip `k` of the loop, from what they held before it. -/
def step (k : Fin k0_t1_loop.trips) (s : St (F := F) c arg6 arg7 arg8 arg9 arg10 arg11) : St (F := F) c arg6 arg7 arg8 arg9 arg10 arg11 :=
  let T := trip c i arg1 harg1 arg2 harg2 arg3 harg3 arg4 harg4 arg5 harg5 arg6 harg6 arg7 harg7 arg8 harg8 arg9 harg9 arg10 harg10 arg11 harg11 v12 v13 k f1 f2 f3 f4 f5 s.g6 s.g7 s.g8 s.g9 s.g10 s.g11
  ⟨arg6.view.writes (Elt F) s.g6 T.1, arg7.view.writes (Elt F) s.g7 T.2.1, arg8.view.writes (Elt F) s.g8 T.2.2.1, arg9.view.writes (Elt F) s.g9 T.2.2.2.1, arg10.view.writes (Elt F) s.g10 T.2.2.2.2.1, arg11.view.writes (Elt F) s.g11 T.2.2.2.2.2.1⟩

/-- The six buffers before trip `k`, from what they held at the loop's entry. -/
def upto (s : St (F := F) c arg6 arg7 arg8 arg9 arg10 arg11) : ℕ → St (F := F) c arg6 arg7 arg8 arg9 arg10 arg11
  | 0 => s
  | k + 1 => if h : k < k0_t1_loop.trips then
      step c i arg1 harg1 arg2 harg2 arg3 harg3 arg4 harg4 arg5 harg5 arg6 harg6 arg7 harg7 arg8 harg8 arg9 harg9 arg10 harg10 arg11 harg11 v12 v13 f1 f2 f3 f4 f5 ⟨k, h⟩ (upto s k) else upto s k

theorem upto_succ (s : St (F := F) c arg6 arg7 arg8 arg9 arg10 arg11) (k : Fin k0_t1_loop.trips) :
    upto c i arg1 harg1 arg2 harg2 arg3 harg3 arg4 harg4 arg5 harg5 arg6 harg6 arg7 harg7 arg8 harg8 arg9 harg9 arg10 harg10 arg11 harg11 v12 v13 f1 f2 f3 f4 f5 s (k.val + 1)
      = step c i arg1 harg1 arg2 harg2 arg3 harg3 arg4 harg4 arg5 harg5 arg6 harg6 arg7 harg7 arg8 harg8 arg9 harg9 arg10 harg10 arg11 harg11 v12 v13 f1 f2 f3 f4 f5 k
        (upto c i arg1 harg1 arg2 harg2 arg3 harg3 arg4 harg4 arg5 harg5 arg6 harg6 arg7 harg7 arg8 harg8 arg9 harg9 arg10 harg10 arg11 harg11 v12 v13 f1 f2 f3 f4 f5 s k.val) :=
  dif_pos k.isLt

/-- What is held between trips: the five buffers only read, and the six written ones at `upto`. -/
def held (s : St (F := F) c arg6 arg7 arg8 arg9 arg10 arg11) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} s.g6) ∗ (arg7.view.loc (c : Thread nD τ) ↦[arg7.view.set]{fullShare} s.g7) ∗ (arg8.view.loc (c : Thread nD τ) ↦[arg8.view.set]{fullShare} s.g8) ∗ (arg9.view.loc (c : Thread nD τ) ↦[arg9.view.set]{fullShare} s.g9) ∗ (arg10.view.loc (c : Thread nD τ) ↦[arg10.view.set]{fullShare} s.g10) ∗ (arg11.view.loc (c : Thread nD τ) ↦[arg11.view.set]{fullShare} s.g11))

/-- One trip takes the six buffers one step on. -/
theorem step_wp (k : Fin k0_t1_loop.trips) (s : St (F := F) c arg6 arg7 arg8 arg9 arg10 arg11) :
    held c arg1 arg2 arg3 arg4 arg5 arg6 arg7 arg8 arg9 arg10 arg11 f1 f2 f3 f4 f5 s ⊢
      wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 v12 v13 k ⟨⟩)
        (fun _ => held c arg1 arg2 arg3 arg4 arg5 arg6 arg7 arg8 arg9 arg10 arg11 f1 f2 f3 f4 f5 (step c i arg1 harg1 arg2 harg2 arg3 harg3 arg4 harg4 arg5 harg5 arg6 harg6 arg7 harg7 arg8 harg8 arg9 harg9 arg10 harg10 arg11 harg11 v12 v13 f1 f2 f3 f4 f5 k s)) := by
  unfold held step
  exact (trip c i arg1 harg1 arg2 harg2 arg3 harg3 arg4 harg4 arg5 harg5 arg6 harg6 arg7 harg7 arg8 harg8 arg9 harg9 arg10 harg10 arg11 harg11 v12 v13 k f1 f2 f3 f4 f5 s.g6 s.g7 s.g8 s.g9 s.g10 s.g11).2.2.2.2.2.2

end

section

variable (c : Dev nD) (i : grid0.Coords)
  (arg1 : Memref sig .tc .vmem S4608x128 .bf16) (harg1 : arg1.IsWhole)
  (arg2 : Memref sig .tc .vmem S4608x128 .bf16) (harg2 : arg2.IsWhole)
  (arg3 : Memref sig .tc .vmem S4608x128 .bf16) (harg3 : arg3.IsWhole)
  (arg4 : Memref sig .tc .vmem S2x256x768 .f32) (harg4 : arg4.IsWhole)
  (arg5 : Memref sig .tc .vmem S4096x128 .bf16) (harg5 : arg5.IsWhole)
  (arg6 : Memref sig .tc .vmem S3x4096x128 .bf16) (harg6 : arg6.IsWhole)
  (arg7 : Memref sig .tc .vmem S2x256x768 .f32) (harg7 : arg7.IsWhole)
  (arg8 : Memref sig .tc .vmem S4608x128 .f32) (harg8 : arg8.IsWhole)
  (arg9 : Memref sig .tc .vmem S4608x128 .f32) (harg9 : arg9.IsWhole)
  (arg10 : Memref sig .tc .vmem S2x512x768 .f32) (harg10 : arg10.IsWhole)
  (arg11 : Memref sig .tc .vmem S2x512x768 .f32) (harg11 : arg11.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))

/-- The six buffers at the loop's entry: the three sums zeroed, the products of block 0 in slot 0. -/
def start (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) : St (F := F) c arg6 arg7 arg8 arg9 arg10 arg11 :=
  ⟨f6, arg7.view.writes (Elt F) arg7.view.junk [⟨Rect.unit ![0, 0, 0] S2x256x768.size inb_S2x256x768_S2x256x768_0_0_0, k0_pay364⟩],
    arg8.view.writes (Elt F) arg8.view.junk [⟨Rect.unit ![0, 0] S4608x128.size inb_S4608x128_S4608x128_0_0, k0_pay362⟩],
    arg9.view.writes (Elt F) arg9.view.junk [⟨Rect.unit ![0, 0] S4608x128.size inb_S4608x128_S4608x128_0_0, k0_pay363⟩],
    arg10.view.writes (Elt F) f10 [⟨Rect.unit ![0, 0, 0] S1x512x768.size inb_S2x512x768_S1x512x768_0_0_0,
      k0_pay1 (k0_pay367 (View.readAt (Elt F) arg1.view (Rect.unit (s := S4608x128) k0_off1 S256x128.size k0_off1_inb).toLoadRect f1))
        (View.readAt (Elt F) arg2.view (Rect.unit (s := S4608x128) ![0, 0] S768x128.size inb_S4608x128_S768x128_0_0).toLoadRect f2)⟩],
    arg11.view.writes (Elt F) f11 [⟨Rect.unit ![0, 0, 0] S1x512x768.size inb_S2x512x768_S1x512x768_0_0_0,
      k0_pay2 (k0_pay368 (View.readAt (Elt F) arg5.view (Rect.unit (s := S4096x128) ![0, 0] S256x128.size inb_S4096x128_S256x128_0_0).toLoadRect f5))
        (k0_pay369 (View.readAt (Elt F) arg5.view (Rect.unit (s := S4096x128) ![0, 0] S256x128.size inb_S4096x128_S256x128_0_0).toLoadRect f5))
        (Scalar.ofBits .bf16 0x0000#16) k0_pay370
        (View.readAt (Elt F) arg3.view (Rect.unit (s := S4608x128) ![0, 0] S768x128.size inb_S4608x128_S768x128_0_0).toLoadRect f3)⟩]⟩

/-- The six buffers after the loop's eight trips. -/
def looped (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) : St (F := F) c arg6 arg7 arg8 arg9 arg10 arg11 :=
  upto c i arg1 harg1 arg2 harg2 arg3 harg3 arg4 harg4 arg5 harg5 arg6 harg6 arg7 harg7 arg8 harg8 arg9 harg9 arg10 harg10 arg11 harg11 k0_pay365 k0_pay366 f1 f2 f3 f4 f5
    (start c arg1 arg2 arg3 arg5 arg6 arg7 arg8 arg9 arg10 arg11 f1 f2 f3 f5 f6 f7 f8 f9 f10 f11) k0_t1_loop.trips

/-- The six buffers after the body: the sums of the keys' and the values' gradients copied into their planes. -/
def final (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) : St (F := F) c arg6 arg7 arg8 arg9 arg10 arg11 :=
  let s := looped c i arg1 harg1 arg2 harg2 arg3 harg3 arg4 harg4 arg5 harg5 arg6 harg6 arg7 harg7 arg8 harg8 arg9 harg9 arg10 harg10 arg11 harg11 f1 f2 f3 f4 f5 f6 f7 f8 f9 f10 f11
  { s with g6 := arg6.view.writes (Elt F) s.g6 ([⟨Rect.unit ![2, 0, 0] S1x4096x128.size inb_S3x4096x128_S1x4096x128_2_0_0,
          k0_pay5 (View.readAt (Elt F) arg9.view (Rect.unit (s := S4608x128) ![512, 0] S4096x128.size inb_S4608x128_S4096x128_512_0).toLoadRect s.g9)⟩,
        ⟨Rect.unit ![1, 0, 0] S1x4096x128.size inb_S3x4096x128_S1x4096x128_1_0_0,
          k0_pay4 (View.readAt (Elt F) arg8.view (Rect.unit (s := S4608x128) ![512, 0] S4096x128.size inb_S4608x128_S4096x128_512_0).toLoadRect s.g8)⟩]) }

/-- The whole body on one grid point, from any contents of the written buffers. -/
theorem kernel_wp (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄) ⊢
      wp frame (wpE (defs₀ (F := F)) Variants.none (c : Thread nD τ) none) Set.univ
        (cc0_attn_bwd (F := F) i arg1 harg1 arg2 harg2 arg3 harg3 arg4 harg4 arg5 harg5 arg6 harg6 arg7 harg7 arg8 harg8 arg9 harg9 arg10 harg10 arg11 harg11)
        (fun _ => held c arg1 arg2 arg3 arg4 arg5 arg6 arg7 arg8 arg9 arg10 arg11 f1 f2 f3 f4 f5 (final c i arg1 harg1 arg2 harg2 arg3 harg3 arg4 harg4 arg5 harg5 arg6 harg6 arg7 harg7 arg8 harg8 arg9 harg9 arg10 harg10 arg11 harg11 f1 f2 f3 f4 f5 f6 f7 f8 f9 f10 f11)) := by
  rw [cc0_attn_bwd_eq_skeleton]
  unfold cc0_attn_bwd_skel
  iintro ⟨H1, H2, H3, H4, H5, H6, H7, H8, H9, H10, H11⟩
  sl_exec_parts
  sl_for (fun k _ => held c arg1 arg2 arg3 arg4 arg5 arg6 arg7 arg8 arg9 arg10 arg11 f1 f2 f3 f4 f5
    (upto c i arg1 harg1 arg2 harg2 arg3 harg3 arg4 harg4 arg5 harg5 arg6 harg6 arg7 harg7 arg8 harg8 arg9 harg9 arg10 harg10 arg11 harg11 k0_pay365 k0_pay366 f1 f2 f3 f4 f5
      (start c arg1 arg2 arg3 arg5 arg6 arg7 arg8 arg9 arg10 arg11 f1 f2 f3 f5 f6 f7 f8 f9 f10 f11) k)) $$ [H1 H2 H3 H4 H5 H6 H7 H8 H9 H10 H11]
  · intro k _
    rw [upto_succ]
    exact step_wp c i arg1 harg1 arg2 harg2 arg3 harg3 arg4 harg4 arg5 harg5 arg6 harg6 arg7 harg7 arg8 harg8 arg9 harg9 arg10 harg10 arg11 harg11 _ _ f1 f2 f3 f4 f5 k _
  · unfold held upto start
    dsimp only
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    iexact H11
  iintro %acc HI
  unfold held
  icases HI with ⟨H1, H2, H3, H4, H5, H6, H7, H8, H9, H10, H11⟩
  sl_exec
  sl_step
  unfold final looped
  dsimp only
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

end

end Cert.AttnIdeal.Run

end
-- ==== Proof.AttnFrame.lean ====
/-
  The attention backward's run: what one grid point leaves in the two result blocks, and the launch.

  The contents of the result blocks are named by a relation: they are what `Run.final` says of the body started from the
  point's input blocks and from some contents of the blocks and scratch buffers that the body writes.
-/
module

public import proofs.«01_k».proof.Proof.AttnRun
public import proofs.«01_k».proof.Proof.Gen.AttnIdeal.Frame
public import Idealize.ShloMosaic.Lib.Pipeline.DatRel
public import Idealize.ShloMosaic.Lib.Tactic

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers of a point -/

/-- Window 0's current staging buffer. -/
abbrev ms0 (t : Fin cfg0.N) : Memref sig .tc .vmem S4608x128 .bf16 := win0_0.stage (cfg0.slots t 0)
theorem hs0 (t : Fin cfg0.N) : (ms0 t).IsWhole := hstage0_0 ((cfg0.slots t 0).cast nbuf0_0)
/-- Window 1's current staging buffer. -/
abbrev ms1 (t : Fin cfg0.N) : Memref sig .tc .vmem S4608x128 .bf16 := win0_1.stage (cfg0.slots t 1)
theorem hs1 (t : Fin cfg0.N) : (ms1 t).IsWhole := hstage0_1 ((cfg0.slots t 1).cast nbuf0_1)
/-- Window 2's current staging buffer. -/
abbrev ms2 (t : Fin cfg0.N) : Memref sig .tc .vmem S4608x128 .bf16 := win0_2.stage (cfg0.slots t 2)
theorem hs2 (t : Fin cfg0.N) : (ms2 t).IsWhole := hstage0_2 ((cfg0.slots t 2).cast nbuf0_2)
/-- Window 3's current staging buffer. -/
abbrev ms3 (t : Fin cfg0.N) : Memref sig .tc .vmem S2x256x768 .f32 := win0_3.stage (cfg0.slots t 3)
theorem hs3 (t : Fin cfg0.N) : (ms3 t).IsWhole := hstage0_3 ((cfg0.slots t 3).cast nbuf0_3)
/-- Window 4's current staging buffer. -/
abbrev ms4 (t : Fin cfg0.N) : Memref sig .tc .vmem S4096x128 .bf16 := win0_4.stage (cfg0.slots t 4)
theorem hs4 (t : Fin cfg0.N) : (ms4 t).IsWhole := hstage0_4 ((cfg0.slots t 4).cast nbuf0_4)
/-- Window 5's current staging buffer. -/
abbrev ms5 (t : Fin cfg0.N) : Memref sig .tc .vmem S3x4096x128 .bf16 := win0_5.stage (cfg0.slots t 5)
theorem hs5 (t : Fin cfg0.N) : (ms5 t).IsWhole := hstage0_5 ((cfg0.slots t 5).cast nbuf0_5)
/-- Window 6's current staging buffer. -/
abbrev ms6 (t : Fin cfg0.N) : Memref sig .tc .vmem S2x256x768 .f32 := win0_6.stage (cfg0.slots t 6)
theorem hs6 (t : Fin cfg0.N) : (ms6 t).IsWhole := hstage0_6 ((cfg0.slots t 6).cast nbuf0_6)
/-- Scratch buffer 0. -/
abbrev sc0 : Memref sig .tc .vmem S4608x128 .f32 := Memref.whole cc0_scratch0
/-- Scratch buffer 1. -/
abbrev sc1 : Memref sig .tc .vmem S4608x128 .f32 := Memref.whole cc0_scratch1
/-- Scratch buffer 2. -/
abbrev sc2 : Memref sig .tc .vmem S2x512x768 .f32 := Memref.whole cc0_scratch2
/-- Scratch buffer 3. -/
abbrev sc3 : Memref sig .tc .vmem S2x512x768 .f32 := Memref.whole cc0_scratch3

/-- What the body at point `t` leaves, from the contents of its eleven buffers. -/
def finalAt (c : Dev nD) (t : Fin cfg0.N) (f1 : Buf (Elt F) ((ms0 t).view.loc (c : Thread nD τ))) (f2 : Buf (Elt F) ((ms1 t).view.loc (c : Thread nD τ))) (f3 : Buf (Elt F) ((ms2 t).view.loc (c : Thread nD τ))) (f4 : Buf (Elt F) ((ms3 t).view.loc (c : Thread nD τ))) (f5 : Buf (Elt F) ((ms4 t).view.loc (c : Thread nD τ))) (f6 : Buf (Elt F) ((ms5 t).view.loc (c : Thread nD τ))) (f7 : Buf (Elt F) ((ms6 t).view.loc (c : Thread nD τ))) (f8 : Buf (Elt F) (sc0.view.loc (c : Thread nD τ))) (f9 : Buf (Elt F) (sc1.view.loc (c : Thread nD τ))) (f10 : Buf (Elt F) (sc2.view.loc (c : Thread nD τ))) (f11 : Buf (Elt F) (sc3.view.loc (c : Thread nD τ))) :
    St (F := F) c (ms5 t) (ms6 t) sc0 sc1 sc2 sc3 :=
  final c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) f1 f2 f3 f4 f5 f6 f7 f8 f9 f10 f11

/-- The five input buffers hold their blocks. -/
def Reads (c : Dev nD) (t : Fin cfg0.N) (f1 : Buf (Elt F) ((ms0 t).view.loc (c : Thread nD τ))) (f2 : Buf (Elt F) ((ms1 t).view.loc (c : Thread nD τ))) (f3 : Buf (Elt F) ((ms2 t).view.loc (c : Thread nD τ))) (f4 : Buf (Elt F) ((ms3 t).view.loc (c : Thread nD τ))) (f5 : Buf (Elt F) ((ms4 t).view.loc (c : Thread nD τ))) : Prop :=
  (ms0 t).view.read (Elt F) f1 = iblk m c 0 t ∧ (ms1 t).view.read (Elt F) f2 = iblk m c 1 t ∧ (ms2 t).view.read (Elt F) f3 = iblk m c 2 t ∧ (ms3 t).view.read (Elt F) f4 = iblk m c 3 t ∧ (ms4 t).view.read (Elt F) f5 = iblk m c 4 t

/-- What the body may leave in the block of gradients of q, k and v. -/
def left5 (c : Dev nD) (t : Fin cfg0.N) (X : S3x4096x128.Idx → Elt F .bf16) : Prop :=
  ∃ (f1 : Buf (Elt F) ((ms0 t).view.loc (c : Thread nD τ))) (f2 : Buf (Elt F) ((ms1 t).view.loc (c : Thread nD τ))) (f3 : Buf (Elt F) ((ms2 t).view.loc (c : Thread nD τ))) (f4 : Buf (Elt F) ((ms3 t).view.loc (c : Thread nD τ))) (f5 : Buf (Elt F) ((ms4 t).view.loc (c : Thread nD τ))) (f6 : Buf (Elt F) ((ms5 t).view.loc (c : Thread nD τ))) (f7 : Buf (Elt F) ((ms6 t).view.loc (c : Thread nD τ))) (f8 : Buf (Elt F) (sc0.view.loc (c : Thread nD τ))) (f9 : Buf (Elt F) (sc1.view.loc (c : Thread nD τ))) (f10 : Buf (Elt F) (sc2.view.loc (c : Thread nD τ))) (f11 : Buf (Elt F) (sc3.view.loc (c : Thread nD τ))),
    Reads m c t f1 f2 f3 f4 f5 ∧ X = (ms5 t).view.read (Elt F) (finalAt c t f1 f2 f3 f4 f5 f6 f7 f8 f9 f10 f11).g6

/-- What the body may leave in the block of gradients of the bias table. -/
def left6 (c : Dev nD) (t : Fin cfg0.N) (X : S2x256x768.Idx → Elt F .f32) : Prop :=
  ∃ (f1 : Buf (Elt F) ((ms0 t).view.loc (c : Thread nD τ))) (f2 : Buf (Elt F) ((ms1 t).view.loc (c : Thread nD τ))) (f3 : Buf (Elt F) ((ms2 t).view.loc (c : Thread nD τ))) (f4 : Buf (Elt F) ((ms3 t).view.loc (c : Thread nD τ))) (f5 : Buf (Elt F) ((ms4 t).view.loc (c : Thread nD τ))) (f6 : Buf (Elt F) ((ms5 t).view.loc (c : Thread nD τ))) (f7 : Buf (Elt F) ((ms6 t).view.loc (c : Thread nD τ))) (f8 : Buf (Elt F) (sc0.view.loc (c : Thread nD τ))) (f9 : Buf (Elt F) (sc1.view.loc (c : Thread nD τ))) (f10 : Buf (Elt F) (sc2.view.loc (c : Thread nD τ))) (f11 : Buf (Elt F) (sc3.view.loc (c : Thread nD τ))),
    Reads m c t f1 f2 f3 f4 f5 ∧ X = (ms6 t).view.read (Elt F) (finalAt c t f1 f2 f3 f4 f5 f6 f7 f8 f9 f10 f11).g7

/-- The two windows whose contents the relation describes. -/
def outs : Fin cfg0.W → Bool := fun w => match w with
  | ⟨5, _⟩ => true
  | ⟨6, _⟩ => true
  | ⟨_, _⟩ => false

/-- The relation of each window. -/
def left (c : Dev nD) : (w : Fin cfg0.W) → Fin cfg0.N → ((cfg0.win w).block.Idx → Elt F (cfg0.win w).elt) → Prop :=
  fun w t => match w with
  | ⟨5, _⟩ => left5 m c t
  | ⟨6, _⟩ => left6 m c t
  | ⟨_, _⟩ => fun _ => True

/-- The proof data: every array as the region finds it, every input block left in place, the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ Y, ⌜((dats m 0 c).toRRel outs (left m c)).Finds 5 t Y⌝ ∗ owns (c : Thread nD τ) (ms5 t) fullShare Y) ∗ (∃ Y, ⌜((dats m 0 c).toRRel outs (left m c)).Finds 6 t Y⌝ ∗ owns (c : Thread nD τ) (ms6 t) fullShare Y))
/-- What the body returns at point `t`. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ (∃ X, ⌜left5 m c t X⌝ ∗ owns (c : Thread nD τ) (ms5 t) fullShare X) ∗ (∃ X, ⌜left6 m c t X⌝ ∗ owns (c : Thread nD τ) (ms6 t) fullShare X))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  simp only [before0, after0, before1, after1, before2, after2, before3, after3, before4, after4]
  unfold Pipeline.ΦA
  rw [scopedRest0_eq]
  unfold owns
  iintro ⟨⟨⟨⟨%f8, H8⟩, ⟨%f9, H9⟩, ⟨%f10, H10⟩, ⟨%f11, H11⟩⟩, Hg⟩, Ho, ⟨%d1, %f1, %h1, H1⟩, ⟨%d2, %f2, %h2, H2⟩, ⟨%d3, %f3, %h3, H3⟩, ⟨%d4, %f4, %h4, H4⟩, ⟨%d5, %f5, %h5, H5⟩, ⟨%Y6, -, %f6, -, H6⟩, ⟨%Y7, -, %f7, -, H7⟩⟩
  have hk := kernel_wp (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) f1 f2 f3 f4 f5 f6 f7 f8 f9 f10 f11
  have hr : Reads m c t f1 f2 f3 f4 f5 := ⟨h1, h2, h3, h4, h5⟩
  iapply (wp_wand_r frame (wpE (defs₀ (F := F)) Variants.none (c : Thread nD τ) none) Set.univ
    (Q := fun _ => held c (ms0 t) (ms1 t) (ms2 t) (ms3 t) (ms4 t) (ms5 t) (ms6 t) sc0 sc1 sc2 sc3 f1 f2 f3 f4 f5 (finalAt c t f1 f2 f3 f4 f5 f6 f7 f8 f9 f10 f11)))
  isplitl [H1 H2 H3 H4 H5 H6 H7 H8 H9 H10 H11]
  · iapply hk
    isplitl [H1]; · iexact H1
    isplitl [H2]; · iexact H2
    isplitl [H3]; · iexact H3
    isplitl [H4]; · iexact H4
    isplitl [H5]; · iexact H5
    isplitl [H6]; · iexact H6
    isplitl [H7]; · iexact H7
    simp only [Memref.view_whole, View.set_whole]
    isplitl [H8]; · iexact H8
    isplitl [H9]; · iexact H9
    isplitl [H10]; · iexact H10
    iexact H11
  iintro %a HI
  unfold held
  icases HI with ⟨H1, H2, H3, H4, H5, H6, H7, H8, H9, H10, H11⟩
  isplitl [H8 H9 H10 H11 Hg]
  · isplitl [H8 H9 H10 H11]
    · simp only [Memref.view_whole, View.set_whole]
      isplitl [H8]; · iexists _; iexact H8
      isplitl [H9]; · iexists _; iexact H9
      isplitl [H10]; · iexists _; iexact H10
      iexists _; iexact H11
    iexact Hg
  isplitl [Ho]; · iexact Ho
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists (ms5 t).view.read (Elt F) (finalAt c t f1 f2 f3 f4 f5 f6 f7 f8 f9 f10 f11).g6; isplitr
    · ipureintro; exact ⟨f1, f2, f3, f4, f5, f6, f7, f8, f9, f10, f11, hr, rfl⟩
    iexists _; isplitr; swap; · iexact H6
    ipureintro; rfl
  iexists (ms6 t).view.read (Elt F) (finalAt c t f1 f2 f3 f4 f5 f6 f7 f8 f9 f10 f11).g7; isplitr
  · ipureintro; exact ⟨f1, f2, f3, f4, f5, f6, f7, f8, f9, f10, f11, hr, rfl⟩
  iexists _; isplitr; swap; · iexact H7
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ outs (left m c) := fun t => by
  rw [bigSep_W0, bigSep_W0, defs₀_row]
  exact triple_restated (sound_body m c t) rfl .rfl fun _ => .rfl

/-! ## The launch -/

set_option backward.isDefEq.respectTransparency.types false in
/-- Every run of the program ends, at the counters zero, with the two results' arrays at blocks that the relation allows. -/
theorem run_main : θ_run defs (onTc (τ := τ) (main (F := F))) (s₀ m ρ)
    (fun r => RDat.FramePost (cfgs 0) (fun c => (dats m 0 c).toRRel outs (left m c)) (V m) r ∧ r.2.sem = fun _ => 0) :=
  RDat.θ_run_frame_track_shared (Q' := _) cfgs (0 : Fin 1) launch₀0 defs₀ Variants.none (fun c => (dats m 0 c).toRRel outs (left m c)) m ρ main
    (hbody := fun c => (body_obligation m c).toRRel) (hq := fun _ _ _ => rfl)
    (howed := fun _ _ => rfl) (V := V m) (hmain := hmain m Variants.none) (hA := fun _ _ => rfl)
    (hin := fun _ => .rfl) (hout := fun _ => .rfl)

/-- The frame: the five arguments end as they began and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.AttnIdeal.Run

end
-- ==== Proof.AttnFrames.lean ====
/-
  The attention backward's frames. The run is written once, over any float values, of the program whose mask is a named
  constant; where the constant is its own word the program is the kernel as printed.
-/
module
public import proofs.«01_k».proof.Proof.AttnFrame
public import proofs.«01_k».proof.Proof.Gen.Attn.Frame
public import proofs.«01_k».proof.Defs
@[expose] public section
set_option maxRecDepth 16384
noncomputable section
open Idealize.ShloMosaic Idealize.ShloMosaic.TcCoe Idealize.SL.Sem

namespace Cert.AttnFrames
/-- Over words a named constant is its own word. -/
local instance namedBits : Named Bits where
  named _ _ {φ} bits := FloatOps.ofBits φ bits

/-- The frame of the idealized program read over words. -/
def bitsFrame : Prop :=
  ∀ (m : (ℓ : Loc AttnIdeal.nD AttnIdeal.τ AttnIdeal.sig) → Buf (Elt Bits) ℓ) (g : Dev AttnIdeal.nD → PrngReg), True →
    θ_run (AttnIdeal.defs (F := Bits)) (onTc (τ := AttnIdeal.τ) (AttnIdeal.main (F := Bits))) ⟨m, fun _ => 0, g⟩ (fun r => (∀ c : Dev AttnIdeal.nD,
      r.2.mem ((c.tc : Thread AttnIdeal.nD AttnIdeal.τ).loc AttnIdeal.main_arg0) = m ((c.tc : Thread AttnIdeal.nD AttnIdeal.τ).loc AttnIdeal.main_arg0)
      ∧ r.2.mem ((c.tc : Thread AttnIdeal.nD AttnIdeal.τ).loc AttnIdeal.main_arg1) = m ((c.tc : Thread AttnIdeal.nD AttnIdeal.τ).loc AttnIdeal.main_arg1)
      ∧ r.2.mem ((c.tc : Thread AttnIdeal.nD AttnIdeal.τ).loc AttnIdeal.main_arg2) = m ((c.tc : Thread AttnIdeal.nD AttnIdeal.τ).loc AttnIdeal.main_arg2)
      ∧ r.2.mem ((c.tc : Thread AttnIdeal.nD AttnIdeal.τ).loc AttnIdeal.main_arg3) = m ((c.tc : Thread AttnIdeal.nD AttnIdeal.τ).loc AttnIdeal.main_arg3)
      ∧ r.2.mem ((c.tc : Thread AttnIdeal.nD AttnIdeal.τ).loc AttnIdeal.main_arg4) = m ((c.tc : Thread AttnIdeal.nD AttnIdeal.τ).loc AttnIdeal.main_arg4))
      ∧ r.2.sem = fun _ => 0)

theorem bitsFrame_eq : Cert.quiescent_Attn (hAttn := Cert.Attn.Gen.facts) = bitsFrame := by sl_kernel_rfl

theorem frame_Attn : Cert.quiescent_Attn (hAttn := Cert.Attn.Gen.facts) := by
  rw [bitsFrame_eq]
  exact fun m ρ _ => Cert.AttnIdeal.Run.frame_main (F := Bits) m ρ
theorem frame_AttnIdeal : Cert.quiescent_AttnIdeal (hAttnIdeal := Cert.AttnIdeal.Gen.facts) :=
  fun m ρ _ => Cert.AttnIdeal.Run.frame_main (F := Ideal) m ρ

end Cert.AttnFrames
end
-- ==== Proof.AttnStep.lean ====
/-
  What one trip of the attention backward's loop writes, restated: the thirty-two strips of a block are one function of the
  strip's number, so each of the six lists of written rectangles is a short expression.
-/
module

public import proofs.«01_k».proof.Proof.AttnTrip
public import Idealize.ShloMosaic.Lib.WritesUnit

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.Sem

variable {F : FTy → Type} [FloatOps F] [Named F]

/-- Where strip `t` of a block lies in a table with one plane per head. -/
def offT (t : ℕ) : Fin 3 → ℕ := ![t / 16 % 2, 16 * (t % 16), 0]
theorem offT_inb (t : ℕ) : ∀ a, offT t a + S1x16x768.size a ≤ S2x256x768.size a := by
  intro a
  match a with
  | 0 => show t / 16 % 2 + 1 ≤ 2; omega
  | 1 => show 16 * (t % 16) + 16 ≤ 256; omega
  | 2 => show 0 + 768 ≤ 768; omega

/-- Where strip `t` of slot `h` lies in a buffer of two slots. -/
def offS (h : Fin 2) (t : ℕ) : Fin 3 → ℕ := ![h.val, 16 * (t % 32), 0]
theorem offS_inb (h : Fin 2) (t : ℕ) : ∀ a, offS h t a + S1x16x768.size a ≤ S2x512x768.size a := by
  intro a
  match a with
  | 0 => show h.val + 1 ≤ 2; omega
  | 1 => show 16 * (t % 32) + 16 ≤ 512; omega
  | 2 => show 0 + 768 ≤ 768; omega
theorem offH_inb (h : Fin 2) : ∀ a, (![h.val, 0, 0] : Fin 3 → ℕ) a + S1x512x768.size a ≤ S2x512x768.size a := by
  intro a
  match a with
  | 0 => show h.val + 1 ≤ 2; omega
  | 1 => show 0 + 512 ≤ 512; omega
  | 2 => show 0 + 768 ≤ 768; omega
theorem offR_inb (t : ℕ) : ∀ a, (![16 * (t % 32), 0] : Fin 2 → ℕ) a + S16x768.size a ≤ S512x768.size a := by
  intro a
  match a with
  | 0 => show 16 * (t % 32) + 16 ≤ 512; omega
  | 1 => show 0 + 768 ≤ 768; omega

variable {c : Dev nD}

/-- Strip `t` of the bias table. -/
def bStrip (arg4 : Memref sig .tc .vmem S2x256x768 .f32) (f4 : Buf (Elt F) (arg4.view.loc (c : Thread nD τ))) (t : ℕ) :
    Vec F S1x16x768 .f32 :=
  View.readAt (Elt F) arg4.view (Rect.unit (s := S2x256x768) (offT t) S1x16x768.size (offT_inb t)).toLoadRect f4

/-- Strip `t` of slot `h` of a buffer of two slots. -/
def dStrip (arg11 : Memref sig .tc .vmem S2x512x768 .f32) (f11 : Buf (Elt F) (arg11.view.loc (c : Thread nD τ))) (h : Fin 2) (t : ℕ) :
    Vec F S1x16x768 .f32 :=
  View.readAt (Elt F) arg11.view (Rect.unit (s := S2x512x768) (offS h t) S1x16x768.size (offS_inb h t)).toLoadRect f11

/-- The same strip, read through the slot's own view. -/
def sStrip (arg10 : Memref sig .tc .vmem S2x512x768 .f32) (f10 : Buf (Elt F) (arg10.view.loc (c : Thread nD τ))) (h : Fin 2) (t : ℕ) :
    Vec F S16x768 .f32 :=
  LoadRect.valAlong (lr := (Rect.unit (s := S512x768) ![16 * (t % 32), 0] S16x768.size (offR_inb t)).toLoadRect)
    (LR := (Rect.unit (s := S2x512x768) ![h.val, 0, 0] S1x512x768.size (offH_inb h)).withinL
      ((Rect.unit (s := S512x768) ![16 * (t % 32), 0] S16x768.size (offR_inb t)).consLift ![1, 512, 768] rfl (by intro i; match i with | 0 => rfl | 1 => rfl)).toLoadRect (fun _ => rfl))
    (show S16x768.numel = S1x16x768.numel by decide) (View.readAt (Elt F) arg10.view _ f10)

/-- Strip `t` of the probabilities. -/
def pStrip (msk : IVec S1x768 1) (arg4 : Memref sig .tc .vmem S2x256x768 .f32) (f4 : Buf (Elt F) (arg4.view.loc (c : Thread nD τ)))
    (arg10 : Memref sig .tc .vmem S2x512x768 .f32) (f10 : Buf (Elt F) (arg10.view.loc (c : Thread nD τ))) (h : Fin 2) (t : ℕ) : FVec F S16x768 .bf16 :=
  k0_pay16 msk (sStrip arg10 f10 h t) (bStrip arg4 f4 t)

/-- Strip `t` of the scores' gradient. -/
def gStrip (msk : IVec S1x768 1) (arg4 : Memref sig .tc .vmem S2x256x768 .f32) (f4 : Buf (Elt F) (arg4.view.loc (c : Thread nD τ)))
    (arg10 : Memref sig .tc .vmem S2x512x768 .f32) (f10 : Buf (Elt F) (arg10.view.loc (c : Thread nD τ)))
    (arg11 : Memref sig .tc .vmem S2x512x768 .f32) (f11 : Buf (Elt F) (arg11.view.loc (c : Thread nD τ))) (h : Fin 2) (t : ℕ) : FVec F S16x768 .bf16 :=
  k0_pay17 msk (sStrip arg10 f10 h t) (bStrip arg4 f4 t) (dStrip arg11 f11 h t)

/-- The keys from which the mask of a trip's two blocks begins. -/
def mask (w : BitVec 32) : IVec S1x768 1 := cmpi .sge (iota .tc S1x768 32 [1] (by decide)) (broadcast S1x768 (Scalar.subi (512#32) w))
/-- The first row of a trip's block `2k`, as a word. -/
def word0 (k : Fin k0_t1_loop.trips) : BitVec 32 := Scalar.muli (Scalar.muli 2#32 (Scf.iv 0#32 1#32 k)) 256#32
/-- The first row of a trip's block `2k + 1`, as a word. -/
def word1 (k : Fin k0_t1_loop.trips) : BitVec 32 := Scalar.muli (Scalar.addi (Scalar.muli 2#32 (Scf.iv 0#32 1#32 k)) 1#32) 256#32

/-- Strip `t` of the first head's rows beside that of the second head's. -/
def pair (D : ℕ → FVec F S16x768 .bf16) (t : ℕ) : FVec F S16x1536 .bf16 :=
  concatenate S16x1536 1 [⟨S16x768, D t⟩, ⟨S16x768, D (16 + t)⟩] concatenates_S16x768_S16x768_S16x1536_d1

/-- The block of the scores' gradients times the keys, scaled: a block of the queries' gradient. -/
def dqBlock (ks : Vec F S768x128 .bf16) (D : ℕ → FVec F S16x768 .bf16) : FVec F S1x256x128 .bf16 :=
  k0_pay359 k0_pay365 k0_pay366 (shapeCast S768x128 ks shapeCasts_S768x128_S768x128) (D 8) (D 9) (D 10) (D 11) (D 12) (D 13) (D 14) (D 15) (D 24) (D 25) (D 26) (D 27) (D 28) (D 29) (D 30) (D 31) (pair D 0) (pair D 1) (pair D 2) (pair D 3) (pair D 4) (pair D 5) (pair D 6) (pair D 7)
/-- What a block adds to a window of 768 rows: its strips, transposed, times the rows `x`. -/
def addBlock (x : FVec F S512x128 .bf16) (D : ℕ → FVec F S16x768 .bf16) (old : Vec F S768x128 .f32) : FVec F S768x128 .f32 :=
  k0_pay360 x (D 0) (D 1) (D 2) (D 3) (D 4) (D 5) (D 6) (D 7) (D 8) (D 9) (D 10) (D 11) (D 12) (D 13) (D 14) (D 15) (D 16) (D 17) (D 18) (D 19) (D 20) (D 21) (D 22) (D 23) (D 24) (D 25) (D 26) (D 27) (D 28) (D 29) (D 30) (D 31) old

/-- The first `t` strips of a block added to the table of the bias gradient, each read through the strips before it. -/
def tableWrites (msk : IVec S1x768 1) (arg4 : Memref sig .tc .vmem S2x256x768 .f32) (f4 : Buf (Elt F) (arg4.view.loc (c : Thread nD τ)))
    (arg7 : Memref sig .tc .vmem S2x256x768 .f32)
    (arg10 : Memref sig .tc .vmem S2x512x768 .f32) (f10 : Buf (Elt F) (arg10.view.loc (c : Thread nD τ)))
    (arg11 : Memref sig .tc .vmem S2x512x768 .f32) (f11 : Buf (Elt F) (arg11.view.loc (c : Thread nD τ))) (h : Fin 2)
    (L : List (View.Piece (Elt F) S2x256x768 .f32)) : ℕ → List (View.Piece (Elt F) S2x256x768 .f32)
  | 0 => L
  | t + 1 => ⟨Rect.unit (s := S2x256x768) (offT t) S1x16x768.size (offT_inb t),
      k0_pay15 msk (sStrip arg10 f10 h t) (bStrip arg4 f4 t) (dStrip arg11 f11 h t)
        (View.readCov arg7.view (tableWrites msk arg4 f4 arg7 arg10 f10 arg11 f11 h L t) (Rect.unit (s := S2x256x768) (offT t) S1x16x768.size (offT_inb t)).toLoadRect)⟩
      :: tableWrites msk arg4 f4 arg7 arg10 f10 arg11 f11 h L t

/-- The thirty-two strips of a block added to the table as the trip found it. -/
def tableFirst (msk : IVec S1x768 1) (arg4 : Memref sig .tc .vmem S2x256x768 .f32) (f4 : Buf (Elt F) (arg4.view.loc (c : Thread nD τ)))
    (arg7 : Memref sig .tc .vmem S2x256x768 .f32) (f7 : Buf (Elt F) (arg7.view.loc (c : Thread nD τ)))
    (arg10 : Memref sig .tc .vmem S2x512x768 .f32) (f10 : Buf (Elt F) (arg10.view.loc (c : Thread nD τ)))
    (arg11 : Memref sig .tc .vmem S2x512x768 .f32) (f11 : Buf (Elt F) (arg11.view.loc (c : Thread nD τ))) (h : Fin 2) :
    List (View.Piece (Elt F) S2x256x768 .f32) :=
  View.tilePieces (s := S2x256x768) (NT := 32) S1x16x768.size (fun t => offT t.val) (fun t => offT_inb t.val)
    (fun t => k0_pay15 msk (sStrip arg10 f10 h t.val) (bStrip arg4 f4 t.val) (dStrip arg11 f11 h t.val)
      (View.readAt (Elt F) arg7.view (Rect.unit (s := S2x256x768) (offT t.val) S1x16x768.size (offT_inb t.val)).toLoadRect f7)) 32 le_rfl

section

variable (arg1 : Memref sig .tc .vmem S4608x128 .bf16) (arg2 : Memref sig .tc .vmem S4608x128 .bf16) (arg3 : Memref sig .tc .vmem S4608x128 .bf16)
  (arg5 : Memref sig .tc .vmem S4096x128 .bf16) (arg10 : Memref sig .tc .vmem S2x512x768 .f32) (arg11 : Memref sig .tc .vmem S2x512x768 .f32)
  (k : Fin k0_t1_loop.trips)
  (f1 : Buf (Elt F) (arg1.view.loc (c : Thread nD τ))) (f2 : Buf (Elt F) (arg2.view.loc (c : Thread nD τ))) (f3 : Buf (Elt F) (arg3.view.loc (c : Thread nD τ)))
  (f5 : Buf (Elt F) (arg5.view.loc (c : Thread nD τ)))

/-- The two slots of scores that a trip writes: slot 1 for its second block, slot 0 for the next trip's first. -/
def scores : List (View.Piece (Elt F) S2x512x768 .f32) :=
  [⟨Rect.unit (s := S2x512x768) ![0, 0, 0] S1x512x768.size inb_S2x512x768_S1x512x768_0_0_0,
      k0_pay1 (k0_pay367 (View.readAt (Elt F) arg1.view (Rect.unit (s := S4608x128) (k0_off9 k) S256x128.size (k0_off9_inb k)).toLoadRect f1)) (View.readAt (Elt F) arg2.view (Rect.unit (s := S4608x128) (k0_off11 k) S768x128.size (k0_off11_inb k)).toLoadRect f2)⟩,
    ⟨Rect.unit (s := S2x512x768) ![1, 0, 0] S1x512x768.size inb_S2x512x768_S1x512x768_1_0_0,
      k0_pay1 (k0_pay367 (View.readAt (Elt F) arg1.view (Rect.unit (s := S4608x128) (k0_off2 k) S256x128.size (k0_off2_inb k)).toLoadRect f1)) (View.readAt (Elt F) arg2.view (Rect.unit (s := S4608x128) (k0_off4 k) S768x128.size (k0_off4_inb k)).toLoadRect f2)⟩]

/-- The two slots of the products of the cotangent with the values, likewise. -/
def products : List (View.Piece (Elt F) S2x512x768 .f32) :=
  [⟨Rect.unit (s := S2x512x768) ![0, 0, 0] S1x512x768.size inb_S2x512x768_S1x512x768_0_0_0,
      k0_pay1 (k0_pay367 (View.readAt (Elt F) arg5.view (Rect.unit (s := S4096x128) (k0_off10 k) S256x128.size (k0_off10_inb k)).toLoadRect f5)) (View.readAt (Elt F) arg3.view (Rect.unit (s := S4608x128) (k0_off11 k) S768x128.size (k0_off11_inb k)).toLoadRect f3)⟩,
    ⟨Rect.unit (s := S2x512x768) ![1, 0, 0] S1x512x768.size inb_S2x512x768_S1x512x768_1_0_0,
      k0_pay1 (k0_pay367 (View.readAt (Elt F) arg5.view (Rect.unit (s := S4096x128) (k0_off3 k) S256x128.size (k0_off3_inb k)).toLoadRect f5)) (View.readAt (Elt F) arg3.view (Rect.unit (s := S4608x128) (k0_off4 k) S768x128.size (k0_off4_inb k)).toLoadRect f3)⟩]

end

section

variable (c : Dev nD) (i : grid0.Coords)
  (arg1 : Memref sig .tc .vmem S4608x128 .bf16) (harg1 : arg1.IsWhole)
  (arg2 : Memref sig .tc .vmem S4608x128 .bf16) (harg2 : arg2.IsWhole)
  (arg3 : Memref sig .tc .vmem S4608x128 .bf16) (harg3 : arg3.IsWhole)
  (arg4 : Memref sig .tc .vmem S2x256x768 .f32) (harg4 : arg4.IsWhole)
  (arg5 : Memref sig .tc .vmem S4096x128 .bf16) (harg5 : arg5.IsWhole)
  (arg6 : Memref sig .tc .vmem S3x4096x128 .bf16) (harg6 : arg6.IsWhole)
  (arg7 : Memref sig .tc .vmem S2x256x768 .f32) (harg7 : arg7.IsWhole)
  (arg8 : Memref sig .tc .vmem S4608x128 .f32) (harg8 : arg8.IsWhole)
  (arg9 : Memref sig .tc .vmem S4608x128 .f32) (harg9 : arg9.IsWhole)
  (arg10 : Memref sig .tc .vmem S2x512x768 .f32) (harg10 : arg10.IsWhole)
  (arg11 : Memref sig .tc .vmem S2x512x768 .f32) (harg11 : arg11.IsWhole)
  (k : Fin k0_t1_loop.trips)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ)))

theorem trip10 : (trip c i arg1 harg1 arg2 harg2 arg3 harg3 arg4 harg4 arg5 harg5 arg6 harg6 arg7 harg7 arg8 harg8 arg9 harg9 arg10 harg10 arg11 harg11 k0_pay365 k0_pay366 k f1 f2 f3 f4 f5 f6 f7 f8 f9 f10 f11).2.2.2.2.1 = scores arg1 arg2 k f1 f2 := by sl_kernel_rfl
theorem trip11 : (trip c i arg1 harg1 arg2 harg2 arg3 harg3 arg4 harg4 arg5 harg5 arg6 harg6 arg7 harg7 arg8 harg8 arg9 harg9 arg10 harg10 arg11 harg11 k0_pay365 k0_pay366 k f1 f2 f3 f4 f5 f6 f7 f8 f9 f10 f11).2.2.2.2.2.1 = products arg3 arg5 k f3 f5 := by sl_kernel_rfl

/-- The scores that the second block of a trip reads. -/
abbrev next10 : Buf (Elt F) (arg10.view.loc (c : Thread nD τ)) := arg10.view.writes (Elt F) arg10.view.junk (scores arg1 arg2 k f1 f2)
/-- The products that the second block of a trip reads. -/
abbrev next11 : Buf (Elt F) (arg11.view.loc (c : Thread nD τ)) := arg11.view.writes (Elt F) arg11.view.junk (products arg3 arg5 k f3 f5)

theorem trip6 : (trip c i arg1 harg1 arg2 harg2 arg3 harg3 arg4 harg4 arg5 harg5 arg6 harg6 arg7 harg7 arg8 harg8 arg9 harg9 arg10 harg10 arg11 harg11 k0_pay365 k0_pay366 k f1 f2 f3 f4 f5 f6 f7 f8 f9 f10 f11).1 =
    [⟨Rect.unit (s := S3x4096x128) (k0_off12 k) S1x256x128.size (k0_off12_inb k),
        dqBlock (View.readAt (Elt F) arg2.view (Rect.unit (s := S4608x128) (k0_off4 k) S768x128.size (k0_off4_inb k)).toLoadRect f2) (gStrip (mask (word1 k)) arg4 f4 arg10 (next10 c arg1 arg2 arg10 k f1 f2) arg11 (next11 c arg3 arg5 arg11 k f3 f5) 1)⟩,
      ⟨Rect.unit (s := S3x4096x128) (k0_off8 k) S1x256x128.size (k0_off8_inb k),
        dqBlock (View.readAt (Elt F) arg2.view (Rect.unit (s := S4608x128) (k0_off7 k) S768x128.size (k0_off7_inb k)).toLoadRect f2) (gStrip (mask (word0 k)) arg4 f4 arg10 f10 arg11 f11 0)⟩] := by sl_kernel_rfl

theorem trip7 : (trip c i arg1 harg1 arg2 harg2 arg3 harg3 arg4 harg4 arg5 harg5 arg6 harg6 arg7 harg7 arg8 harg8 arg9 harg9 arg10 harg10 arg11 harg11 k0_pay365 k0_pay366 k f1 f2 f3 f4 f5 f6 f7 f8 f9 f10 f11).2.1 =
    tableWrites (mask (word1 k)) arg4 f4 arg7 arg10 (next10 c arg1 arg2 arg10 k f1 f2) arg11 (next11 c arg3 arg5 arg11 k f3 f5) 1
      (tableFirst (mask (word0 k)) arg4 f4 arg7 f7 arg10 f10 arg11 f11 0) 32 := by sl_kernel_rfl

/-- What the first block of a trip adds to the keys' gradient. -/
abbrev first8 : View.Piece (Elt F) S4608x128 .f32 :=
  ⟨Rect.unit (s := S4608x128) (k0_off7 k) S768x128.size (k0_off7_inb k),
    addBlock (k0_pay367 (View.readAt (Elt F) arg1.view (Rect.unit (s := S4608x128) (k0_off5 k) S256x128.size (k0_off5_inb k)).toLoadRect f1)) (gStrip (mask (word0 k)) arg4 f4 arg10 f10 arg11 f11 0) (View.readAt (Elt F) arg8.view (Rect.unit (s := S4608x128) (k0_off7 k) S768x128.size (k0_off7_inb k)).toLoadRect f8)⟩

theorem trip8 : (trip c i arg1 harg1 arg2 harg2 arg3 harg3 arg4 harg4 arg5 harg5 arg6 harg6 arg7 harg7 arg8 harg8 arg9 harg9 arg10 harg10 arg11 harg11 k0_pay365 k0_pay366 k f1 f2 f3 f4 f5 f6 f7 f8 f9 f10 f11).2.2.1 =
    [⟨Rect.unit (s := S4608x128) (k0_off4 k) S768x128.size (k0_off4_inb k),
        addBlock (k0_pay367 (View.readAt (Elt F) arg1.view (Rect.unit (s := S4608x128) (k0_off2 k) S256x128.size (k0_off2_inb k)).toLoadRect f1)) (gStrip (mask (word1 k)) arg4 f4 arg10 (next10 c arg1 arg2 arg10 k f1 f2) arg11 (next11 c arg3 arg5 arg11 k f3 f5) 1)
          (View.readAt (Elt F) arg8.view (Rect.unit (s := S4608x128) (k0_off4 k) S768x128.size (k0_off4_inb k)).toLoadRect
            (arg8.view.writes (Elt F) f8 [first8 c arg1 arg4 arg8 arg10 arg11 k f1 f4 f8 f10 f11]))⟩,
      first8 c arg1 arg4 arg8 arg10 arg11 k f1 f4 f8 f10 f11] := by sl_kernel_rfl

/-- What the first block of a trip adds to the values' gradient. -/
abbrev first9 : View.Piece (Elt F) S4608x128 .f32 :=
  ⟨Rect.unit (s := S4608x128) (k0_off7 k) S768x128.size (k0_off7_inb k),
    addBlock (k0_pay367 (View.readAt (Elt F) arg5.view (Rect.unit (s := S4096x128) (k0_off6 k) S256x128.size (k0_off6_inb k)).toLoadRect f5)) (pStrip (mask (word0 k)) arg4 f4 arg10 f10 0) (View.readAt (Elt F) arg9.view (Rect.unit (s := S4608x128) (k0_off7 k) S768x128.size (k0_off7_inb k)).toLoadRect f9)⟩

theorem trip9 : (trip c i arg1 harg1 arg2 harg2 arg3 harg3 arg4 harg4 arg5 harg5 arg6 harg6 arg7 harg7 arg8 harg8 arg9 harg9 arg10 harg10 arg11 harg11 k0_pay365 k0_pay366 k f1 f2 f3 f4 f5 f6 f7 f8 f9 f10 f11).2.2.2.1 =
    [⟨Rect.unit (s := S4608x128) (k0_off4 k) S768x128.size (k0_off4_inb k),
        addBlock (k0_pay367 (View.readAt (Elt F) arg5.view (Rect.unit (s := S4096x128) (k0_off3 k) S256x128.size (k0_off3_inb k)).toLoadRect f5)) (pStrip (mask (word1 k)) arg4 f4 arg10 (next10 c arg1 arg2 arg10 k f1 f2) 1)
          (View.readAt (Elt F) arg9.view (Rect.unit (s := S4608x128) (k0_off4 k) S768x128.size (k0_off4_inb k)).toLoadRect
            (arg9.view.writes (Elt F) f9 [first9 c arg4 arg5 arg9 arg10 k f4 f5 f9 f10]))⟩,
      first9 c arg4 arg5 arg9 arg10 k f4 f5 f9 f10] := by sl_kernel_rfl

end

end Cert.AttnIdeal.Run

end
-- ==== Proof.AttnMath.lean ====
/-
  The softmax of a row whose hidden entries are −∞, over the reals, and its gradient: the arithmetic that the kernel's
  strips and the reference share.
-/
module

public import Idealize.ShloMosaic.PureOps.Ideal
public import Idealize.ShloMosaic.PureOps.IdealRules
public import Idealize.ShloMosaic.Lib.Pointwise

@[expose] public section

noncomputable section

namespace Cert.AttnMath

open Idealize.ShloMosaic

variable {ι : Type} [Fintype ι]

/-- A finite sum of reals, as an extended real. -/
theorem coe_sum (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The word of −∞. -/
theorem neg_inf : Ideal.ofBits .f32 0xFF800000#32 = ⊥ := by
  simp [Ideal.ofBits, Ideal.ieee]

/-- The share of entry `j` in the softmax of `x` over the entries that `V` shows. -/
def prob (V : ι → Prop) [DecidablePred V] (x : ι → ℝ) (j : ι) : ℝ :=
  if V j then Real.exp (x j) / ∑ j', (if V j' then Real.exp (x j') else 0) else 0

/-- The gradient of the scores, from the probabilities `p` and the gradient `d` of the probabilities. -/
def dscore (p d : ι → ℝ) (j : ι) : ℝ := p j * (d j - ∑ j', p j' * d j')

variable (V : ι → Prop) [DecidablePred V] (x : ι → ℝ) (st : ι → EReal)

theorem fold_max (hst : ∀ j, st j = if V j then (x j : EReal) else ⊥) (hV : ∃ j, V j) :
    ∃ M : ℝ, Finset.univ.fold max (⊥ : EReal) st = M := by
  obtain ⟨j, hj⟩ := hV
  have hs : Finset.univ.fold max (⊥ : EReal) st = Finset.univ.sup st := rfl
  obtain ⟨i, -, hi⟩ := Finset.exists_mem_eq_sup Finset.univ ⟨j, Finset.mem_univ j⟩ st
  rw [hs, hi, hst i]
  by_cases h : V i
  · exact ⟨x i, if_pos h⟩
  · exfalso
    have hle : st j ≤ Finset.univ.sup st := Finset.le_sup (Finset.mem_univ j)
    rw [hi, hst i, if_neg h, hst j, if_pos hj] at hle
    exact absurd hle (by simp)

theorem exp_row (hst : ∀ j, st j = if V j then (x j : EReal) else ⊥) (M : ℝ) (j : ι) :
    Ideal.exp (st j - (M : EReal)) = ((if V j then Real.exp (x j - M) else 0 : ℝ) : EReal) := by
  rw [hst j]
  by_cases h : V j
  · rw [if_pos h, if_pos h, ← EReal.coe_sub]
    rfl
  · rw [if_neg h, if_neg h, EReal.bot_sub]
    rfl

theorem sum_pos (hV : ∃ j, V j) (y : ι → ℝ) : 0 < ∑ j, (if V j then Real.exp (y j) else 0) := by
  obtain ⟨j, hj⟩ := hV
  refine Finset.sum_pos' (fun i _ => ?_) ⟨j, Finset.mem_univ j, ?_⟩
  · split
    · exact (Real.exp_pos _).le
    · exact le_rfl
  · rw [if_pos hj]; exact Real.exp_pos _

/-- The softmax does not see the shift by the row's greatest entry. -/
theorem prob_shift (M : ℝ) (j : ι) :
    (if V j then Real.exp (x j - M) else 0) / (∑ j', (if V j' then Real.exp (x j' - M) else 0)) = prob V x j := by
  have h1 : ∀ i, (if V i then Real.exp (x i - M) else 0) = Real.exp (-M) * (if V i then Real.exp (x i) else 0) := fun i => by
    split
    · rw [sub_eq_add_neg, Real.exp_add, mul_comm]
    · rw [mul_zero]
  simp only [h1, ← Finset.mul_sum]
  rw [mul_div_mul_left _ _ (Real.exp_pos _).ne']
  unfold prob
  split
  · rfl
  · rw [zero_div]

theorem div_real (a b : ℝ) (hb : b ≠ 0) : Ideal.div (a : EReal) (b : EReal) = ((a / b : ℝ) : EReal) := by
  rw [Ideal.div_coe hb, ← EReal.coe_mul, mul_one_div]

/-- The row as the kernel computes it: the exponential times the reciprocal of the sum. -/
theorem softmax_mul (hst : ∀ j, st j = if V j then (x j : EReal) else ⊥) (hV : ∃ j, V j) (j : ι) :
    Ideal.exp (st j - Finset.univ.fold max (⊥ : EReal) st)
        * Ideal.div 1 (∑ j', Ideal.exp (st j' - Finset.univ.fold max (⊥ : EReal) st)) = (prob V x j : EReal) := by
  obtain ⟨M, hM⟩ := fold_max V x st hst hV
  simp only [hM, exp_row V x st hst M, ← coe_sum]
  rw [← prob_shift V x M j, ← EReal.coe_one, div_real _ _ (sum_pos V hV _).ne', ← EReal.coe_mul, mul_one_div]

/-- The row as the reference computes it: the exponential over the sum. -/
theorem softmax_div (hst : ∀ j, st j = if V j then (x j : EReal) else ⊥) (hV : ∃ j, V j) (j : ι) :
    Ideal.div (Ideal.exp (st j - Finset.univ.fold max (⊥ : EReal) st))
        (∑ j', Ideal.exp (st j' - Finset.univ.fold max (⊥ : EReal) st)) = (prob V x j : EReal) := by
  obtain ⟨M, hM⟩ := fold_max V x st hst hV
  simp only [hM, exp_row V x st hst M, ← coe_sum]
  rw [← prob_shift V x M j, div_real _ _ (sum_pos V hV _).ne']

end Cert.AttnMath

end
-- ==== Proof.AttnStrip.lean ====
/-
  What one strip of a block computes over the reals: sixteen rows of probabilities, and the gradient of their scores.
-/
module

public import proofs.«01_k».proof.Proof.Gen.AttnIdeal.Skeleton
public import proofs.«01_k».proof.Proof.AttnMath
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Val

open Cert.AttnIdeal Cert.AttnIdeal.Gen Cert.AttnMath
open Idealize.ShloMosaic Idealize.ShloMosaic.TcCoe Idealize.SL.Sem

/-- The mask's named constant is −∞. -/
theorem mask_bot : (Named.named (F := Ideal) κ "mask" (φ := .f32) 0xF149F2CA#32 : EReal) = ⊥ :=
  IdealRules.named_const.ideal_named_scalar _ _ _ _ rfl

section

variable (msk : IVec S1x768 1) (s : Vec Ideal S16x768 .f32) (b : Vec Ideal S1x16x768 .f32)
  (V : Fin 16 → Fin 768 → Prop) [∀ i, DecidablePred (V i)] (x : Fin 16 → Fin 768 → ℝ)

/-- The strip's scores with the bias are `x` where `V` shows the key and −∞ elsewhere. -/
def Scores : Prop :=
  (∀ i j, Scalar.select (msk (ix2 0 j)) (s (ix2 i j) + b (ix3 0 i j)) (⊥ : EReal) = if V i j then (x i j : EReal) else ⊥)
    ∧ ∀ i, ∃ j, V i j

variable {msk s b V x} (h : Scores msk s b V x)
include h

theorem probs_val (i : Fin 16) (j : Fin 768) : k0_pay13 (F := Ideal) msk s b (ix2 i j) = (prob (V i) (x i) j : EReal) := by
  unfold k0_pay13
  pointwise
  rw [mask_bot, neg_inf]
  exact softmax_mul (V i) (x i) _ (h.1 i) (h.2 i) j

theorem pay16_val (i : Fin 16) (j : Fin 768) : k0_pay16 (F := Ideal) msk s b (ix2 i j) = (prob (V i) (x i) j : EReal) := by
  unfold k0_pay16
  pointwise
  exact probs_val h i j

variable {d : Vec Ideal S1x16x768 .f32} {dp : Fin 16 → Fin 768 → ℝ} (hd : ∀ i j, d (ix3 0 i j) = (dp i j : EReal))
include hd

theorem pay17_val (i : Fin 16) (j : Fin 768) :
    k0_pay17 (F := Ideal) msk s b d (ix2 i j) = (dscore (prob (V i) (x i)) (dp i) j : EReal) := by
  unfold k0_pay17 k0_pay14
  pointwise
  simp only [probs_val h, hd]
  unfold dscore
  simp only [EReal.coe_mul, EReal.coe_sub, coe_sum]

theorem pay15_val (o : Vec Ideal S1x16x768 .f32) (i : Fin 16) (j : Fin 768) :
    k0_pay15 (F := Ideal) msk s b d o (ix3 0 i j) = o (ix3 0 i j) + (dscore (prob (V i) (x i)) (dp i) j : EReal) := by
  unfold k0_pay15 k0_pay14
  pointwise
  simp only [probs_val h, hd]
  unfold dscore
  simp only [EReal.coe_mul, EReal.coe_sub, coe_sum]

end

end Cert.AttnIdeal.Val
end
-- ==== Proof.AttnBlock.lean ====
/-
  What one block's matrix products are over the reals, the two heads of a pair told apart by the lane: the scores, the block
  of the queries' gradient, and what a block adds to the gradients of the keys and the values.
-/
module

public import proofs.«01_k».proof.Proof.AttnStep
public import proofs.«01_k».proof.Proof.AttnStrip

@[expose] public section

set_option maxRecDepth 16384

noncomputable section

namespace Cert.AttnIdeal.Val

open Cert.AttnIdeal Cert.AttnIdeal.Gen Cert.AttnIdeal.Run Cert.AttnMath
open Idealize.ShloMosaic Idealize.ShloMosaic.TcCoe Idealize.SL.Sem

/-- A sum of which one of two halves counts. -/
theorem sum_half {N : ℕ} (n : ℕ) (hN : N = n + n) (hn : 0 < n) (F : ℕ → ℝ) (h : ℕ) (hh : h < 2) :
    ∑ R : Fin N, (if R.val / n = h then F R.val else 0) = ∑ r : Fin n, F (n * h + r.val) := by
  subst hN
  rw [Fin.sum_univ_eq_sum_range (fun R => if R / n = h then F R else 0), Fin.sum_univ_eq_sum_range (fun r => F (n * h + r)),
    Finset.sum_range_add]
  have e0 : ∀ x ∈ Finset.range n, x / n = 0 := fun x hx => Nat.div_eq_of_lt (Finset.mem_range.1 hx)
  have e1 : ∀ x ∈ Finset.range n, (n + x) / n = 1 := fun x hx => by
    rw [Nat.add_div_left _ hn, e0 x hx]
  obtain rfl | rfl : h = 0 ∨ h = 1 := by omega
  · rw [Finset.sum_congr rfl fun x hx => by rw [if_pos (e0 x hx)], Finset.sum_eq_zero (s := Finset.range n) (f := fun x => if (n + x) / n = 0 then F (n + x) else 0) fun x hx => by rw [if_neg (by rw [e1 x hx]; decide)]]
    simp
  · rw [Finset.sum_eq_zero fun x hx => by rw [if_neg (by rw [e0 x hx]; decide)], Finset.sum_congr rfl fun x hx => by rw [if_pos (e1 x hx)]]
    simp

/-- The word of one eighth. -/
theorem eighth : Ideal.ofBits .f32 0x3E000000#32 = ((1 / 8 : ℝ) : EReal) := by
  simp [Ideal.ofBits, Ideal.ieee]
  rw [← EReal.coe_mul]
  norm_num

theorem low_lane (d : Fin 128) : k0_pay365 (ix2 0 d) = if d.val / 64 = 0 then 1#1 else 0#1 := by
  revert d; decide +kernel
theorem high_lane (d : Fin 128) : k0_pay366 (ix2 0 d) = if d.val / 64 = 1 then 1#1 else 0#1 := by
  revert d; decide +kernel

/-- A block's 256 rows twice, the first time with the lanes of the first head only, the second with the second's. -/
theorem twice (x : Vec Ideal S256x128 .bf16) (r : Fin 512) (d : Fin 128) :
    k0_pay367 (F := Ideal) x (ix2 r d) = if d.val / 64 = r.val / 256 then x (ix2 ⟨r.val % 256, by omega⟩ d) else 0 := by
  unfold k0_pay367
  pointwise
  rw [low_lane, high_lane]
  have hd := d.isLt
  have hr := r.isLt
  by_cases h : r.val < 256
  · have e : r.val / 256 = 0 := Nat.div_eq_of_lt h
    have e' : r.val % 256 = r.val := Nat.mod_eq_of_lt h
    rw [dif_pos h, e]
    simp only [e']
    by_cases hl : d.val / 64 = 0 <;> simp [hl, Scalar.select]
  · have e : r.val / 256 = 1 := by omega
    have e' : r.val % 256 = r.val - 256 := by omega
    rw [dif_neg h, e]
    simp only [e']
    by_cases hl : d.val / 64 = 1 <;> simp [hl, Scalar.select]

/-- The rows of the first block that the launch prepares the products of, the same way. -/
theorem start_products (x : Vec Ideal S256x128 .bf16) (k : Vec Ideal S768x128 .bf16) :
    k0_pay2 (k0_pay368 x) (k0_pay369 x) (Scalar.ofBits .bf16 0x0000#16) k0_pay370 k = k0_pay1 (F := Ideal) (k0_pay367 x) k := rfl

section

variable {x : Vec Ideal S256x128 .bf16} {X : ℕ → ℕ → ℝ} (hx : ∀ r d, x (ix2 r d) = (X r.val d.val : EReal))
include hx

theorem twice_val (r : Fin 512) (d : Fin 128) :
    k0_pay367 (F := Ideal) x (ix2 r d) = ((if d.val / 64 = r.val / 256 then X (r.val % 256) d.val else 0 : ℝ) : EReal) := by
  rw [twice, hx]
  split <;> rfl

/-- A block of scores (or of products of the cotangent with the values): row `R` is row `R % 256` of head `R / 256`. -/
theorem scores_val {k : Vec Ideal S768x128 .bf16} {K : ℕ → ℕ → ℝ} (hk : ∀ j d, k (ix2 j d) = (K j.val d.val : EReal))
    (R : Fin 512) (j : Fin 768) :
    k0_pay1 (F := Ideal) (k0_pay367 x) k (ix3 0 R j)
      = ((∑ e : Fin 64, X (R.val % 256) (64 * (R.val / 256) + e.val) * K j.val (64 * (R.val / 256) + e.val) : ℝ) : EReal) := by
  unfold k0_pay1
  pointwise
  simp only [twice_val hx, hk, ← EReal.coe_mul, ← coe_sum]
  congr 1
  rw [← sum_half 64 rfl (by decide) (fun i => X (R.val % 256) i * K j.val i) (R.val / 256) (by omega)]
  exact Finset.sum_congr rfl fun i _ => by rw [ite_mul, zero_mul]

/-- What a block adds to the gradient of the keys or the values. -/
theorem add_val {D : ℕ → FVec Ideal S16x768 .bf16} {G : ℕ → ℕ → ℝ}
    (hD : ∀ t < 32, ∀ i j, D t (ix2 i j) = (G (16 * t + i.val) j.val : EReal))
    {old : Vec Ideal S768x128 .f32} {O : ℕ → ℕ → ℝ} (ho : ∀ j d, old (ix2 j d) = (O j.val d.val : EReal)) (j : Fin 768) (d : Fin 128) :
    addBlock (F := Ideal) (k0_pay367 x) D old (ix2 j d)
      = ((O j.val d.val + ∑ r : Fin 256, G (256 * (d.val / 64) + r.val) j.val * X r.val d.val : ℝ) : EReal) := by
  have hs : Shape.Concatenates ((List.ofFn fun n : Fin 32 => (⟨S16x768, D n.val⟩ : (s : Shape) × (s.Idx → Ideal .bf16))).map (·.1)) S512x768 0 := concatenates_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S16x768_S512x768_d0
  have e : addBlock (F := Ideal) (k0_pay367 x) D old
      = k0_pay3 (F := Ideal) (k0_pay367 x) old (concatenate S512x768 0 (List.ofFn fun n : Fin 32 => (⟨S16x768, D n.val⟩ : (s : Shape) × (s.Idx → Ideal .bf16))) hs) (constant S768x128 .f32 0x00000000#32) := rfl
  have hc : ∀ (R : Fin 512) (j : Fin 768), concatenate S512x768 0 (List.ofFn fun n : Fin 32 => (⟨S16x768, D n.val⟩ : (s : Shape) × (s.Idx → Ideal .bf16))) hs (ix2 R j) = (G R.val j.val : EReal) := by
    intro R j
    rw [concatenate_ofFn_apply (s₁ := S16x768) 0 (fun n : Fin 32 => D n.val) hs rfl 16 rfl (ix2 R j) ⟨R.val / 16, by omega⟩ rfl (ix2 ⟨R.val % 16, by omega⟩ j) rfl
      (fun b hb => by match b with | 0 => exact absurd rfl hb | 1 => rfl), hD _ (show R.val / 16 < 32 by omega)]
    congr 2
    show 16 * (R.val / 16) + R.val % 16 = R.val
    omega
  rw [e]
  generalize concatenate S512x768 0 _ hs = A at hc ⊢
  unfold k0_pay3
  pointwise
  simp only [hc, twice_val hx, ho, ← EReal.coe_mul, ← coe_sum, ← EReal.coe_add]
  congr 2
  have e2 : ∀ r : Fin 256, X r.val d.val = X ((256 * (d.val / 64) + r.val) % 256) d.val := fun r => by congr 1; omega
  rw [Finset.sum_congr (g := fun r : Fin 256 => G (256 * (d.val / 64) + r.val) j.val * X ((256 * (d.val / 64) + r.val) % 256) d.val) (s₁ := (Finset.univ : Finset (Fin 256))) rfl fun r _ => by rw [← e2 r], ← sum_half 256 rfl (by decide) (fun R => G R j.val * X (R % 256) d.val) (d.val / 64) (by omega)]
  · refine Finset.sum_congr rfl fun i _ => ?_
    by_cases h : d.val / 64 = i.val / 256
    · rw [if_pos h, if_pos h.symm]
    · rw [if_neg h, if_neg fun h' => h h'.symm, mul_zero]

end

/-- A block of the queries' gradient. -/
theorem dq_val {D : ℕ → FVec Ideal S16x768 .bf16} {G : ℕ → ℕ → ℝ}
    (hD : ∀ t < 32, ∀ i j, D t (ix2 i j) = (G (16 * t + i.val) j.val : EReal))
    {k : Vec Ideal S768x128 .bf16} {K : ℕ → ℕ → ℝ} (hk : ∀ j d, k (ix2 j d) = (K j.val d.val : EReal)) (r : Fin 256) (d : Fin 128) :
    dqBlock (F := Ideal) k D (ix3 0 r d)
      = (((∑ j : Fin 768, G (256 * (d.val / 64) + r.val) j.val * K j.val d.val) * (1 / 8) : ℝ) : EReal) := by
  have hp : ∀ t < 16, ∀ (i : Fin 16) (j : Fin 1536), pair D t (ix2 i j) = (G (256 * (j.val / 768) + (16 * t + i.val)) (j.val % 768) : EReal) := by
    intro t ht i j
    unfold pair
    pointwise
    have hj := j.isLt
    by_cases h : j.val < 768
    · have e : j.val / 768 = 0 := Nat.div_eq_of_lt h
      have e' : j.val % 768 = j.val := Nat.mod_eq_of_lt h
      rw [dif_pos h, hD t (by omega), e, e']
      congr 2; omega
    · have e : j.val / 768 = 1 := by omega
      have e' : j.val % 768 = j.val - 768 := by omega
      rw [dif_neg h, hD _ (by omega), e, e']
      congr 2; omega
  have hs : Shape.Concatenates ((List.ofFn fun n : Fin 16 => (⟨S16x1536, pair D n.val⟩ : (s : Shape) × (s.Idx → Ideal .bf16))).map (·.1)) S256x1536 0 := concatenates_S16x1536_S16x1536_S16x1536_S16x1536_S16x1536_S16x1536_S16x1536_S16x1536_S16x1536_S16x1536_S16x1536_S16x1536_S16x1536_S16x1536_S16x1536_S16x1536_S256x1536_d0
  have hc : ∀ (R : Fin 256) (j : Fin 1536), concatenate S256x1536 0 (List.ofFn fun n : Fin 16 => (⟨S16x1536, pair D n.val⟩ : (s : Shape) × (s.Idx → Ideal .bf16))) hs (ix2 R j) = (G (256 * (j.val / 768) + R.val) (j.val % 768) : EReal) := by
    intro R j
    rw [concatenate_ofFn_apply (s₁ := S16x1536) 0 (fun n : Fin 16 => pair D n.val) hs rfl 16 rfl (ix2 R j) ⟨R.val / 16, by omega⟩ rfl (ix2 ⟨R.val % 16, by omega⟩ j) rfl
      (fun b hb => by match b with | 0 => exact absurd rfl hb | 1 => rfl), hp _ (show R.val / 16 < 16 by omega)]
    congr 2
    show 256 * (j.val / 768) + (16 * (R.val / 16) + R.val % 16) = 256 * (j.val / 768) + R.val
    omega
  have hm : ∀ (j : Fin 1536) (d : Fin 128), concatenate S1536x128 0 [⟨S768x128, select (broadcastTo S768x128 (shapeCast S1x128 k0_pay365 shapeCasts_S1x128_S1x128) broadcasts_S1x128_S768x128) (shapeCast S768x128 k shapeCasts_S768x128_S768x128) (broadcast S768x128 (Scalar.ofBits (F := Ideal) .bf16 0x0000#16))⟩, ⟨S768x128, select (broadcastTo S768x128 (shapeCast S1x128 k0_pay366 shapeCasts_S1x128_S1x128) broadcasts_S1x128_S768x128) (shapeCast S768x128 k shapeCasts_S768x128_S768x128) (broadcast S768x128 (Scalar.ofBits (F := Ideal) .bf16 0x0000#16))⟩] concatenates_S768x128_S768x128_S1536x128_d0 (ix2 j d)
      = ((if d.val / 64 = j.val / 768 then K (j.val % 768) d.val else 0 : ℝ) : EReal) := by
    intro j d
    pointwise
    rw [low_lane, high_lane]
    have hj := j.isLt
    by_cases h : j.val < 768
    · have e : j.val / 768 = 0 := Nat.div_eq_of_lt h
      have e' : j.val % 768 = j.val := Nat.mod_eq_of_lt h
      rw [dif_pos h, e, e', hk]
      by_cases hl : d.val / 64 = 0 <;> simp [hl, Scalar.select]
    · have e : j.val / 768 = 1 := by omega
      have e' : j.val % 768 = j.val - 768 := by omega
      rw [dif_neg h, e, e', hk]
      by_cases hl : d.val / 64 = 1 <;> simp [hl, Scalar.select]

  have e : dqBlock (F := Ideal) k D = shapeCast S1x256x128 (truncf .bf16 (mulf (matmul dot_S256x1536_S1536x128_S256x128_1_0_0_1_n_n none
      (concatenate S256x1536 0 (List.ofFn fun n : Fin 16 => (⟨S16x1536, pair D n.val⟩ : (s : Shape) × (s.Idx → Ideal .bf16))) hs)
      (concatenate S1536x128 0 [⟨S768x128, select (broadcastTo S768x128 (shapeCast S1x128 k0_pay365 shapeCasts_S1x128_S1x128) broadcasts_S1x128_S768x128) (shapeCast S768x128 k shapeCasts_S768x128_S768x128) (broadcast S768x128 (Scalar.ofBits (F := Ideal) .bf16 0x0000#16))⟩, ⟨S768x128, select (broadcastTo S768x128 (shapeCast S1x128 k0_pay366 shapeCasts_S1x128_S1x128) broadcasts_S1x128_S768x128) (shapeCast S768x128 k shapeCasts_S768x128_S768x128) (broadcast S768x128 (Scalar.ofBits (F := Ideal) .bf16 0x0000#16))⟩] concatenates_S768x128_S768x128_S1536x128_d0)
      (constant S256x128 .f32 0x00000000#32)) (broadcast S256x128 (Scalar.ofBits .f32 0x3E000000#32))) bitsLt_bf16_f32) shapeCasts_S256x128_S1x256x128 := rfl
  rw [e]
  generalize concatenate S256x1536 0 _ hs = A at hc ⊢
  generalize concatenate S1536x128 0 _ _ = B at hm ⊢
  pointwise
  simp only [hc, hm, ← EReal.coe_mul, ← coe_sum]
  rw [eighth, ← EReal.coe_mul]
  congr 2
  have e2 : ∀ j : Fin 768, G (256 * (d.val / 64) + r.val) j.val * K j.val d.val
      = (fun J => G (256 * (J / 768) + r.val) (J % 768) * K (J % 768) d.val) (768 * (d.val / 64) + j.val) := fun j => by
    have h1 : (768 * (d.val / 64) + j.val) / 768 = d.val / 64 := by omega
    have h2 : (768 * (d.val / 64) + j.val) % 768 = j.val := by omega
    simp only [h1, h2]
  rw [Finset.sum_congr rfl fun j _ => e2 j, ← sum_half 768 rfl (by decide) (fun J => G (256 * (J / 768) + r.val) (J % 768) * K (J % 768) d.val) (d.val / 64) (by omega)]
  refine Finset.sum_congr rfl fun i _ => ?_
  by_cases h : d.val / 64 = i.val / 768
  · rw [if_pos h, if_pos h.symm]
  · rw [if_neg h, if_neg fun h' => h h'.symm, mul_zero]

end Cert.AttnIdeal.Val
end
-- ==== Proof.AttnReads.lean ====
/-
  Where the strips and blocks of a trip lie: each read of a buffer, at an index, as the buffer's own element.
-/
module

public import proofs.«01_k».proof.Proof.AttnBlock

@[expose] public section

set_option maxRecDepth 16384

noncomputable section

namespace Cert.AttnIdeal.Val

open Cert.AttnIdeal Cert.AttnIdeal.Gen Cert.AttnIdeal.Run Cert.AttnMath
open Idealize.ShloMosaic Idealize.ShloMosaic.TcCoe Idealize.SL.Sem

variable {c : Dev nD}

/-- A read of a rectangle of a buffer, at an index. -/
theorem read_unit {s : Shape} {φ : EltTy} (v : View sig .tc .vmem s φ) (f : Buf (Elt Ideal) (v.loc (c : Thread nD τ)))
    (off size : Fin s.rank → ℕ) (inb : ∀ a, off a + size a ≤ s.size a) (x : (Rect.unit off size inb).shape.Idx) (y : s.Idx)
    (h : ∀ a, (y a).val = off a + (x a).val) :
    View.readAt (Elt Ideal) v (Rect.unit off size inb).toLoadRect f x = v.read (Elt Ideal) f y := by
  show v.read (Elt Ideal) f _ = _
  congr 1
  funext a
  apply Fin.ext
  rw [h a]
  show off a + 1 * (x a).val = _
  omega

theorem bStrip_at (arg4 : Memref sig .tc .vmem S2x256x768 .f32) (f4 : Buf (Elt Ideal) (arg4.view.loc (c : Thread nD τ))) (t : ℕ) (i : Fin 16) (j : Fin 768) :
    bStrip arg4 f4 t (ix3 0 i j) = arg4.view.read (Elt Ideal) f4 (ix3 ⟨t / 16 % 2, by omega⟩ ⟨16 * (t % 16) + i.val, by omega⟩ j) :=
  read_unit (s := S2x256x768) arg4.view f4 _ _ (offT_inb t) _ _ fun a => by
    match a with
    | 0 => rfl
    | 1 => rfl
    | 2 => exact (Nat.zero_add _).symm

theorem dStrip_at (arg11 : Memref sig .tc .vmem S2x512x768 .f32) (f11 : Buf (Elt Ideal) (arg11.view.loc (c : Thread nD τ))) (h : Fin 2) (t : ℕ) (i : Fin 16) (j : Fin 768) :
    dStrip arg11 f11 h t (ix3 0 i j) = arg11.view.read (Elt Ideal) f11 (ix3 h ⟨16 * (t % 32) + i.val, by omega⟩ j) :=
  read_unit (s := S2x512x768) arg11.view f11 _ _ (offS_inb h t) _ _ fun a => by
    match a with
    | 0 => rfl
    | 1 => rfl
    | 2 => exact (Nat.zero_add _).symm

theorem sStrip_at (arg10 : Memref sig .tc .vmem S2x512x768 .f32) (f10 : Buf (Elt Ideal) (arg10.view.loc (c : Thread nD τ))) (h : Fin 2) (t : ℕ) (i : Fin 16) (j : Fin 768) :
    sStrip arg10 f10 h t (ix2 i j) = arg10.view.read (Elt Ideal) f10 (ix3 h ⟨16 * (t % 32) + i.val, by omega⟩ j) := by
  have e : ∀ v : S1x16x768.Idx → Ideal .f32, shapeCast S16x768 v (by decide) (ix2 i j) = v (ix3 0 i j) := by
    intro v
    pointwise
  refine (e _).trans ?_
  show arg10.view.read (Elt Ideal) f10 _ = _
  congr 1
  funext a
  apply Fin.ext
  match a with
  | 0 => show h.val + 0 + 1 * 0 = h.val; omega
  | 1 => show 0 + 16 * (t % 32) + 1 * i.val = 16 * (t % 32) + i.val; omega
  | 2 => show 0 + 0 + 1 * j.val = j.val; omega

/-- The mask of a trip's first block shows the keys that are not in front of the first token. -/
theorem mask0_at (k : Fin k0_t1_loop.trips) (j : Fin 768) : mask (word0 k) (ix2 0 j) = if 512 ≤ 256 * (2 * k.val) + j.val then 1#1 else 0#1 := by
  revert k j
  decide +kernel

theorem mask1_at (k : Fin k0_t1_loop.trips) (j : Fin 768) : mask (word1 k) (ix2 0 j) = if 512 ≤ 256 * (2 * k.val + 1) + j.val then 1#1 else 0#1 := by
  revert k j
  decide +kernel

theorem off_all (k : Fin k0_t1_loop.trips) :
    k0_off2 k = ![512 + 256 * (2 * k.val + 1), 0] ∧ k0_off3 k = ![256 * (2 * k.val + 1), 0] ∧ k0_off4 k = ![256 * (2 * k.val + 1), 0]
    ∧ k0_off5 k = ![512 + 256 * (2 * k.val), 0] ∧ k0_off6 k = ![256 * (2 * k.val), 0] ∧ k0_off7 k = ![256 * (2 * k.val), 0]
    ∧ k0_off8 k = ![0, 256 * (2 * k.val), 0] ∧ k0_off9 k = ![512 + 256 * min (2 * k.val + 2) 15, 0]
    ∧ k0_off10 k = ![256 * min (2 * k.val + 2) 15, 0] ∧ k0_off11 k = ![256 * min (2 * k.val + 2) 15, 0]
    ∧ k0_off12 k = ![0, 256 * (2 * k.val + 1), 0] := by
  revert k
  decide +kernel

end Cert.AttnIdeal.Val
end
-- ==== Proof.AttnSpec.lean ====
/-
  What the attention's backward pass computes for one pair of heads, over the reals: block by block of 256 queries, each
  block against the 768 keys that it can see. A row `R < 512` of a block is row `R % 256` of head `R / 256` of the pair.
-/
module

public import proofs.«01_k».proof.Proof.AttnMath

@[expose] public section

noncomputable section

namespace Cert.AttnMath

/-- The arrays of one pair of heads: the queries (scaled), the keys and the values behind 512 rows of padding, the cotangent
of the output, and the bias table of each head. -/
structure Pair where
  q : ℕ → ℕ → ℝ
  k : ℕ → ℕ → ℝ
  v : ℕ → ℕ → ℝ
  w : ℕ → ℕ → ℝ
  bias : ℕ → ℕ → ℕ → ℝ

/-- Whether row `r` of a block sees the `j`-th of its keys by the chunks of 64 alone. -/
def band (r j : ℕ) : Prop := r / 64 ≤ j / 64 ∧ j / 64 ≤ r / 64 + 8
instance (r j : ℕ) : Decidable (band r j) := by unfold band; infer_instance

/-- Whether row `r` of block `b` sees the `j`-th of its keys: not a key of the padding, and within the band. -/
def vis (b r j : ℕ) : Prop := 512 ≤ 256 * b + j ∧ band r j
instance (b r j : ℕ) : Decidable (vis b r j) := by unfold vis; infer_instance

theorem exists_vis (b r : ℕ) (hr : r < 256) : ∃ j : Fin 768, vis b r j.val := by
  refine ⟨⟨r / 64 * 64 + 512, by omega⟩, ?_⟩
  show 512 ≤ 256 * b + (r / 64 * 64 + 512) ∧ r / 64 ≤ (r / 64 * 64 + 512) / 64 ∧ (r / 64 * 64 + 512) / 64 ≤ r / 64 + 8
  omega

namespace Pair

variable (A : Pair)

/-- The products of the queries with the keys. -/
def S (b R j : ℕ) : ℝ := ∑ e : Fin 64, A.q (512 + 256 * b + R % 256) (64 * (R / 256) + e.val) * A.k (256 * b + j) (64 * (R / 256) + e.val)
/-- The products of the cotangent with the values: the gradient of the probabilities. -/
def T (b R j : ℕ) : ℝ := ∑ e : Fin 64, A.w (256 * b + R % 256) (64 * (R / 256) + e.val) * A.v (256 * b + j) (64 * (R / 256) + e.val)
/-- The scores with the bias. -/
def X (b R j : ℕ) : ℝ := A.S b R j + A.bias (R / 256) (R % 256) j
/-- The probabilities. -/
def P (b R j : ℕ) : ℝ :=
  if vis b (R % 256) j then Real.exp (A.X b R j) / ∑ j' : Fin 768, (if vis b (R % 256) j'.val then Real.exp (A.X b R j'.val) else 0) else 0
/-- The gradient of the scores. -/
def G (b R j : ℕ) : ℝ := A.P b R j * (A.T b R j - ∑ j' : Fin 768, A.P b R j'.val * A.T b R j'.val)

/-- The queries' gradient, block `b`, row `r`, lane `d`. -/
def dq (b r d : ℕ) : ℝ := (∑ j : Fin 768, A.G b (256 * (d / 64) + r) j.val * A.k (256 * b + j.val) d) * (1 / 8)
/-- What block `b` adds to row `κ` of the keys' gradient. -/
def dk1 (b κ d : ℕ) : ℝ := if 256 * b ≤ κ ∧ κ < 256 * b + 768 then ∑ r : Fin 256, A.G b (256 * (d / 64) + r.val) (κ - 256 * b) * A.q (512 + 256 * b + r.val) d else 0
/-- What block `b` adds to row `κ` of the values' gradient. -/
def dv1 (b κ d : ℕ) : ℝ := if 256 * b ≤ κ ∧ κ < 256 * b + 768 then ∑ r : Fin 256, A.P b (256 * (d / 64) + r.val) (κ - 256 * b) * A.w (256 * b + r.val) d else 0

end Pair

end Cert.AttnMath
end
-- ==== Proof.AttnLoop.lean ====
/-
  The loop's invariant: what the six buffers hold, over the reals, after each trip.
-/
module

public import proofs.«01_k».proof.Proof.AttnReads
public import proofs.«01_k».proof.Proof.AttnSpec

@[expose] public section

set_option maxRecDepth 16384

noncomputable section

namespace Cert.AttnIdeal.Val

open Cert.AttnIdeal Cert.AttnIdeal.Gen Cert.AttnIdeal.Run Cert.AttnMath
open Idealize.ShloMosaic Idealize.ShloMosaic.TcCoe Idealize.SL.Sem

variable {c : Dev nD} (A : Pair)

section

variable (arg4 : Memref sig .tc .vmem S2x256x768 .f32) (arg7 : Memref sig .tc .vmem S2x256x768 .f32)
  (arg10 : Memref sig .tc .vmem S2x512x768 .f32) (arg11 : Memref sig .tc .vmem S2x512x768 .f32)
  (f4 : Buf (Elt Ideal) (arg4.view.loc (c : Thread nD τ))) (f7 : Buf (Elt Ideal) (arg7.view.loc (c : Thread nD τ)))
  (f10 : Buf (Elt Ideal) (arg10.view.loc (c : Thread nD τ))) (f11 : Buf (Elt Ideal) (arg11.view.loc (c : Thread nD τ)))

/-- The bias table, −∞ outside the band. -/
def BiasIs : Prop := ∀ (h : Fin 2) (r : Fin 256) (j : Fin 768),
  arg4.view.read (Elt Ideal) f4 (ix3 h r j) = if band r.val j.val then (A.bias h.val r.val j.val : EReal) else ⊥

/-- Slot `h` holds the products of block `b`. -/
def SlotIs (h : Fin 2) (b : ℕ) : Prop := ∀ (R : Fin 512) (j : Fin 768),
  arg10.view.read (Elt Ideal) f10 (ix3 h R j) = (A.S b R.val j.val : EReal) ∧ arg11.view.read (Elt Ideal) f11 (ix3 h R j) = (A.T b R.val j.val : EReal)

/-- A mask that shows the keys of block `b` that are not padding. -/
def MaskIs (msk : IVec S1x768 1) (b : ℕ) : Prop := ∀ j : Fin 768, msk (ix2 0 j) = if 512 ≤ 256 * b + j.val then 1#1 else 0#1

variable {A arg4 arg10 arg11 f4 f10 f11} {msk : IVec S1x768 1} {h : Fin 2} {b : ℕ}
  (h4 : BiasIs A arg4 f4) (hs : SlotIs A arg10 arg11 f10 f11 h b) (hm : MaskIs msk b)
include h4 hs hm

theorem strip_scores (t : ℕ) (ht : t < 32) :
    Scores msk (sStrip arg10 f10 h t) (bStrip arg4 f4 t) (fun i j => vis b ((16 * t + i.val) % 256) j.val) (fun i j => A.X b (16 * t + i.val) j.val) := by
  refine ⟨fun i j => ?_, fun i => exists_vis b _ (Nat.mod_lt _ (by decide))⟩
  have hi := i.isLt
  have e1 : 16 * (t % 32) + i.val = 16 * t + i.val := by omega
  have e2 : t / 16 % 2 = (16 * t + i.val) / 256 := by omega
  have e3 : 16 * (t % 16) + i.val = (16 * t + i.val) % 256 := by omega
  rw [hm, sStrip_at, bStrip_at, (hs _ _).1, h4]
  simp only [e1, e2, e3]
  unfold Pair.X
  by_cases h1 : 512 ≤ 256 * b + j.val
  · by_cases h2 : band ((16 * t + i.val) % 256) j.val
    · rw [if_pos h1, if_pos h2, if_pos (show vis b _ _ from ⟨h1, h2⟩), EReal.coe_add]; simp [Scalar.select]
    · rw [if_neg h2, if_neg (show ¬ vis b _ _ from fun h' => h2 h'.2), EReal.add_bot]
      simp [Scalar.select]
  · rw [if_neg h1, if_neg (show ¬ vis b _ _ from fun h' => h1 h'.1)]; simp [Scalar.select]

theorem pStrip_val (t : ℕ) (ht : t < 32) (i : Fin 16) (j : Fin 768) : pStrip msk arg4 f4 arg10 f10 h t (ix2 i j) = (A.P b (16 * t + i.val) j.val : EReal) :=
  pay16_val (strip_scores h4 hs hm t ht) i j

theorem dStrip_val (t : ℕ) (ht : t < 32) (i : Fin 16) (j : Fin 768) : dStrip arg11 f11 h t (ix3 0 i j) = (A.T b (16 * t + i.val) j.val : EReal) := by
  have e1 : 16 * (t % 32) + i.val = 16 * t + i.val := by omega
  rw [dStrip_at, (hs _ _).2]
  simp only [e1]

theorem gStrip_val (t : ℕ) (ht : t < 32) (i : Fin 16) (j : Fin 768) : gStrip msk arg4 f4 arg10 f10 arg11 f11 h t (ix2 i j) = (A.G b (16 * t + i.val) j.val : EReal) :=
  pay17_val (strip_scores h4 hs hm t ht) (fun i j => dStrip_val h4 hs hm t ht i j) i j

theorem tStrip_val (t : ℕ) (ht : t < 32) (o : Vec Ideal S1x16x768 .f32) (i : Fin 16) (j : Fin 768) :
    k0_pay15 (F := Ideal) msk (sStrip arg10 f10 h t) (bStrip arg4 f4 t) (dStrip arg11 f11 h t) o (ix3 0 i j) = o (ix3 0 i j) + (A.G b (16 * t + i.val) j.val : EReal) :=
  pay15_val (strip_scores h4 hs hm t ht) (fun i j => dStrip_val h4 hs hm t ht i j) o i j

end

/-! ### The table of the bias gradient -/

/-- The pieces of the first `t` strips, on top of `L`. -/
def stripList (P : ℕ → S1x16x768.Idx → Elt Ideal .f32) (L : List (View.Piece (Elt Ideal) S2x256x768 .f32)) : ℕ → List (View.Piece (Elt Ideal) S2x256x768 .f32)
  | 0 => L
  | t + 1 => ⟨Rect.unit (s := S2x256x768) (offT t) S1x16x768.size (offT_inb t), P t⟩ :: stripList P L t

theorem read_stripList (arg7 : Memref sig .tc .vmem S2x256x768 .f32) (f : Buf (Elt Ideal) (arg7.view.loc (c : Thread nD τ)))
    (P : ℕ → S1x16x768.Idx → Elt Ideal .f32) (L : List (View.Piece (Elt Ideal) S2x256x768 .f32)) (n : ℕ) (hn : n ≤ 32) (h : Fin 2) (r : Fin 256) (j : Fin 768) :
    arg7.view.read (Elt Ideal) (arg7.view.writes (Elt Ideal) f (stripList P L n)) (ix3 h r j)
      = if 16 * h.val + r.val / 16 < n then P (16 * h.val + r.val / 16) (ix3 0 ⟨r.val % 16, by omega⟩ j)
        else arg7.view.read (Elt Ideal) (arg7.view.writes (Elt Ideal) f L) (ix3 h r j) := by
  have hh := h.isLt
  have hr := r.isLt
  induction n with
  | zero => rw [if_neg (Nat.not_lt_zero _)]; rfl
  | succ n ih =>
    by_cases e : 16 * h.val + r.val / 16 = n
    · rw [if_pos (by omega)]
      subst e
      refine View.read_writes_cons_unit_of_mem arg7.view f _ _ _ _ (ix3 0 ⟨r.val % 16, by omega⟩ j) rfl fun a => ?_
      match a with
      | 0 => show h.val = (16 * h.val + r.val / 16) / 16 % 2 + 0; omega
      | 1 => show r.val = 16 * ((16 * h.val + r.val / 16) % 16) + r.val % 16; omega
      | 2 => exact (Nat.zero_add _).symm
    · have hmiss : arg7.view.read (Elt Ideal) (arg7.view.writes (Elt Ideal) f (stripList P L (n + 1))) (ix3 h r j)
          = arg7.view.read (Elt Ideal) (arg7.view.writes (Elt Ideal) f (stripList P L n)) (ix3 h r j) := by
        by_cases e1 : h.val = n / 16
        · refine View.read_writes_cons_unit_of_not_mem arg7.view f _ _ _ _ rfl 1 ?_
          show r.val < 16 * (n % 16) ∨ 16 * (n % 16) + 16 ≤ r.val
          omega
        · refine View.read_writes_cons_unit_of_not_mem arg7.view f _ _ _ _ rfl 0 ?_
          show h.val < n / 16 % 2 ∨ n / 16 % 2 + 1 ≤ h.val
          omega
      rw [hmiss, ih (by omega)]
      by_cases e2 : 16 * h.val + r.val / 16 < n
      · rw [if_pos e2, if_pos (by omega)]
      · rw [if_neg e2, if_neg (by omega)]

section

variable (msk : IVec S1x768 1) (arg4 : Memref sig .tc .vmem S2x256x768 .f32) (f4 : Buf (Elt Ideal) (arg4.view.loc (c : Thread nD τ)))
    (arg7 : Memref sig .tc .vmem S2x256x768 .f32) (f7 : Buf (Elt Ideal) (arg7.view.loc (c : Thread nD τ)))
    (arg10 : Memref sig .tc .vmem S2x512x768 .f32) (f10 : Buf (Elt Ideal) (arg10.view.loc (c : Thread nD τ)))
    (arg11 : Memref sig .tc .vmem S2x512x768 .f32) (f11 : Buf (Elt Ideal) (arg11.view.loc (c : Thread nD τ))) (h : Fin 2) (L : List (View.Piece (Elt Ideal) S2x256x768 .f32))

/-- The payload of strip `t` of the first block. -/
def firstPay (t : ℕ) : S1x16x768.Idx → Elt Ideal .f32 :=
  k0_pay15 msk (sStrip arg10 f10 h t) (bStrip arg4 f4 t) (dStrip arg11 f11 h t)
    (View.readAt (Elt Ideal) arg7.view (Rect.unit (s := S2x256x768) (offT t) S1x16x768.size (offT_inb t)).toLoadRect f7)

/-- The payload of strip `t` of the second block, read through the strips before it. -/
def nextPay (t : ℕ) : S1x16x768.Idx → Elt Ideal .f32 :=
  k0_pay15 msk (sStrip arg10 f10 h t) (bStrip arg4 f4 t) (dStrip arg11 f11 h t)
    (View.readCov arg7.view (tableWrites msk arg4 f4 arg7 arg10 f10 arg11 f11 h L t) (Rect.unit (s := S2x256x768) (offT t) S1x16x768.size (offT_inb t)).toLoadRect)

theorem tableFirst_eq : tableFirst msk arg4 f4 arg7 f7 arg10 f10 arg11 f11 h = stripList (firstPay msk arg4 f4 arg7 f7 arg10 f10 arg11 f11 h) [] 32 := by
  have : ∀ n (hn : n ≤ 32), View.tilePieces (s := S2x256x768) (NT := 32) S1x16x768.size (fun t => offT t.val) (fun t => offT_inb t.val)
      (fun t => firstPay msk arg4 f4 arg7 f7 arg10 f10 arg11 f11 h t.val) n hn = stripList (firstPay msk arg4 f4 arg7 f7 arg10 f10 arg11 f11 h) [] n := by
    intro n
    induction n with
    | zero => intro _; rfl
    | succ n ih => intro hn; rw [View.tilePieces_succ, ih]; rfl
  exact this 32 le_rfl

theorem tableWrites_eq (n : ℕ) : tableWrites msk arg4 f4 arg7 arg10 f10 arg11 f11 h L n = stripList (nextPay msk arg4 f4 arg7 arg10 f10 arg11 f11 h L) L n := by
  induction n with
  | zero => rfl
  | succ n ih =>
    exact congrArg (List.cons _) ih

variable {A msk arg4 f4 arg7 f7 arg10 f10 arg11 f11 h} {b : ℕ}

theorem tableFirst_val (h4 : BiasIs A arg4 f4) (hs : SlotIs A arg10 arg11 f10 f11 h b) (hm : MaskIs msk b)
    {O : ℕ → ℕ → ℕ → ℝ} (h7 : ∀ (hh : Fin 2) (r : Fin 256) (j : Fin 768), arg7.view.read (Elt Ideal) f7 (ix3 hh r j) = (O hh.val r.val j.val : EReal))
    (f : Buf (Elt Ideal) (arg7.view.loc (c : Thread nD τ))) (hh : Fin 2) (r : Fin 256) (j : Fin 768) :
    arg7.view.read (Elt Ideal) (arg7.view.writes (Elt Ideal) f (tableFirst msk arg4 f4 arg7 f7 arg10 f10 arg11 f11 h)) (ix3 hh r j)
      = ((O hh.val r.val j.val + A.G b (256 * hh.val + r.val) j.val : ℝ) : EReal) := by
  have h1 := hh.isLt
  have h2 := r.isLt
  rw [tableFirst_eq, read_stripList arg7 f _ _ 32 le_rfl, if_pos (by omega)]
  unfold firstPay
  rw [tStrip_val h4 hs hm _ (by omega), read_unit (s := S2x256x768) arg7.view f7 _ _ (offT_inb _) _ (ix3 hh r j), h7, EReal.coe_add]
  · congr 3
    show 16 * (16 * hh.val + r.val / 16) + r.val % 16 = 256 * hh.val + r.val
    omega
  · intro a
    match a with
    | 0 => show hh.val = (16 * hh.val + r.val / 16) / 16 % 2 + 0; omega
    | 1 => show r.val = 16 * ((16 * hh.val + r.val / 16) % 16) + r.val % 16; omega
    | 2 => exact (Nat.zero_add _).symm

theorem tableWrites_val (h4 : BiasIs A arg4 f4) (hs : SlotIs A arg10 arg11 f10 f11 h b) (hm : MaskIs msk b)
    {O : ℕ → ℕ → ℕ → ℝ} (hL : ∀ (f : Buf (Elt Ideal) (arg7.view.loc (c : Thread nD τ))) (hh : Fin 2) (r : Fin 256) (j : Fin 768),
      arg7.view.read (Elt Ideal) (arg7.view.writes (Elt Ideal) f L) (ix3 hh r j) = (O hh.val r.val j.val : EReal))
    (f : Buf (Elt Ideal) (arg7.view.loc (c : Thread nD τ))) (hh : Fin 2) (r : Fin 256) (j : Fin 768) :
    arg7.view.read (Elt Ideal) (arg7.view.writes (Elt Ideal) f (tableWrites msk arg4 f4 arg7 arg10 f10 arg11 f11 h L 32)) (ix3 hh r j)
      = ((O hh.val r.val j.val + A.G b (256 * hh.val + r.val) j.val : ℝ) : EReal) := by
  have h1 := hh.isLt
  have h2 := r.isLt
  rw [tableWrites_eq, read_stripList arg7 f _ _ 32 le_rfl, if_pos (by omega)]
  unfold nextPay View.readCov
  rw [tStrip_val h4 hs hm _ (by omega), read_unit (c := c) (s := S2x256x768) arg7.view _ _ _ (offT_inb _) _ (ix3 hh r j), tableWrites_eq,
    read_stripList (c := c) arg7 _ _ _ _ (by omega), if_neg (by omega), hL, EReal.coe_add]
  · congr 3
    show 16 * (16 * hh.val + r.val / 16) + r.val % 16 = 256 * hh.val + r.val
    omega
  · intro a
    match a with
    | 0 => show hh.val = (16 * hh.val + r.val / 16) / 16 % 2 + 0; omega
    | 1 => show r.val = 16 * ((16 * hh.val + r.val / 16) % 16) + r.val % 16; omega
    | 2 => exact (Nat.zero_add _).symm

end

end Cert.AttnIdeal.Val
end
-- ==== Proof.AttnInv.lean ====
/-
  The loop's invariant: what the six buffers hold, over the reals, before each trip.
-/
module

public import proofs.«01_k».proof.Proof.AttnRun
public import proofs.«01_k».proof.Proof.AttnLoop

@[expose] public section

set_option maxRecDepth 16384

noncomputable section

namespace Cert.AttnIdeal.Val

open Cert.AttnIdeal Cert.AttnIdeal.Gen Cert.AttnIdeal.Run Cert.AttnMath
open Idealize.ShloMosaic Idealize.ShloMosaic.TcCoe Idealize.SL.Sem

variable {c : Dev nD} {A : Pair}

/-! ### Rows of a buffer -/

theorem rows256 {arg : Memref sig .tc .vmem S4608x128 .bf16} {f : Buf (Elt Ideal) (arg.view.loc (c : Thread nD τ))} {X : ℕ → ℕ → ℝ}
    (h : ∀ r d, arg.view.read (Elt Ideal) f (ix2 r d) = (X r.val d.val : EReal)) {off : Fin 2 → ℕ} (inb) {o : ℕ} (ho : off = ![o, 0]) (hb : o + 256 ≤ 4608)
    (r : Fin 256) (d : Fin 128) :
    View.readAt (Elt Ideal) arg.view (Rect.unit (s := S4608x128) off S256x128.size inb).toLoadRect f (ix2 r d) = (X (o + r.val) d.val : EReal) := by
  subst ho
  exact (read_unit (s := S4608x128) arg.view f _ _ inb (ix2 r d) (ix2 ⟨o + r.val, by omega⟩ d)
    (Fin.forall_fin_two.mpr ⟨rfl, (Nat.zero_add _).symm⟩)).trans (h _ _)

theorem rows256' {arg : Memref sig .tc .vmem S4096x128 .bf16} {f : Buf (Elt Ideal) (arg.view.loc (c : Thread nD τ))} {X : ℕ → ℕ → ℝ}
    (h : ∀ r d, arg.view.read (Elt Ideal) f (ix2 r d) = (X r.val d.val : EReal)) {off : Fin 2 → ℕ} (inb) {o : ℕ} (ho : off = ![o, 0]) (hb : o + 256 ≤ 4096)
    (r : Fin 256) (d : Fin 128) :
    View.readAt (Elt Ideal) arg.view (Rect.unit (s := S4096x128) off S256x128.size inb).toLoadRect f (ix2 r d) = (X (o + r.val) d.val : EReal) := by
  subst ho
  exact (read_unit (s := S4096x128) arg.view f _ _ inb (ix2 r d) (ix2 ⟨o + r.val, by omega⟩ d)
    (Fin.forall_fin_two.mpr ⟨rfl, (Nat.zero_add _).symm⟩)).trans (h _ _)

theorem rows768 {φ : EltTy} {arg : Memref sig .tc .vmem S4608x128 φ} {f : Buf (Elt Ideal) (arg.view.loc (c : Thread nD τ))} {X : ℕ → ℕ → Elt Ideal φ}
    (h : ∀ r d, arg.view.read (Elt Ideal) f (ix2 r d) = X r.val d.val) {off : Fin 2 → ℕ} (inb) {o : ℕ} (ho : off = ![o, 0]) (hb : o + 768 ≤ 4608)
    (r : Fin 768) (d : Fin 128) :
    View.readAt (Elt Ideal) arg.view (Rect.unit (s := S4608x128) off S768x128.size inb).toLoadRect f (ix2 r d) = X (o + r.val) d.val := by
  subst ho
  exact (read_unit (s := S4608x128) arg.view f _ _ inb (ix2 r d) (ix2 ⟨o + r.val, by omega⟩ d)
    (Fin.forall_fin_two.mpr ⟨rfl, (Nat.zero_add _).symm⟩)).trans (h _ _)

/-- What a block's piece adds to a window of 768 rows. -/
theorem block_step {arg : Memref sig .tc .vmem S4608x128 .f32} (f : Buf (Elt Ideal) (arg.view.loc (c : Thread nD τ)))
    (L : List (View.Piece (Elt Ideal) S4608x128 .f32)) {O : ℕ → ℕ → ℝ}
    (hL : ∀ r d, arg.view.read (Elt Ideal) (arg.view.writes (Elt Ideal) f L) (ix2 r d) = (O r.val d.val : EReal))
    {off : Fin 2 → ℕ} (inb) {b : ℕ} (ho : off = ![256 * b, 0]) (hb : b < 16)
    {x : Vec Ideal S256x128 .bf16} {X : ℕ → ℕ → ℝ} (hx : ∀ r d, x (ix2 r d) = (X r.val d.val : EReal))
    {D : ℕ → FVec Ideal S16x768 .bf16} {G : ℕ → ℕ → ℝ} (hD : ∀ t < 32, ∀ i j, D t (ix2 i j) = (G (16 * t + i.val) j.val : EReal))
    (κ : Fin 4608) (d : Fin 128) :
    arg.view.read (Elt Ideal) (arg.view.writes (Elt Ideal) f
        (⟨Rect.unit (s := S4608x128) off S768x128.size inb, addBlock (k0_pay367 x) D
          (View.readAt (Elt Ideal) arg.view (Rect.unit (s := S4608x128) off S768x128.size inb).toLoadRect (arg.view.writes (Elt Ideal) f L))⟩ :: L)) (ix2 κ d)
      = ((O κ.val d.val + if 256 * b ≤ κ.val ∧ κ.val < 256 * b + 768 then ∑ r : Fin 256, G (256 * (d.val / 64) + r.val) (κ.val - 256 * b) * X r.val d.val else 0 : ℝ) : EReal) := by
  by_cases h : 256 * b ≤ κ.val ∧ κ.val < 256 * b + 768
  · rw [if_pos h]
    refine (View.read_writes_cons_unit_of_mem arg.view f inb _ L (ix2 κ d) (ix2 ⟨κ.val - 256 * b, by omega⟩ d) ho
      (Fin.forall_fin_two.mpr ⟨by show κ.val = 256 * b + (κ.val - 256 * b); omega, (Nat.zero_add _).symm⟩)).trans ?_
    rw [add_val hx hD (O := fun j d => O (256 * b + j) d) (rows768 (c := c) (φ := .f32) (X := fun r d => (O r d : EReal)) hL inb ho (by omega))]
    have e : 256 * b + (κ.val - 256 * b) = κ.val := by omega
    simp only [e]
  · rw [if_neg h, add_zero]
    refine (View.read_writes_cons_unit_of_not_mem arg.view f inb _ L (ix2 κ d) ho 0 ?_).trans (hL κ d)
    show κ.val < 256 * b ∨ 256 * b + 768 ≤ κ.val
    omega

section

variable {arg1 : Memref sig .tc .vmem S4608x128 .bf16} {arg2 : Memref sig .tc .vmem S4608x128 .bf16} {arg3 : Memref sig .tc .vmem S4608x128 .bf16}
  {arg5 : Memref sig .tc .vmem S4096x128 .bf16} (arg10 : Memref sig .tc .vmem S2x512x768 .f32) (arg11 : Memref sig .tc .vmem S2x512x768 .f32)
  {f1 : Buf (Elt Ideal) (arg1.view.loc (c : Thread nD τ))} {f2 : Buf (Elt Ideal) (arg2.view.loc (c : Thread nD τ))} {f3 : Buf (Elt Ideal) (arg3.view.loc (c : Thread nD τ))}
  {f5 : Buf (Elt Ideal) (arg5.view.loc (c : Thread nD τ))}
  (h1 : ∀ r d, arg1.view.read (Elt Ideal) f1 (ix2 r d) = (A.q r.val d.val : EReal))
  (h2 : ∀ r d, arg2.view.read (Elt Ideal) f2 (ix2 r d) = (A.k r.val d.val : EReal))
  (h3 : ∀ r d, arg3.view.read (Elt Ideal) f3 (ix2 r d) = (A.v r.val d.val : EReal))
  (h5 : ∀ r d, arg5.view.read (Elt Ideal) f5 (ix2 r d) = (A.w r.val d.val : EReal))
include h1 h2

/-- A block of scores. -/
theorem S_block {off off' : Fin 2 → ℕ} (inb inb') {b : ℕ} (hb : b < 16) (ho : off = ![512 + 256 * b, 0]) (ho' : off' = ![256 * b, 0]) (R : Fin 512) (j : Fin 768) :
    k0_pay1 (F := Ideal) (k0_pay367 (View.readAt (Elt Ideal) arg1.view (Rect.unit (s := S4608x128) off S256x128.size inb).toLoadRect f1))
      (View.readAt (Elt Ideal) arg2.view (Rect.unit (s := S4608x128) off' S768x128.size inb').toLoadRect f2) (ix3 0 R j) = (A.S b R.val j.val : EReal) :=
  scores_val (X := fun r d => A.q (512 + 256 * b + r) d) (K := fun j d => A.k (256 * b + j) d) (rows256 h1 inb ho (by omega))
    (rows768 (φ := .bf16) (X := fun r d => (A.k r d : EReal)) h2 inb' ho' (by omega)) R j

omit h1 h2
include h3 h5

/-- A block of the products of the cotangent with the values. -/
theorem T_block {off off' : Fin 2 → ℕ} (inb inb') {b : ℕ} (hb : b < 16) (ho : off = ![256 * b, 0]) (ho' : off' = ![256 * b, 0]) (R : Fin 512) (j : Fin 768) :
    k0_pay1 (F := Ideal) (k0_pay367 (View.readAt (Elt Ideal) arg5.view (Rect.unit (s := S4096x128) off S256x128.size inb).toLoadRect f5))
      (View.readAt (Elt Ideal) arg3.view (Rect.unit (s := S4608x128) off' S768x128.size inb').toLoadRect f3) (ix3 0 R j) = (A.T b R.val j.val : EReal) :=
  scores_val (X := fun r d => A.w (256 * b + r) d) (K := fun j d => A.v (256 * b + j) d) (rows256' h5 inb ho (by omega))
    (rows768 (φ := .bf16) (X := fun r d => (A.v r d : EReal)) h3 inb' ho' (by omega)) R j

include h1 h2

/-- The two slots after a trip's writes, whatever the buffers held. -/
theorem slots (k : Fin k0_t1_loop.trips) (f10 : Buf (Elt Ideal) (arg10.view.loc (c : Thread nD τ))) (f11 : Buf (Elt Ideal) (arg11.view.loc (c : Thread nD τ))) :
    SlotIs (c := c) A arg10 arg11 (arg10.view.writes (Elt Ideal) f10 (scores arg1 arg2 k f1 f2)) (arg11.view.writes (Elt Ideal) f11 (products arg3 arg5 k f3 f5)) 0 (min (2 * k.val + 2) 15)
    ∧ SlotIs (c := c) A arg10 arg11 (arg10.view.writes (Elt Ideal) f10 (scores arg1 arg2 k f1 f2)) (arg11.view.writes (Elt Ideal) f11 (products arg3 arg5 k f3 f5)) 1 (2 * k.val + 1) := by
  have hk : k.val < 8 := k.isLt
  obtain ⟨o2, o3, o4, o5, o6, o7, o8, o9, o10, o11, o12⟩ := off_all k
  refine ⟨fun R j => ⟨?_, ?_⟩, fun R j => ⟨?_, ?_⟩⟩
  · refine (View.read_writes_cons_unit_of_mem arg10.view f10 _ _ _ _ (ix3 0 R j) rfl fun a => ?_).trans (S_block h1 h2 _ _ (by omega) o9 o11 R j)
    match a with
    | 0 => rfl
    | 1 => exact (Nat.zero_add _).symm
    | 2 => exact (Nat.zero_add _).symm
  · refine (View.read_writes_cons_unit_of_mem arg11.view f11 _ _ _ _ (ix3 0 R j) rfl fun a => ?_).trans (T_block h3 h5 _ _ (by omega) o10 o11 R j)
    match a with
    | 0 => rfl
    | 1 => exact (Nat.zero_add _).symm
    | 2 => exact (Nat.zero_add _).symm
  · refine (View.read_writes_cons_unit_of_not_mem arg10.view f10 _ _ _ _ rfl 0 (Or.inr le_rfl)).trans
      ((View.read_writes_cons_unit_of_mem arg10.view f10 _ _ _ _ (ix3 0 R j) rfl fun a => ?_).trans (S_block h1 h2 _ _ (by omega) o2 o4 R j))
    match a with
    | 0 => rfl
    | 1 => exact (Nat.zero_add _).symm
    | 2 => exact (Nat.zero_add _).symm
  · refine (View.read_writes_cons_unit_of_not_mem arg11.view f11 _ _ _ _ rfl 0 (Or.inr le_rfl)).trans
      ((View.read_writes_cons_unit_of_mem arg11.view f11 _ _ _ _ (ix3 0 R j) rfl fun a => ?_).trans (T_block h3 h5 _ _ (by omega) o3 o4 R j))
    match a with
    | 0 => rfl
    | 1 => exact (Nat.zero_add _).symm
    | 2 => exact (Nat.zero_add _).symm

end

/-! ### The invariant -/

attribute [local irreducible] trip

section

variable {i : grid0.Coords}
  {arg1 : Memref sig .tc .vmem S4608x128 .bf16} {harg1 : arg1.IsWhole}
  {arg2 : Memref sig .tc .vmem S4608x128 .bf16} {harg2 : arg2.IsWhole}
  {arg3 : Memref sig .tc .vmem S4608x128 .bf16} {harg3 : arg3.IsWhole}
  {arg4 : Memref sig .tc .vmem S2x256x768 .f32} {harg4 : arg4.IsWhole}
  {arg5 : Memref sig .tc .vmem S4096x128 .bf16} {harg5 : arg5.IsWhole}
  {arg6 : Memref sig .tc .vmem S3x4096x128 .bf16} {harg6 : arg6.IsWhole}
  {arg7 : Memref sig .tc .vmem S2x256x768 .f32} {harg7 : arg7.IsWhole}
  {arg8 : Memref sig .tc .vmem S4608x128 .f32} {harg8 : arg8.IsWhole}
  {arg9 : Memref sig .tc .vmem S4608x128 .f32} {harg9 : arg9.IsWhole}
  {arg10 : Memref sig .tc .vmem S2x512x768 .f32} {harg10 : arg10.IsWhole}
  {arg11 : Memref sig .tc .vmem S2x512x768 .f32} {harg11 : arg11.IsWhole}
  {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))}

variable (A) in
/-- After the first `n` blocks: their rows of the queries' gradient, and the sums over them of the other three. -/
structure Sums (n : ℕ) (s : St (F := Ideal) c arg6 arg7 arg8 arg9 arg10 arg11) : Prop where
  dq : ∀ (N : Fin 4096) (d : Fin 128), N.val / 256 < n → arg6.view.read (Elt Ideal) s.g6 (ix3 0 N d) = (A.dq (N.val / 256) (N.val % 256) d.val : EReal)
  table : ∀ (h : Fin 2) (r : Fin 256) (j : Fin 768), arg7.view.read (Elt Ideal) s.g7 (ix3 h r j) = ((∑ b ∈ Finset.range n, A.G b (256 * h.val + r.val) j.val : ℝ) : EReal)
  dk : ∀ (κ : Fin 4608) (d : Fin 128), arg8.view.read (Elt Ideal) s.g8 (ix2 κ d) = ((∑ b ∈ Finset.range n, A.dk1 b κ.val d.val : ℝ) : EReal)
  dv : ∀ (κ : Fin 4608) (d : Fin 128), arg9.view.read (Elt Ideal) s.g9 (ix2 κ d) = ((∑ b ∈ Finset.range n, A.dv1 b κ.val d.val : ℝ) : EReal)

variable
  (h1 : ∀ r d, arg1.view.read (Elt Ideal) f1 (ix2 r d) = (A.q r.val d.val : EReal))
  (h2 : ∀ r d, arg2.view.read (Elt Ideal) f2 (ix2 r d) = (A.k r.val d.val : EReal))
  (h3 : ∀ r d, arg3.view.read (Elt Ideal) f3 (ix2 r d) = (A.v r.val d.val : EReal))
  (h4 : BiasIs A arg4 f4)
  (h5 : ∀ r d, arg5.view.read (Elt Ideal) f5 (ix2 r d) = (A.w r.val d.val : EReal))
include h1 h2 h3 h4 h5

theorem step_sums (k : Fin k0_t1_loop.trips) (s : St (F := Ideal) c arg6 arg7 arg8 arg9 arg10 arg11)
    (hs : Sums A (2 * k.val) s) (hb : SlotIs A arg10 arg11 s.g10 s.g11 0 (2 * k.val)) :
    Sums A (2 * k.val + 2) (step c i arg1 harg1 arg2 harg2 arg3 harg3 arg4 harg4 arg5 harg5 arg6 harg6 arg7 harg7 arg8 harg8 arg9 harg9 arg10 harg10 arg11 harg11 k0_pay365 k0_pay366 f1 f2 f3 f4 f5 k s) := by
  have hk : k.val < 8 := k.isLt
  obtain ⟨o2, o3, o4, o5, o6, o7, o8, o9, o10, o11, o12⟩ := off_all k
  have hn : SlotIs (c := c) A arg10 arg11 (next10 c arg1 arg2 arg10 k f1 f2) (next11 c arg3 arg5 arg11 k f3 f5) 1 (2 * k.val + 1) := (slots arg10 arg11 h1 h2 h3 h5 k _ _).2
  have m0 : MaskIs (mask (word0 k)) (2 * k.val) := mask0_at k
  have m1 : MaskIs (mask (word1 k)) (2 * k.val + 1) := mask1_at k
  refine ⟨fun N d hN => ?_, fun h r j => ?_, fun κ d => ?_, fun κ d => ?_⟩
  · show arg6.view.read (Elt Ideal) (arg6.view.writes (Elt Ideal) s.g6 (trip c i arg1 harg1 arg2 harg2 arg3 harg3 arg4 harg4 arg5 harg5 arg6 harg6 arg7 harg7 arg8 harg8 arg9 harg9 arg10 harg10 arg11 harg11 k0_pay365 k0_pay366 k f1 f2 f3 f4 f5 s.g6 s.g7 s.g8 s.g9 s.g10 s.g11).1) _ = _
    rw [trip6]
    have hNl := N.isLt
    by_cases e1 : N.val / 256 = 2 * k.val + 1
    · refine (View.read_writes_cons_unit_of_mem arg6.view s.g6 _ _ _ _ (ix3 0 ⟨N.val % 256, by omega⟩ d) o12 fun a => ?_).trans ?_
      · match a with
        | 0 => rfl
        | 1 => show N.val = 256 * (2 * k.val + 1) + N.val % 256; omega
        | 2 => exact (Nat.zero_add _).symm
      · rw [dq_val (fun t ht i j => gStrip_val h4 hn m1 t ht i j) (K := fun j d => A.k (256 * (2 * k.val + 1) + j) d)
          (rows768 (φ := .bf16) (X := fun r d => (A.k r d : EReal)) h2 _ o4 (by omega)), e1]
        rfl
    · refine (View.read_writes_cons_unit_of_not_mem arg6.view s.g6 _ _ _ _ o12 1 ?_).trans ?_
      · show N.val < 256 * (2 * k.val + 1) ∨ 256 * (2 * k.val + 1) + 256 ≤ N.val
        omega
      by_cases e0 : N.val / 256 = 2 * k.val
      · refine (View.read_writes_cons_unit_of_mem arg6.view s.g6 _ _ _ _ (ix3 0 ⟨N.val % 256, by omega⟩ d) o8 fun a => ?_).trans ?_
        · match a with
          | 0 => rfl
          | 1 => show N.val = 256 * (2 * k.val) + N.val % 256; omega
          | 2 => exact (Nat.zero_add _).symm
        · rw [dq_val (fun t ht i j => gStrip_val h4 hb m0 t ht i j) (K := fun j d => A.k (256 * (2 * k.val) + j) d)
            (rows768 (φ := .bf16) (X := fun r d => (A.k r d : EReal)) h2 _ o7 (by omega)), e0]
          rfl
      · refine (View.read_writes_cons_unit_of_not_mem arg6.view s.g6 _ _ _ _ o8 1 ?_).trans (hs.dq N d (by omega))
        show N.val < 256 * (2 * k.val) ∨ 256 * (2 * k.val) + 256 ≤ N.val
        omega
  · show arg7.view.read (Elt Ideal) (arg7.view.writes (Elt Ideal) s.g7 (trip c i arg1 harg1 arg2 harg2 arg3 harg3 arg4 harg4 arg5 harg5 arg6 harg6 arg7 harg7 arg8 harg8 arg9 harg9 arg10 harg10 arg11 harg11 k0_pay365 k0_pay366 k f1 f2 f3 f4 f5 s.g6 s.g7 s.g8 s.g9 s.g10 s.g11).2.1) _ = _
    rw [trip7, tableWrites_val _ h4 hn m1 (O := fun h r j => (∑ b ∈ Finset.range (2 * k.val), A.G b (256 * h + r) j) + A.G (2 * k.val) (256 * h + r) j)
      (fun f h r j => tableFirst_val h4 hb m0 (O := fun h r j => ∑ b ∈ Finset.range (2 * k.val), A.G b (256 * h + r) j) hs.table f h r j),
      Finset.sum_range_succ, Finset.sum_range_succ]
  · show arg8.view.read (Elt Ideal) (arg8.view.writes (Elt Ideal) s.g8 (trip c i arg1 harg1 arg2 harg2 arg3 harg3 arg4 harg4 arg5 harg5 arg6 harg6 arg7 harg7 arg8 harg8 arg9 harg9 arg10 harg10 arg11 harg11 k0_pay365 k0_pay366 k f1 f2 f3 f4 f5 s.g6 s.g7 s.g8 s.g9 s.g10 s.g11).2.2.1) _ = _
    rw [trip8, Finset.sum_range_succ, Finset.sum_range_succ]
    exact block_step s.g8 _ (O := fun κ d => (∑ b ∈ Finset.range (2 * k.val), A.dk1 b κ d) + A.dk1 (2 * k.val) κ d)
      (fun κ d => block_step s.g8 [] (O := fun κ d => ∑ b ∈ Finset.range (2 * k.val), A.dk1 b κ d) hs.dk _ o7 (by omega)
        (X := fun r d => A.q (512 + 256 * (2 * k.val) + r) d) (rows256 h1 _ o5 (by omega)) (fun t ht i j => gStrip_val h4 hb m0 t ht i j) κ d)
      _ o4 (by omega) (X := fun r d => A.q (512 + 256 * (2 * k.val + 1) + r) d) (rows256 h1 _ o2 (by omega)) (fun t ht i j => gStrip_val h4 hn m1 t ht i j) κ d
  · show arg9.view.read (Elt Ideal) (arg9.view.writes (Elt Ideal) s.g9 (trip c i arg1 harg1 arg2 harg2 arg3 harg3 arg4 harg4 arg5 harg5 arg6 harg6 arg7 harg7 arg8 harg8 arg9 harg9 arg10 harg10 arg11 harg11 k0_pay365 k0_pay366 k f1 f2 f3 f4 f5 s.g6 s.g7 s.g8 s.g9 s.g10 s.g11).2.2.2.1) _ = _
    rw [trip9, Finset.sum_range_succ, Finset.sum_range_succ]
    exact block_step s.g9 _ (O := fun κ d => (∑ b ∈ Finset.range (2 * k.val), A.dv1 b κ d) + A.dv1 (2 * k.val) κ d)
      (fun κ d => block_step s.g9 [] (O := fun κ d => ∑ b ∈ Finset.range (2 * k.val), A.dv1 b κ d) hs.dv _ o7 (by omega)
        (X := fun r d => A.w (256 * (2 * k.val) + r) d) (rows256' h5 _ o6 (by omega)) (fun t ht i j => pStrip_val h4 hb m0 t ht i j) κ d)
      _ o4 (by omega) (X := fun r d => A.w (256 * (2 * k.val + 1) + r) d) (rows256' h5 _ o3 (by omega)) (fun t ht i j => pStrip_val h4 hn m1 t ht i j) κ d

end

end Cert.AttnIdeal.Val
end
-- ==== Proof.AttnOut.lean ====
/-
  What one grid point of the attention's backward kernel leaves in its two output blocks, over the reals.
-/
module

public import proofs.«01_k».proof.Proof.AttnInv

@[expose] public section

set_option maxRecDepth 16384

noncomputable section

namespace Cert.AttnIdeal.Val

open Cert.AttnIdeal Cert.AttnIdeal.Gen Cert.AttnIdeal.Run Cert.AttnMath
open Idealize.ShloMosaic Idealize.ShloMosaic.TcCoe Idealize.SL.Sem

variable {c : Dev nD} {A : Pair} {i : grid0.Coords}
  {arg1 : Memref sig .tc .vmem S4608x128 .bf16} {harg1 : arg1.IsWhole}
  {arg2 : Memref sig .tc .vmem S4608x128 .bf16} {harg2 : arg2.IsWhole}
  {arg3 : Memref sig .tc .vmem S4608x128 .bf16} {harg3 : arg3.IsWhole}
  {arg4 : Memref sig .tc .vmem S2x256x768 .f32} {harg4 : arg4.IsWhole}
  {arg5 : Memref sig .tc .vmem S4096x128 .bf16} {harg5 : arg5.IsWhole}
  {arg6 : Memref sig .tc .vmem S3x4096x128 .bf16} {harg6 : arg6.IsWhole}
  {arg7 : Memref sig .tc .vmem S2x256x768 .f32} {harg7 : arg7.IsWhole}
  {arg8 : Memref sig .tc .vmem S4608x128 .f32} {harg8 : arg8.IsWhole}
  {arg9 : Memref sig .tc .vmem S4608x128 .f32} {harg9 : arg9.IsWhole}
  {arg10 : Memref sig .tc .vmem S2x512x768 .f32} {harg10 : arg10.IsWhole}
  {arg11 : Memref sig .tc .vmem S2x512x768 .f32} {harg11 : arg11.IsWhole}
  {f1 : Buf (Elt Ideal) (arg1.view.loc (c : Thread nD τ))} {f2 : Buf (Elt Ideal) (arg2.view.loc (c : Thread nD τ))} {f3 : Buf (Elt Ideal) (arg3.view.loc (c : Thread nD τ))} {f4 : Buf (Elt Ideal) (arg4.view.loc (c : Thread nD τ))} {f5 : Buf (Elt Ideal) (arg5.view.loc (c : Thread nD τ))}
  (h1 : ∀ r d, arg1.view.read (Elt Ideal) f1 (ix2 r d) = (A.q r.val d.val : EReal))
  (h2 : ∀ r d, arg2.view.read (Elt Ideal) f2 (ix2 r d) = (A.k r.val d.val : EReal))
  (h3 : ∀ r d, arg3.view.read (Elt Ideal) f3 (ix2 r d) = (A.v r.val d.val : EReal))
  (h4 : BiasIs A arg4 f4)
  (h5 : ∀ r d, arg5.view.read (Elt Ideal) f5 (ix2 r d) = (A.w r.val d.val : EReal))

attribute [local irreducible] trip

include h1 h2 h3 h5

theorem start_inv (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) :
    Sums A 0 (start c arg1 arg2 arg3 arg5 arg6 arg7 arg8 arg9 arg10 arg11 f1 f2 f3 f5 f6 f7 f8 f9 f10 f11)
    ∧ SlotIs A arg10 arg11 (start c arg1 arg2 arg3 arg5 arg6 arg7 arg8 arg9 arg10 arg11 f1 f2 f3 f5 f6 f7 f8 f9 f10 f11).g10
        (start c arg1 arg2 arg3 arg5 arg6 arg7 arg8 arg9 arg10 arg11 f1 f2 f3 f5 f6 f7 f8 f9 f10 f11).g11 0 0 := by
  unfold start
  dsimp only
  refine ⟨⟨fun N d hN => absurd hN (Nat.not_lt_zero _), fun h r j => ?_, fun κ d => ?_, fun κ d => ?_⟩, fun R j => ⟨?_, ?_⟩⟩
  · refine (View.read_writes_cons_unit_of_mem arg7.view _ _ _ _ _ (ix3 h r j) rfl fun a => ?_).trans ?_
    · match a with
      | 0 => exact (Nat.zero_add _).symm
      | 1 => exact (Nat.zero_add _).symm
      | 2 => exact (Nat.zero_add _).symm
    · unfold k0_pay364
      pointwise
      rfl
  · refine (View.read_writes_cons_unit_of_mem arg8.view _ _ _ _ _ (ix2 κ d) rfl fun a => ?_).trans ?_
    · match a with
      | 0 => exact (Nat.zero_add _).symm
      | 1 => exact (Nat.zero_add _).symm
    · unfold k0_pay362
      pointwise
      rfl
  · refine (View.read_writes_cons_unit_of_mem arg9.view _ _ _ _ _ (ix2 κ d) rfl fun a => ?_).trans ?_
    · match a with
      | 0 => exact (Nat.zero_add _).symm
      | 1 => exact (Nat.zero_add _).symm
    · unfold k0_pay363
      pointwise
      rfl
  · refine (View.read_writes_cons_unit_of_mem arg10.view f10 _ _ _ _ (ix3 0 R j) rfl fun a => ?_).trans (S_block (b := 0) h1 h2 _ _ (by omega) (by decide) rfl R j)
    match a with
    | 0 => rfl
    | 1 => exact (Nat.zero_add _).symm
    | 2 => exact (Nat.zero_add _).symm
  · refine (View.read_writes_cons_unit_of_mem arg11.view f11 _ _ _ _ (ix3 0 R j) rfl fun a => ?_).trans ?_
    · match a with
      | 0 => rfl
      | 1 => exact (Nat.zero_add _).symm
      | 2 => exact (Nat.zero_add _).symm
    · rw [start_products]
      exact T_block (b := 0) h3 h5 _ _ (by omega) rfl rfl R j

/-- After a trip slot 0 holds the products of the next trip's first block. -/
theorem step_slot (k : Fin k0_t1_loop.trips) (s : St (F := Ideal) c arg6 arg7 arg8 arg9 arg10 arg11) :
    SlotIs A arg10 arg11 (step c i arg1 harg1 arg2 harg2 arg3 harg3 arg4 harg4 arg5 harg5 arg6 harg6 arg7 harg7 arg8 harg8 arg9 harg9 arg10 harg10 arg11 harg11 k0_pay365 k0_pay366 f1 f2 f3 f4 f5 k s).g10 (step c i arg1 harg1 arg2 harg2 arg3 harg3 arg4 harg4 arg5 harg5 arg6 harg6 arg7 harg7 arg8 harg8 arg9 harg9 arg10 harg10 arg11 harg11 k0_pay365 k0_pay366 f1 f2 f3 f4 f5 k s).g11 0 (min (2 * k.val + 2) 15) := by
  intro R j
  refine ⟨?_, ?_⟩
  · show arg10.view.read (Elt Ideal) (arg10.view.writes (Elt Ideal) s.g10 (trip c i arg1 harg1 arg2 harg2 arg3 harg3 arg4 harg4 arg5 harg5 arg6 harg6 arg7 harg7 arg8 harg8 arg9 harg9 arg10 harg10 arg11 harg11 k0_pay365 k0_pay366 k f1 f2 f3 f4 f5 s.g6 s.g7 s.g8 s.g9 s.g10 s.g11).2.2.2.2.1) _ = _
    rw [trip10]
    exact ((slots arg10 arg11 h1 h2 h3 h5 k s.g10 s.g11).1 R j).1
  · show arg11.view.read (Elt Ideal) (arg11.view.writes (Elt Ideal) s.g11 (trip c i arg1 harg1 arg2 harg2 arg3 harg3 arg4 harg4 arg5 harg5 arg6 harg6 arg7 harg7 arg8 harg8 arg9 harg9 arg10 harg10 arg11 harg11 k0_pay365 k0_pay366 k f1 f2 f3 f4 f5 s.g6 s.g7 s.g8 s.g9 s.g10 s.g11).2.2.2.2.2.1) _ = _
    rw [trip11]
    exact ((slots arg10 arg11 h1 h2 h3 h5 k s.g10 s.g11).1 R j).2

include h4

theorem upto_inv (s : St (F := Ideal) c arg6 arg7 arg8 arg9 arg10 arg11) (hs : Sums A 0 s) (hb : SlotIs A arg10 arg11 s.g10 s.g11 0 0) (n : ℕ) (hn : n ≤ 8) :
    Sums A (2 * n) (upto c i arg1 harg1 arg2 harg2 arg3 harg3 arg4 harg4 arg5 harg5 arg6 harg6 arg7 harg7 arg8 harg8 arg9 harg9 arg10 harg10 arg11 harg11 k0_pay365 k0_pay366 f1 f2 f3 f4 f5 s n) ∧ (n < 8 → SlotIs A arg10 arg11 (upto c i arg1 harg1 arg2 harg2 arg3 harg3 arg4 harg4 arg5 harg5 arg6 harg6 arg7 harg7 arg8 harg8 arg9 harg9 arg10 harg10 arg11 harg11 k0_pay365 k0_pay366 f1 f2 f3 f4 f5 s n).g10 (upto c i arg1 harg1 arg2 harg2 arg3 harg3 arg4 harg4 arg5 harg5 arg6 harg6 arg7 harg7 arg8 harg8 arg9 harg9 arg10 harg10 arg11 harg11 k0_pay365 k0_pay366 f1 f2 f3 f4 f5 s n).g11 0 (2 * n)) := by
  induction n with
  | zero => exact ⟨hs, fun _ => hb⟩
  | succ n ih =>
    obtain ⟨ihs, ihb⟩ := ih (by omega)
    have e : (upto c i arg1 harg1 arg2 harg2 arg3 harg3 arg4 harg4 arg5 harg5 arg6 harg6 arg7 harg7 arg8 harg8 arg9 harg9 arg10 harg10 arg11 harg11 k0_pay365 k0_pay366 f1 f2 f3 f4 f5 s (n + 1)) = step c i arg1 harg1 arg2 harg2 arg3 harg3 arg4 harg4 arg5 harg5 arg6 harg6 arg7 harg7 arg8 harg8 arg9 harg9 arg10 harg10 arg11 harg11 k0_pay365 k0_pay366 f1 f2 f3 f4 f5 ⟨n, hn⟩ (upto c i arg1 harg1 arg2 harg2 arg3 harg3 arg4 harg4 arg5 harg5 arg6 harg6 arg7 harg7 arg8 harg8 arg9 harg9 arg10 harg10 arg11 harg11 k0_pay365 k0_pay366 f1 f2 f3 f4 f5 s n) :=
      upto_succ c i arg1 harg1 arg2 harg2 arg3 harg3 arg4 harg4 arg5 harg5 arg6 harg6 arg7 harg7 arg8 harg8 arg9 harg9 arg10 harg10 arg11 harg11 k0_pay365 k0_pay366 f1 f2 f3 f4 f5 s ⟨n, hn⟩
    rw [e]
    generalize (upto c i arg1 harg1 arg2 harg2 arg3 harg3 arg4 harg4 arg5 harg5 arg6 harg6 arg7 harg7 arg8 harg8 arg9 harg9 arg10 harg10 arg11 harg11 k0_pay365 k0_pay366 f1 f2 f3 f4 f5 s n) = u at ihs ihb
    refine ⟨step_sums h1 h2 h3 h4 h5 ⟨n, hn⟩ u ihs (ihb (by omega)), fun h8 => ?_⟩
    have hsl := step_slot (i := i) (harg1 := harg1) (harg2 := harg2) (harg3 := harg3) (harg4 := harg4) (harg5 := harg5) (harg6 := harg6) (harg7 := harg7) (harg8 := harg8) (harg9 := harg9) (harg10 := harg10) (harg11 := harg11) (f4 := f4) h1 h2 h3 h5 ⟨n, hn⟩ u
    have em : min (2 * (⟨n, hn⟩ : Fin k0_t1_loop.trips).val + 2) 15 = 2 * (n + 1) := by show min (2 * n + 2) 15 = _; omega
    rw [em] at hsl
    exact hsl

/-- The block of the three gradients. -/
theorem final6 (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ)))
    (p : Fin 3) (N : Fin 4096) (d : Fin 128) :
    arg6.view.read (Elt Ideal) (final c i arg1 harg1 arg2 harg2 arg3 harg3 arg4 harg4 arg5 harg5 arg6 harg6 arg7 harg7 arg8 harg8 arg9 harg9 arg10 harg10 arg11 harg11 f1 f2 f3 f4 f5 f6 f7 f8 f9 f10 f11).g6 (ix3 p N d)
      = ((if p.val = 0 then A.dq (N.val / 256) (N.val % 256) d.val
          else if p.val = 1 then ∑ b ∈ Finset.range 16, A.dk1 b (512 + N.val) d.val
          else ∑ b ∈ Finset.range 16, A.dv1 b (512 + N.val) d.val : ℝ) : EReal) := by
  obtain ⟨hs, -⟩ := upto_inv (i := i) (harg1 := harg1) (harg2 := harg2) (harg3 := harg3) (harg4 := harg4) (harg5 := harg5) (harg6 := harg6) (harg7 := harg7) (harg8 := harg8) (harg9 := harg9) (harg10 := harg10) (harg11 := harg11) h1 h2 h3 h4 h5 _ (start_inv (arg6 := arg6) (arg7 := arg7) (arg8 := arg8) (arg9 := arg9) (arg10 := arg10) (arg11 := arg11) h1 h2 h3 h5 f6 f7 f8 f9 f10 f11).1
    (start_inv (arg6 := arg6) (arg7 := arg7) (arg8 := arg8) (arg9 := arg9) (arg10 := arg10) (arg11 := arg11) h1 h2 h3 h5 f6 f7 f8 f9 f10 f11).2 8 le_rfl
  have hN := N.isLt
  have key : ∀ {arg : Memref sig .tc .vmem S4608x128 .f32} {f : Buf (Elt Ideal) (arg.view.loc (c : Thread nD τ))} {O : ℕ → ℕ → ℝ}
      (h : ∀ r d, arg.view.read (Elt Ideal) f (ix2 r d) = (O r.val d.val : EReal)),
      View.readAt (Elt Ideal) arg.view (Rect.unit (s := S4608x128) ![512, 0] S4096x128.size inb_S4608x128_S4096x128_512_0).toLoadRect f (ix2 N d) = (O (512 + N.val) d.val : EReal) := by
    intro arg f O h
    exact (read_unit (s := S4608x128) arg.view f _ _ inb_S4608x128_S4096x128_512_0 (ix2 N d) (ix2 ⟨512 + N.val, by omega⟩ d)
      (Fin.forall_fin_two.mpr ⟨rfl, (Nat.zero_add _).symm⟩)).trans (h _ _)
  unfold final looped
  dsimp only
  match p with
  | 0 =>
    refine (View.read_writes_cons_unit_of_not_mem arg6.view _ _ _ _ _ rfl 0 (Or.inl Nat.zero_lt_two)).trans
      ((View.read_writes_cons_unit_of_not_mem arg6.view _ _ _ _ _ rfl 0 (Or.inl Nat.zero_lt_one)).trans ((hs.dq N d (by omega)).trans ?_))
    rfl
  | 1 =>
    refine (View.read_writes_cons_unit_of_not_mem arg6.view _ _ _ _ _ rfl 0 (Or.inl Nat.one_lt_two)).trans
      ((View.read_writes_cons_unit_of_mem arg6.view _ _ _ _ _ (ix3 0 N d) rfl fun a => ?_).trans ?_)
    · match a with
      | 0 => rfl
      | 1 => exact (Nat.zero_add _).symm
      | 2 => exact (Nat.zero_add _).symm
    · unfold k0_pay4
      pointwise
      exact key (O := fun κ d => ∑ b ∈ Finset.range 16, A.dk1 b κ d) hs.dk
  | 2 =>
    refine (View.read_writes_cons_unit_of_mem arg6.view _ _ _ _ _ (ix3 0 N d) rfl fun a => ?_).trans ?_
    · match a with
      | 0 => rfl
      | 1 => exact (Nat.zero_add _).symm
      | 2 => exact (Nat.zero_add _).symm
    · unfold k0_pay5
      pointwise
      exact key (O := fun κ d => ∑ b ∈ Finset.range 16, A.dv1 b κ d) hs.dv

/-- The block of the table of the bias gradient. -/
theorem final7 (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ)))
    (h : Fin 2) (r : Fin 256) (j : Fin 768) :
    arg7.view.read (Elt Ideal) (final c i arg1 harg1 arg2 harg2 arg3 harg3 arg4 harg4 arg5 harg5 arg6 harg6 arg7 harg7 arg8 harg8 arg9 harg9 arg10 harg10 arg11 harg11 f1 f2 f3 f4 f5 f6 f7 f8 f9 f10 f11).g7 (ix3 h r j)
      = ((∑ b ∈ Finset.range 16, A.G b (256 * h.val + r.val) j.val : ℝ) : EReal) :=
  (upto_inv (i := i) (harg1 := harg1) (harg2 := harg2) (harg3 := harg3) (harg4 := harg4) (harg5 := harg5) (harg6 := harg6) (harg7 := harg7) (harg8 := harg8) (harg9 := harg9) (harg10 := harg10) (harg11 := harg11) h1 h2 h3 h4 h5 _ (start_inv (arg6 := arg6) (arg7 := arg7) (arg8 := arg8) (arg9 := arg9) (arg10 := arg10) (arg11 := arg11) h1 h2 h3 h5 f6 f7 f8 f9 f10 f11).1
    (start_inv (arg6 := arg6) (arg7 := arg7) (arg8 := arg8) (arg9 := arg9) (arg10 := arg10) (arg11 := arg11) h1 h2 h3 h5 f6 f7 f8 f9 f10 f11).2 8 le_rfl).1.table h r j

end Cert.AttnIdeal.Val
end
-- ==== Proof.AttnHost.lean ====
module

public import proofs.«01_k».proof.Proof.AttnFrame
public import proofs.«01_k».proof.Proof.AttnOut
public import proofs.«01_k».proof.Proof.Gen.AttnRefIdeal.Read
public import Idealize.ShloMosaic.Lib.Pointwise
public import Idealize.ShloMosaic.Lib.Pipeline.ValueKit
public import Idealize.ShloMosaic.Lib.StableHlo.RunLoop
public import Idealize.ShloMosaic.Lib.Claim

@[expose] public section

set_option maxRecDepth 16384

noncomputable section

namespace Cert.AttnIdeal.Gen

open Idealize.ShloMosaic Idealize.ShloMosaic.TcCoe Idealize.SL.Sem
open Cert.AttnIdeal

variable (m : (ℓ : Loc nD τ sig) → Buf (Elt Ideal) ℓ) (c : Dev nD)

/-- The cotangent's array as the call finds it. -/
theorem v45_at (n : Fin 4096) (l : Fin 512) :
    V m c main_v45 (ix2 n l) = m ((c : Thread nD τ).loc main_arg4) (ix3 0 n l) := by
  unfold V; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise

/-- The packed array is written by the first three stretches of the host's operations. -/
theorem v7_cut : V m c main_v7 = StableHlo.after hostOps0_2 (StableHlo.after hostOps0_1 (StableHlo.after hostOps0 fun b => m (c, b))) (Proc.devRef .tc main_v7) := by
  unfold V
  rw [← StableHlo.afterL_eq_after_flatten, StableHlo.afterL_cons, StableHlo.afterL_cons, StableHlo.afterL_cons, StableHlo.afterL_eq_after_flatten]
  exact StableHlo.after_of_forall_not_mem (b := Proc.devRef .tc main_v7) _ _ (List.forall_iff_forall_mem.mp (by
    simp only [hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

variable (σ : Valuation τ sig (Elt Ideal))

theorem seg2_v7 : StableHlo.after hostOps0_2 σ (Proc.devRef .tc main_v7) = (truncf .bf16 (σ (Proc.devRef .tc main_v6) : FVec Ideal S4608x5632 .f32) bitsLt_bf16_f32 : FVec Ideal S4608x5632 .bf16) := by
  unfold hostOps0_2
  after_results_simp

theorem seg1_v6 : StableHlo.after hostOps0_1 σ (Proc.devRef .tc main_v6) = pad S4608x5632 ![512, 0] ![0, 4096] ![0, 0] (σ (Proc.devRef .tc main_v5)) (sitofp (F := Ideal) .f32 (σ (Proc.devRef .tc main_c))) pads_S4096x1536_S4608x5632_51200_040960 h_S_ := by
  unfold hostOps0_1
  after_results_simp
  simp only [StableHlo.TRef.ofBuf, StableHlo.TRef.toBuf, cast_eq]

theorem seg0_c : StableHlo.after hostOps0 σ (Proc.devRef .tc main_c) = constantI S_ 32 0#32 := by
  unfold hostOps0
  after_results_simp

/-- Three arrays of 512 columns side by side. -/
def joined (x y z : FVec Ideal S4096x512 .f32) : FVec Ideal S4096x1536 .f32 :=
  concatenate S4096x1536 1 [⟨S4096x512, x⟩, ⟨S4096x512, y⟩, ⟨S4096x512, z⟩] concatenates_S4096x512_S4096x512_S4096x512_S4096x1536_d1

theorem seg0_v5 : StableHlo.after hostOps0 σ (Proc.devRef .tc main_v5) =
    joined (mulf (shapeCast S4096x512 (σ (Proc.devRef .tc main_arg0)) shapeCasts_S1x4096x512_S4096x512) (broadcastInDim S4096x512 ![] bcast_S_S4096x512 (constant (F := Ideal) S_ .f32 0x3E000000#32)))
      (shapeCast S4096x512 (σ (Proc.devRef .tc main_arg1)) shapeCasts_S1x4096x512_S4096x512)
      (shapeCast S4096x512 (σ (Proc.devRef .tc main_arg2)) shapeCasts_S1x4096x512_S4096x512) := by
  unfold hostOps0
  after_results
  change joined _ _ _ = joined _ _ _
  refine congr (congr (congrArg joined ?_) ?_) ?_
  · after_results_simp; rfl
  · after_results_simp; rfl
  · after_results_simp; rfl

/-- One entry of three arrays side by side. -/
theorem joined_at (x y z : FVec Ideal S4096x512 .f32) (n : Fin 4096) (l : Fin 1536) :
    joined x y z (ix2 n l) = if h : l.val < 512 then x (ix2 n ⟨l.val, h⟩) else if h : l.val - 512 < 512 then y (ix2 n ⟨l.val - 512, h⟩)
      else z (ix2 n ⟨l.val - 512 - 512, by omega⟩) := by
  unfold joined
  pointwise

/-- The packed array of q (scaled), k and v, 512 rows of zeros before them. -/
theorem v7_at (n : Fin 4608) (l : Fin 5632) (hl : l.val < 1536) :
    V m c main_v7 (ix2 n l) = if h : n.val < 512 then (0 : EReal) else joined (mulf (shapeCast S4096x512 (m ((c : Thread nD τ).loc main_arg0)) shapeCasts_S1x4096x512_S4096x512) (broadcastInDim S4096x512 ![] bcast_S_S4096x512 (constant (F := Ideal) S_ .f32 0x3E000000#32)))
      (shapeCast S4096x512 (m ((c : Thread nD τ).loc main_arg1)) shapeCasts_S1x4096x512_S4096x512)
      (shapeCast S4096x512 (m ((c : Thread nD τ).loc main_arg2)) shapeCasts_S1x4096x512_S4096x512) (ix2 ⟨n.val - 512, by omega⟩ ⟨l.val, hl⟩) := by
  rw [v7_cut, seg2_v7, seg1_v6, seg0_v5, seg0_c]
  pointwise
  by_cases h : n.val < 512
  · rw [dif_pos h, dif_neg]
    · show (((0#32).toInt : ℝ) : EReal) = 0
      simp
    · intro ha
      have := (ha 0).1
      change 512 ≤ n.val at this
      omega
  · rw [dif_neg h, dif_pos]
    intro a
    have h2 := n.isLt
    match a with
    | ⟨0, _⟩ =>
      refine ⟨?_, ?_, ?_⟩
      · show 512 ≤ n.val; omega
      · show (n.val - 512) % (0 + 1) = 0; omega
      · show (n.val - 512) / (0 + 1) < 4096; omega
    | ⟨1, _⟩ =>
      refine ⟨?_, ?_, ?_⟩
      · show 0 ≤ l.val; omega
      · show (l.val - 0) % (0 + 1) = 0; omega
      · show (l.val - 0) / (0 + 1) < 1536; omega

/-- One entry of an array seen without its first axis. -/
theorem cast_at (x : FVec Ideal S1x4096x512 .f32) (n : Fin 4096) (l : Fin 512) :
    shapeCast S4096x512 x shapeCasts_S1x4096x512_S4096x512 (ix2 n l) = x (ix3 0 n l) := by
  pointwise

/-- One entry of an array times one eighth. -/
theorem scaled_at (x : FVec Ideal S4096x512 .f32) (n : Fin 4096) (l : Fin 512) :
    mulf x (broadcastInDim S4096x512 ![] bcast_S_S4096x512 (constant (F := Ideal) S_ .f32 0x3E000000#32)) (ix2 n l)
      = x (ix2 n l) * ((1 / 8 : ℝ) : EReal) := by
  pointwise
  rw [Cert.AttnIdeal.Val.eighth]

/-- The first 512 lanes: q scaled. -/
theorem v7_q (n : Fin 4608) (l : Fin 512) :
    V m c main_v7 (ix2 n ⟨l.val, by omega⟩) = if h : n.val < 512 then (0 : EReal) else
      mulf (F := Ideal) (φ := .f32) (m ((c : Thread nD τ).loc main_arg0)) (fun _ => ((1 / 8 : ℝ) : EReal)) (ix3 0 ⟨n.val - 512, by omega⟩ l) := by
  have h2 := l.isLt
  rw [v7_at m c n ⟨l.val, by omega⟩ (by show l.val < 1536; omega)]
  by_cases h : n.val < 512
  · rw [dif_pos h, dif_pos h]
  · rw [dif_neg h, dif_neg h, joined_at, dif_pos (show l.val < 512 from h2)]
    rw [scaled_at, cast_at]
    rfl

/-- The next 512 lanes: k. -/
theorem v7_k (n : Fin 4608) (l : Fin 512) :
    V m c main_v7 (ix2 n ⟨512 + l.val, by omega⟩) = if h : n.val < 512 then (0 : EReal) else
      (m ((c : Thread nD τ).loc main_arg1) (ix3 0 ⟨n.val - 512, by omega⟩ l) : EReal) := by
  have h2 := l.isLt
  rw [v7_at m c n ⟨512 + l.val, by omega⟩ (by show 512 + l.val < 1536; omega)]
  by_cases h : n.val < 512
  · rw [dif_pos h, dif_pos h]
  · rw [dif_neg h, dif_neg h, joined_at, dif_neg (show ¬ 512 + l.val < 512 by omega), dif_pos (show 512 + l.val - 512 < 512 by omega)]
    have e : (⟨512 + l.val - 512, by omega⟩ : Fin 512) = l := Fin.ext (by simp)
    exact (cast_at _ _ _).trans (by rw [e])

/-- The next 512 lanes: v. -/
theorem v7_v (n : Fin 4608) (l : Fin 512) :
    V m c main_v7 (ix2 n ⟨1024 + l.val, by omega⟩) = if h : n.val < 512 then (0 : EReal) else
      (m ((c : Thread nD τ).loc main_arg2) (ix3 0 ⟨n.val - 512, by omega⟩ l) : EReal) := by
  have h2 := l.isLt
  rw [v7_at m c n ⟨1024 + l.val, by omega⟩ (by show 1024 + l.val < 1536; omega)]
  by_cases h : n.val < 512
  · rw [dif_pos h, dif_pos h]
  · rw [dif_neg h, dif_neg h, joined_at, dif_neg (show ¬ 1024 + l.val < 512 by omega), dif_neg (show ¬ 1024 + l.val - 512 < 512 by omega)]
    have e : (⟨1024 + l.val - 512 - 512, by omega⟩ : Fin 512) = l := Fin.ext (by simp; omega)
    exact (cast_at _ _ _).trans (by rw [e])

/-- The chunk of 64 a position lies in, as jax's floor division prints it. -/
theorem chunk_word (j : Fin 768) : (Scalar.select
            (IntOp.andi
              (IntOp.cmpi CmpIPredicate.ne
                (if BitVec.ofNat 32 ↑j = 0 then (0 : BitVec 32) else if (BitVec.ofNat 32 ↑j).msb = true then -1 else 1)
                (if 64#32 = 0 then (0 : BitVec 32) else if (64#32).msb = true then -1 else 1))
              (IntOp.cmpi CmpIPredicate.ne (IntOp.remsi ArithUnit.host (BitVec.ofNat 32 ↑j) 64#32) 0#32))
            (IntOp.subi (IntOp.divsi ArithUnit.host (BitVec.ofNat 32 ↑j) 64#32) 1#32)
            (IntOp.divsi ArithUnit.host (BitVec.ofNat 32 ↑j) 64#32)) = BitVec.ofNat 32 (j.val / 64) := by
  revert j
  decide +kernel

/-- The word of the band test on chunks. -/
theorem band_word (a : Fin 12) (b : Fin 4) : IntOp.andi (IntOp.cmpi CmpIPredicate.sge (BitVec.ofNat 32 a.val) (BitVec.ofNat 32 b.val))
    (IntOp.cmpi CmpIPredicate.sle (BitVec.ofNat 32 a.val) (IntOp.addi (BitVec.ofNat 32 b.val) 8#32)) = if b.val ≤ a.val ∧ a.val ≤ b.val + 8 then 1#1 else 0#1 := by
  revert a b
  decide +kernel

/-- What the band's test selects. -/
theorem band_select (W1 W2 : BitVec 32) (r : Fin 256) (j : Fin 768) (h1 : W1 = BitVec.ofNat 32 (j.val / 64)) (h2 : W2 = BitVec.ofNat 32 (r.val / 64)) (x y : EReal) :
    Scalar.select (IntOp.andi (IntOp.cmpi CmpIPredicate.sge W1 W2) (IntOp.cmpi CmpIPredicate.sle W1 (IntOp.addi W2 8#32))) x y
      = if Cert.AttnMath.band r.val j.val then x else y := by
  have e3 := band_word ⟨j.val / 64, by omega⟩ ⟨r.val / 64, by omega⟩
  simp only at e3
  rw [h1, h2, e3]
  by_cases hb : Cert.AttnMath.band r.val j.val
  · rw [if_pos hb, if_pos (show r.val / 64 ≤ j.val / 64 ∧ j.val / 64 ≤ r.val / 64 + 8 from hb)]
    simp [Scalar.select]
  · rw [if_neg hb, if_neg (show ¬ (r.val / 64 ≤ j.val / 64 ∧ j.val / 64 ≤ r.val / 64 + 8) from hb)]
    simp [Scalar.select]

/-- The table the kernel reads: the bias of the pair's distance within the band, `⊥` outside. -/
theorem v43_at (h : Fin 8) (r : Fin 256) (j : Fin 768) :
    V m c main_v43 (ix3 h r j) = if Cert.AttnMath.band r.val j.val then
      Cert.AttnRefIdeal.Read.val_main_v18 (F := Ideal) (m ((c : Thread nD τ).loc main_arg3)) (ix3 h r j) else (⊥ : EReal) := by
  unfold V; simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf]
  simp only [StableHlo.TRef.ofBuf, StableHlo.TRef.toBuf, cast_eq]
  pointwise
  refine (band_select _ _ r j (chunk_word j) (chunk_word ⟨r.val, by omega⟩) _ _).trans ?_
  by_cases hb : Cert.AttnMath.band r.val j.val
  · rw [if_pos hb, if_pos hb]
    rfl
  · rw [if_neg hb, if_neg hb]
    exact Cert.AttnMath.neg_inf

end Cert.AttnIdeal.Gen
-- ==== Proof.AttnInputs.lean ====
/-
  The five argument arrays as real functions, and the pair of heads that one grid point works on.
-/
module

public import proofs.«01_k».proof.Proof.AttnSpec

@[expose] public section

noncomputable section

namespace Cert.AttnMath

/-- The arguments as real numbers: q, k, v and the cotangent by row and lane, the bias by head, query row of a block and key of a block. -/
structure Inputs where
  q : ℕ → ℕ → ℝ
  k : ℕ → ℕ → ℝ
  v : ℕ → ℕ → ℝ
  w : ℕ → ℕ → ℝ
  b : ℕ → ℕ → ℕ → ℝ

/-- Heads `2t` and `2t + 1`: their lanes, behind 512 rows of padding; the query carries the scale. -/
def Inputs.pair (I : Inputs) (t : ℕ) : Pair where
  q κ d := if κ < 512 then 0 else I.q (κ - 512) (128 * t + d) * (1 / 8)
  k κ d := if κ < 512 then 0 else I.k (κ - 512) (128 * t + d)
  v κ d := if κ < 512 then 0 else I.v (κ - 512) (128 * t + d)
  w n d := I.w n (128 * t + d)
  bias h r j := I.b (2 * t + h) r j

/-- The three gradients: of q (`p = 0`), k (`p = 1`) and v, at row `n` and lane `l` of all eight heads. -/
def Inputs.dqkv (I : Inputs) (p n l : ℕ) : ℝ :=
  if p = 0 then (I.pair (l / 128)).dq (n / 256) (n % 256) (l % 128)
  else if p = 1 then ∑ b ∈ Finset.range 16, (I.pair (l / 128)).dk1 b (512 + n) (l % 128)
  else ∑ b ∈ Finset.range 16, (I.pair (l / 128)).dv1 b (512 + n) (l % 128)

/-- The gradient of the bias of head `h` at query row `r` and key `j` of a block: the sum over the blocks. -/
def Inputs.dbias (I : Inputs) (h r j : ℕ) : ℝ :=
  ∑ b ∈ Finset.range 16, (I.pair (h / 2)).G b (256 * (h % 2) + r) j

end Cert.AttnMath

end
-- ==== Proof.AttnArrays.lean ====
/-
  The attention backward's two result arrays: what each grid point leaves, and the arrays from their blocks.
-/
module

public import proofs.«01_k».proof.Proof.AttnHost
public import proofs.«01_k».proof.Proof.AttnInputs
public import proofs.«01_k».proof.Proof.AttnFrame
public import proofs.«01_k».proof.Proof.AttnOut
public import Idealize.ShloMosaic.Lib.Pipeline.ValueKit
public import Idealize.ShloMosaic.Lib.Pipeline.ArrRel

@[expose] public section

set_option maxRecDepth 16384

noncomputable section

namespace Cert.AttnIdeal.Arrays

open Idealize.ShloMosaic Idealize.ShloMosaic.TcCoe Idealize.SL.Sem
open Idealize.ShloMosaic.Pipeline (Dat RDat Cfg Window)
open Cert.AttnIdeal Cert.AttnIdeal.Gen Cert.AttnIdeal.Run Cert.AttnIdeal.Val Cert.AttnMath

variable (m : (ℓ : Loc nD τ sig) → Buf (Elt Ideal) ℓ) (c : Dev nD) (I : Inputs)

/-- The five argument arrays hold the real numbers `I`. -/
structure Holds : Prop where
  q : ∀ (n : Fin 4096) (l : Fin 512), m ((c : Thread nD τ).loc main_arg0) (ix3 0 n l) = (I.q n.val l.val : EReal)
  k : ∀ (n : Fin 4096) (l : Fin 512), m ((c : Thread nD τ).loc main_arg1) (ix3 0 n l) = (I.k n.val l.val : EReal)
  v : ∀ (n : Fin 4096) (l : Fin 512), m ((c : Thread nD τ).loc main_arg2) (ix3 0 n l) = (I.v n.val l.val : EReal)
  w : ∀ (n : Fin 4096) (l : Fin 512), m ((c : Thread nD τ).loc main_arg4) (ix3 0 n l) = (I.w n.val l.val : EReal)
  b : ∀ (h : Fin 8) (r : Fin 256) (j : Fin 768), Cert.AttnRefIdeal.Read.val_main_v18 (F := Ideal) (m ((c : Thread nD τ).loc main_arg3)) (ix3 h r j) = (I.b h.val r.val j.val : EReal)

theorem at0 : ∀ t : Fin cfg0.N, win0_0.index t = ![0, t.val] := by decide +kernel
theorem at1 : ∀ t : Fin cfg0.N, win0_1.index t = ![0, 4 + t.val] := by decide +kernel
theorem at2 : ∀ t : Fin cfg0.N, win0_2.index t = ![0, 8 + t.val] := by decide +kernel
theorem at3 : ∀ t : Fin cfg0.N, win0_3.index t = ![t.val, 0, 0] := by decide +kernel
theorem at4 : ∀ t : Fin cfg0.N, win0_4.index t = ![0, t.val] := by decide +kernel
theorem at5 : ∀ t : Fin cfg0.N, win0_5.index t = ![0, 0, t.val] := by decide +kernel
theorem at6 : ∀ t : Fin cfg0.N, win0_6.index t = ![t.val, 0, 0] := by decide +kernel
theorem small (t : Fin cfg0.N) : t.val < 4 := lt_of_lt_of_eq t.isLt (by decide +kernel)

theorem in0 (t : Fin cfg0.N) (r : Fin 4608) (d : Fin 128) :
    iblk m c 0 t (ix2 r d) = V m c main_v7 (ix2 r ⟨128 * t.val + d.val, by have := small t; omega⟩) := by
  have := small t
  blk_simp [iblk]
  refine congrArg (V m c main_v7) ?_
  blk_ext [at0 t]
theorem in1 (t : Fin cfg0.N) (r : Fin 4608) (d : Fin 128) :
    iblk m c 1 t (ix2 r d) = V m c main_v7 (ix2 r ⟨512 + (128 * t.val + d.val), by have := small t; omega⟩) := by
  have := small t
  blk_simp [iblk]
  refine congrArg (V m c main_v7) ?_
  blk_ext [at1 t]
theorem in2 (t : Fin cfg0.N) (r : Fin 4608) (d : Fin 128) :
    iblk m c 2 t (ix2 r d) = V m c main_v7 (ix2 r ⟨1024 + (128 * t.val + d.val), by have := small t; omega⟩) := by
  have := small t
  blk_simp [iblk]
  refine congrArg (V m c main_v7) ?_
  blk_ext [at2 t]
theorem in3 (t : Fin cfg0.N) (h : Fin 2) (r : Fin 256) (j : Fin 768) :
    iblk m c 3 t (ix3 h r j) = V m c main_v43 (ix3 ⟨2 * t.val + h.val, by have := small t; omega⟩ r j) := by
  have := small t
  blk_simp [iblk]
  refine congrArg (V m c main_v43) ?_
  blk_ext [at3 t]
theorem in4 (t : Fin cfg0.N) (n : Fin 4096) (d : Fin 128) :
    iblk m c 4 t (ix2 n d) = V m c main_v45 (ix2 n ⟨128 * t.val + d.val, by have := small t; omega⟩) := by
  have := small t
  blk_simp [iblk]
  refine congrArg (V m c main_v45) ?_
  blk_ext [at4 t]

variable {m c I} (H : Holds m c I)
include H

theorem q_real (t : Fin cfg0.N) (r : Fin 4608) (d : Fin 128) : iblk m c 0 t (ix2 r d) = ((I.pair t.val).q r.val d.val : EReal) := by
  have := small t
  rw [in0]
  refine (v7_q m c r ⟨128 * t.val + d.val, by omega⟩).trans ?_
  show _ = ((if r.val < 512 then 0 else I.q (r.val - 512) (128 * t.val + d.val) * (1 / 8) : ℝ) : EReal)
  split
  · simp
  · exact (congrArg (fun x : EReal => x * ((1 / 8 : ℝ) : EReal)) (H.q _ _)).trans (EReal.coe_mul _ _).symm
theorem k_real (t : Fin cfg0.N) (r : Fin 4608) (d : Fin 128) : iblk m c 1 t (ix2 r d) = ((I.pair t.val).k r.val d.val : EReal) := by
  have := small t
  rw [in1]
  refine (v7_k m c r ⟨128 * t.val + d.val, by omega⟩).trans ?_
  show _ = ((if r.val < 512 then 0 else I.k (r.val - 512) (128 * t.val + d.val) : ℝ) : EReal)
  split
  · simp
  · exact H.k _ _
theorem v_real (t : Fin cfg0.N) (r : Fin 4608) (d : Fin 128) : iblk m c 2 t (ix2 r d) = ((I.pair t.val).v r.val d.val : EReal) := by
  have := small t
  rw [in2]
  refine (v7_v m c r ⟨128 * t.val + d.val, by omega⟩).trans ?_
  show _ = ((if r.val < 512 then 0 else I.v (r.val - 512) (128 * t.val + d.val) : ℝ) : EReal)
  split
  · simp
  · exact H.v _ _
theorem w_real (t : Fin cfg0.N) (n : Fin 4096) (d : Fin 128) : iblk m c 4 t (ix2 n d) = ((I.pair t.val).w n.val d.val : EReal) := by
  have := small t
  rw [in4, v45_at]
  exact H.w _ _
theorem b_real (t : Fin cfg0.N) (h : Fin 2) (r : Fin 256) (j : Fin 768) :
    iblk m c 3 t (ix3 h r j) = if band r.val j.val then ((I.pair t.val).bias h.val r.val j.val : EReal) else ⊥ := by
  have := small t
  rw [in3, v43_at]
  split
  · exact H.b _ _ _
  · rfl

/-- What a point leaves in the block of the three gradients. -/
theorem leaves5 (t : Fin cfg0.N) (X : S3x4096x128.Idx → Elt Ideal .bf16) (h : left5 m c t X) (p : Fin 3) (n : Fin 4096) (d : Fin 128) :
    X (ix3 p n d) = (I.dqkv p.val n.val (128 * t.val + d.val) : EReal) := by
  obtain ⟨f1, f2, f3, f4, f5, f6, f7, f8, f9, f10, f11, ⟨e1, e2, e3, e4, e5⟩, rfl⟩ := h
  have e : I.dqkv p.val n.val (128 * t.val + d.val) = (if p.val = 0 then (I.pair t.val).dq (n.val / 256) (n.val % 256) d.val
          else if p.val = 1 then ∑ b ∈ Finset.range 16, (I.pair t.val).dk1 b (512 + n.val) d.val
          else ∑ b ∈ Finset.range 16, (I.pair t.val).dv1 b (512 + n.val) d.val) := by
    have hd := d.isLt
    unfold Inputs.dqkv
    rw [show (128 * t.val + d.val) / 128 = t.val by omega, show (128 * t.val + d.val) % 128 = d.val by omega]
  rw [e]
  unfold finalAt
  refine final6 (A := I.pair t.val) ?_ ?_ ?_ ?_ ?_ f6 f7 f8 f9 f10 f11 p n d
  · intro r d; rw [e1]; exact q_real H t r d
  · intro r d; rw [e2]; exact k_real H t r d
  · intro r d; rw [e3]; exact v_real H t r d
  · intro h r j; rw [e4]; exact b_real H t h r j
  · intro r d; rw [e5]; exact w_real H t r d

/-- What a point leaves in the block of the gradient of the bias. -/
theorem leaves6 (t : Fin cfg0.N) (X : S2x256x768.Idx → Elt Ideal .f32) (h : left6 m c t X) (g : Fin 2) (r : Fin 256) (j : Fin 768) :
    X (ix3 g r j) = (I.dbias (2 * t.val + g.val) r.val j.val : EReal) := by
  obtain ⟨f1, f2, f3, f4, f5, f6, f7, f8, f9, f10, f11, ⟨e1, e2, e3, e4, e5⟩, rfl⟩ := h
  have e : I.dbias (2 * t.val + g.val) r.val j.val = ∑ b ∈ Finset.range 16, (I.pair t.val).G b (256 * g.val + r.val) j.val := by
    have hd := g.isLt
    unfold Inputs.dbias
    rw [show (2 * t.val + g.val) / 2 = t.val by omega, show (2 * t.val + g.val) % 2 = g.val by omega]
  rw [e]
  unfold finalAt
  refine final7 (A := I.pair t.val) ?_ ?_ ?_ ?_ ?_ f6 f7 f8 f9 f10 f11 g r j
  · intro r d; rw [e1]; exact q_real H t r d
  · intro r d; rw [e2]; exact k_real H t r d
  · intro r d; rw [e3]; exact v_real H t r d
  · intro h r j; rw [e4]; exact b_real H t h r j
  · intro r d; rw [e5]; exact w_real H t r d

/-- The kernel's two result arrays after the run. -/
theorem results (r : PUnit × MemSt nD τ sig (Elt Ideal)) (hr : RDat.FramePost (cfgs 0) (fun c => (dats m 0 c).toRRel outs (left m c)) (V m) r) :
    (r.2.mem ((c : Thread nD τ).loc main_v46_0) = fun y : S3x4096x512.Idx => (I.dqkv (y 0).val (y 1).val (y 2).val : EReal))
      ∧ (r.2.mem ((c : Thread nD τ).loc main_v46_1) = fun y : S8x256x768.Idx => (I.dbias (y 0).val (y 1).val (y 2).val : EReal)) := by
  obtain ⟨after, hL, hA⟩ := hr.exists_exact c
  refine ⟨(hA 5).trans ?_, (hA 6).trans ?_⟩
  · refine Dat.arrAt_eq_of_covers _ 5 _ (by decide +kernel) fun t hf y => ?_
    have hl := Dat.toRRel_leaves (dats m 0 c) (show outs 5 = true from rfl) (hL 5 t hf)
    change left5 m c t (after 5 t) at hl
    blk_simp
    obtain ⟨p, n, d, rfl⟩ : ∃ (p : Fin 3) (n : Fin 4096) (d : Fin 128), y = ix3 p n d := ⟨y 0, y 1, y 2, by pointwise⟩
    refine (leaves5 H t _ hl p n d).trans ?_
    blk_simp [at5 t]
    rw [Nat.mul_comm t.val 128]
  · refine Dat.arrAt_eq_of_covers _ 6 _ (by decide +kernel) fun t hf y => ?_
    have hl := Dat.toRRel_leaves (dats m 0 c) (show outs 6 = true from rfl) (hL 6 t hf)
    change left6 m c t (after 6 t) at hl
    blk_simp
    obtain ⟨p, n, d, rfl⟩ : ∃ (p : Fin 2) (n : Fin 256) (d : Fin 768), y = ix3 p n d := ⟨y 0, y 1, y 2, by pointwise⟩
    refine (leaves6 H t _ hl p n d).trans ?_
    blk_simp [at6 t]
    rw [Nat.mul_comm t.val 2]

end Cert.AttnIdeal.Arrays

end
-- ==== Proof.AttnRefBand.lean ====
/-
  The attention backward's reference, its arrays read at coordinates: chunks of 64 rows, the nine neighbouring chunks of
  keys, the bias of a chunk.
-/
module

public import proofs.«01_k».proof.Proof.Gen.AttnRefIdeal.Read
public import proofs.«01_k».proof.Proof.AttnMath
public import Idealize.ShloMosaic.Lib.Pointwise

@[expose] public section

set_option maxRecDepth 16384

noncomputable section

namespace Cert.AttnRefIdeal.Val

open Idealize.ShloMosaic Idealize.ShloMosaic.TcCoe Idealize.SL.Sem
open Cert.AttnRefIdeal Cert.AttnRefIdeal.Gen Cert.AttnRefIdeal.Read

variable (x0 x1 x2 x4 : FVec Ideal S1x4096x512 .f32) (x3 : FVec Ideal S8x257 .f32)

/-- The array by chunk, row of the chunk, head and lane of the head. -/
theorem chunk_at (x : FVec Ideal S1x4096x512 .f32) (c i : Fin 64) (H : Fin 8) (e : Fin 64) :
    shapeCast S1x64x64x8x64 x shapeCasts_S1x4096x512_S1x64x64x8x64 (ix5 0 c i H e)
      = x (ix3 0 ⟨64 * c.val + i.val, by omega⟩ ⟨64 * H.val + e.val, by omega⟩) := by
  pointwise
  exact congrArg x (congr (congrArg (ix3 0) (Fin.ext (by simp only; omega))) (Fin.ext (by simp only; omega)))

/-- The array with eight chunks of zeros before it. -/
def padded (x : FVec Ideal S1x4096x512 .f32) : FVec Ideal S1x72x64x8x64 .f32 := val_main_v22 (F := Ideal) x

theorem padded_at (x : FVec Ideal S1x4096x512 .f32) (C : Fin 72) (i : Fin 64) (H : Fin 8) (e : Fin 64) :
    padded x (ix5 0 C i H e) = if h : C.val < 8 then (0 : EReal) else x (ix3 0 ⟨64 * (C.val - 8) + i.val, by omega⟩ ⟨64 * H.val + e.val, by omega⟩) := by
  unfold padded val_main_v22 val_main_v20 val_main_v21 val_main_cst
  pointwise
  split
  · rfl
  · exact congrArg x (congr (congrArg (ix3 0) (Fin.ext (by simp only; omega))) (Fin.ext (by simp only; omega)))

/-- The nine chunks that end with chunk `c` of the unpadded array, row `64 * o + i` of them. -/
theorem band_at (x : FVec Ideal S1x4096x512 .f32) (c : Fin 64) (o : Fin 9) (i : Fin 64) (H : Fin 8) (e : Fin 64) :
    val_main_v33 (F := Ideal) x (ix5 0 c ⟨64 * o.val + i.val, by omega⟩ H e) = padded x (ix5 0 ⟨c.val + o.val, by omega⟩ i H e) := by
  unfold val_main_v33 val_main_v24 val_main_v25 val_main_v26 val_main_v27 val_main_v28 val_main_v29 val_main_v30 val_main_v31 val_main_v32 padded
  generalize val_main_v22 (F := Ideal) x = y
  have key : ∀ (a b : ℕ) (ha : a < 72) (hb : b < 64), a = c.val + o.val → b = i.val →
      y (ix5 0 ⟨a, ha⟩ ⟨b, hb⟩ H e) = y (ix5 0 ⟨c.val + o.val, by omega⟩ i H e) := fun a b _ _ h1 h2 => by subst h1; subst h2; rfl
  have ho := o.isLt
  have hi := i.isLt
  pointwise
  repeat' split
  all_goals exact key _ _ _ _ (by omega) (by omega)

theorem same47 (x : FVec Ideal S1x4096x512 .f32) : val_main_v47 (F := Ideal) x = val_main_v33 (F := Ideal) x := rfl

/-- The bias of chunk `c`. -/
theorem bias_at (H : Fin 8) (c i : Fin 64) (k : Fin 576) :
    val_main_v62 (F := Ideal) x3 (ix4 H c i k) = val_main_v18 (F := Ideal) x3 (ix3 H ⟨64 * (c.val % 4) + i.val, by omega⟩ ⟨64 * (c.val % 4) + k.val, by omega⟩) := by
  unfold val_main_v62 val_main_v61 val_main_v60 val_main_v59 val_main_v58 val_main_v57 val_main_v56 val_main_v55 val_main_v54 val_main_v53 val_main_v52 val_main_v51
  generalize val_main_v18 (F := Ideal) x3 = y
  pointwise
  have key : ∀ (a b : ℕ) (ha : a + i.val < 256) (hb : a + k.val < 768) (hc : a = b), y (ix3 H ⟨a + i.val, ha⟩ ⟨a + k.val, hb⟩)
      = y (ix3 H ⟨b + i.val, by omega⟩ ⟨b + k.val, by omega⟩) := fun a b _ _ h => by subst h; rfl
  have h0 : c.val % 4 < 4 := Nat.mod_lt _ (by omega)
  split
  · refine Eq.trans ?_ (key 0 (64 * (c.val % 4)) (by omega) (by omega) (by omega))
    simp only [Nat.zero_add]
  · split
    · exact key 64 _ (by omega) (by omega) (by omega)
    · split
      · exact key 128 _ (by omega) (by omega) (by omega)
      · exact key 192 _ (by omega) (by omega) (by omega)

/-- The chunk a key lies in, counted from the first chunk that is not padding, as jax's floor division prints it. -/
theorem key_word : ∀ k : Fin 576, (Scalar.select
          (IntOp.andi
            (IntOp.cmpi CmpIPredicate.ne
              (if IntOp.subi (BitVec.ofNat 32 k.val) 512#32 = 0 then (0 : BitVec 32)
              else if (IntOp.subi (BitVec.ofNat 32 k.val) 512#32).msb = true then -1 else 1)
              (if 64#32 = 0 then (0 : BitVec 32) else if BitVec.msb 64#32 = true then -1 else 1))
            (IntOp.cmpi CmpIPredicate.ne
              (IntOp.remsi ArithUnit.host (IntOp.subi (BitVec.ofNat 32 k.val) 512#32) 64#32)
              0#32))
          (IntOp.subi
            (IntOp.divsi ArithUnit.host (IntOp.subi (BitVec.ofNat 32 k.val) 512#32) 64#32) 1#32)
          (IntOp.divsi ArithUnit.host (IntOp.subi (BitVec.ofNat 32 k.val) 512#32) 64#32)) = IntOp.subi (BitVec.ofNat 32 (k.val / 64)) 8#32 := by
  decide +kernel

theorem valid_word : ∀ (c : Fin 64) (o : Fin 9), IntOp.cmpi CmpIPredicate.sge (IntOp.addi (BitVec.ofNat 32 c.val) (IntOp.subi (BitVec.ofNat 32 o.val) 8#32)) 0#32
    = if 8 ≤ c.val + o.val then 1#1 else 0#1 := by
  decide +kernel

theorem valid_of (c : Fin 64) (k : Fin 576) (w : BitVec 32) (hw : w = IntOp.subi (BitVec.ofNat 32 (k.val / 64)) 8#32) :
    IntOp.cmpi CmpIPredicate.sge (IntOp.addi (BitVec.ofNat 32 c.val) w) 0#32 = if 512 ≤ 64 * c.val + k.val then 1#1 else 0#1 := by
  have h := valid_word c ⟨k.val / 64, by omega⟩
  simp only at h
  rw [hw, h]
  exact if_congr (by omega) rfl rfl

/-- Whether chunk `c` sees key `k` of its nine: not of the padding. -/
theorem valid_at (c : Fin 64) (k : Fin 576) : val_main_v71 (F := Ideal) (ix2 c k) = if 512 ≤ 64 * c.val + k.val then 1#1 else 0#1 := by
  unfold val_main_v71 val_main_v70 val_main_v69 val_main_v68 val_main_v67 val_main_v66 val_main_v64 val_main_v63 val_main_c_10
    val_main_call1_v13 val_main_call1_v12 val_main_call1_c_0 val_main_call1_v11 val_main_call1_v10 val_main_call1_v9 val_main_call1_c val_main_call1_v8 val_main_call1_v7 val_main_call1_v6 val_main_call1_v5 val_main_call1_v4 val_main_call1_v3 val_main_call1_v2 val_main_call1_v1 val_main_call1_v0
    val_main_v65 val_main_c_9 val_main_v50 val_main_v49 val_main_v48 val_main_c_8
  pointwise
  exact valid_of c k _ (key_word k)

end Cert.AttnRefIdeal.Val

end
-- ==== Proof.AttnChunk.lean ====
/-
  The gradients of the attention as the reference groups them: one chunk of 64 queries at a time, against the nine chunks
  of keys that end with it.
-/
module

public import proofs.«01_k».proof.Proof.AttnInputs
public import proofs.«01_k».proof.Proof.AttnMath

@[expose] public section

noncomputable section

namespace Cert.AttnMath

open Idealize.ShloMosaic

/-- Whether key `m` of chunk `c`'s nine chunks is not padding. -/
def shown (c m : ℕ) : Prop := 512 ≤ 64 * c + m
instance (c m : ℕ) : Decidable (shown c m) := by unfold shown; infer_instance

theorem exists_shown (c : ℕ) : ∃ m : Fin 576, shown c m.val := ⟨⟨512, by omega⟩, by show 512 ≤ 64 * c + 512; omega⟩

namespace Inputs
variable (I : Inputs)

/-- The keys behind eight chunks of zeros. -/
def kp (κ l : ℕ) : ℝ := if κ < 512 then 0 else I.k (κ - 512) l
/-- The values behind eight chunks of zeros. -/
def vp (κ l : ℕ) : ℝ := if κ < 512 then 0 else I.v (κ - 512) l
/-- Head `H`, chunk `c`: the product of query `i` with key `m`. -/
def cs (H c i m : ℕ) : ℝ := ∑ e : Fin 64, I.q (64 * c + i) (64 * H + e.val) * I.kp (64 * c + m) (64 * H + e.val)
/-- The product of the cotangent's row `i` with value `m`. -/
def ct (H c i m : ℕ) : ℝ := ∑ e : Fin 64, I.w (64 * c + i) (64 * H + e.val) * I.vp (64 * c + m) (64 * H + e.val)
/-- The score: scaled, with the bias. -/
def cx (H c i m : ℕ) : ℝ := I.cs H c i m * (1 / 8) + I.b H (64 * (c % 4) + i) (64 * (c % 4) + m)
/-- The probability. -/
def cP (H c i m : ℕ) : ℝ :=
  if shown c m then Real.exp (I.cx H c i m) / ∑ m' : Fin 576, (if shown c m'.val then Real.exp (I.cx H c i m'.val) else 0) else 0
/-- The gradient of the score. -/
def cG (H c i m : ℕ) : ℝ := I.cP H c i m * (I.ct H c i m - ∑ m' : Fin 576, I.cP H c i m'.val * I.ct H c i m'.val)
/-- The gradient of q at row `n`, lane `l`. -/
def cdq (n l : ℕ) : ℝ := ∑ m : Fin 576, I.cG (l / 64) (n / 64) (n % 64) m.val * (1 / 8) * I.kp (64 * (n / 64) + m.val) l
/-- What chunk `c` adds to the gradient of its `m`-th key. -/
def cdk1 (c m l : ℕ) : ℝ := ∑ i : Fin 64, I.cG (l / 64) c i.val m * (1 / 8) * I.q (64 * c + i.val) l
/-- What chunk `c` adds to the gradient of its `m`-th value. -/
def cdv1 (c m l : ℕ) : ℝ := ∑ i : Fin 64, I.w (64 * c + i.val) l * I.cP (l / 64) c i.val m

end Inputs

variable {ι : Type} [Fintype ι]

theorem score_grad (E T : ι → ℝ) (Z : ℝ) (hZ : Z ≠ 0) (j : ι) :
    (T j / Z + -(∑ j', T j' * (1 / (Z * Z)) * E j')) * E j = (E j / Z) * (T j - ∑ j', (E j' / Z) * T j') := by
  have h : ∑ j', T j' * (1 / (Z * Z)) * E j' = (∑ j', (E j' / Z) * T j') / Z := by
    rw [Finset.sum_div]
    refine Finset.sum_congr rfl fun j' _ => ?_
    field_simp
  rw [h]
  field_simp
  ring

/-- The gradient of a row of scores as the reference computes it from the row's exponentials and their sum. -/
theorem grad_row (V : ι → Prop) [DecidablePred V] (x T : ι → ℝ) (st : ι → EReal) (hst : ∀ j, st j = if V j then (x j : EReal) else ⊥) (hV : ∃ j, V j)
    (j : ι) :
    (Ideal.div (T j : EReal) (∑ j', Ideal.exp (st j' - Finset.univ.fold max (⊥ : EReal) st))
      + -(∑ j'', (T j'' : EReal) * Ideal.div 1 ((∑ j', Ideal.exp (st j' - Finset.univ.fold max (⊥ : EReal) st)) * (∑ j', Ideal.exp (st j' - Finset.univ.fold max (⊥ : EReal) st)))
          * Ideal.exp (st j'' - Finset.univ.fold max (⊥ : EReal) st)))
      * Ideal.exp (st j - Finset.univ.fold max (⊥ : EReal) st)
    = (dscore (prob V x) T j : EReal) := by
  obtain ⟨M, hM⟩ := fold_max V x st hst hV
  have hZ := (sum_pos V hV fun j => x j - M).ne'
  simp only [hM, exp_row V x st hst M, ← coe_sum]
  simp only [← EReal.coe_mul, ← EReal.coe_one, div_real _ _ hZ, div_real _ _ (mul_ne_zero hZ hZ), ← coe_sum, ← EReal.coe_neg, ← EReal.coe_add]
  rw [score_grad (fun j => if V j then Real.exp (x j - M) else 0) T _ hZ j]
  unfold dscore
  simp only [prob_shift]

end Cert.AttnMath

end
-- ==== Proof.AttnRefScore.lean ====
/-
  The attention backward's reference: scores, probabilities and the gradient of the scores, over the reals.
-/
module

public import proofs.«01_k».proof.Proof.AttnRefBand
public import proofs.«01_k».proof.Proof.AttnChunk
public import proofs.«01_k».proof.Proof.AttnBlock

@[expose] public section

set_option maxRecDepth 16384

noncomputable section

namespace Cert.AttnRefIdeal.Val

open Idealize.ShloMosaic Idealize.ShloMosaic.TcCoe Idealize.SL.Sem
open Cert.AttnRefIdeal Cert.AttnRefIdeal.Gen Cert.AttnRefIdeal.Read Cert.AttnMath

/-- The five argument arrays hold the real numbers `I`. -/
structure Holds (x0 x1 x2 x4 : FVec Ideal S1x4096x512 .f32) (x3 : FVec Ideal S8x257 .f32) (I : Inputs) : Prop where
  q : ∀ (n : Fin 4096) (l : Fin 512), x0 (ix3 0 n l) = (I.q n.val l.val : EReal)
  k : ∀ (n : Fin 4096) (l : Fin 512), x1 (ix3 0 n l) = (I.k n.val l.val : EReal)
  v : ∀ (n : Fin 4096) (l : Fin 512), x2 (ix3 0 n l) = (I.v n.val l.val : EReal)
  w : ∀ (n : Fin 4096) (l : Fin 512), x4 (ix3 0 n l) = (I.w n.val l.val : EReal)
  b : ∀ (h : Fin 8) (r : Fin 256) (j : Fin 768), val_main_v18 (F := Ideal) x3 (ix3 h r j) = (I.b h.val r.val j.val : EReal)

variable {x0 x1 x2 x4 : FVec Ideal S1x4096x512 .f32} {x3 : FVec Ideal S8x257 .f32} {I : Inputs} (h : Holds x0 x1 x2 x4 x3 I)
include h

theorem q_at (c i : Fin 64) (H : Fin 8) (e : Fin 64) : val_main_v19 (F := Ideal) x0 (ix5 0 c i H e) = (I.q (64 * c.val + i.val) (64 * H.val + e.val) : EReal) :=
  (chunk_at x0 c i H e).trans (h.q _ _)

theorem kp_at (c : Fin 64) (m : Fin 576) (H : Fin 8) (e : Fin 64) :
    val_main_v33 (F := Ideal) x1 (ix5 0 c m H e) = (I.kp (64 * c.val + m.val) (64 * H.val + e.val) : EReal) := by
  have hm : m = ⟨64 * (⟨m.val / 64, by omega⟩ : Fin 9).val + (⟨m.val % 64, by omega⟩ : Fin 64).val, by simp only; omega⟩ := Fin.ext (by simp only; omega)
  rw [hm, band_at, padded_at]
  unfold Inputs.kp
  simp only
  by_cases h8 : c.val + m.val / 64 < 8
  · rw [dif_pos h8, if_pos (by omega)]
    rfl
  · rw [dif_neg h8, if_neg (by omega), h.k]
    congr 2
    simp only
    omega

theorem vp_at (c : Fin 64) (m : Fin 576) (H : Fin 8) (e : Fin 64) :
    val_main_v47 (F := Ideal) x2 (ix5 0 c m H e) = (I.vp (64 * c.val + m.val) (64 * H.val + e.val) : EReal) := by
  have hm : m = ⟨64 * (⟨m.val / 64, by omega⟩ : Fin 9).val + (⟨m.val % 64, by omega⟩ : Fin 64).val, by simp only; omega⟩ := Fin.ext (by simp only; omega)
  rw [same47, hm, band_at, padded_at]
  unfold Inputs.vp
  simp only
  by_cases h8 : c.val + m.val / 64 < 8
  · rw [dif_pos h8, if_pos (by omega)]
    rfl
  · rw [dif_neg h8, if_neg (by omega), h.v]
    congr 2
    simp only
    omega

theorem w_at (c : Fin 64) (H : Fin 8) (e i : Fin 64) : val_main_v111 (F := Ideal) x4 (ix5 0 c H e i) = (I.w (64 * c.val + i.val) (64 * H.val + e.val) : EReal) := by
  unfold val_main_v111 val_main_v110
  refine Eq.trans ?_ ((chunk_at x4 c i H e).trans (h.w _ _))
  generalize shapeCast S1x64x64x8x64 x4 shapeCasts_S1x4096x512_S1x64x64x8x64 = y
  pointwise

theorem s_at (H : Fin 8) (c i : Fin 64) (m : Fin 576) : val_main_v72 (F := Ideal) x0 x1 (ix5 0 H c i m) = (I.cs H.val c.val i.val m.val : EReal) := by
  have e : val_main_v72 (F := Ideal) x0 x1 (ix5 0 H c i m) = ∑ e : Fin 64, val_main_v19 (F := Ideal) x0 (ix5 0 c i H e) * val_main_v33 (F := Ideal) x1 (ix5 0 c m H e) := by
    unfold val_main_v72
    generalize val_main_v19 (F := Ideal) x0 = y0
    generalize val_main_v33 (F := Ideal) x1 = y1
    pointwise
  rw [e]
  unfold Inputs.cs
  rw [coe_sum]
  exact Finset.sum_congr rfl fun e _ => by rw [q_at h, kp_at h, EReal.coe_mul]

theorem t_at (H : Fin 8) (c i : Fin 64) (m : Fin 576) : val_main_v113 (F := Ideal) x2 x4 (ix5 0 H c i m) = (I.ct H.val c.val i.val m.val : EReal) := by
  have e : val_main_v113 (F := Ideal) x2 x4 (ix5 0 H c i m) = ∑ e : Fin 64, val_main_v111 (F := Ideal) x4 (ix5 0 c H e i) * val_main_v47 (F := Ideal) x2 (ix5 0 c m H e) := by
    unfold val_main_v113 val_main_v112
    generalize val_main_v111 (F := Ideal) x4 = y0
    generalize val_main_v47 (F := Ideal) x2 = y1
    pointwise
  rw [e]
  unfold Inputs.ct
  rw [coe_sum]
  exact Finset.sum_congr rfl fun e _ => by rw [w_at h, vp_at h, EReal.coe_mul]

omit h in
theorem masked_score (H : Fin 8) (c i : Fin 64) (m : Fin 576) :
    val_main_v78_0 (F := Ideal) x0 x1 x3 (ix5 0 H c i m) = Scalar.select (val_main_v71 (F := Ideal) (ix2 c m))
      (val_main_v72 (F := Ideal) x0 x1 (ix5 0 H c i m) * Ideal.ofBits .f32 0x3E000000#32 + val_main_v62 (F := Ideal) x3 (ix4 H c i m)) (Ideal.ofBits .f32 0xFF800000#32) := by
  have e1 : idx_main_v77 (idx_main_v78_1 (ix5 0 H c i m)) = ix2 c m := funext fun a => match a with | ⟨0, _⟩ => rfl | ⟨1, _⟩ => rfl
  have e2 : idx_main_v75 (ix5 0 H c i m) = ix4 H c i m := funext fun a => match a with | ⟨0, _⟩ => rfl | ⟨1, _⟩ => rfl | ⟨2, _⟩ => rfl | ⟨3, _⟩ => rfl
  rw [val_main_v78_0_apply, val_main_v76_apply, val_main_v74_apply, val_main_v75_apply, val_main_v78_1_apply, val_main_v77_apply, val_main_v73_apply,
    val_main_cst_11_apply, val_main_call2_v2_apply, val_main_call2_v0_apply, val_main_cst_12_apply, e1, e2]
  simp only [Ideal.addf_def, Ideal.mulf_def, Ideal.ofBits_def]

theorem select_shown (c : Fin 64) (m : Fin 576) (a b : EReal) :
    Scalar.select (val_main_v71 (F := Ideal) (ix2 c m)) a b = if shown c.val m.val then a else b := by
  rw [valid_at]
  by_cases hs : shown c.val m.val
  · rw [if_pos hs, if_pos (show 512 ≤ 64 * c.val + m.val from hs)]
    rfl
  · rw [if_neg hs, if_neg (show ¬ 512 ≤ 64 * c.val + m.val from hs)]
    rfl

/-- The scores, `⊥` on the padding. -/
theorem x_at (H : Fin 8) (c i : Fin 64) (m : Fin 576) :
    val_main_v78_0 (F := Ideal) x0 x1 x3 (ix5 0 H c i m) = if shown c.val m.val then (I.cx H.val c.val i.val m.val : EReal) else ⊥ := by
  rw [masked_score, select_shown h, s_at h, bias_at, h.b, neg_inf, Cert.AttnIdeal.Val.eighth]
  unfold Inputs.cx
  rw [EReal.coe_add, EReal.coe_mul]

omit h

theorem zero_word : Ideal.ofBits .f32 0x00000000#32 = 0 := by simp [Ideal.ofBits, Ideal.ieee]

theorem one_word : Ideal.ofBits .f32 0x3F800000#32 = 1 := by
  simp [Ideal.ofBits, Ideal.ieee]
  rw [← EReal.coe_mul, ← EReal.coe_one]
  norm_num

/-- A host sum over several axes, its terms listed by `e`. -/
theorem sum_drop {s t : Shape} {axes : List (Fin s.rank)} (hr : s.ReducesTo axes t) (x : s.Idx → EReal) (j : t.Idx) {κ : Type} [Fintype κ] (e : κ → s.Idx)
    (hi : Function.Injective e) (he : ∀ k, hr.drop (e k) = j) (hs : ∀ i, hr.drop i = j → ∃ k, e k = i) :
    Ideal.hostReduceAdd hr x 0 j = ∑ k, x (e k) := by
  unfold Ideal.hostReduceAdd
  rw [zero_add]
  refine (Finset.sum_bij (fun k _ => e k) ?_ ?_ ?_ ?_).symm
  · exact fun k _ => Finset.mem_filter.2 ⟨Finset.mem_univ _, he k⟩
  · exact fun a _ b _ hab => hi hab
  · exact fun i hm => (hs i (Finset.mem_filter.1 hm).2).imp fun k hk => ⟨Finset.mem_univ _, hk⟩
  · exact fun _ _ => rfl

/-- The largest score of a row. -/
theorem max_at (x0 x1 : FVec Ideal S1x4096x512 .f32) (x3 : FVec Ideal S8x257 .f32) (H : Fin 8) (c i : Fin 64) :
    val_main_v79 (F := Ideal) x0 x1 x3 (ix4 0 H c i) = Finset.univ.fold max (⊥ : EReal) (fun m : Fin 576 => val_main_v78_0 (F := Ideal) x0 x1 x3 (ix5 0 H c i m)) := by
  unfold val_main_v79 val_main_cst_13
  generalize val_main_v78_0 (F := Ideal) x0 x1 x3 = y
  pointwise
  rw [neg_inf]

/-- The sum over two axes of size one. -/
theorem twice_at (y : FVec Ideal S1x8x64x64x1 .f32) (H : Fin 8) (c i : Fin 64) :
    Host.reduceAdd y (val_main_cst_24 (F := Ideal)) reducesTo_S1x8x64x64x1_S8x64x64_d0_4 h_S_ (ix3 H c i) = y (ix5 0 H c i 0) := by
  unfold val_main_cst_24
  pointwise
  refine (sum_drop reducesTo_S1x8x64x64x1_S8x64x64_d0_4 y (ix3 H c i) (fun _ : Unit => ix5 0 H c i 0) (fun _ _ _ => rfl) (fun _ => ?_) (fun i' hi' => ⟨(), ?_⟩)).trans ?_
  · exact funext fun a => match a with | ⟨0, _⟩ => rfl | ⟨1, _⟩ => rfl | ⟨2, _⟩ => rfl
  · have h0 : (i' 1).val = H.val := congrArg Fin.val (congrFun hi' 0)
    have h1 : (i' 2).val = c.val := congrArg Fin.val (congrFun hi' 1)
    have h2 : (i' 3).val = i.val := congrArg Fin.val (congrFun hi' 2)
    have h3 : (i' 0).val < 1 := (i' 0).isLt
    have h4 : (i' 4).val < 1 := (i' 4).isLt
    refine funext fun a => Fin.ext ?_
    match a with
    | ⟨0, _⟩ => exact (Nat.lt_one_iff.1 h3).symm
    | ⟨1, _⟩ => exact h0.symm
    | ⟨2, _⟩ => exact h1.symm
    | ⟨3, _⟩ => exact h2.symm
    | ⟨4, _⟩ => exact (Nat.lt_one_iff.1 h4).symm
  · simp

/-- The sum over the sixteen blocks of four chunks. -/
theorem four_at (y : FVec Ideal S8x64x64x576 .f32) (H : Fin 8) (a : Fin 4) (i : Fin 64) (m : Fin 576) :
    Host.reduceAdd (shapeCast S1x8x16x4x1x64x1x576 y shapeCasts_S8x64x64x576_S1x8x16x4x1x64x1x576) (val_main_cst_27 (F := Ideal)) reducesTo_S1x8x16x4x1x64x1x576_S8x4x64x576_d0_2_4_6 h_S_ (ix4 H a i m)
      = ∑ b : Fin 16, y (ix4 H ⟨4 * b.val + a.val, by omega⟩ i m) := by
  unfold val_main_cst_27
  have hy : ∀ b : Fin 16, shapeCast S1x8x16x4x1x64x1x576 y shapeCasts_S8x64x64x576_S1x8x16x4x1x64x1x576 (ix8 0 H b a 0 i 0 m) = y (ix4 H ⟨4 * b.val + a.val, by omega⟩ i m) := fun b => by
    pointwise
    exact congrArg y (congrArg (fun n => ix4 H n i m) (Fin.ext (by simp only; omega)))
  generalize shapeCast S1x8x16x4x1x64x1x576 y shapeCasts_S8x64x64x576_S1x8x16x4x1x64x1x576 = z at hy
  pointwise
  refine (sum_drop reducesTo_S1x8x16x4x1x64x1x576_S8x4x64x576_d0_2_4_6 z (ix4 H a i m) (fun b : Fin 16 => ix8 0 H b a 0 i 0 m) (fun b b' hb => congrFun hb 2) (fun _ => ?_)
    (fun i' hi' => ⟨⟨(i' 2).val, (i' 2).isLt⟩, ?_⟩)).trans (Finset.sum_congr rfl fun b _ => hy b)
  · exact funext fun a => match a with | ⟨0, _⟩ => rfl | ⟨1, _⟩ => rfl | ⟨2, _⟩ => rfl | ⟨3, _⟩ => rfl
  · have h0 : (i' 1).val = H.val := congrArg Fin.val (congrFun hi' 0)
    have h1 : (i' 3).val = a.val := congrArg Fin.val (congrFun hi' 1)
    have h2 : (i' 5).val = i.val := congrArg Fin.val (congrFun hi' 2)
    have h3 : (i' 7).val = m.val := congrArg Fin.val (congrFun hi' 3)
    have h4 : (i' 0).val < 1 := (i' 0).isLt
    have h5 : (i' 4).val < 1 := (i' 4).isLt
    have h6 : (i' 6).val < 1 := (i' 6).isLt
    refine funext fun a => Fin.ext ?_
    match a with
    | ⟨0, _⟩ => exact (Nat.lt_one_iff.1 h4).symm
    | ⟨1, _⟩ => exact h0.symm
    | ⟨2, _⟩ => rfl
    | ⟨3, _⟩ => exact h1.symm
    | ⟨4, _⟩ => exact (Nat.lt_one_iff.1 h5).symm
    | ⟨5, _⟩ => exact h2.symm
    | ⟨6, _⟩ => exact (Nat.lt_one_iff.1 h6).symm
    | ⟨7, _⟩ => exact h3.symm

variable (x0 x1 x2 x3 x4)

/-- The exponential of a score, its row's largest score taken off. -/
theorem exp_at (H : Fin 8) (c i : Fin 64) (m : Fin 576) :
    val_main_v99 (F := Ideal) x0 x1 x3 (ix5 0 H c i m) = Ideal.exp (val_main_v78_0 (F := Ideal) x0 x1 x3 (ix5 0 H c i m)
      - Finset.univ.fold max (⊥ : EReal) (fun m : Fin 576 => val_main_v78_0 (F := Ideal) x0 x1 x3 (ix5 0 H c i m))) := by
  have e1 : idx_main_v96 (idx_main_v97 (ix5 0 H c i m)) = ix4 0 H c i := funext fun a => match a with | ⟨0, _⟩ => rfl | ⟨1, _⟩ => rfl | ⟨2, _⟩ => rfl | ⟨3, _⟩ => rfl
  rw [val_main_v99_apply, val_main_v98_apply, val_main_v97_apply, val_main_v96_apply, e1, val_main_v86_apply, val_main_v85_apply, val_main_cst_15_apply, max_at]
  simp only [Ideal.maximumf_def, Ideal.ofBits_def, neg_inf, bot_le, max_eq_right, Ideal.subf_def]
  rfl

/-- The sum of a row's exponentials. -/
theorem sum_at (H : Fin 8) (c i : Fin 64) :
    val_main_v101 (F := Ideal) x0 x1 x3 (ix5 0 H c i 0) = ∑ m : Fin 576, val_main_v99 (F := Ideal) x0 x1 x3 (ix5 0 H c i m) := by
  have e1 : idx_main_v101 (ix5 0 H c i 0) = ix4 0 H c i := funext fun a => match a with | ⟨0, _⟩ => rfl | ⟨1, _⟩ => rfl | ⟨2, _⟩ => rfl | ⟨3, _⟩ => rfl
  have e2 : ∀ m, idx_main_v100 (ix4 0 H c i) m = ix5 0 H c i m := fun m => funext fun a => match a with | ⟨0, _⟩ => rfl | ⟨1, _⟩ => rfl | ⟨2, _⟩ => rfl | ⟨3, _⟩ => rfl | ⟨4, _⟩ => rfl
  rw [val_main_v101_apply, e1, val_main_v100_apply, val_main_cst_21_apply]
  simp only [e2, Ideal.ofBits_def, zero_word, zero_add]

variable {x0 x1 x2 x3 x4}
include h

/-- The probabilities. -/
theorem p_at (H : Fin 8) (c i : Fin 64) (m : Fin 576) : val_main_v103 (F := Ideal) x0 x1 x3 (ix5 0 H c i m) = (I.cP H.val c.val i.val m.val : EReal) := by
  have e1 : idx_main_v102 (ix5 0 H c i m) = ix5 0 H c i 0 := funext fun a => match a with | ⟨0, _⟩ => rfl | ⟨1, _⟩ => rfl | ⟨2, _⟩ => rfl | ⟨3, _⟩ => rfl | ⟨4, _⟩ => rfl
  rw [val_main_v103_apply, val_main_v102_apply, e1, sum_at]
  simp only [exp_at, Ideal.hostDivf_def]
  exact softmax_div (fun m : Fin 576 => shown c.val m.val) (fun m => I.cx H.val c.val i.val m.val) (fun m => val_main_v78_0 (F := Ideal) x0 x1 x3 (ix5 0 H c i m))
    (fun m => x_at h H c i m) (exists_shown c.val) m

/-- The gradient of the scores. -/
theorem g_at (H : Fin 8) (c i : Fin 64) (m : Fin 576) : val_main_v129 (F := Ideal) x0 x1 x2 x3 x4 (ix5 0 H c i m) = (I.cG H.val c.val i.val m.val : EReal) := by
  have e1 : idx_main_v77 (idx_main_v78_1 (ix5 0 H c i m)) = ix2 c m := funext fun a => match a with | ⟨0, _⟩ => rfl | ⟨1, _⟩ => rfl
  have e2 : idx_main_v122 (ix5 0 H c i m) = ix5 0 H c i 0 := funext fun a => match a with | ⟨0, _⟩ => rfl | ⟨1, _⟩ => rfl | ⟨2, _⟩ => rfl | ⟨3, _⟩ => rfl | ⟨4, _⟩ => rfl
  have e3 : idx_main_v125 (idx_main_v126 (ix5 0 H c i m)) = ix3 H c i := funext fun a => match a with | ⟨0, _⟩ => rfl | ⟨1, _⟩ => rfl | ⟨2, _⟩ => rfl
  have e4 : val_main_v124 (F := Ideal) x0 x1 x2 x3 x4 (ix3 H c i) = val_main_v121 (F := Ideal) x0 x1 x2 x3 x4 (ix5 0 H c i 0) := by
    unfold val_main_v124
    exact twice_at _ H c i
  have e5 : val_main_v120 (F := Ideal) x0 x1 x2 x3 x4 (ix5 0 H c i 0) = val_main_v119 (F := Ideal) x0 x1 x2 x3 x4 (ix4 0 H c i) := by
    unfold val_main_v120
    generalize val_main_v119 (F := Ideal) x0 x1 x2 x3 x4 = y
    pointwise
  have e6 : ∀ m, idx_main_v119 (ix4 0 H c i) m = ix5 0 H c i m := fun m => funext fun a => match a with | ⟨0, _⟩ => rfl | ⟨1, _⟩ => rfl | ⟨2, _⟩ => rfl | ⟨3, _⟩ => rfl | ⟨4, _⟩ => rfl
  have e7 : ∀ m, idx_main_v116 (ix5 0 H c i m) = ix5 0 H c i 0 := fun m => funext fun a => match a with | ⟨0, _⟩ => rfl | ⟨1, _⟩ => rfl | ⟨2, _⟩ => rfl | ⟨3, _⟩ => rfl | ⟨4, _⟩ => rfl
  rw [val_main_v129_apply, val_main_v78_1_apply, val_main_v77_apply, e1, select_shown h, val_main_v128_apply, val_main_v127_apply, val_main_v123_apply, val_main_v122_apply, e2,
    val_main_v126_apply, val_main_v125_apply, e3, e4, val_main_v121_apply, e5, val_main_v119_apply, val_main_call3_v0_apply, val_main_call3_cst_apply, val_main_cst_23_apply]
  simp only [e6, val_main_v118_apply, val_main_v117_apply, val_main_v116_apply, e7, val_main_v106_apply, val_main_v105_apply, val_main_cst_22_apply, val_main_v104_apply, t_at h, sum_at]
  simp only [exp_at, Ideal.addf_def, Ideal.mulf_def, Ideal.ofBits_def, zero_word, zero_add, Ideal.hostDivf_def, Ideal.hostNegf_def, Ideal.negf_def, one_word]
  split
  · exact grad_row (fun m : Fin 576 => shown c.val m.val) (fun m => I.cx H.val c.val i.val m.val) (fun m => I.ct H.val c.val i.val m.val)
      (fun m => val_main_v78_0 (F := Ideal) x0 x1 x3 (ix5 0 H c i m)) (fun m => x_at h H c i m) (exists_shown c.val) m
  · rename_i hs
    unfold Inputs.cG Inputs.cP
    rw [if_neg hs, zero_mul, EReal.coe_zero]

end Cert.AttnRefIdeal.Val

end
-- ==== Proof.AttnRefOut.lean ====
/-
  The attention backward's reference: its two results as real numbers.
-/
module

public import proofs.«01_k».proof.Proof.AttnRefScore

@[expose] public section

set_option maxRecDepth 16384

noncomputable section

namespace Cert.AttnMath.Inputs
variable (I : Inputs)

/-- What is gathered at row `n` from the chunks that hold it among their nine chunks of keys. -/
def nine (Y : ℕ → ℕ → ℝ) (n : ℕ) : ℝ :=
  ∑ o : Fin 9, if o.val ≤ n / 64 + 8 ∧ n / 64 + 8 - o.val < 64 then Y (n / 64 + 8 - o.val) (64 * o.val + n % 64) else 0

/-- The gradients of q, k and v. -/
def cqkv (p n l : ℕ) : ℝ := if p = 0 then I.cdq n l else if p = 1 then nine (fun c m => I.cdk1 c m l) n else nine (fun c m => I.cdv1 c m l) n

/-- The gradient of the bias table: row `r` lies in the chunk `r / 64` of each block of four chunks. -/
def cdb (h r j : ℕ) : ℝ :=
  if 64 * (r / 64) ≤ j ∧ j < 64 * (r / 64) + 576 then ∑ b : Fin 16, I.cG h (4 * b.val + r / 64) (r % 64) (j - 64 * (r / 64)) else 0

end Cert.AttnMath.Inputs

namespace Cert.AttnRefIdeal.Val

open Idealize.ShloMosaic Idealize.ShloMosaic.TcCoe Idealize.SL.Sem
open Cert.AttnRefIdeal Cert.AttnRefIdeal.Gen Cert.AttnRefIdeal.Read Cert.AttnMath

theorem term_at {p q : Prop} [Decidable p] [Decidable q] (hp : p ↔ q) (t : p → EReal) (y : ℝ) (ht : ∀ h : p, t h = (y : EReal)) :
    (if h : p then t h else 0) = ((if q then y else 0 : ℝ) : EReal) := by
  by_cases h : p
  · rw [dif_pos h, if_pos (hp.1 h), ht]
  · rw [dif_neg h, if_neg (fun hq => h (hp.2 hq)), EReal.coe_zero]

variable (x0 x1 x2 x4 : FVec Ideal S1x4096x512 .f32) (x3 : FVec Ideal S8x257 .f32)

theorem sum_flip (f0 f1 f2 f3 f4 f5 f6 f7 f8 : ℝ) : f8 + f7 + f6 + f5 + f4 + f3 + f2 + f1 + f0 = f0 + f1 + f2 + f3 + f4 + f5 + f6 + f7 + f8 := by ring

/-- The nine slabs of each chunk added at their places. -/
theorem nine_v (Y : ℕ → ℕ → ℝ) (H : Fin 8) (e : Fin 64) (hy : ∀ (c : Fin 64) (m : Fin 576), val_main_v115 (F := Ideal) x0 x1 x3 x4 (ix5 0 c m H e) = (Y c.val m.val : EReal))
    (C : Fin 72) (i : Fin 64) :
    val_main_v179 (F := Ideal) x0 x1 x3 x4 (ix5 0 C i H e)
      = ((∑ o : Fin 9, if o.val ≤ C.val ∧ C.val - o.val < 64 then Y (C.val - o.val) (64 * o.val + i.val) else 0 : ℝ) : EReal) := by
  unfold val_main_v179 val_main_v178 val_main_v177 val_main_v176 val_main_v175 val_main_v174 val_main_v173 val_main_v172 val_main_v171 val_main_v170 val_main_v169 val_main_v168
    val_main_v167 val_main_v166 val_main_v165 val_main_v164 val_main_v163 val_main_v162 val_main_v161 val_main_v160 val_main_v159 val_main_v158 val_main_v157 val_main_v156
    val_main_v155 val_main_v154 val_main_cst_32 val_main_cst_33 val_main_cst_34 val_main_cst_35 val_main_cst_36 val_main_cst_37 val_main_cst_38 val_main_cst_39 val_main_cst_40
  generalize val_main_v115 (F := Ideal) x0 x1 x3 x4 = y at hy
  pointwise
  rw [Fin.sum_univ_castSucc, Fin.sum_univ_eight, ← sum_flip]
  simp only [EReal.coe_add]
  refine congrArg₂ (· + ·) (congrArg₂ (· + ·) (congrArg₂ (· + ·) (congrArg₂ (· + ·) (congrArg₂ (· + ·) (congrArg₂ (· + ·) (congrArg₂ (· + ·) (congrArg₂ (· + ·)
    (term_at Iff.rfl _ _ fun h => hy _ _) (term_at Iff.rfl _ _ fun h => hy _ _)) (term_at Iff.rfl _ _ fun h => hy _ _)) (term_at Iff.rfl _ _ fun h => hy _ _))
    (term_at Iff.rfl _ _ fun h => hy _ _)) (term_at Iff.rfl _ _ fun h => hy _ _)) (term_at Iff.rfl _ _ fun h => hy _ _)) (term_at Iff.rfl _ _ fun h => hy _ _))
    (term_at ⟨fun h => ⟨Nat.zero_le _, h⟩, fun h => h.2⟩ _ _ fun h => (hy _ _).trans ?_)
  simp
/-- The same for the keys. -/
theorem nine_k (Y : ℕ → ℕ → ℝ) (H : Fin 8) (e : Fin 64) (hy : ∀ (c : Fin 64) (m : Fin 576), val_main_v134 (F := Ideal) x0 x1 x2 x3 x4 (ix5 0 c m H e) = (Y c.val m.val : EReal))
    (C : Fin 72) (i : Fin 64) :
    val_main_v208 (F := Ideal) x0 x1 x2 x3 x4 (ix5 0 C i H e)
      = ((∑ o : Fin 9, if o.val ≤ C.val ∧ C.val - o.val < 64 then Y (C.val - o.val) (64 * o.val + i.val) else 0 : ℝ) : EReal) := by
  unfold val_main_v208 val_main_v207 val_main_v206 val_main_v205 val_main_v204 val_main_v203 val_main_v202 val_main_v201 val_main_v200 val_main_v199 val_main_v198 val_main_v197
    val_main_v196 val_main_v195 val_main_v194 val_main_v193 val_main_v192 val_main_v191 val_main_v190 val_main_v189 val_main_v188 val_main_v187 val_main_v186 val_main_v185
    val_main_v184 val_main_v183 val_main_cst_41 val_main_cst_42 val_main_cst_43 val_main_cst_44 val_main_cst_45 val_main_cst_46 val_main_cst_47 val_main_cst_48 val_main_cst_49
  generalize val_main_v134 (F := Ideal) x0 x1 x2 x3 x4 = y at hy
  pointwise
  rw [Fin.sum_univ_castSucc, Fin.sum_univ_eight, ← sum_flip]
  simp only [EReal.coe_add]
  refine congrArg₂ (· + ·) (congrArg₂ (· + ·) (congrArg₂ (· + ·) (congrArg₂ (· + ·) (congrArg₂ (· + ·) (congrArg₂ (· + ·) (congrArg₂ (· + ·) (congrArg₂ (· + ·)
    (term_at Iff.rfl _ _ fun h => hy _ _) (term_at Iff.rfl _ _ fun h => hy _ _)) (term_at Iff.rfl _ _ fun h => hy _ _)) (term_at Iff.rfl _ _ fun h => hy _ _))
    (term_at Iff.rfl _ _ fun h => hy _ _)) (term_at Iff.rfl _ _ fun h => hy _ _)) (term_at Iff.rfl _ _ fun h => hy _ _)) (term_at Iff.rfl _ _ fun h => hy _ _))
    (term_at ⟨fun h => ⟨Nat.zero_le _, h⟩, fun h => h.2⟩ _ _ fun h => (hy _ _).trans ?_)
  simp

/-- The bias table from the sums over the blocks: one slab for each of the four chunks of a block. -/
theorem table_at (D : ℕ → ℕ → ℕ → ℝ) (H : Fin 8) (hd : ∀ (a : Fin 4) (i : Fin 64) (m : Fin 576), val_main_v138 (F := Ideal) x0 x1 x2 x3 x4 (ix4 H a i m) = (D a.val i.val m.val : EReal))
    (r : Fin 256) (j : Fin 768) :
    val_main_v153 (F := Ideal) x0 x1 x2 x3 x4 (ix3 H r j)
      = ((if 64 * (r.val / 64) ≤ j.val ∧ j.val < 64 * (r.val / 64) + 576 then D (r.val / 64) (r.val % 64) (j.val - 64 * (r.val / 64)) else 0 : ℝ) : EReal) := by
  unfold val_main_v153 val_main_v152 val_main_v151 val_main_v150 val_main_v149 val_main_v148 val_main_v147 val_main_v146 val_main_v145 val_main_v144 val_main_v143 val_main_v142
    val_main_v141 val_main_v140 val_main_v139 val_main_cst_28 val_main_cst_29 val_main_cst_30 val_main_cst_31
  generalize val_main_v138 (F := Ideal) x0 x1 x2 x3 x4 = y at hd
  pointwise
  rw [
    term_at (Iff.refl ((192 ≤ r.val ∧ r.val - 192 < 64) ∧ 192 ≤ j.val ∧ j.val - 192 < 576)) (fun h => y (ix4 H 3 ⟨r.val - 192, h.1.2⟩ ⟨j.val - 192, h.2.2⟩))
      (D 3 (r.val - 192) (j.val - 192)) (fun h => hd 3 _ _),
    term_at (Iff.refl ((128 ≤ r.val ∧ r.val - 128 < 64) ∧ 128 ≤ j.val ∧ j.val - 128 < 576)) (fun h => y (ix4 H 2 ⟨r.val - 128, h.1.2⟩ ⟨j.val - 128, h.2.2⟩))
      (D 2 (r.val - 128) (j.val - 128)) (fun h => hd 2 _ _),
    term_at (Iff.refl ((64 ≤ r.val ∧ r.val - 64 < 64) ∧ 64 ≤ j.val ∧ j.val - 64 < 576)) (fun h => y (ix4 H 1 ⟨r.val - 64, h.1.2⟩ ⟨j.val - 64, h.2.2⟩))
      (D 1 (r.val - 64) (j.val - 64)) (fun h => hd 1 _ _),
    term_at (Iff.refl (r.val < 64 ∧ j.val < 576)) (fun h => y (ix4 H 0 ⟨r.val, h.1⟩ ⟨j.val, h.2⟩)) (D 0 r.val j.val) (fun h => hd 0 _ _)]
  simp only [← EReal.coe_add]
  refine congrArg _ ?_
  have hm : r.val % 64 = r.val - 64 * (r.val / 64) := by omega
  rw [hm]
  have hc : r.val / 64 = 0 ∨ r.val / 64 = 1 ∨ r.val / 64 = 2 ∨ r.val / 64 = 3 := by omega
  rcases hc with hc | hc | hc | hc <;> rw [hc] <;> split_ifs <;> first | (exfalso; omega) | simp

variable {x0 x1 x2 x4 x3} {I : Inputs} (h : Holds x0 x1 x2 x4 x3 I)
include h

theorem scaled_at (H : Fin 8) (c i : Fin 64) (m : Fin 576) :
    val_main_v132 (F := Ideal) x0 x1 x2 x3 x4 (ix5 0 H c i m) = ((I.cG H.val c.val i.val m.val * (1 / 8) : ℝ) : EReal) := by
  rw [val_main_v132_apply, g_at h, val_main_v131_apply, val_main_cst_26_apply]
  simp only [Ideal.mulf_def, Ideal.ofBits_def, Cert.AttnIdeal.Val.eighth, EReal.coe_mul]

/-- The gradient of q. -/
theorem dq_at (c i : Fin 64) (H : Fin 8) (e : Fin 64) :
    val_main_v136 (F := Ideal) x0 x1 x2 x3 x4 (ix5 0 c i H e)
      = ((∑ m : Fin 576, I.cG H.val c.val i.val m.val * (1 / 8) * I.kp (64 * c.val + m.val) (64 * H.val + e.val) : ℝ) : EReal) := by
  have e1 : val_main_v136 (F := Ideal) x0 x1 x2 x3 x4 (ix5 0 c i H e)
      = ∑ m : Fin 576, val_main_v132 (F := Ideal) x0 x1 x2 x3 x4 (ix5 0 H c i m) * val_main_v33 (F := Ideal) x1 (ix5 0 c m H e) := by
    unfold val_main_v136 val_main_v135
    generalize val_main_v132 (F := Ideal) x0 x1 x2 x3 x4 = y0
    generalize val_main_v33 (F := Ideal) x1 = y1
    pointwise
  rw [e1, coe_sum]
  exact Finset.sum_congr rfl fun m _ => by rw [scaled_at h, kp_at h, ← EReal.coe_mul]

/-- What a chunk adds to the gradient of its keys. -/
theorem dk_at (c : Fin 64) (m : Fin 576) (H : Fin 8) (e : Fin 64) :
    val_main_v134 (F := Ideal) x0 x1 x2 x3 x4 (ix5 0 c m H e)
      = ((∑ i : Fin 64, I.cG H.val c.val i.val m.val * (1 / 8) * I.q (64 * c.val + i.val) (64 * H.val + e.val) : ℝ) : EReal) := by
  have e1 : val_main_v134 (F := Ideal) x0 x1 x2 x3 x4 (ix5 0 c m H e)
      = ∑ i : Fin 64, val_main_v132 (F := Ideal) x0 x1 x2 x3 x4 (ix5 0 H c i m) * val_main_v19 (F := Ideal) x0 (ix5 0 c i H e) := by
    unfold val_main_v134 val_main_v133
    generalize val_main_v132 (F := Ideal) x0 x1 x2 x3 x4 = y0
    generalize val_main_v19 (F := Ideal) x0 = y1
    pointwise
  rw [e1, coe_sum]
  exact Finset.sum_congr rfl fun m _ => by rw [scaled_at h, q_at h, ← EReal.coe_mul]

/-- What a chunk adds to the gradient of its values. -/
theorem dv_at (c : Fin 64) (m : Fin 576) (H : Fin 8) (e : Fin 64) :
    val_main_v115 (F := Ideal) x0 x1 x3 x4 (ix5 0 c m H e)
      = ((∑ i : Fin 64, I.w (64 * c.val + i.val) (64 * H.val + e.val) * I.cP H.val c.val i.val m.val : ℝ) : EReal) := by
  have e1 : val_main_v115 (F := Ideal) x0 x1 x3 x4 (ix5 0 c m H e)
      = ∑ i : Fin 64, val_main_v111 (F := Ideal) x4 (ix5 0 c H e i) * val_main_v103 (F := Ideal) x0 x1 x3 (ix5 0 H c i m) := by
    unfold val_main_v115 val_main_v114
    generalize val_main_v111 (F := Ideal) x4 = y0
    generalize val_main_v103 (F := Ideal) x0 x1 x3 = y1
    pointwise
  rw [e1, coe_sum]
  exact Finset.sum_congr rfl fun m _ => by rw [w_at h, p_at h, ← EReal.coe_mul]

/-- The gradient of the bias table. -/
theorem result1 (H : Fin 8) (r : Fin 256) (j : Fin 768) : val_main_v153 (F := Ideal) x0 x1 x2 x3 x4 (ix3 H r j) = (I.cdb H.val r.val j.val : EReal) := by
  refine table_at x0 x1 x2 x4 x3 (fun a i m => ∑ b : Fin 16, I.cG H.val (4 * b.val + a) i m) H (fun a i m => ?_) r j
  have e1 : ∀ b : Fin 16, val_main_v130 (F := Ideal) x0 x1 x2 x3 x4 (ix4 H ⟨4 * b.val + a.val, by omega⟩ i m) = (I.cG H.val (4 * b.val + a.val) i.val m.val : EReal) := fun b => by
    refine Eq.trans ?_ (g_at h H ⟨4 * b.val + a.val, by omega⟩ i m)
    unfold val_main_v130 val_main_cst_25
    generalize val_main_v129 (F := Ideal) x0 x1 x2 x3 x4 = y
    pointwise
    simp
  unfold val_main_v138 val_main_v137
  rw [four_at, coe_sum]
  exact Finset.sum_congr rfl fun b _ => e1 b

/-- The gradients of q, k and v, one after the other. -/
theorem result0 (p : Fin 3) (n : Fin 4096) (l : Fin 512) : val_main_v214 (F := Ideal) x0 x1 x2 x3 x4 (ix3 p n l) = (I.cqkv p.val n.val l.val : EReal) := by
  have hl : 64 * (l.val / 64) + l.val % 64 = l.val := by omega
  have hq := dq_at h ⟨n.val / 64, by omega⟩ ⟨n.val % 64, by omega⟩ ⟨l.val / 64, by omega⟩ ⟨l.val % 64, by omega⟩
  have hk := nine_k x0 x1 x2 x4 x3 (fun c m => I.cdk1 c m l.val) ⟨l.val / 64, by omega⟩ ⟨l.val % 64, by omega⟩
    (fun c m => (dk_at h c m _ _).trans (by unfold Inputs.cdk1; simp only [hl])) ⟨n.val / 64 + 8, by omega⟩ ⟨n.val % 64, by omega⟩
  have hv := nine_v x0 x1 x4 x3 (fun c m => I.cdv1 c m l.val) ⟨l.val / 64, by omega⟩ ⟨l.val % 64, by omega⟩
    (fun c m => (dv_at h c m _ _).trans (by unfold Inputs.cdv1; simp only [hl])) ⟨n.val / 64 + 8, by omega⟩ ⟨n.val % 64, by omega⟩
  simp only [hl] at hq
  unfold val_main_v214 val_main_v213 val_main_v212 val_main_v211 val_main_v210 val_main_v182 val_main_v181
  generalize val_main_v136 (F := Ideal) x0 x1 x2 x3 x4 = yq at hq
  generalize val_main_v208 (F := Ideal) x0 x1 x2 x3 x4 = yk at hk
  generalize val_main_v179 (F := Ideal) x0 x1 x3 x4 = yv at hv
  pointwise
  have e8 : (⟨8 + n.val / 64, by omega⟩ : Fin 72) = ⟨n.val / 64 + 8, by omega⟩ := Fin.ext (Nat.add_comm _ _)
  unfold Inputs.cqkv
  by_cases h0 : p.val = 0
  · rw [dif_pos (by omega), if_pos h0, hq]
    rfl
  by_cases h1 : p.val = 1
  · rw [dif_neg (by omega), dif_pos (by omega), if_neg h0, if_pos h1, e8, hk]
    rfl
  · rw [dif_neg (by omega), dif_neg (by omega), if_neg h0, if_neg h1, e8, hv]
    rfl

end Cert.AttnRefIdeal.Val
end
-- ==== Proof.AttnEq.lean ====
/-
  The two groupings of the attention's backward pass agree: blocks of 256 queries against 768 keys with a band mask, and
  chunks of 64 queries against the 576 keys that end with them.
-/
module

public import proofs.«01_k».proof.Proof.AttnChunk
public import proofs.«01_k».proof.Proof.AttnRefOut

@[expose] public section

noncomputable section

namespace Cert.AttnMath

/-- A sum over a block's 768 keys of terms that vanish off the nine chunks from `a` on. -/
theorem sum_band (a : ℕ) (ha : a < 4) (f : ℕ → ℝ) (hf : ∀ j, ¬ (64 * a ≤ j ∧ j < 64 * a + 576) → f j = 0) :
    ∑ j : Fin 768, f j.val = ∑ m : Fin 576, f (64 * a + m.val) := by
  rw [Fin.sum_univ_eq_sum_range f 768, Fin.sum_univ_eq_sum_range (fun m => f (64 * a + m)) 576]
  have h := Finset.sum_Ico_eq_sum_range f (64 * a) (64 * a + 576)
  rw [Nat.add_sub_cancel_left] at h
  rw [← h]
  refine (Finset.sum_subset ?_ ?_).symm
  · intro j hj
    have := Finset.mem_Ico.1 hj
    exact Finset.mem_range.2 (by omega)
  · intro j _ hj
    exact hf j fun hh => hj (Finset.mem_Ico.2 hh)

/-- A sum over `4 · n` terms in groups of four. -/
theorem sum_four (n : ℕ) (f : ℕ → ℝ) : ∑ b ∈ Finset.range n, ∑ a : Fin 4, f (4 * b + a.val) = ∑ c ∈ Finset.range (4 * n), f c := by
  induction n with
  | zero => simp
  | succ n ih =>
    rw [Finset.sum_range_succ, ih, show 4 * (n + 1) = 4 * n + 1 + 1 + 1 + 1 from by omega]
    simp only [Finset.sum_range_succ, Fin.sum_univ_four]
    norm_num
    ring_nf

/-- A sum over 256 rows in four chunks of 64. -/
theorem sum_rows (f : ℕ → ℝ) : ∑ r : Fin 256, f r.val = ∑ a : Fin 4, ∑ i : Fin 64, f (64 * a.val + i.val) :=
  (Idealize.ShloMosaic.Fin.sum_univ_tiles 4 64 rfl fun r : Fin 256 => f r.val).trans
    (Finset.sum_congr rfl fun a _ => Finset.sum_congr rfl fun i _ => congrArg f (by simp only; omega))

namespace Inputs

variable (I : Inputs) (t g a i b : ℕ) (hg : g < 2) (ha : a < 4) (hi : i < 64)
include hg ha hi

theorem S_eq (m : ℕ) : (I.pair t).S b (256 * g + (64 * a + i)) (64 * a + m) = I.cs (2 * t + g) (4 * b + a) i m * (1 / 8) := by
  unfold Pair.S cs pair kp
  have h1 : (256 * g + (64 * a + i)) % 256 = 64 * a + i := by omega
  have h2 : (256 * g + (64 * a + i)) / 256 = g := by omega
  rw [h1, h2, Finset.sum_mul]
  refine Finset.sum_congr rfl fun e _ => ?_
  have h3 : 512 + 256 * b + (64 * a + i) - 512 = 64 * (4 * b + a) + i := by omega
  have h4 : 128 * t + (64 * g + e.val) = 64 * (2 * t + g) + e.val := by omega
  have h5 : 256 * b + (64 * a + m) = 64 * (4 * b + a) + m := by omega
  simp only [h3, h4, h5, if_neg (show ¬ 512 + 256 * b + (64 * a + i) < 512 from by omega)]
  ring

theorem T_eq (m : ℕ) : (I.pair t).T b (256 * g + (64 * a + i)) (64 * a + m) = I.ct (2 * t + g) (4 * b + a) i m := by
  unfold Pair.T ct pair vp
  have h1 : (256 * g + (64 * a + i)) % 256 = 64 * a + i := by omega
  have h2 : (256 * g + (64 * a + i)) / 256 = g := by omega
  rw [h1, h2]
  refine Finset.sum_congr rfl fun e _ => ?_
  have h3 : 256 * b + (64 * a + i) = 64 * (4 * b + a) + i := by omega
  have h4 : 128 * t + (64 * g + e.val) = 64 * (2 * t + g) + e.val := by omega
  have h5 : 256 * b + (64 * a + m) = 64 * (4 * b + a) + m := by omega
  simp only [h3, h4, h5]

theorem X_eq (m : ℕ) : (I.pair t).X b (256 * g + (64 * a + i)) (64 * a + m) = I.cx (2 * t + g) (4 * b + a) i m := by
  unfold Pair.X cx
  rw [I.S_eq t g a i b hg ha hi]
  have h1 : (256 * g + (64 * a + i)) % 256 = 64 * a + i := by omega
  have h2 : (256 * g + (64 * a + i)) / 256 = g := by omega
  have h3 : (4 * b + a) % 4 = a := by omega
  rw [h1, h2, h3]
  rfl

theorem vis_eq (j : ℕ) : vis b ((256 * g + (64 * a + i)) % 256) j ↔ (64 * a ≤ j ∧ j < 64 * a + 576) ∧ shown (4 * b + a) (j - 64 * a) := by
  have h1 : (256 * g + (64 * a + i)) % 256 = 64 * a + i := by omega
  rw [h1]
  show (512 ≤ 256 * b + j ∧ (64 * a + i) / 64 ≤ j / 64 ∧ j / 64 ≤ (64 * a + i) / 64 + 8) ↔ (64 * a ≤ j ∧ j < 64 * a + 576) ∧ 512 ≤ 64 * (4 * b + a) + (j - 64 * a)
  omega

theorem vis_at (m : Fin 576) : vis b ((256 * g + (64 * a + i)) % 256) (64 * a + m.val) ↔ shown (4 * b + a) m.val := by
  rw [vis_eq g a i b hg ha hi, Nat.add_sub_cancel_left]
  have := m.isLt
  exact ⟨fun h => h.2, fun h => ⟨⟨by omega, by omega⟩, h⟩⟩

theorem P_off (j : ℕ) (hj : ¬ (64 * a ≤ j ∧ j < 64 * a + 576)) : (I.pair t).P b (256 * g + (64 * a + i)) j = 0 := by
  unfold Pair.P
  exact if_neg fun h => hj ((vis_eq g a i b hg ha hi j).1 h).1

theorem P_eq (m : Fin 576) : (I.pair t).P b (256 * g + (64 * a + i)) (64 * a + m.val) = I.cP (2 * t + g) (4 * b + a) i m.val := by
  unfold Pair.P cP
  have hs := sum_band a ha (fun j => if vis b ((256 * g + (64 * a + i)) % 256) j then Real.exp ((I.pair t).X b (256 * g + (64 * a + i)) j) else 0)
    (fun j hj => if_neg fun h => hj ((vis_eq g a i b hg ha hi j).1 h).1)
  rw [hs]
  simp only [vis_at g a i b hg ha hi, I.X_eq t g a i b hg ha hi]

theorem G_off (j : ℕ) (hj : ¬ (64 * a ≤ j ∧ j < 64 * a + 576)) : (I.pair t).G b (256 * g + (64 * a + i)) j = 0 := by
  unfold Pair.G
  rw [I.P_off t g a i b hg ha hi j hj, zero_mul]

theorem G_eq (m : Fin 576) : (I.pair t).G b (256 * g + (64 * a + i)) (64 * a + m.val) = I.cG (2 * t + g) (4 * b + a) i m.val := by
  unfold Pair.G cG
  have hs := sum_band a ha (fun j => (I.pair t).P b (256 * g + (64 * a + i)) j * (I.pair t).T b (256 * g + (64 * a + i)) j)
    (fun j hj => by rw [I.P_off t g a i b hg ha hi j hj, zero_mul])
  rw [hs]
  simp only [I.P_eq t g a i b hg ha hi, I.T_eq t g a i b hg ha hi]

theorem P_all (j : ℕ) : (I.pair t).P b (256 * g + (64 * a + i)) j
    = if 64 * a ≤ j ∧ j < 64 * a + 576 then I.cP (2 * t + g) (4 * b + a) i (j - 64 * a) else 0 := by
  split
  · rename_i h
    rw [← I.P_eq t g a i b hg ha hi ⟨j - 64 * a, by omega⟩]
    simp only
    rw [Nat.add_sub_cancel' h.1]
  · rename_i h
    exact I.P_off t g a i b hg ha hi j h

theorem G_all (j : ℕ) : (I.pair t).G b (256 * g + (64 * a + i)) j
    = if 64 * a ≤ j ∧ j < 64 * a + 576 then I.cG (2 * t + g) (4 * b + a) i (j - 64 * a) else 0 := by
  split
  · rename_i h
    rw [← I.G_eq t g a i b hg ha hi ⟨j - 64 * a, by omega⟩]
    simp only
    rw [Nat.add_sub_cancel' h.1]
  · rename_i h
    exact I.G_off t g a i b hg ha hi j h

theorem dq_eq (e : ℕ) (he : e < 64) : (I.pair t).dq b (64 * a + i) (64 * g + e) = I.cdq (64 * (4 * b + a) + i) (64 * (2 * t + g) + e) := by
  unfold Pair.dq cdq
  have h1 : (64 * g + e) / 64 = g := by omega
  have h2 : (64 * (2 * t + g) + e) / 64 = 2 * t + g := by omega
  have h3 : (64 * (4 * b + a) + i) / 64 = 4 * b + a := by omega
  have h4 : (64 * (4 * b + a) + i) % 64 = i := by omega
  rw [h1, h2, h3, h4]
  have hs := sum_band a ha (fun j => (I.pair t).G b (256 * g + (64 * a + i)) j * (I.pair t).k (256 * b + j) (64 * g + e))
    (fun j hj => by rw [I.G_off t g a i b hg ha hi j hj, zero_mul])
  rw [hs, Finset.sum_mul]
  refine Finset.sum_congr rfl fun m _ => ?_
  rw [I.G_eq t g a i b hg ha hi]
  unfold pair kp
  have h5 : 256 * b + (64 * a + m.val) = 64 * (4 * b + a) + m.val := by omega
  have h6 : 128 * t + (64 * g + e) = 64 * (2 * t + g) + e := by omega
  simp only [h5, h6]
  ring

end Inputs

/-- What the chunks add to row `n`, chunk by chunk or slab by slab. -/
theorem nine_eq (Y : ℕ → ℕ → ℝ) (n : ℕ) (hn : n < 4096) :
    ∑ c ∈ Finset.range 64, (if 64 * c ≤ 512 + n ∧ 512 + n < 64 * c + 576 then Y c (512 + n - 64 * c) else 0) = Inputs.nine Y n := by
  unfold Inputs.nine
  rw [Fin.sum_univ_eq_sum_range (fun o => if o ≤ n / 64 + 8 ∧ n / 64 + 8 - o < 64 then Y (n / 64 + 8 - o) (64 * o + n % 64) else 0) 9, ← Finset.sum_filter, ← Finset.sum_filter]
  refine Finset.sum_nbij' (fun c => n / 64 + 8 - c) (fun o => n / 64 + 8 - o) ?_ ?_ ?_ ?_ ?_
  · intro c hc
    simp only [Finset.mem_filter, Finset.mem_range] at hc ⊢
    omega
  · intro o ho
    simp only [Finset.mem_filter, Finset.mem_range] at ho ⊢
    omega
  · intro c hc
    simp only [Finset.mem_filter, Finset.mem_range] at hc ⊢
    omega
  · intro o ho
    simp only [Finset.mem_filter, Finset.mem_range] at ho ⊢
    omega
  · intro c hc
    simp only [Finset.mem_filter, Finset.mem_range] at hc
    have h1 : n / 64 + 8 - (n / 64 + 8 - c) = c := by omega
    have h2 : 64 * (n / 64 + 8 - c) + n % 64 = 512 + n - 64 * c := by omega
    simp only [h1, h2]

namespace Inputs

variable (I : Inputs) (t g b : ℕ) (hg : g < 2)
include hg

theorem dk1_eq (κ e : ℕ) (he : e < 64) : (I.pair t).dk1 b κ (64 * g + e)
    = ∑ a : Fin 4, if 64 * (4 * b + a.val) ≤ κ ∧ κ < 64 * (4 * b + a.val) + 576 then I.cdk1 (4 * b + a.val) (κ - 64 * (4 * b + a.val)) (64 * (2 * t + g) + e) else 0 := by
  unfold Pair.dk1 cdk1
  have h1 : (64 * g + e) / 64 = g := by omega
  have h2 : (64 * (2 * t + g) + e) / 64 = 2 * t + g := by omega
  rw [h1, h2]
  split
  · rename_i hκ
    rw [sum_rows fun r => (I.pair t).G b (256 * g + r) (κ - 256 * b) * (I.pair t).q (512 + 256 * b + r) (64 * g + e)]
    refine Finset.sum_congr rfl fun a _ => ?_
    have hc : (64 * a.val ≤ κ - 256 * b ∧ κ - 256 * b < 64 * a.val + 576) ↔ (64 * (4 * b + a.val) ≤ κ ∧ κ < 64 * (4 * b + a.val) + 576) := by omega
    have hm : κ - 256 * b - 64 * a.val = κ - 64 * (4 * b + a.val) := by omega
    simp only [fun i : Fin 64 => I.G_all t g a.val i.val b hg a.isLt i.isLt, hc, hm]
    split
    · refine Finset.sum_congr rfl fun i _ => ?_
      unfold pair
      have h3 : 512 + 256 * b + (64 * a.val + i.val) - 512 = 64 * (4 * b + a.val) + i.val := by omega
      have h4 : 128 * t + (64 * g + e) = 64 * (2 * t + g) + e := by omega
      simp only [h3, h4, if_neg (show ¬ 512 + 256 * b + (64 * a.val + i.val) < 512 from by omega)]
      ring
    · simp
  · rename_i hκ
    exact (Finset.sum_eq_zero fun a _ => if_neg fun h => hκ (by have := a.isLt; omega)).symm

theorem dv1_eq (κ e : ℕ) (he : e < 64) : (I.pair t).dv1 b κ (64 * g + e)
    = ∑ a : Fin 4, if 64 * (4 * b + a.val) ≤ κ ∧ κ < 64 * (4 * b + a.val) + 576 then I.cdv1 (4 * b + a.val) (κ - 64 * (4 * b + a.val)) (64 * (2 * t + g) + e) else 0 := by
  unfold Pair.dv1 cdv1
  have h1 : (64 * g + e) / 64 = g := by omega
  have h2 : (64 * (2 * t + g) + e) / 64 = 2 * t + g := by omega
  rw [h1, h2]
  split
  · rename_i hκ
    rw [sum_rows fun r => (I.pair t).P b (256 * g + r) (κ - 256 * b) * (I.pair t).w (256 * b + r) (64 * g + e)]
    refine Finset.sum_congr rfl fun a _ => ?_
    have hc : (64 * a.val ≤ κ - 256 * b ∧ κ - 256 * b < 64 * a.val + 576) ↔ (64 * (4 * b + a.val) ≤ κ ∧ κ < 64 * (4 * b + a.val) + 576) := by omega
    have hm : κ - 256 * b - 64 * a.val = κ - 64 * (4 * b + a.val) := by omega
    simp only [fun i : Fin 64 => I.P_all t g a.val i.val b hg a.isLt i.isLt, hc, hm]
    split
    · refine Finset.sum_congr rfl fun i _ => ?_
      unfold pair
      have h3 : 256 * b + (64 * a.val + i.val) = 64 * (4 * b + a.val) + i.val := by omega
      have h4 : 128 * t + (64 * g + e) = 64 * (2 * t + g) + e := by omega
      simp only [h3, h4]
      ring
    · simp
  · rename_i hκ
    exact (Finset.sum_eq_zero fun a _ => if_neg fun h => hκ (by have := a.isLt; omega)).symm

omit hg

/-- The gradients of q, k and v. -/
theorem dqkv_eq (p n l : ℕ) (hn : n < 4096) : I.dqkv p n l = I.cqkv p n l := by
  have h1 : 64 * (l % 128 / 64) + l % 64 = l % 128 := by omega
  have h2 : 64 * (2 * (l / 128) + l % 128 / 64) + l % 64 = l := by omega
  have hq := I.dq_eq (l / 128) (l % 128 / 64) (n % 256 / 64) (n % 64) (n / 256) (by omega) (by omega) (by omega) (l % 64) (by omega)
  have hk := fun b => I.dk1_eq (l / 128) (l % 128 / 64) b (by omega) (512 + n) (l % 64) (by omega)
  have hv := fun b => I.dv1_eq (l / 128) (l % 128 / 64) b (by omega) (512 + n) (l % 64) (by omega)
  have h3 : 64 * (n % 256 / 64) + n % 64 = n % 256 := by omega
  have h4 : 64 * (4 * (n / 256) + n % 256 / 64) + n % 64 = n := by omega
  rw [h1, h2, h3, h4] at hq
  simp only [h1, h2] at hk hv
  unfold dqkv cqkv
  rw [hq]
  simp only [hk, hv]
  rw [sum_four 16 (fun c => if 64 * c ≤ 512 + n ∧ 512 + n < 64 * c + 576 then I.cdk1 c (512 + n - 64 * c) l else 0),
    sum_four 16 (fun c => if 64 * c ≤ 512 + n ∧ 512 + n < 64 * c + 576 then I.cdv1 c (512 + n - 64 * c) l else 0),
    nine_eq (fun c m => I.cdk1 c m l) n hn, nine_eq (fun c m => I.cdv1 c m l) n hn]

/-- The gradient of the bias table. -/
theorem dbias_eq (h r j : ℕ) (hr : r < 256) : I.dbias h r j = I.cdb h r j := by
  unfold dbias cdb
  have hG := fun b => I.G_all (h / 2) (h % 2) (r / 64) (r % 64) b (by omega) (by omega) (by omega) j
  have h1 : 64 * (r / 64) + r % 64 = r := by omega
  have h2 : 2 * (h / 2) + h % 2 = h := by omega
  simp only [h1, h2] at hG
  simp only [hG]
  split
  · rw [Fin.sum_univ_eq_sum_range (fun b => I.cG h (4 * b + r / 64) (r % 64) (j - 64 * (r / 64))) 16]
  · simp

end Inputs

end Cert.AttnMath

end
-- ==== Proof.Finite.lean ====
/-
  Finite extended reals: a number whose absolute value is below infinity is a real;
  and the real numbers that a finite array holds.
-/
module

public import Idealize.ShloMosaic.PureOps.Ideal
public import Idealize.ShloMosaic.PureOps.IdealRules
public import Idealize.ShloMosaic.Lib.Pointwise

@[expose] public section

noncomputable section

namespace Cert.Finite

open Idealize.ShloMosaic

theorem infinity_word : (Ideal.ofBits .f32 0x7F800000#32 : EReal) = ⊤ := by
  simp [Ideal.ofBits, Ideal.ieee]

/-- A number whose absolute value is below infinity is a real. -/
theorem real_of_below (x : EReal) (h : Ideal.cmp .olt (max x (-x)) ⊤ = 1#1) : x = ((x.toReal : ℝ) : EReal) := by
  have hlt : max x (-x) < ⊤ := by
    by_contra hn
    simp [Ideal.cmp, hn] at h
  refine (EReal.coe_toReal ?_ ?_).symm
  · rintro rfl; simp at hlt
  · rintro rfl; simp at hlt

/-- The real numbers of a `1 × a × b` array. -/
def planeOf {a b : ℕ} (x : FVec Ideal ⟨3, ![1, a, b]⟩ .f32) (n l : ℕ) : ℝ :=
  if h : n < a ∧ l < b then EReal.toReal (x (ix3 0 ⟨n, h.1⟩ ⟨l, h.2⟩)) else 0

theorem planeOf_at {a b : ℕ} {x : FVec Ideal ⟨3, ![1, a, b]⟩ .f32} (hx : ∀ i, x i = ((EReal.toReal (x i) : ℝ) : EReal))
    (n : Fin a) (l : Fin b) : x (ix3 0 n l) = (planeOf x n.val l.val : EReal) := by
  rw [planeOf, dif_pos ⟨n.isLt, l.isLt⟩]
  exact hx _

/-- The real numbers of a `1 × a` array. -/
def rowOf {a : ℕ} (x : FVec Ideal ⟨2, ![1, a]⟩ .f32) (l : ℕ) : ℝ :=
  if h : l < a then EReal.toReal (x (ix2 0 ⟨l, h⟩)) else 0

theorem rowOf_at {a : ℕ} {x : FVec Ideal ⟨2, ![1, a]⟩ .f32} (hx : ∀ i, x i = ((EReal.toReal (x i) : ℝ) : EReal))
    (l : Fin a) : x (ix2 0 l) = (rowOf x l.val : EReal) := by
  rw [rowOf, dif_pos l.isLt]
  exact hx _

end Cert.Finite

end
-- ==== Proof.AttnValue.lean ====
/-
  The attention backward's value claim: from finite arguments both programs end at the same gradients.
-/
module

public import proofs.«01_k».proof.Defs
public import proofs.«01_k».proof.Proof.AttnArrays
public import proofs.«01_k».proof.Proof.AttnRefOut
public import proofs.«01_k».proof.Proof.AttnEq
public import proofs.«01_k».proof.Proof.Finite
public import proofs.«01_k».proof.Proof.Gen.AttnRefIdeal.Run

@[expose] public section

set_option maxRecDepth 16384

noncomputable section

namespace Cert.AttnValue

open Idealize.ShloMosaic Idealize.ShloMosaic.TcCoe Idealize.SL.Sem
open Cert.AttnMath Cert.AttnRefIdeal.Read Cert.Finite

theorem preFacts : Cert.Pre_finite_args.Facts := ⟨by decide, by decide⟩

attribute [local instance] preFacts

/-! ## Finite arrays -/

/-- The real numbers of a `1 × 4096 × 512` array. -/
def realOf (x : FVec Ideal Cert.AttnRefIdeal.S1x4096x512 .f32) (n l : ℕ) : ℝ :=
  if h : n < 4096 ∧ l < 512 then EReal.toReal (x (ix3 0 ⟨n, h.1⟩ ⟨l, h.2⟩)) else 0

theorem realOf_at {x : FVec Ideal Cert.AttnRefIdeal.S1x4096x512 .f32} (hx : ∀ i, x i = ((EReal.toReal (x i) : ℝ) : EReal))
    (n : Fin 4096) (l : Fin 512) : x (ix3 0 n l) = (realOf x n.val l.val : EReal) := by
  rw [realOf, dif_pos ⟨n.isLt, l.isLt⟩]
  exact hx _

/-- The real numbers of the bias table. -/
def biasOf (x : FVec Ideal Cert.AttnRefIdeal.S8x257 .f32) (h r j : ℕ) : ℝ :=
  if hb : h < 8 ∧ r < 256 ∧ j < 768 then
    EReal.toReal (val_main_v18 (F := Ideal) x (ix3 ⟨h, hb.1⟩ ⟨r, hb.2.1⟩ ⟨j, hb.2.2⟩))
  else 0

/-- Every entry of the bias table is an entry of the bias array. -/
theorem table_entry (x : FVec Ideal Cert.AttnRefIdeal.S8x257 .f32) (i : Cert.AttnRefIdeal.S8x256x768.Idx) :
    ∃ i', val_main_v18 (F := Ideal) x i = x i' := ⟨_, rfl⟩

theorem biasOf_at {x : FVec Ideal Cert.AttnRefIdeal.S8x257 .f32} (hx : ∀ i, x i = ((EReal.toReal (x i) : ℝ) : EReal))
    (h : Fin 8) (r : Fin 256) (j : Fin 768) :
    val_main_v18 (F := Ideal) x (ix3 h r j) = (biasOf x h.val r.val j.val : EReal) := by
  rw [biasOf, dif_pos ⟨h.isLt, r.isLt, j.isLt⟩]
  obtain ⟨i', e⟩ := table_entry x (ix3 h r j)
  simp only [Fin.eta, e]
  exact hx i'

/-- The real numbers that the five argument arrays hold. -/
def inputs (x0 x1 x2 : FVec Ideal Cert.AttnRefIdeal.S1x4096x512 .f32) (x3 : FVec Ideal Cert.AttnRefIdeal.S8x257 .f32)
    (x4 : FVec Ideal Cert.AttnRefIdeal.S1x4096x512 .f32) : Inputs where
  q := realOf x0
  k := realOf x1
  v := realOf x2
  w := realOf x4
  b := biasOf x3

/-! ## Both programs' results -/

section
variable (m : (ℓ : Loc Cert.AttnIdeal.nD Cert.AttnIdeal.τ Cert.AttnIdeal.sig) → Buf (Elt Ideal) ℓ)

/-- The real numbers of the kernel's arguments on one device. -/
def inputsAt (c : Dev Cert.AttnIdeal.nD) : Inputs :=
  inputs (m ((c.tc : Thread Cert.AttnIdeal.nD Cert.AttnIdeal.τ).loc Cert.AttnIdeal.main_arg0))
    (m ((c.tc : Thread Cert.AttnIdeal.nD Cert.AttnIdeal.τ).loc Cert.AttnIdeal.main_arg1))
    (m ((c.tc : Thread Cert.AttnIdeal.nD Cert.AttnIdeal.τ).loc Cert.AttnIdeal.main_arg2))
    (m ((c.tc : Thread Cert.AttnIdeal.nD Cert.AttnIdeal.τ).loc Cert.AttnIdeal.main_arg3))
    (m ((c.tc : Thread Cert.AttnIdeal.nD Cert.AttnIdeal.τ).loc Cert.AttnIdeal.main_arg4))

variable {m} (hp : Pre_AttnIdeal_finite_args m)
include hp

theorem holds (c : Dev Cert.AttnIdeal.nD) : Cert.AttnIdeal.Arrays.Holds m c (inputsAt m c) where
  q := realOf_at fun i => real_of_below _ (by rw [← infinity_word]; exact congrFun (hp c).1 i)
  k := realOf_at fun i => real_of_below _ (by rw [← infinity_word]; exact congrFun (hp c).2.1 i)
  v := realOf_at fun i => real_of_below _ (by rw [← infinity_word]; exact congrFun (hp c).2.2.1 i)
  w := realOf_at fun i => real_of_below _ (by rw [← infinity_word]; exact congrFun (hp c).2.2.2.2 i)
  b := biasOf_at fun i => real_of_below _ (by rw [← infinity_word]; exact congrFun (hp c).2.2.2.1 i)

theorem refHolds (c : Dev Cert.AttnIdeal.nD) : Cert.AttnRefIdeal.Val.Holds
    (m ((c.tc : Thread Cert.AttnIdeal.nD Cert.AttnIdeal.τ).loc Cert.AttnIdeal.main_arg0))
    (m ((c.tc : Thread Cert.AttnIdeal.nD Cert.AttnIdeal.τ).loc Cert.AttnIdeal.main_arg1))
    (m ((c.tc : Thread Cert.AttnIdeal.nD Cert.AttnIdeal.τ).loc Cert.AttnIdeal.main_arg2))
    (m ((c.tc : Thread Cert.AttnIdeal.nD Cert.AttnIdeal.τ).loc Cert.AttnIdeal.main_arg4))
    (m ((c.tc : Thread Cert.AttnIdeal.nD Cert.AttnIdeal.τ).loc Cert.AttnIdeal.main_arg3)) (inputsAt m c) where
  q := (holds hp c).q
  k := (holds hp c).k
  v := (holds hp c).v
  w := (holds hp c).w
  b := (holds hp c).b
end

section
variable {x0 x1 x2 x4 : FVec Ideal Cert.AttnRefIdeal.S1x4096x512 .f32} {x3 : FVec Ideal Cert.AttnRefIdeal.S8x257 .f32} {I : Inputs}
    (h : Cert.AttnRefIdeal.Val.Holds x0 x1 x2 x4 x3 I)
include h

theorem ref0 : val_main_v214 (F := Ideal) x0 x1 x2 x3 x4
    = fun y : Cert.AttnRefIdeal.S3x4096x512.Idx => (I.dqkv (y 0).val (y 1).val (y 2).val : EReal) := funext fun y => by
  obtain ⟨p, n, l, rfl⟩ : ∃ (p : Fin 3) (n : Fin 4096) (l : Fin 512), y = ix3 p n l := ⟨y 0, y 1, y 2, by pointwise⟩
  exact (Cert.AttnRefIdeal.Val.result0 h p n l).trans (by rw [← I.dqkv_eq p.val n.val l.val n.isLt]; rfl)

theorem ref1 : val_main_v153 (F := Ideal) x0 x1 x2 x3 x4
    = fun y : Cert.AttnRefIdeal.S8x256x768.Idx => (I.dbias (y 0).val (y 1).val (y 2).val : EReal) := funext fun y => by
  obtain ⟨p, n, l, rfl⟩ : ∃ (p : Fin 8) (n : Fin 256) (l : Fin 768), y = ix3 p n l := ⟨y 0, y 1, y 2, by pointwise⟩
  exact (Cert.AttnRefIdeal.Val.result1 h p n l).trans (by rw [← I.dbias_eq p.val n.val l.val n.isLt]; rfl)
end

/-! ## The claim -/

section
open Cert.AttnIdeal Cert.AttnIdeal.Gen Cert.AttnIdeal.Run

theorem equal : algebraic_AttnIdeal_AttnRefIdeal_pre_finite_args := by
  intro m ρ m' ρ' hp hagree
  refine ⟨fun c => fun y : Cert.AttnIdeal.S3x4096x512.Idx => ((inputsAt m c).dqkv (y 0).val (y 1).val (y 2).val : EReal),
    fun c => fun y : Cert.AttnIdeal.S8x256x768.Idx => ((inputsAt m c).dbias (y 0).val (y 1).val (y 2).val : EReal), ?_, ?_⟩
  · refine (θ_run Cert.AttnIdeal.defs _ _).mono (fun r h c => ?_) (run_main m ρ)
    have hv := Arrays.results (holds hp c) r h.1
    exact ⟨hv.1, hv.2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩
  · refine (θ_run Cert.AttnRefIdeal.defs _ _).mono (fun r h c => ?_) (Cert.AttnRefIdeal.Value.run (F := Ideal) m' ρ')
    have e0 := (h c).1.trans (val_main_v214_eq (F := Ideal) (StableHlo.launchContents m' c))
    have e1 := (h c).2.1.trans (val_main_v153_eq (F := Ideal) (StableHlo.launchContents m' c))
    obtain ⟨a0, a1, a2, a3, a4⟩ := hagree c
    refine ⟨e0.trans ?_, e1.trans ?_, (h c).2.2⟩
    · refine Eq.trans ?_ (ref0 (refHolds hp c))
      rw [← a0, ← a1, ← a2, ← a3, ← a4]
    · refine Eq.trans ?_ (ref1 (refHolds hp c))
      rw [← a0, ← a1, ← a2, ← a3, ← a4]
end

end Cert.AttnValue

end
-- ==== Proof.NormMath.lean ====
/-
  The gradient of the root-mean-square norm over the reals: the row form that the kernel computes and the form that the
  reference's derivative leaves.
-/
module

public import proofs.«01_k».proof.Proof.AttnMath

@[expose] public section

noncomputable section

namespace Cert.NormMath

open Idealize.ShloMosaic Cert.AttnMath

/-- The norm's small constant, as the programs' word gives it. -/
def eps : ℝ := (0x8637BD : ℝ) * 2 ^ (-43 : ℤ)

theorem eps_word : Ideal.ofBits .f32 0x358637BD#32 = ((eps : ℝ) : EReal) := by
  simp [Ideal.ofBits, Ideal.ieee, eps]

theorem eps_pos : 0 < eps := by unfold eps; positivity

theorem width_word : Ideal.ofBits .f32 0x44800000#32 = ((1024 : ℝ) : EReal) := by
  simp [Ideal.ofBits, Ideal.ieee]
  rw [← EReal.coe_mul]
  norm_num

/-- The mean square of a row plus the small constant. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- The row's scale. -/
def rs (x : Fin 1024 → ℝ) : ℝ := (Real.sqrt (ms x))⁻¹

theorem rs_sq (x : Fin 1024 → ℝ) : rs x * rs x = (ms x)⁻¹ := by
  rw [rs, ← mul_inv, Real.mul_self_sqrt (ms_pos x).le]

theorem rsqrt_ms (x : Fin 1024 → ℝ) : Ideal.rsqrt ((ms x : ℝ) : EReal) = (rs x : EReal) := by
  rw [Ideal.rsqrt_coe, if_neg (ms_pos x).not_gt, if_neg (ms_pos x).ne']
  rfl

/-- The norm's gradient in one row: `d` is the cotangent times the gain. -/
def back (x d : Fin 1024 → ℝ) (l : Fin 1024) : ℝ :=
  rs x * (d l - x l * rs x * ((∑ k, d k * (x k * rs x)) / 1024))

/-- What the derivative of the scale contributes, once for each factor of the square. -/
def tail (x d : Fin 1024 → ℝ) : ℝ := (∑ k, x k * d k) * (-(1 / 2) * (rs x / ms x)) / 1024

theorem back_eq (x d : Fin 1024 → ℝ) (l : Fin 1024) : back x d l = d l * rs x + x l * tail x d + tail x d * x l := by
  have e : ∑ k, d k * (x k * rs x) = (∑ k, x k * d k) * rs x := by
    rw [Finset.sum_mul]
    exact Finset.sum_congr rfl fun k _ => by ring
  have h : rs x / ms x = rs x * (rs x * rs x) := by rw [rs_sq, div_eq_mul_inv]
  rw [back, tail, e, h]
  ring

end Cert.NormMath

end
-- ==== Proof.GradXKernel.lean ====
/-
  The norm's gradient at one point of the grid: what the kernel body leaves in its block of 512 rows.
-/
module

public import proofs.«01_k».proof.Proof.NormMath
public import proofs.«01_k».proof.Proof.Gen.GradXIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GradXIdeal.Val

open Idealize.ShloMosaic Idealize.ShloMosaic.TcCoe Idealize.SL.Sem
open Cert.GradXIdeal Cert.GradXIdeal.Gen Cert.AttnMath Cert.NormMath

/-- The norm's gradient over one block, from the product `d` and the rows `x`. -/
theorem pay1_val {v56 : FVec Ideal S512x1024 .f32} {v57 : Vec Ideal S512x1024 .f32} {v69 : Vec Ideal S1x1024 .f32}
    (v82 : Vec Ideal S512x1024 .f32) {d x : Fin 512 → Fin 1024 → ℝ} {g : Fin 1024 → ℝ}
    (hd : ∀ r l, v56 (ix2 r l) = (d r l : EReal)) (hx : ∀ r l, v57 (ix2 r l) = (x r l : EReal)) (hg : ∀ l, v69 (ix2 0 l) = (g l : EReal))
    (r : Fin 512) (l : Fin 1024) :
    k0_pay1 v56 v57 v69 v82 (ix2 r l) = ((back (x r) (fun k => d r k * g k) l : ℝ) : EReal) + v82 (ix2 r l) := by
  pointwise [k0_pay1]
  have e : Ideal.rsqrt (Ideal.div (∑ k : Fin 1024, v57 (ix2 r k) * v57 (ix2 r k)) (Ideal.ofBits FTy.f32 1149239296#32)
      + Ideal.ofBits FTy.f32 897988541#32) = (rs (x r) : EReal) := by
    rw [← rsqrt_ms, ms, eps_word, width_word]
    simp only [hx, ← EReal.coe_mul, ← coe_sum]
    rw [div_real _ _ (by norm_num), ← EReal.coe_add]
  rw [e, width_word]
  simp only [hx, hd, hg, ← EReal.coe_mul, ← coe_sum]
  rw [div_real _ _ (by norm_num), ← EReal.coe_mul, ← EReal.coe_sub, ← EReal.coe_mul]
  rfl

/-- The product of one block of rows with the weight, in eleven parts of 512 columns. -/
def prod (x0 : Vec Ideal S3x512x512 .bf16) (x1 : Vec Ideal S512x4096 .bf16) (w : Vec Ideal S5632x1024 .bf16) : FVec Ideal S512x1024 .f32 :=
  k0_pay3
    (k0_pay2 (View.ld x0 (Rect.unit ![0, 0, 0] ![1, 512, 512] inb_S3x512x512_S1x512x512_0_0_0))
      (View.ld w (Rect.unit ![0, 0] ![512, 1024] inb_S5632x1024_S512x1024_0_0))
      (View.ld x0 (Rect.unit ![1, 0, 0] ![1, 512, 512] inb_S3x512x512_S1x512x512_1_0_0))
      (View.ld w (Rect.unit ![512, 0] ![512, 1024] inb_S5632x1024_S512x1024_512_0))
      (View.ld x0 (Rect.unit ![2, 0, 0] ![1, 512, 512] inb_S3x512x512_S1x512x512_2_0_0))
      (View.ld w (Rect.unit ![1024, 0] ![512, 1024] inb_S5632x1024_S512x1024_1024_0))
      (View.ld x1 (Rect.unit ![0, 0] ![512, 512] inb_S512x4096_S512x512_0_0))
      (View.ld w (Rect.unit ![1536, 0] ![512, 1024] inb_S5632x1024_S512x1024_1536_0))
      (View.ld x1 (Rect.unit ![0, 512] ![512, 512] inb_S512x4096_S512x512_0_512))
      (View.ld w (Rect.unit ![2048, 0] ![512, 1024] inb_S5632x1024_S512x1024_2048_0)))
    (View.ld x1 (Rect.unit ![0, 1024] ![512, 512] inb_S512x4096_S512x512_0_1024))
    (View.ld w (Rect.unit ![2560, 0] ![512, 1024] inb_S5632x1024_S512x1024_2560_0))
    (View.ld x1 (Rect.unit ![0, 1536] ![512, 512] inb_S512x4096_S512x512_0_1536))
    (View.ld w (Rect.unit ![3072, 0] ![512, 1024] inb_S5632x1024_S512x1024_3072_0))
    (View.ld x1 (Rect.unit ![0, 2048] ![512, 512] inb_S512x4096_S512x512_0_2048))
    (View.ld w (Rect.unit ![3584, 0] ![512, 1024] inb_S5632x1024_S512x1024_3584_0))
    (View.ld x1 (Rect.unit ![0, 2560] ![512, 512] inb_S512x4096_S512x512_0_2560))
    (View.ld w (Rect.unit ![4096, 0] ![512, 1024] inb_S5632x1024_S512x1024_4096_0))
    (View.ld x1 (Rect.unit ![0, 3072] ![512, 512] inb_S512x4096_S512x512_0_3072))
    (View.ld w (Rect.unit ![4608, 0] ![512, 1024] inb_S5632x1024_S512x1024_4608_0))
    (View.ld x1 (Rect.unit ![0, 3584] ![512, 512] inb_S512x4096_S512x512_0_3584))
    (View.ld w (Rect.unit ![5120, 0] ![512, 1024] inb_S5632x1024_S512x1024_5120_0))

/-- A sum over 5632 columns in eleven parts. -/
theorem sum_parts (f : ℕ → ℝ) : ∑ j : Fin 5632, f j.val = (∑ e : Fin 512, f e.val) + (∑ e : Fin 512, f (512 + e.val))
    + (∑ e : Fin 512, f (1024 + e.val)) + (∑ e : Fin 512, f (1536 + e.val)) + (∑ e : Fin 512, f (2048 + e.val))
    + (∑ e : Fin 512, f (2560 + e.val)) + (∑ e : Fin 512, f (3072 + e.val)) + (∑ e : Fin 512, f (3584 + e.val))
    + (∑ e : Fin 512, f (4096 + e.val)) + (∑ e : Fin 512, f (4608 + e.val)) + (∑ e : Fin 512, f (5120 + e.val)) := by
  have e : ∀ g : Fin 11 → ℝ, ∑ a, g a = g 0 + g 1 + g 2 + g 3 + g 4 + g 5 + g 6 + g 7 + g 8 + g 9 + g 10 := fun g => by
    simp only [Fin.sum_univ_castSucc, Fin.sum_univ_zero, zero_add]
    rfl
  rw [Fin.sum_univ_tiles 11 512 rfl, e]
  norm_num

theorem prod_val {x0 : Vec Ideal S3x512x512 .bf16} {x1 : Vec Ideal S512x4096 .bf16} {w : Vec Ideal S5632x1024 .bf16}
    {z : Fin 512 → ℕ → ℝ} {u : ℕ → Fin 1024 → ℝ} (h0 : ∀ p r e, x0 (ix3 p r e) = (z r (512 * p.val + e.val) : EReal))
    (h1 : ∀ r e, x1 (ix2 r e) = (z r (1536 + e.val) : EReal)) (hw : ∀ j l, w (ix2 j l) = (u j.val l : EReal)) (r : Fin 512) (l : Fin 1024) :
    prod x0 x1 w (ix2 r l) = ((∑ j : Fin 5632, z r j.val * u j.val l : ℝ) : EReal) := by
  rw [sum_parts fun j => z r j * u j l]
  pointwise [prod, k0_pay2, k0_pay3]
  simp only [h0, h1, hw, ← EReal.coe_mul, ← coe_sum, ← EReal.coe_add]
  norm_num [← add_assoc]

theorem canon_whole {e : EltTy} (s : Shape) [∀ e, Nonempty (Elt Ideal e)] (w : s.Idx → Elt Ideal e) : View.canon [⟨Rect.whole s, w⟩] = w :=
  funext fun y => (congrArg _ (Rect.emb_whole_apply s y).symm).trans (View.canon_cons_emb (Rect.whole s) w [] y)

variable (m : (ℓ : Loc nD τ sig) → Buf (Elt Ideal) ℓ) (c : Dev nD)

theorem scratch_step (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  frame_out
  unfold sout0_B_0
  rfl

theorem read_copy (r : Rect S5632x1024) (w : Vec Ideal S5632x1024 .bf16) :
    (View.whole cc0_scratch0).readCov [⟨Rect.whole S5632x1024, w⟩] r.toLoadRect = View.ld w r := by
  rw [View.readCov_eq_canon']
  exact funext fun j => congrFun (canon_whole S5632x1024 w) _

/-- The weight's copy after every point. -/
theorem scratch (n : ℕ) (hn : n < cfg0.N) : (outsAt0 m c n hn).2 = V m c main_v18 := by
  induction n with
  | zero =>
    rw [outsAt0_A m c ⟨0, hn⟩ rfl]
    frame_out
    exact canon_whole _ _
  | succ n ih =>
    have hN := lt_of_lt_of_eq hn (show cfg0.N = 8 from N_0)
    exact (scratch_step m c ⟨n + 1, hn⟩ (by show ¬(n + 1) % 8 = 0; omega)).trans (ih _)

/-- What a point leaves in its block, before it is put into the array. -/
theorem point (t : Fin cfg0.N) (y : S512x1024.Idx) :
    (outsAt0 m c t.val t.isLt).1 y = k0_pay1 (prod (iblk m c 0 t) (iblk m c 1 t) (V m c main_v18)) (iblk m c 2 t) (iblk m c 4 t) (iblk m c 3 t) y := by
  by_cases h0 : t.val % 8 = 0
  · rw [outsAt0_A m c t h0]
    frame_out
    rw [show ReadAs.same.apply (View.read (Elt Ideal) (View.whole main_v18) (V m c main_v18)) = V m c main_v18 from rfl]
    repeat rw [read_copy]
    rfl
  · rw [outsAt0_B m c t h0]
    frame_out
    rw [scratch, Idealize.ShloMosaic.read_unread_whole]
    rfl

end Cert.GradXIdeal.Val

end
-- ==== Proof.GradXArray.lean ====
/-
  The norm's gradient as an array: the host's arrangement of the arguments, and the blocks of rows put together.
-/
module

public import proofs.«01_k».proof.Proof.GradXKernel
public import Idealize.ShloMosaic.Lib.StableHlo.RunLoop
public import Idealize.ShloMosaic.Lib.Claim

@[expose] public section

set_option maxRecDepth 16384

noncomputable section

namespace Cert.GradXIdeal.Val

open Idealize.ShloMosaic Idealize.ShloMosaic.TcCoe Idealize.SL.Sem
open Cert.GradXIdeal Cert.GradXIdeal.Gen Cert.AttnMath Cert.NormMath

variable (m : (ℓ : Loc nD τ sig) → Buf (Elt Ideal) ℓ) (c : Dev nD)

/-- Three arrays of 512 columns, stacked. -/
def stacked (x y z : FVec Ideal S1x4096x512 .f32) : FVec Ideal S3x4096x512 .f32 :=
  concatenate S3x4096x512 0 [⟨S1x4096x512, x⟩, ⟨S1x4096x512, y⟩, ⟨S1x4096x512, z⟩] concatenates_S1x4096x512_S1x4096x512_S1x4096x512_S3x4096x512_d0

theorem stacked_at (x y z : FVec Ideal S1x4096x512 .f32) (p : Fin 3) (n : Fin 4096) (l : Fin 512) :
    stacked x y z (ix3 p n l) = if p.val < 1 then x (ix3 0 n l) else if p.val < 2 then y (ix3 0 n l) else z (ix3 0 n l) := by
  unfold stacked
  pointwise
  match p with
  | ⟨0, _⟩ => rfl
  | ⟨1, _⟩ => rfl
  | ⟨2, _⟩ => rfl

/-- A group of 512 columns. -/
def cols (o : Nat) (h : S1x4096x5632.Slices ![0, 0, o] S1x4096x512) (x : FVec Ideal S1x4096x5632 .f32) : FVec Ideal S1x4096x512 .f32 :=
  broadcastInDim S1x4096x512 ![1, 2] bcast_S4096x512_S1x4096x512_1_2
    (shapeCast S4096x512 (extractStridedSlice S1x4096x512 ![0, 0, o] x h) shapeCasts_S1x4096x512_S4096x512)

theorem cols_at (o : Nat) (ho : o ≤ 1024) (h : S1x4096x5632.Slices ![0, 0, o] S1x4096x512) (x : FVec Ideal S1x4096x5632 .f32) (n : Fin 4096) (l : Fin 512) :
    cols o h x (ix3 0 n l) = x (ix3 0 n ⟨o + l.val, by omega⟩) := by
  pointwise [cols]

theorem v9_eq : V m c main_v9 = stacked (cols 0 slices_S1x4096x5632_S1x4096x512_0_0_0 (m ((c : Thread nD τ).loc main_arg3)))
    (cols 512 slices_S1x4096x5632_S1x4096x512_0_0_512 (m ((c : Thread nD τ).loc main_arg3)))
    (cols 1024 slices_S1x4096x5632_S1x4096x512_0_0_1024 (m ((c : Thread nD τ).loc main_arg3))) := by
  unfold V; simp only [hostOps0, List.flatten_cons, List.flatten_nil, List.append_nil, List.cons_append, List.nil_append]
  after_results
  change stacked _ _ _ = stacked _ _ _
  refine congr (congr (congrArg stacked ?_) ?_) ?_
  · after_results_simp; rfl
  · after_results_simp; rfl
  · after_results_simp; rfl

theorem v10_eq : V m c main_v10 = (truncf .bf16 (V m c main_v9 : FVec Ideal S3x4096x512 .f32) bitsLt_bf16_f32 : FVec Ideal S3x4096x512 .bf16) := by
  unfold V; simp only [hostOps0, List.flatten_cons, List.flatten_nil, List.append_nil, List.cons_append, List.nil_append]
  after_results

/-- Three of the cotangent's groups of 512 columns, stacked. -/
theorem v10_at (p : Fin 3) (n : Fin 4096) (e : Fin 512) :
    V m c main_v10 (ix3 p n e) = m ((c : Thread nD τ).loc main_arg3) (ix3 0 n ⟨512 * p.val + e.val, by omega⟩) := by
  rw [v10_eq, v9_eq]
  show stacked _ _ _ (ix3 p n e) = _
  rw [stacked_at, cols_at _ (by norm_num), cols_at _ (by norm_num), cols_at _ (by norm_num)]
  match p with
  | ⟨0, _⟩ => rfl
  | ⟨1, _⟩ => rfl
  | ⟨2, _⟩ => rfl

/-- The cotangent's other columns. -/
theorem v13_at (n : Fin 4096) (e : Fin 4096) :
    V m c main_v13 (ix2 n e) = m ((c : Thread nD τ).loc main_arg3) (ix3 0 n ⟨1536 + e.val, by omega⟩) := by
  unfold V; simp only [hostOps0, List.flatten_cons, List.flatten_nil, List.append_nil, List.cons_append, List.nil_append]
  entry_read
  pointwise

theorem v14_at (n : Fin 4096) (l : Fin 1024) : V m c main_v14 (ix2 n l) = m ((c : Thread nD τ).loc main_arg0) (ix3 0 n l) := by
  unfold V; simp only [hostOps0, List.flatten_cons, List.flatten_nil, List.append_nil, List.cons_append, List.nil_append]
  entry_read
  pointwise

theorem v15_at (n : Fin 4096) (l : Fin 1024) : V m c main_v15 (ix2 n l) = m ((c : Thread nD τ).loc main_arg4) (ix3 0 n l) := by
  unfold V; simp only [hostOps0, List.flatten_cons, List.flatten_nil, List.append_nil, List.cons_append, List.nil_append]
  entry_read
  pointwise

theorem v18_at (j : Fin 5632) (l : Fin 1024) : V m c main_v18 (ix2 j l) = m ((c : Thread nD τ).loc main_arg2) (ix3 0 l j) := by
  unfold V; simp only [hostOps0, List.flatten_cons, List.flatten_nil, List.append_nil, List.cons_append, List.nil_append]
  entry_read
  pointwise

theorem idx : ∀ t : Fin cfg0.N, win0_0.index t = ![0, t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

variable (t : Fin cfg0.N)

theorem row_lt (r : Fin 512) : 512 * t.val + r.val < 4096 := by
  have := lt_of_lt_of_eq t.isLt N_0
  omega

theorem blk0 (p : Fin 3) (r : Fin 512) (e : Fin 512) :
    iblk m c 0 t (ix3 p r e) = V m c main_v10 (ix3 p ⟨512 * t.val + r.val, row_lt t r⟩ e) := by
  blk_ext [iblk, idx t]

theorem blk1 (r : Fin 512) (e : Fin 4096) :
    iblk m c 1 t (ix2 r e) = V m c main_v13 (ix2 ⟨512 * t.val + r.val, row_lt t r⟩ e) := by
  blk_ext [iblk, idx t]

theorem blk2 (r : Fin 512) (e : Fin 1024) :
    iblk m c 2 t (ix2 r e) = V m c main_v14 (ix2 ⟨512 * t.val + r.val, row_lt t r⟩ e) := by
  blk_ext [iblk, idx t]

theorem blk3 (r : Fin 512) (e : Fin 1024) :
    iblk m c 3 t (ix2 r e) = V m c main_v15 (ix2 ⟨512 * t.val + r.val, row_lt t r⟩ e) := by
  blk_ext [iblk, idx t]

theorem blk4 (e : Fin 1024) : iblk m c 4 t (ix2 0 e) = m ((c : Thread nD τ).loc main_arg1) (ix2 0 e) := by
  rw [← V_main_arg1 m c]
  blk_ext [iblk, idx t]

/-- The real numbers that the arguments hold. -/
structure Holds (x z : ℕ → ℕ → ℝ) (g : ℕ → ℝ) (w : ℕ → ℕ → ℝ) : Prop where
  x : ∀ (n : Fin 4096) (l : Fin 1024), m ((c : Thread nD τ).loc main_arg0) (ix3 0 n l) = (x n.val l.val : EReal)
  g : ∀ l : Fin 1024, m ((c : Thread nD τ).loc main_arg1) (ix2 0 l) = (g l.val : EReal)
  w : ∀ (l : Fin 1024) (j : Fin 5632), m ((c : Thread nD τ).loc main_arg2) (ix3 0 l j) = (w l.val j.val : EReal)
  z : ∀ (n : Fin 4096) (j : Fin 5632), m ((c : Thread nD τ).loc main_arg3) (ix3 0 n j) = (z n.val j.val : EReal)

/-- One row of the gradient before the other branch's gradient is added. -/
def grad (x z : ℕ → ℕ → ℝ) (g : ℕ → ℝ) (w : ℕ → ℕ → ℝ) (n : ℕ) (l : Fin 1024) : ℝ :=
  back (fun k => x n k.val) (fun k => (∑ j : Fin 5632, z n j.val * w k.val j.val) * g k.val) l

variable {m c} {x z : ℕ → ℕ → ℝ} {g : ℕ → ℝ} {w : ℕ → ℕ → ℝ} (h : Holds m c x z g w)
include h

theorem result : (dats m 0 c).arrAt 5 cfg0.N
    = fun y : S4096x1024.Idx => (grad x z g w (y 0).val (y 1) : EReal) + m ((c : Thread nD τ).loc main_arg4) (ix3 0 (y 0) (y 1)) := by
  refine (dats m 0 c).arrAt_eq_of_covers 5 _ (by decide +kernel) fun t hf y => ?_
  blk_simp
  rw [after0_5]
  refine (point m c t y).trans ?_
  obtain ⟨r, l, rfl⟩ : ∃ (r : Fin 512) (l : Fin 1024), y = ix2 r l := ⟨y 0, y 1, by pointwise⟩
  rw [pay1_val (iblk m c 3 t) (d := fun r l => ∑ j : Fin 5632, z (512 * t.val + r.val) j.val * w l.val j.val) (x := fun r l => x (512 * t.val + r.val) l.val) (g := fun l => g l.val)
    (prod_val (z := fun r j => z (512 * t.val + r.val) j) (u := fun j l => w l.val j)
      (fun p r e => by rw [blk0, v10_at, h.z]) (fun r e => by rw [blk1, v13_at, h.z]) (fun j l => by rw [v18_at, h.w]))
    (fun r l => by rw [blk2, v14_at, h.x]) (fun l => by rw [blk4, h.g]), blk3, v15_at]
  have e1 : (win0_5.blk t).view.emb (ix2 r l) 1 = l := Fin.ext (by blk_simp [idx t])
  have e0 : (win0_5.blk t).view.emb (ix2 r l) 0 = ⟨512 * t.val + r.val, row_lt t r⟩ := Fin.ext (by
    blk_simp [idx t]
    show t.val * 512 + r.val = 512 * t.val + r.val
    omega)
  have e2 : win0_5.index t 0 * 512 + (ix2 r l 0 : Fin 512).val = 512 * t.val + r.val := by
    rw [(idx t).2.2.2.2.2]
    show t.val * 512 + r.val = 512 * t.val + r.val
    omega
  rw [e1, e0, e2]
  rfl

end Cert.GradXIdeal.Val

end
-- ==== Proof.GradXRef.lean ====
/-
  The reference's norm gradient as real numbers.
-/
module

public import proofs.«01_k».proof.Proof.NormMath
public import proofs.«01_k».proof.Proof.AttnRefScore
public import proofs.«01_k».proof.Proof.Gen.GradXRefIdeal.Read
public import Idealize.ShloMosaic.Lib.Pointwise

@[expose] public section

set_option maxRecDepth 16384

noncomputable section

namespace Cert.GradXRefIdeal.Val

open Idealize.ShloMosaic Idealize.ShloMosaic.TcCoe Idealize.SL.Sem
open Cert.GradXRefIdeal Cert.GradXRefIdeal.Gen Cert.GradXRefIdeal.Read Cert.AttnMath Cert.NormMath

theorem half_word : Ideal.ofBits .f32 0xBF000000#32 = ((-(1 / 2) : ℝ) : EReal) := by
  simp [Ideal.ofBits, Ideal.ieee]
  rw [← EReal.coe_mul]
  norm_num

/-- The sum over two axes of size one. -/
theorem ones_at (y : FVec Ideal S1x4096x1 .f32) (n : Fin 4096) :
    Host.reduceAdd y (val_main_cst_5 (F := Ideal)) reducesTo_S1x4096x1_S4096_d0_2 h_S_ (ix1 n) = y (ix3 0 n 0) := by
  unfold val_main_cst_5
  pointwise
  refine (Cert.AttnRefIdeal.Val.sum_drop reducesTo_S1x4096x1_S4096_d0_2 y (ix1 n) (fun _ : Unit => ix3 0 n 0) (fun _ _ _ => rfl) (fun _ => ?_) (fun i' hi' => ⟨(), ?_⟩)).trans ?_
  · exact funext fun a => match a with | ⟨0, _⟩ => rfl
  · have h0 : (i' 1).val = n.val := congrArg Fin.val (congrFun hi' 0)
    have h3 : (i' 0).val < 1 := (i' 0).isLt
    have h4 : (i' 2).val < 1 := (i' 2).isLt
    refine funext fun a => Fin.ext ?_
    match a with
    | ⟨0, _⟩ => exact (Nat.lt_one_iff.1 h3).symm
    | ⟨1, _⟩ => exact h0.symm
    | ⟨2, _⟩ => exact (Nat.lt_one_iff.1 h4).symm
  · simp

variable {x0 : FVec Ideal S1x4096x1024 .f32} {x1 : FVec Ideal S1x1024 .f32} {x2 : FVec Ideal S1x1024x5632 .f32} {x3 : FVec Ideal S1x4096x5632 .f32}
  (x4 : FVec Ideal S1x4096x1024 .f32) {x z : ℕ → ℕ → ℝ} {g : ℕ → ℝ} {w : ℕ → ℕ → ℝ}

section
variable (hx : ∀ (n : Fin 4096) (l : Fin 1024), x0 (ix3 0 n l) = (x n.val l.val : EReal))
include hx

theorem mean_at (n : Fin 4096) : val_main_v8 (F := Ideal) x0 (ix3 0 n 0) = (ms (fun k => x n.val k.val) : EReal) := by
  pointwise [val_main_v8, val_main_v7, val_main_v6, val_main_v5, val_main_v4, val_main_v3, val_main_v2, val_main_cst, val_main_cst_0, val_main_cst_1]
  simp only [hx, eps_word, width_word, ← EReal.coe_mul, ← coe_sum]
  rw [div_real _ _ (by norm_num), ← EReal.coe_add]
  rfl

theorem scale_at (n : Fin 4096) : val_main_v9 (F := Ideal) x0 (ix3 0 n 0) = (rs (fun k => x n.val k.val) : EReal) := by
  unfold val_main_v9
  rw [← rsqrt_ms, ← mean_at hx]
  pointwise

theorem slope_at (n : Fin 4096) : val_main_v12 (F := Ideal) x0 (ix3 0 n 0)
    = ((-(1 / 2) * (rs (fun k => x n.val k.val) / ms (fun k => x n.val k.val)) : ℝ) : EReal) := by
  have e : val_main_v12 (F := Ideal) x0 (ix3 0 n 0) = Ideal.ofBits .f32 0xBF000000#32 * Ideal.div (val_main_v9 (F := Ideal) x0 (ix3 0 n 0)) (val_main_v8 (F := Ideal) x0 (ix3 0 n 0)) := by
    unfold val_main_v12 val_main_v11 val_main_v10 val_main_cst_2
    generalize val_main_v9 (F := Ideal) x0 = a
    generalize val_main_v8 (F := Ideal) x0 = b
    pointwise
  rw [e, scale_at hx, mean_at hx, half_word, div_real _ _ (ms_pos _).ne', ← EReal.coe_mul]
end

section
variable (hz : ∀ (n : Fin 4096) (j : Fin 5632), x3 (ix3 0 n j) = (z n.val j.val : EReal)) (hg : ∀ l : Fin 1024, x1 (ix2 0 l) = (g l.val : EReal))
  (hw : ∀ (l : Fin 1024) (j : Fin 5632), x2 (ix3 0 l j) = (w l.val j.val : EReal))
include hz hg hw

theorem cot_at (n : Fin 4096) (l : Fin 1024) : val_main_v21 (F := Ideal) x1 x2 x3 (ix3 0 n l)
    = (((∑ j : Fin 5632, z n.val j.val * w l.val j.val) * g l.val : ℝ) : EReal) := by
  pointwise [val_main_v21, val_main_v20, val_main_v19, val_main_v15, val_main_v0, val_main_v1]
  simp only [hz, hg, hw, ← EReal.coe_mul, ← coe_sum]

variable (hx : ∀ (n : Fin 4096) (l : Fin 1024), x0 (ix3 0 n l) = (x n.val l.val : EReal))
include hx

theorem tail_at (n : Fin 4096) : val_main_v31 (F := Ideal) x0 x1 x2 x3 (ix1 n)
    = (tail (fun k => x n.val k.val) (fun k => (∑ j : Fin 5632, z n.val j.val * w k.val j.val) * g k.val) : EReal) := by
  unfold val_main_v31
  rw [ones_at]
  have e : val_main_v30 (F := Ideal) x0 x1 x2 x3 (ix3 0 n 0) = Ideal.div ((∑ k : Fin 1024, x0 (ix3 0 n k) * val_main_v21 (F := Ideal) x1 x2 x3 (ix3 0 n k))
      * val_main_v12 (F := Ideal) x0 (ix3 0 n 0)) (Ideal.ofBits .f32 0x44800000#32) := by
    unfold val_main_v30 val_main_v29 val_main_v28 val_main_v24 val_main_v23 val_main_v22 val_main_cst_3 val_main_cst_4
    generalize val_main_v21 (F := Ideal) x1 x2 x3 = a
    generalize val_main_v12 (F := Ideal) x0 = b
    pointwise
  rw [e]
  simp only [hx, slope_at hx, cot_at hz hg hw, width_word, ← EReal.coe_mul, ← coe_sum]
  rw [div_real _ _ (by norm_num)]
  rfl

theorem result (n : Fin 4096) (l : Fin 1024) : val_main_v38 (F := Ideal) x0 x1 x2 x3 x4 (ix2 n l)
    = (back (fun k => x n.val k.val) (fun k => (∑ j : Fin 5632, z n.val j.val * w k.val j.val) * g k.val) l : EReal) + x4 (ix3 0 n l) := by
  have e : val_main_v38 (F := Ideal) x0 x1 x2 x3 x4 (ix2 n l)
      = x4 (ix3 0 n l) + val_main_v21 (F := Ideal) x1 x2 x3 (ix3 0 n l) * val_main_v9 (F := Ideal) x0 (ix3 0 n 0)
        + x0 (ix3 0 n l) * val_main_v31 (F := Ideal) x0 x1 x2 x3 (ix1 n) + val_main_v31 (F := Ideal) x0 x1 x2 x3 (ix1 n) * x0 (ix3 0 n l) := by
    unfold val_main_v38 val_main_v37 val_main_v36 val_main_v35 val_main_v34 val_main_v33 val_main_v32 val_main_v27 val_main_v26 val_main_v25
    generalize val_main_v21 (F := Ideal) x1 x2 x3 = a
    generalize val_main_v9 (F := Ideal) x0 = b
    generalize val_main_v31 (F := Ideal) x0 x1 x2 x3 = d
    pointwise
  rw [e, cot_at hz hg hw, scale_at hx, tail_at hz hg hw hx, hx, back_eq]
  simp only [← EReal.coe_mul, EReal.coe_add]
  rw [add_comm _ (x4 _), add_assoc, add_assoc, add_assoc]
end

end Cert.GradXRefIdeal.Val

end
-- ==== Proof.GradXValue.lean ====
/-
  The norm's gradient's value claim: from finite arguments both programs end at the same gradient.
-/
module

public import proofs.«01_k».proof.Defs
public import proofs.«01_k».proof.Proof.Finite
public import proofs.«01_k».proof.Proof.GradXArray
public import proofs.«01_k».proof.Proof.GradXRef
public import proofs.«01_k».proof.Proof.Gen.GradXRefIdeal.Run

@[expose] public section

set_option maxRecDepth 16384

noncomputable section

namespace Cert.GradXValue

open Idealize.ShloMosaic Idealize.ShloMosaic.TcCoe Idealize.SL.Sem
open Cert.AttnMath Cert.NormMath Cert.Finite Cert.GradXRefIdeal.Read

theorem preFacts : Cert.Pre_finite_proj.Facts := ⟨by decide, by decide, by decide, by decide⟩

attribute [local instance] preFacts

variable (m : (ℓ : Loc Cert.GradXIdeal.nD Cert.GradXIdeal.τ Cert.GradXIdeal.sig) → Buf (Elt Ideal) ℓ) (c : Dev Cert.GradXIdeal.nD)

def arg0 : FVec Ideal ⟨3, ![1, 4096, 1024]⟩ .f32 := m ((c.tc : Thread Cert.GradXIdeal.nD Cert.GradXIdeal.τ).loc Cert.GradXIdeal.main_arg0)
def arg1 : FVec Ideal ⟨2, ![1, 1024]⟩ .f32 := m ((c.tc : Thread Cert.GradXIdeal.nD Cert.GradXIdeal.τ).loc Cert.GradXIdeal.main_arg1)
def arg2 : FVec Ideal ⟨3, ![1, 1024, 5632]⟩ .f32 := m ((c.tc : Thread Cert.GradXIdeal.nD Cert.GradXIdeal.τ).loc Cert.GradXIdeal.main_arg2)
def arg3 : FVec Ideal ⟨3, ![1, 4096, 5632]⟩ .f32 := m ((c.tc : Thread Cert.GradXIdeal.nD Cert.GradXIdeal.τ).loc Cert.GradXIdeal.main_arg3)
def arg4 : FVec Ideal ⟨3, ![1, 4096, 1024]⟩ .f32 := m ((c.tc : Thread Cert.GradXIdeal.nD Cert.GradXIdeal.τ).loc Cert.GradXIdeal.main_arg4)

variable {m} (hp : Pre_GradXIdeal_finite_proj m)
include hp

theorem real0 (i) : arg0 m c i = ((EReal.toReal (arg0 m c i) : ℝ) : EReal) :=
  real_of_below _ (by rw [← infinity_word]; exact congrFun (hp c).1 i)
theorem real1 (i) : arg1 m c i = ((EReal.toReal (arg1 m c i) : ℝ) : EReal) :=
  real_of_below _ (by rw [← infinity_word]; exact congrFun (hp c).2.1 i)
theorem real2 (i) : arg2 m c i = ((EReal.toReal (arg2 m c i) : ℝ) : EReal) :=
  real_of_below _ (by rw [← infinity_word]; exact congrFun (hp c).2.2.1 i)
theorem real3 (i) : arg3 m c i = ((EReal.toReal (arg3 m c i) : ℝ) : EReal) :=
  real_of_below _ (by rw [← infinity_word]; exact congrFun (hp c).2.2.2 i)

theorem holds : Cert.GradXIdeal.Val.Holds m c (planeOf (arg0 m c)) (planeOf (arg3 m c)) (rowOf (arg1 m c)) (planeOf (arg2 m c)) where
  x := planeOf_at (real0 c hp)
  g := rowOf_at (real1 c hp)
  w := planeOf_at (real2 c hp)
  z := planeOf_at (real3 c hp)

omit hp
variable (m)

/-- The gradient that both programs end at. -/
def grad : Cert.GradXIdeal.S4096x1024.Idx → EReal := fun y =>
  (Cert.GradXIdeal.Val.grad (planeOf (arg0 m c)) (planeOf (arg3 m c)) (rowOf (arg1 m c)) (planeOf (arg2 m c)) (y 0).val (y 1) : EReal) + arg4 m c (ix3 0 (y 0) (y 1))

variable {m}

theorem reference (hp : Pre_GradXIdeal_finite_proj m) :
    val_main_v38 (F := Ideal) (arg0 m c) (arg1 m c) (arg2 m c) (arg3 m c) (arg4 m c) = grad m c := funext fun y => by
  obtain ⟨n, l, rfl⟩ : ∃ (n : Fin 4096) (l : Fin 1024), y = ix2 n l := ⟨y 0, y 1, by pointwise⟩
  exact Cert.GradXRefIdeal.Val.result (arg4 m c) (planeOf_at (real3 c hp)) (rowOf_at (real1 c hp)) (planeOf_at (real2 c hp)) (planeOf_at (real0 c hp)) n l

theorem equal : algebraic_GradXIdeal_GradXRefIdeal_pre_finite_proj := by
  intro m ρ m' ρ' hp hagree
  refine ⟨fun c => grad m c, ?_, ?_⟩
  · refine (θ_run Cert.GradXIdeal.defs _ _).mono (fun r h c => ?_) (Cert.GradXIdeal.Value.run_blocks (F := Ideal) m ρ)
    exact ⟨(h c).1.trans (Cert.GradXIdeal.Val.result (holds c hp)), (h c).2⟩
  · refine (θ_run Cert.GradXRefIdeal.defs _ _).mono (fun r h c => ?_) (Cert.GradXRefIdeal.Value.run (F := Ideal) m' ρ')
    have e0 := (h c).1.trans (val_main_v38_eq (F := Ideal) m' c)
    obtain ⟨a0, a1, a2, a3, a4⟩ := hagree c
    refine ⟨e0.trans ?_, (h c).2⟩
    refine Eq.trans ?_ (reference c hp)
    unfold arg0 arg1 arg2 arg3 arg4
    rw [← a0, ← a1, ← a2, ← a3, ← a4]

end Cert.GradXValue

end
-- ==== Proof.GradWKernel.lean ====
/-
  The projection's weight gradient at one point of the grid: what the kernel body leaves in its block of 512 rows, and in
  the gain's gradient that it adds up over the points.
-/
module

public import proofs.«01_k».proof.Proof.NormMath
public import proofs.«01_k».proof.Proof.Gen.GradWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GradWIdeal.Val

open Idealize.ShloMosaic Idealize.ShloMosaic.TcCoe Idealize.SL.Sem
open Cert.GradWIdeal Cert.GradWIdeal.Gen Cert.AttnMath

/-- The product of a block of the cotangent's first columns with the normed rows. -/
theorem head_val {v18 : Vec Ideal S1x4096x512 .bf16} {v20 : Vec Ideal S4096x1024 .bf16} {z : Fin 4096 → Fin 512 → ℝ} {x : Fin 4096 → Fin 1024 → ℝ}
    (hz : ∀ n r, v18 (ix3 0 n r) = (z n r : EReal)) (hx : ∀ n l, v20 (ix2 n l) = (x n l : EReal)) (r : Fin 512) (l : Fin 1024) :
    k0_pay3 (k0_pay2 (F := Ideal)) v18 v20 (ix2 r l) = ((∑ n, z n r * x n l : ℝ) : EReal) := by
  pointwise [k0_pay3, k0_pay2]
  simp only [hz, hx, ← EReal.coe_mul, ← coe_sum]

/-- The product of a block of the cotangent's other columns with the normed rows. -/
theorem rest_val {v18 : Vec Ideal S4096x512 .bf16} {v20 : Vec Ideal S4096x1024 .bf16} {z : Fin 4096 → Fin 512 → ℝ} {x : Fin 4096 → Fin 1024 → ℝ}
    (hz : ∀ n r, v18 (ix2 n r) = (z n r : EReal)) (hx : ∀ n l, v20 (ix2 n l) = (x n l : EReal)) (r : Fin 512) (l : Fin 1024) :
    k0_pay4 (k0_pay2 (F := Ideal)) v18 v20 (ix2 r l) = ((∑ n, z n r * x n l : ℝ) : EReal) := by
  pointwise [k0_pay4, k0_pay2]
  simp only [hz, hx, ← EReal.coe_mul, ← coe_sum]

theorem scaled_val {v17 : Vec Ideal S512x1024 .f32} {v18 : Vec Ideal S1x1024 .f32} {p : Fin 512 → Fin 1024 → ℝ} {g : Fin 1024 → ℝ}
    (hp : ∀ r l, v17 (ix2 r l) = (p r l : EReal)) (hg : ∀ l, v18 (ix2 0 l) = (g l : EReal)) (r : Fin 512) (l : Fin 1024) :
    k0_pay5 v17 v18 (ix2 r l) = ((p r l * g l : ℝ) : EReal) := by
  pointwise [k0_pay5]
  rw [hp, hg, EReal.coe_mul]

theorem added_val {v17 : Vec Ideal S512x1024 .f32} {v23 : Vec Ideal S1x1024 .f32} {v25 : Vec Ideal S512x1024 .bf16} {p w : Fin 512 → Fin 1024 → ℝ} {a : Fin 1024 → ℝ}
    (hp : ∀ r l, v17 (ix2 r l) = (p r l : EReal)) (ha : ∀ l, v23 (ix2 0 l) = (a l : EReal)) (hw : ∀ r l, v25 (ix2 r l) = (w r l : EReal)) (l : Fin 1024) :
    k0_pay6 v17 v23 v25 (ix2 0 l) = ((a l + ∑ r, p r l * w r l : ℝ) : EReal) := by
  pointwise [k0_pay6]
  simp only [hp, ha, hw, ← EReal.coe_mul, ← coe_sum, ← EReal.coe_add]

theorem zeros_val (l : Fin 1024) : k0_pay1 (F := Ideal) (ix2 0 l) = ((0 : ℝ) : EReal) := by
  pointwise [k0_pay1]
  rfl

variable (m : (ℓ : Loc nD τ sig) → Buf (Elt Ideal) ℓ) (c : Dev nD) (t : Fin cfg0.N)

/-- The block's product. -/
def part : Vec Ideal S512x1024 .f32 :=
  if t.val < 3 then k0_pay3 (k0_pay2 (F := Ideal)) (iblk m c 1 t) (iblk m c 0 t) else k0_pay4 (k0_pay2 (F := Ideal)) (iblk m c 2 t) (iblk m c 0 t)

theorem first (h0 : t.val % 11 = 0) (h2 : t.val < 3) (h3 : ¬3 ≤ t.val) :
    outsAt0 m c t.val t.isLt = (k0_pay5 (part m c t) (iblk m c 3 t), k0_pay6 (part m c t) (k0_pay1 (F := Ideal)) (iblk m c 4 t)) := by
  rw [part, if_pos h2, outsAt0_A m c t h0 h2 h3]
  exact Prod.ext (by frame_out) (by frame_out)

/-- What the points before have added to the gain's gradient. -/
def before : Vec Ideal S1x1024 .f32 := (outsAt0 m c (t.val - 1) (Nat.lt_of_le_of_lt (Nat.sub_le _ _) t.isLt)).2

theorem later (h0 : ¬t.val % 11 = 0) :
    outsAt0 m c t.val t.isLt = (k0_pay5 (part m c t) (iblk m c 3 t), k0_pay6 (part m c t) (before m c t) (iblk m c 4 t)) := by
  by_cases h2 : t.val < 3
  · rw [part, if_pos h2, outsAt0_B m c t h0 h2 (by omega)]
    unfold before
    exact Prod.ext (by frame_out) (by frame_out)
  · rw [part, if_neg h2, outsAt0_C m c t h0 h2 (by omega)]
    unfold before
    exact Prod.ext (by frame_out) (by frame_out)

end Cert.GradWIdeal.Val

end
-- ==== Proof.GradWArray.lean ====
/-
  The projection's weight gradient and the gain's gradient as arrays: the host's arrangement of the arguments, the blocks
  of rows put together, and the sum over the blocks.
-/
module

public import proofs.«01_k».proof.Proof.GradWKernel
public import Idealize.ShloMosaic.Lib.StableHlo.RunLoop
public import Idealize.ShloMosaic.Lib.Claim

@[expose] public section

set_option maxRecDepth 16384

noncomputable section

namespace Cert.GradWIdeal.Val

open Idealize.ShloMosaic Idealize.ShloMosaic.TcCoe Idealize.SL.Sem
open Cert.GradWIdeal Cert.GradWIdeal.Gen Cert.AttnMath Cert.NormMath

variable (m : (ℓ : Loc nD τ sig) → Buf (Elt Ideal) ℓ) (c : Dev nD)

/-- Three arrays of 512 columns, stacked. -/
def stacked (x y z : FVec Ideal S1x4096x512 .f32) : FVec Ideal S3x4096x512 .f32 :=
  concatenate S3x4096x512 0 [⟨S1x4096x512, x⟩, ⟨S1x4096x512, y⟩, ⟨S1x4096x512, z⟩] concatenates_S1x4096x512_S1x4096x512_S1x4096x512_S3x4096x512_d0

theorem stacked_at (x y z : FVec Ideal S1x4096x512 .f32) (p : Fin 3) (n : Fin 4096) (l : Fin 512) :
    stacked x y z (ix3 p n l) = if p.val < 1 then x (ix3 0 n l) else if p.val < 2 then y (ix3 0 n l) else z (ix3 0 n l) := by
  unfold stacked
  pointwise
  match p with
  | ⟨0, _⟩ => rfl
  | ⟨1, _⟩ => rfl
  | ⟨2, _⟩ => rfl

/-- A group of 512 columns. -/
def cols (o : Nat) (h : S1x4096x5632.Slices ![0, 0, o] S1x4096x512) (x : FVec Ideal S1x4096x5632 .f32) : FVec Ideal S1x4096x512 .f32 :=
  broadcastInDim S1x4096x512 ![1, 2] bcast_S4096x512_S1x4096x512_1_2
    (shapeCast S4096x512 (extractStridedSlice S1x4096x512 ![0, 0, o] x h) shapeCasts_S1x4096x512_S4096x512)

theorem cols_at (o : Nat) (ho : o ≤ 1024) (h : S1x4096x5632.Slices ![0, 0, o] S1x4096x512) (x : FVec Ideal S1x4096x5632 .f32) (n : Fin 4096) (l : Fin 512) :
    cols o h x (ix3 0 n l) = x (ix3 0 n ⟨o + l.val, by omega⟩) := by
  pointwise [cols]

theorem v9_eq : V m c main_v9 = stacked (cols 0 slices_S1x4096x5632_S1x4096x512_0_0_0 (m ((c : Thread nD τ).loc main_arg3)))
    (cols 512 slices_S1x4096x5632_S1x4096x512_0_0_512 (m ((c : Thread nD τ).loc main_arg3)))
    (cols 1024 slices_S1x4096x5632_S1x4096x512_0_0_1024 (m ((c : Thread nD τ).loc main_arg3))) := by
  unfold V; simp only [hostOps0, List.flatten_cons, List.flatten_nil, List.append_nil, List.cons_append, List.nil_append]
  after_results
  change stacked _ _ _ = stacked _ _ _
  refine congr (congr (congrArg stacked ?_) ?_) ?_
  · after_results_simp; rfl
  · after_results_simp; rfl
  · after_results_simp; rfl

theorem v10_eq : V m c main_v10 = (truncf .bf16 (V m c main_v9 : FVec Ideal S3x4096x512 .f32) bitsLt_bf16_f32 : FVec Ideal S3x4096x512 .bf16) := by
  unfold V; simp only [hostOps0, List.flatten_cons, List.flatten_nil, List.append_nil, List.cons_append, List.nil_append]
  after_results

/-- Three of the cotangent's groups of 512 columns, stacked. -/
theorem v10_at (p : Fin 3) (n : Fin 4096) (e : Fin 512) :
    V m c main_v10 (ix3 p n e) = m ((c : Thread nD τ).loc main_arg3) (ix3 0 n ⟨512 * p.val + e.val, by omega⟩) := by
  rw [v10_eq, v9_eq]
  show stacked _ _ _ (ix3 p n e) = _
  rw [stacked_at, cols_at _ (by norm_num), cols_at _ (by norm_num), cols_at _ (by norm_num)]
  match p with
  | ⟨0, _⟩ => rfl
  | ⟨1, _⟩ => rfl
  | ⟨2, _⟩ => rfl

/-- The cotangent's other columns. -/
theorem v13_at (n : Fin 4096) (e : Fin 4096) :
    V m c main_v13 (ix2 n e) = m ((c : Thread nD τ).loc main_arg3) (ix3 0 n ⟨1536 + e.val, by omega⟩) := by
  unfold V; simp only [hostOps0, List.flatten_cons, List.flatten_nil, List.append_nil, List.cons_append, List.nil_append]
  entry_read
  pointwise

theorem v28_at (j : Fin 5632) (l : Fin 1024) : V m c main_v28 (ix2 j l) = m ((c : Thread nD τ).loc main_arg2) (ix3 0 l j) := by
  unfold V; simp only [hostOps0, List.flatten_cons, List.flatten_nil, List.append_nil, List.cons_append, List.nil_append]
  entry_read
  pointwise

/-- The normed rows, from rows of real numbers. -/
theorem v25_at {x : ℕ → ℕ → ℝ} (hx : ∀ (n : Fin 4096) (l : Fin 1024), m ((c : Thread nD τ).loc main_arg0) (ix3 0 n l) = (x n.val l.val : EReal))
    (n : Fin 4096) (l : Fin 1024) : V m c main_v25 (ix2 n l) = ((x n.val l.val * rs (fun k => x n.val k.val) : ℝ) : EReal) := by
  unfold V; simp only [hostOps0, List.flatten_cons, List.flatten_nil, List.append_nil, List.cons_append, List.nil_append]
  entry_read
  pointwise
  rw [EReal.coe_mul, ← rsqrt_ms, ms, eps_word, width_word]
  simp only [hx, ← EReal.coe_mul, ← coe_sum]
  rw [div_real _ _ (by norm_num), ← EReal.coe_add]

theorem idx : ∀ t : Fin cfg0.N, win0_0.index t = ![0, 0] ∧ win0_3.index t = ![0, 0] ∧ win0_4.index t = ![t.val, 0] ∧ win0_5.index t = ![t.val, 0]
    ∧ win0_6.index t = ![0, 0] :=
  (by decide +kernel : ∀ t : Fin grid0.N, _)

theorem idx1 : ∀ t : Fin cfg0.N, t.val < 3 → win0_1.index t = ![t.val, 0, 0] := (by decide +kernel : ∀ t : Fin grid0.N, _)

theorem idx2 : ∀ t : Fin cfg0.N, 3 ≤ t.val → win0_2.index t = ![0, t.val - 3] := (by decide +kernel : ∀ t : Fin grid0.N, _)

variable (t : Fin cfg0.N)

theorem row_lt (r : Fin 512) : 512 * t.val + r.val < 5632 := by
  have := lt_of_lt_of_eq t.isLt N_0
  omega

theorem blk0 (n : Fin 4096) (l : Fin 1024) : iblk m c 0 t (ix2 n l) = V m c main_v25 (ix2 n l) := by
  blk_ext [iblk, idx t]

theorem blk1 (h : t.val < 3) (n : Fin 4096) (r : Fin 512) : iblk m c 1 t (ix3 0 n r) = V m c main_v10 (ix3 ⟨t.val, h⟩ n r) := by
  blk_ext [iblk, idx1 t h]

theorem blk2 (h : 3 ≤ t.val) (n : Fin 4096) (r : Fin 512) :
    iblk m c 2 t (ix2 n r) = V m c main_v13 (ix2 n ⟨512 * (t.val - 3) + r.val, by have := row_lt t r; omega⟩) := by
  blk_ext [iblk, idx2 t h]

theorem blk3 (l : Fin 1024) : iblk m c 3 t (ix2 0 l) = m ((c : Thread nD τ).loc main_arg1) (ix2 0 l) := by
  rw [← V_main_arg1 m c]
  blk_ext [iblk, idx t]

theorem blk4 (r : Fin 512) (l : Fin 1024) : iblk m c 4 t (ix2 r l) = V m c main_v28 (ix2 ⟨512 * t.val + r.val, row_lt t r⟩ l) := by
  blk_ext [iblk, idx t]

/-- The real numbers that the arguments hold. -/
structure Holds (x z : ℕ → ℕ → ℝ) (g : ℕ → ℝ) (w : ℕ → ℕ → ℝ) : Prop where
  x : ∀ (n : Fin 4096) (l : Fin 1024), m ((c : Thread nD τ).loc main_arg0) (ix3 0 n l) = (x n.val l.val : EReal)
  g : ∀ l : Fin 1024, m ((c : Thread nD τ).loc main_arg1) (ix2 0 l) = (g l.val : EReal)
  w : ∀ (l : Fin 1024) (j : Fin 5632), m ((c : Thread nD τ).loc main_arg2) (ix3 0 l j) = (w l.val j.val : EReal)
  z : ∀ (n : Fin 4096) (j : Fin 5632), m ((c : Thread nD τ).loc main_arg3) (ix3 0 n j) = (z n.val j.val : EReal)

/-- The cotangent's product with the normed rows. -/
def cross (x z : ℕ → ℕ → ℝ) (j l : ℕ) : ℝ := ∑ n : Fin 4096, z n.val j * (x n.val l * rs (fun k => x n.val k.val))

/-- The gain's gradient. -/
def gain (x z w : ℕ → ℕ → ℝ) (l : ℕ) : ℝ := ∑ j : Fin 5632, cross x z j.val l * w l j.val

variable {m c} {x z : ℕ → ℕ → ℝ} {g : ℕ → ℝ} {w : ℕ → ℕ → ℝ} (h : Holds m c x z g w)
include h

theorem part_val (r : Fin 512) (l : Fin 1024) : part m c t (ix2 r l) = (cross x z (512 * t.val + r.val) l.val : EReal) := by
  have hx : ∀ (n : Fin 4096) (l : Fin 1024), iblk m c 0 t (ix2 n l) = ((x n.val l.val * rs (fun k => x n.val k.val) : ℝ) : EReal) := fun n l => by
    rw [blk0, v25_at m c h.x]
  unfold part
  split
  · next h3 => exact head_val (z := fun n r => z n.val (512 * t.val + r.val)) (fun n r => by rw [blk1 m c t h3, v10_at, h.z]) hx r l
  · next h3 =>
    refine rest_val (z := fun n r => z n.val (512 * t.val + r.val)) (fun n r => ?_) hx r l
    rw [blk2 m c t (by omega), v13_at, h.z]
    congr 2
    show 1536 + (512 * (t.val - 3) + r.val) = _
    omega

theorem weight_blk (r : Fin 512) (l : Fin 1024) : iblk m c 4 t (ix2 r l) = (w l.val (512 * t.val + r.val) : EReal) := by
  rw [blk4, v28_at, h.w]

/-- The gain's gradient after a point: the sum over the blocks so far. -/
theorem gain_at (n : ℕ) (hn : n < cfg0.N) (l : Fin 1024) :
    (outsAt0 m c n hn).2 (ix2 0 l) = ((∑ a ∈ Finset.range (n + 1), ∑ r : Fin 512, cross x z (512 * a + r.val) l.val * w l.val (512 * a + r.val) : ℝ) : EReal) := by
  induction n generalizing l with
  | zero =>
    rw [first m c ⟨0, hn⟩ rfl (by show 0 < 3; omega) (by show ¬3 ≤ 0; omega)]
    refine (added_val (part_val ⟨0, hn⟩ h) zeros_val (weight_blk ⟨0, hn⟩ h) l).trans ?_
    rw [Finset.sum_range_one, zero_add]
  | succ n ih =>
    have hN := lt_of_lt_of_eq hn (show cfg0.N = 11 from N_0)
    rw [later m c ⟨n + 1, hn⟩ (by show ¬(n + 1) % 11 = 0; omega)]
    refine (added_val (part_val ⟨n + 1, hn⟩ h) (fun l => ih _ l) (weight_blk ⟨n + 1, hn⟩ h) l).trans ?_
    rw [Finset.sum_range_succ _ (n + 1)]

theorem scaled_at (r : Fin 512) (l : Fin 1024) :
    (outsAt0 m c t.val t.isLt).1 (ix2 r l) = ((cross x z (512 * t.val + r.val) l.val * g l.val : ℝ) : EReal) := by
  have e : (outsAt0 m c t.val t.isLt).1 = k0_pay5 (part m c t) (iblk m c 3 t) := by
    have hN := lt_of_lt_of_eq t.isLt (show cfg0.N = 11 from N_0)
    by_cases h0 : t.val % 11 = 0
    · rw [first m c t h0 (by omega) (by omega)]
    · rw [later m c t h0]
  rw [e]
  exact scaled_val (g := fun l => g l.val) (part_val t h) (fun l => by rw [blk3, h.g]) r l

theorem weight_result : (dats m 0 c).arrAt 5 cfg0.N = fun y : S5632x1024.Idx => ((cross x z (y 0).val (y 1).val * g (y 1).val : ℝ) : EReal) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by pointwise⟩
  refine (scaled_at t h r l).trans ?_
  have e1 : win0_5.index t 1 * 1024 + (ix2 r l 1 : Fin 1024).val = l.val := by
    rw [(idx t).2.2.2.1]
    show 0 * 1024 + l.val = l.val
    omega
  have e0 : win0_5.index t 0 * 512 + (ix2 r l 0 : Fin 512).val = 512 * t.val + r.val := by
    rw [(idx t).2.2.2.1]
    show t.val * 512 + r.val = 512 * t.val + r.val
    omega
  rw [e1, e0]

theorem gain_result : (dats m 0 c).arrAt 6 cfg0.N = fun y : S1x1024.Idx => (gain x z w (y 1).val : EReal) := by
  refine (dats m 0 c).arrAt_eq_of_covers 6 _ (by decide +kernel) fun t hf y => ?_
  blk_simp
  rw [after0_6]
  obtain ⟨l, rfl⟩ : ∃ l : Fin 1024, y = ix2 0 l := ⟨y 1, funext fun a => match a with
    | ⟨0, _⟩ => Fin.ext (Nat.lt_one_iff.1 (y 0).isLt)
    | ⟨1, _⟩ => rfl⟩
  have hN := lt_of_lt_of_eq t.isLt (show cfg0.N = 11 from N_0)
  have ht := (flush0_6 t).1 hf
  refine (gain_at h t.val t.isLt l).trans ?_
  have e1 : win0_6.index t 1 * 1024 + (ix2 (0 : Fin 1) l 1 : Fin 1024).val = l.val := by
    rw [(idx t).2.2.2.2]
    show 0 * 1024 + l.val = l.val
    omega
  rw [e1, show t.val + 1 = 11 by omega, gain, Fin.sum_univ_tiles 11 512 rfl, Finset.sum_range]
  simp only [mul_comm 512]

end Cert.GradWIdeal.Val

end
-- ==== Proof.GradWRef.lean ====
/-
  The reference's weight gradient and gain's gradient as real numbers.
-/
module

public import proofs.«01_k».proof.Proof.NormMath
public import proofs.«01_k».proof.Proof.AttnRefScore
public import proofs.«01_k».proof.Proof.Gen.GradWRefIdeal.Read
public import Idealize.ShloMosaic.Lib.Pointwise

@[expose] public section

set_option maxRecDepth 16384

noncomputable section

namespace Cert.GradWRefIdeal.Val

open Idealize.ShloMosaic Idealize.ShloMosaic.TcCoe Idealize.SL.Sem
open Cert.GradWRefIdeal Cert.GradWRefIdeal.Gen Cert.GradWRefIdeal.Read Cert.AttnMath Cert.NormMath

/-- The sum over two axes of size one. -/
theorem ones_at (y : FVec Ideal S1x1x1024 .f32) (l : Fin 1024) :
    Host.reduceAdd y (val_main_cst_3 (F := Ideal)) reducesTo_S1x1x1024_S1024_d0_1 h_S_ (ix1 l) = y (ix3 0 0 l) := by
  unfold val_main_cst_3
  pointwise
  refine (Cert.AttnRefIdeal.Val.sum_drop reducesTo_S1x1x1024_S1024_d0_1 y (ix1 l) (fun _ : Unit => ix3 0 0 l) (fun _ _ _ => rfl) (fun _ => ?_) (fun i' hi' => ⟨(), ?_⟩)).trans ?_
  · exact funext fun a => match a with | ⟨0, _⟩ => rfl
  · have h0 : (i' 2).val = l.val := congrArg Fin.val (congrFun hi' 0)
    have h3 : (i' 0).val < 1 := (i' 0).isLt
    have h4 : (i' 1).val < 1 := (i' 1).isLt
    refine funext fun a => Fin.ext ?_
    match a with
    | ⟨0, _⟩ => exact (Nat.lt_one_iff.1 h3).symm
    | ⟨1, _⟩ => exact (Nat.lt_one_iff.1 h4).symm
    | ⟨2, _⟩ => exact h0.symm
  · simp

variable {x0 : FVec Ideal S1x4096x1024 .f32} {x1 : FVec Ideal S1x1024 .f32} {x2 : FVec Ideal S1x1024x5632 .f32} {x3 : FVec Ideal S1x4096x5632 .f32}
  {x z : ℕ → ℕ → ℝ} {g : ℕ → ℝ} {w : ℕ → ℕ → ℝ}
  (hx : ∀ (n : Fin 4096) (l : Fin 1024), x0 (ix3 0 n l) = (x n.val l.val : EReal))
  (hz : ∀ (n : Fin 4096) (j : Fin 5632), x3 (ix3 0 n j) = (z n.val j.val : EReal)) (hg : ∀ l : Fin 1024, x1 (ix2 0 l) = (g l.val : EReal))
  (hw : ∀ (l : Fin 1024) (j : Fin 5632), x2 (ix3 0 l j) = (w l.val j.val : EReal))

include hx in
/-- The normed rows. -/
theorem norm_at (n : Fin 4096) (l : Fin 1024) :
    val_main_v11 (F := Ideal) x0 (ix3 0 n l) = ((x n.val l.val * rs (fun k => x n.val k.val) : ℝ) : EReal) := by
  pointwise [val_main_v11, val_main_v10, val_main_v9, val_main_v8, val_main_v7, val_main_v6, val_main_v5, val_main_v4, val_main_v3, val_main_v2, val_main_cst, val_main_cst_0, val_main_cst_1]
  rw [EReal.coe_mul, ← rsqrt_ms, ms, eps_word, width_word]
  simp only [hx, ← EReal.coe_mul, ← coe_sum]
  rw [div_real _ _ (by norm_num), ← EReal.coe_add]

include hx hg in
theorem gained_at (n : Fin 4096) (l : Fin 1024) :
    val_main_v14 (F := Ideal) x0 x1 (ix3 0 n l) = ((x n.val l.val * rs (fun k => x n.val k.val) * g l.val : ℝ) : EReal) := by
  have e : val_main_v14 (F := Ideal) x0 x1 (ix3 0 n l) = val_main_v11 (F := Ideal) x0 (ix3 0 n l) * x1 (ix2 0 l) := by
    unfold val_main_v14 val_main_v13 val_main_v12 val_main_v0
    generalize val_main_v11 (F := Ideal) x0 = a
    pointwise
  rw [e, norm_at hx, hg, ← EReal.coe_mul]

include hx hg hz in
theorem weight_at (j : Fin 5632) (l : Fin 1024) :
    val_main_v24 (F := Ideal) x0 x1 x3 (ix2 j l) = ((∑ n : Fin 4096, z n.val j.val * (x n.val l.val * rs (fun k => x n.val k.val) * g l.val) : ℝ) : EReal) := by
  have e : val_main_v24 (F := Ideal) x0 x1 x3 (ix2 j l) = ∑ n : Fin 4096, x3 (ix3 0 n j) * val_main_v14 (F := Ideal) x0 x1 (ix3 0 n l) := by
    unfold val_main_v24 val_main_v23 val_main_v17 val_main_v16
    generalize val_main_v14 (F := Ideal) x0 x1 = a
    pointwise
    exact Fin.sum_univ_one _
  rw [e]
  simp only [hz, gained_at hx hg, ← EReal.coe_mul, ← coe_sum]

include hx hz hw in
theorem gain_at (l : Fin 1024) :
    val_main_v25 (F := Ideal) x0 x2 x3 (ix2 0 l)
      = ((∑ n : Fin 4096, x n.val l.val * rs (fun k => x n.val k.val) * (∑ j : Fin 5632, z n.val j.val * w l.val j.val) : ℝ) : EReal) := by
  have e : val_main_v25 (F := Ideal) x0 x2 x3 (ix2 0 l) = val_main_v22 (F := Ideal) x0 x2 x3 (ix1 l) := by
    unfold val_main_v25
    generalize val_main_v22 (F := Ideal) x0 x2 x3 = a
    pointwise
  have e2 : val_main_v21 (F := Ideal) x0 x2 x3 (ix3 0 0 l) = ∑ n : Fin 4096, val_main_v11 (F := Ideal) x0 (ix3 0 n l) * (∑ j : Fin 5632, x3 (ix3 0 n j) * x2 (ix3 0 l j)) := by
    unfold val_main_v21 val_main_v20 val_main_v19 val_main_v18 val_main_v1 val_main_cst_2
    generalize val_main_v11 (F := Ideal) x0 = a
    pointwise
  rw [e]
  unfold val_main_v22
  rw [ones_at, e2]
  simp only [norm_at hx, hz, hw, ← EReal.coe_mul, ← coe_sum]

end Cert.GradWRefIdeal.Val

end
-- ==== Proof.GradWValue.lean ====
/-
  The weight gradient's value claim: from finite arguments both programs end at the same two gradients.
-/
module

public import proofs.«01_k».proof.Defs
public import proofs.«01_k».proof.Proof.Finite
public import proofs.«01_k».proof.Proof.GradWArray
public import proofs.«01_k».proof.Proof.GradWRef
public import proofs.«01_k».proof.Proof.Gen.GradWRefIdeal.Run

@[expose] public section

set_option maxRecDepth 16384

noncomputable section

namespace Cert.GradWValue

open Idealize.ShloMosaic Idealize.ShloMosaic.TcCoe Idealize.SL.Sem
open Cert.AttnMath Cert.NormMath Cert.Finite Cert.GradWRefIdeal.Read Cert.GradWIdeal.Val

theorem preFacts : Cert.Pre_finite_weight.Facts := ⟨by decide, by decide, by decide, by decide⟩

attribute [local instance] preFacts

variable (m : (ℓ : Loc Cert.GradWIdeal.nD Cert.GradWIdeal.τ Cert.GradWIdeal.sig) → Buf (Elt Ideal) ℓ) (c : Dev Cert.GradWIdeal.nD)

def arg0 : FVec Ideal ⟨3, ![1, 4096, 1024]⟩ .f32 := m ((c.tc : Thread Cert.GradWIdeal.nD Cert.GradWIdeal.τ).loc Cert.GradWIdeal.main_arg0)
def arg1 : FVec Ideal ⟨2, ![1, 1024]⟩ .f32 := m ((c.tc : Thread Cert.GradWIdeal.nD Cert.GradWIdeal.τ).loc Cert.GradWIdeal.main_arg1)
def arg2 : FVec Ideal ⟨3, ![1, 1024, 5632]⟩ .f32 := m ((c.tc : Thread Cert.GradWIdeal.nD Cert.GradWIdeal.τ).loc Cert.GradWIdeal.main_arg2)
def arg3 : FVec Ideal ⟨3, ![1, 4096, 5632]⟩ .f32 := m ((c.tc : Thread Cert.GradWIdeal.nD Cert.GradWIdeal.τ).loc Cert.GradWIdeal.main_arg3)

/-- The cotangent's product with the normed rows, from the arguments. -/
def weight : Cert.GradWIdeal.S5632x1024.Idx → EReal := fun y =>
  ((cross (planeOf (arg0 m c)) (planeOf (arg3 m c)) (y 0).val (y 1).val * rowOf (arg1 m c) (y 1).val : ℝ) : EReal)

/-- The gain's gradient, from the arguments. -/
def scale : Cert.GradWIdeal.S1x1024.Idx → EReal := fun y =>
  (gain (planeOf (arg0 m c)) (planeOf (arg3 m c)) (planeOf (arg2 m c)) (y 1).val : EReal)

variable {m} (hp : Pre_GradWIdeal_finite_weight m)
include hp

theorem real0 (i) : arg0 m c i = ((EReal.toReal (arg0 m c i) : ℝ) : EReal) :=
  real_of_below _ (by rw [← infinity_word]; exact congrFun (hp c).1 i)
theorem real1 (i) : arg1 m c i = ((EReal.toReal (arg1 m c i) : ℝ) : EReal) :=
  real_of_below _ (by rw [← infinity_word]; exact congrFun (hp c).2.1 i)
theorem real2 (i) : arg2 m c i = ((EReal.toReal (arg2 m c i) : ℝ) : EReal) :=
  real_of_below _ (by rw [← infinity_word]; exact congrFun (hp c).2.2.1 i)
theorem real3 (i) : arg3 m c i = ((EReal.toReal (arg3 m c i) : ℝ) : EReal) :=
  real_of_below _ (by rw [← infinity_word]; exact congrFun (hp c).2.2.2 i)

theorem holds : Holds m c (planeOf (arg0 m c)) (planeOf (arg3 m c)) (rowOf (arg1 m c)) (planeOf (arg2 m c)) where
  x := planeOf_at (real0 c hp)
  g := rowOf_at (real1 c hp)
  w := planeOf_at (real2 c hp)
  z := planeOf_at (real3 c hp)

theorem weight_reference : val_main_v24 (F := Ideal) (arg0 m c) (arg1 m c) (arg3 m c) = weight m c := funext fun y => by
  obtain ⟨j, l, rfl⟩ : ∃ (j : Fin 5632) (l : Fin 1024), y = ix2 j l := ⟨y 0, y 1, by pointwise⟩
  rw [Cert.GradWRefIdeal.Val.weight_at (planeOf_at (real0 c hp)) (planeOf_at (real3 c hp)) (rowOf_at (real1 c hp))]
  show _ = ((cross _ _ j.val l.val * _ : ℝ) : EReal)
  rw [cross, Finset.sum_mul]
  exact congrArg _ (Finset.sum_congr rfl fun n _ => (mul_assoc _ _ _).symm)

theorem scale_reference : val_main_v25 (F := Ideal) (arg0 m c) (arg2 m c) (arg3 m c) = scale m c := funext fun y => by
  obtain ⟨l, rfl⟩ : ∃ l : Fin 1024, y = ix2 0 l := ⟨y 1, funext fun a => match a with
    | ⟨0, _⟩ => Fin.ext (Nat.lt_one_iff.1 (y 0).isLt)
    | ⟨1, _⟩ => rfl⟩
  rw [Cert.GradWRefIdeal.Val.gain_at (planeOf_at (real0 c hp)) (planeOf_at (real3 c hp)) (planeOf_at (real2 c hp))]
  show _ = ((gain _ _ _ l.val : ℝ) : EReal)
  simp only [gain, cross, Finset.sum_mul, Finset.mul_sum]
  rw [Finset.sum_comm]
  exact congrArg _ (Finset.sum_congr rfl fun j _ => Finset.sum_congr rfl fun n _ => by ring)

omit hp

theorem equal : algebraic_GradWIdeal_GradWRefIdeal_pre_finite_weight := by
  intro m ρ m' ρ' hp hagree
  refine ⟨fun c => weight m c, fun c => scale m c, ?_, ?_⟩
  · refine (θ_run Cert.GradWIdeal.defs _ _).mono (fun r h c => ?_) (Cert.GradWIdeal.Value.run_blocks (F := Ideal) m ρ)
    exact ⟨(h c).1.trans (weight_result (holds c hp)), (h c).2.1.trans (gain_result (holds c hp)), (h c).2.2⟩
  · refine (θ_run Cert.GradWRefIdeal.defs _ _).mono (fun r h c => ?_) (Cert.GradWRefIdeal.Value.run (F := Ideal) m' ρ')
    obtain ⟨a0, a1, a2, a3⟩ := hagree c
    refine ⟨((h c).1.trans (val_main_v24_eq (F := Ideal) _ _ _)).trans ?_, ((h c).2.1.trans (val_main_v25_eq (F := Ideal) _ _ _)).trans ?_, (h c).2.2⟩
    · refine Eq.trans ?_ (weight_reference c hp)
      unfold arg0 arg1 arg3
      rw [← a0, ← a1, ← a3]
    · refine Eq.trans ?_ (scale_reference c hp)
      unfold arg0 arg2 arg3
      rw [← a0, ← a2, ← a3]

end Cert.GradWValue

end
-- ==== Proof.MidChain.lean ====
/-
  The middle call: what its body computes at a point, from the blocks that it reads.
-/
module

public import proofs.«01_k».proof.Proof.Gen.MidIdeal.Skeleton
public import Idealize.ShloMosaic.Lib.Pipeline.ValueKit
public import Idealize.ShloMosaic.Lib.Pipeline.ReadBack
public import Idealize.ShloMosaic.Lib.Tactic

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

/-- The blocks that a point reads, the copied weights, and the masked mixing matrices. -/
structure Blk (F : FTy → Type) [FloatOps F] where
  x : Vec F S256x1024 .f32
  t : Vec F S256x1024 .f32
  oa : Vec F S256x512 .f32
  ga : Vec F S256x512 .bf16
  ub : Vec F S256x512 .bf16
  vb : Vec F S256x512 .bf16
  gb : Vec F S256x512 .bf16
  ta0 : Vec F S256x512 .bf16
  ta1 : Vec F S256x512 .bf16
  tb0 : Vec F S256x512 .bf16
  tb1 : Vec F S256x512 .bf16
  bg : Vec F S1x2048 .f32
  lng : Vec F S1x512 .f32
  lnb : Vec F S1x512 .f32
  bs : Vec F S4x128x1 .f32
  fg : Vec F S1x1024 .f32
  wpa : Vec F S512x1024 .bf16
  wpb : Vec F S512x1024 .bf16
  wout : Vec F S1024x1024 .bf16
  wmix : Vec F S4x128x128 .bf16

namespace Blk

variable (b : Blk F)

/-- The four groups' mixing matrices. -/
def w0 : Vec F S1x128x128 .bf16 := View.ld b.wmix (Rect.unit ![0, 0, 0] ![1, 128, 128] inb_S4x128x128_S1x128x128_0_0_0)
def w1 : Vec F S1x128x128 .bf16 := View.ld b.wmix (Rect.unit ![1, 0, 0] ![1, 128, 128] inb_S4x128x128_S1x128x128_1_0_0)
def w2 : Vec F S1x128x128 .bf16 := View.ld b.wmix (Rect.unit ![2, 0, 0] ![1, 128, 128] inb_S4x128x128_S1x128x128_2_0_0)
def w3 : Vec F S1x128x128 .bf16 := View.ld b.wmix (Rect.unit ![3, 0, 0] ![1, 128, 128] inb_S4x128x128_S1x128x128_3_0_0)
/-- The four groups' offsets. -/
def b0 : Vec F S1x128x1 .f32 := View.ld b.bs (Rect.unit ![0, 0, 0] ![1, 128, 1] inb_S4x128x1_S1x128x1_0_0_0)
def b1 : Vec F S1x128x1 .f32 := View.ld b.bs (Rect.unit ![1, 0, 0] ![1, 128, 1] inb_S4x128x1_S1x128x1_1_0_0)
def b2 : Vec F S1x128x1 .f32 := View.ld b.bs (Rect.unit ![2, 0, 0] ![1, 128, 1] inb_S4x128x1_S1x128x1_2_0_0)
def b3 : Vec F S1x128x1 .f32 := View.ld b.bs (Rect.unit ![3, 0, 0] ![1, 128, 1] inb_S4x128x1_S1x128x1_3_0_0)

/-- The attention's branch, gated. -/
def ya : FVec F S256x512 .bf16 := k0_pay55 b.ga b.oa
/-- The gating branch's two halves through their nonlinearity. -/
def u : FVec F S256x512 .f32 := k0_pay60 (k0_pay49 b.ub) (k0_pay58 b.ub)
def v : FVec F S256x512 .f32 := k0_pay65 (k0_pay50 b.vb)
/-- The second half, normed. -/
def vn : FVec F S256x512 .bf16 := k0_pay70 b.v b.lng b.lnb
/-- The first chunk's mix. -/
def top : FVec F S128x512 .f32 := k0_pay74 b.vn (k0_pay73 b.v b.lng b.lnb b.w0 b.b0) b.w1 b.b1 b.w2 b.b2 b.w3 b.b3
/-- The gating branch, gated. -/
def yb : FVec F S256x512 .bf16 :=
  k0_pay78 b.u b.vn (k0_pay72 (k0_pay51 b.gb)) b.top (k0_pay75 b.vn b.w0 b.b0) b.w1 b.b1 b.w2 b.b2 b.w3 b.b3
/-- The residual path after the two branches' projection, and its square. -/
def h : FVec F S256x1024 .f32 :=
  k0_pay86 b.bg b.ya b.yb (k0_pay79 b.ta0 b.ta1) (k0_pay80 b.bg) b.tb0 b.tb1 b.wpa b.wpb b.x b.wout
def h2 : FVec F S256x1024 .f32 :=
  k0_pay87 b.bg b.ya b.yb (k0_pay79 b.ta0 b.ta1) (k0_pay80 b.bg) b.tb0 b.tb1 b.wpa b.wpb b.x b.wout
/-- The loss and the final gain's gradient with this point's share added. -/
def loss (y : Vec F S1x1 .f32) : FVec F S1x1 .f32 := k0_pay92 b.h b.h2 b.fg b.t y
def gain (y : Vec F S1x1024 .f32) : FVec F S1x1024 .f32 := k0_pay94 b.h b.h2 b.fg b.t y
/-- The residual path's gradient. -/
def dx : FVec F S256x1024 .f32 :=
  k0_pay97 (k0_pay88 b.h2) (k0_pay89 b.h b.h2) (k0_pay95 b.h b.h2 b.fg b.t) (k0_pay96 b.h b.h2 b.fg b.t)

end Blk

/-- The mixing matrices with the entries above the diagonal hidden. -/
def masked (w : Vec F S4x128x128 .f32) : Vec F S4x128x128 .bf16 :=
  View.canon
    [⟨Rect.unit ![3, 0, 0] ![1, 128, 128] inb_S4x128x128_S1x128x128_3_0_0,
        k0_pay9 (iota .tc S128x128 32 [0] iota_S128x128_d0_w32) (iota .tc S128x128 32 [1] iota_S128x128_d1_w32) (View.ld w (Rect.unit ![3, 0, 0] ![1, 128, 128] inb_S4x128x128_S1x128x128_3_0_0))⟩,
      ⟨Rect.unit ![2, 0, 0] ![1, 128, 128] inb_S4x128x128_S1x128x128_2_0_0, k0_pay8 (k0_pay7 (View.ld w (Rect.unit ![2, 0, 0] ![1, 128, 128] inb_S4x128x128_S1x128x128_2_0_0)))⟩,
      ⟨Rect.unit ![1, 0, 0] ![1, 128, 128] inb_S4x128x128_S1x128x128_1_0_0, k0_pay6 (View.ld w (Rect.unit ![1, 0, 0] ![1, 128, 128] inb_S4x128x128_S1x128x128_1_0_0))⟩,
      ⟨Rect.unit ![0, 0, 0] ![1, 128, 128] inb_S4x128x128_S1x128x128_0_0_0, k0_pay5 (View.ld w (Rect.unit ![0, 0, 0] ![1, 128, 128] inb_S4x128x128_S1x128x128_0_0_0))⟩]

end Cert.MidIdeal.Run

end
-- ==== Proof.MidHeld.lean ====
/-
  The middle call: what its body holds at a grid point.
-/
module

public import proofs.«01_k».proof.Proof.MidChain
public import proofs.«01_k».proof.Proof.Gen.MidIdeal.Frame.Runs
public import Idealize.ShloMosaic.Lib.VecWindow
public import Idealize.ShloMosaic.Lib.Ring
public import Idealize.ShloMosaic.Lib.Tactic

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

/-- What the body holds before and after a point: its input blocks, `P21`, `P28` and `P33` of the three blocks whose
    contents are told, the other blocks that it writes at anything, `P34` to `P37` of the copied weights and the masked
    matrices, the other scratch buffers at anything, its three counters at zero, the weights that it copies in, the arrays
    that it copies out to at anything, and the record of its waits. -/
def held (c : Dev nD) (arg1 : Memref sig .tc .vmem S256x1024 .f32) (arg2 : Memref sig .tc .vmem S256x1024 .f32) (arg3 : Memref sig .tc .vmem S256x512 .f32) (arg4 : Memref sig .tc .vmem S256x512 .bf16) (arg5 : Memref sig .tc .vmem S256x512 .bf16) (arg6 : Memref sig .tc .vmem S256x512 .bf16) (arg7 : Memref sig .tc .vmem S256x512 .bf16) (arg8 : Memref sig .tc .vmem S256x512 .bf16) (arg9 : Memref sig .tc .vmem S256x512 .bf16) (arg10 : Memref sig .tc .vmem S256x512 .bf16) (arg11 : Memref sig .tc .vmem S256x512 .bf16) (arg15 : Memref sig .tc .vmem S1x2048 .f32) (arg16 : Memref sig .tc .vmem S1x512 .f32) (arg17 : Memref sig .tc .vmem S1x512 .f32) (arg18 : Memref sig .tc .vmem S4x128x128 .f32) (arg19 : Memref sig .tc .vmem S4x128x1 .f32) (arg20 : Memref sig .tc .vmem S1x1024 .f32) (arg21 : Memref sig .tc .vmem S256x1024 .f32) (arg22 : Memref sig .tc .vmem S256x512 .bf16) (arg23 : Memref sig .tc .vmem S256x4096 .bf16) (arg27 : Memref sig .tc .vmem S1x2048 .f32) (arg28 : Memref sig .tc .vmem S1x1024 .f32) (arg29 : Memref sig .tc .vmem S1x512 .f32) (arg30 : Memref sig .tc .vmem S1x512 .f32) (arg31 : Memref sig .tc .vmem S4x128x128 .f32) (arg32 : Memref sig .tc .vmem S4x128x1 .f32) (arg33 : Memref sig .tc .vmem S1x1 .f32) (arg34 : Memref sig .tc .vmem S512x1024 .bf16) (arg35 : Memref sig .tc .vmem S512x1024 .bf16) (arg36 : Memref sig .tc .vmem S1024x1024 .bf16) (arg37 : Memref sig .tc .vmem S4x128x128 .bf16) (arg38 : Memref sig .tc .vmem S1024x1024 .f32) (arg39 : Memref sig .tc .vmem S512x1024 .f32) (arg40 : Memref sig .tc .vmem S512x1024 .f32) (arg41 : Memref sig .tc .vmem S8x128x1024 .bf16) (arg42 : Memref sig .tc .vmem S8x512x128 .bf16) (arg43 : Memref sig .tc .vmem S8x512x128 .bf16)
    (x0 : Vec F S256x1024 .f32) (x1 : Vec F S256x1024 .f32) (x2 : Vec F S256x512 .f32) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S1x2048 .f32) (x12 : Vec F S1x512 .f32) (x13 : Vec F S1x512 .f32) (x14 : Vec F S4x128x128 .f32) (x15 : Vec F S4x128x1 .f32) (x16 : Vec F S1x1024 .f32) (fh0 : HbBuf0 (F := F) c hbM0_0) (fh1 : HbBuf0 (F := F) c hbM0_1) (fh2 : HbBuf0 (F := F) c hbM0_2) (P21 P28 P33 P34 P35 P36 P37 : sProp 𝕄) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ P21 ∗ (∃ d, owns (c : Thread nD τ) arg22 fullShare d) ∗ (∃ d, owns (c : Thread nD τ) arg23 fullShare d) ∗ (∃ d, owns (c : Thread nD τ) arg27 fullShare d) ∗ P28 ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ P33 ∗ P34 ∗ P35 ∗ P36 ∗ P37 ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ hbPt0 c hbM0_2 fh2 ∗ (∃ f, hbPt0 c hbM0_3 f) ∗ (∃ f, hbPt0 c hbM0_4 f) ∗ (∃ f, hbPt0 c hbM0_5 f) ∗ (∃ W, owes (c : Thread nD τ) 0 W))

/-- The blocks that the body reads, as one record. -/
def blkOf (x0 : Vec F S256x1024 .f32) (x1 : Vec F S256x1024 .f32) (x2 : Vec F S256x512 .f32) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S1x2048 .f32) (x12 : Vec F S1x512 .f32) (x13 : Vec F S1x512 .f32) (x14 : Vec F S4x128x128 .f32) (x15 : Vec F S4x128x1 .f32) (x16 : Vec F S1x1024 .f32) (w34 : Vec F S512x1024 .bf16) (w35 : Vec F S512x1024 .bf16) (w36 : Vec F S1024x1024 .bf16) (w37 : Vec F S4x128x128 .bf16) : Blk F :=
  ⟨x0, x1, x2, x3, x4, x5, x6, x7, x8, x9, x10, x11, x12, x13, x15, x16, w34, w35, w36, w37⟩

/-- The whole of a buffer read back, where the buffer holds a block. -/
theorem read_all {sp : Space} {s : Shape} {e : EltTy} {m : Memref sig .tc sp s e} (h : m.IsWhole) (x : Vec F s e) {off : Fin s.rank → ℕ}
    (inb : ∀ a, off a + s.size a ≤ s.size a) :
    View.readAt (Elt F) m.view (Rect.unit off s.size inb).toLoadRect (h.unread x) = x :=
  (View.readAt_full _ _ _).trans (h.read_unread x)

/-- One write over the whole of a buffer is what it holds after it. -/
theorem canon_whole (s : Shape) {e : EltTy} (w : Vec F s e) : View.canon (Val := Elt F) [⟨Rect.whole s, w⟩] = w :=
  funext fun y => (congrArg _ (Rect.emb_whole_apply s y).symm).trans (View.canon_cons_emb (Rect.whole s) w [] y)

/-- A block copied over a buffer, read. -/
theorem read_copied {sp : Space} {s : Shape} {e : EltTy} (v : View sig .tc sp s e) (f : v.ty.Contents (Elt F)) (w : Vec F s e) :
    View.read (Elt F) v (v.writes (Elt F) f [⟨Rect.whole s, w⟩]) = w :=
  (View.read_writes_eq_canon v f _ fun y => ⟨_, List.mem_singleton.2 rfl, by rw [show (Rect.whole s).set = Finset.univ from Rect.set_whole s]; exact Finset.mem_univ y⟩).trans (canon_whole s w)

/-- A block copied over a buffer, its whole read back. -/
theorem readCov_copied {sp : Space} {s : Shape} {e : EltTy} (v : View sig .tc sp s e) (w : Vec F s e) {off : Fin s.rank → ℕ}
    (inb : ∀ a, off a + s.size a ≤ s.size a) :
    v.readCov [⟨Rect.whole s, w⟩] (Rect.unit off s.size inb).toLoadRect = w :=
  (View.readAt_full _ _ _).trans (read_copied v _ w)

/-- The masked matrices, read from the buffer that their four groups are written to. -/
theorem read_masked {m : Memref sig .tc .vmem S4x128x128 .f32} (h : m.IsWhole) (x : Vec F S4x128x128 .f32)
    (v : View sig .tc .vmem S4x128x128 .bf16) (f : v.ty.Contents (Elt F)) :
    View.read (Elt F) v (v.writes (Elt F) f
      [⟨Rect.unit ![3, 0, 0] ![1, 128, 128] inb_S4x128x128_S1x128x128_3_0_0,
          k0_pay9 (iota .tc S128x128 32 [0] iota_S128x128_d0_w32) (iota .tc S128x128 32 [1] iota_S128x128_d1_w32) (View.ld (View.read (Elt F) m.view (h.unread x)) (Rect.unit ![3, 0, 0] ![1, 128, 128] inb_S4x128x128_S1x128x128_3_0_0))⟩,
        ⟨Rect.unit ![2, 0, 0] ![1, 128, 128] inb_S4x128x128_S1x128x128_2_0_0, k0_pay8 (k0_pay7 (View.ld (View.read (Elt F) m.view (h.unread x)) (Rect.unit ![2, 0, 0] ![1, 128, 128] inb_S4x128x128_S1x128x128_2_0_0)))⟩,
        ⟨Rect.unit ![1, 0, 0] ![1, 128, 128] inb_S4x128x128_S1x128x128_1_0_0, k0_pay6 (View.ld (View.read (Elt F) m.view (h.unread x)) (Rect.unit ![1, 0, 0] ![1, 128, 128] inb_S4x128x128_S1x128x128_1_0_0))⟩,
        ⟨Rect.unit ![0, 0, 0] ![1, 128, 128] inb_S4x128x128_S1x128x128_0_0_0, k0_pay5 (View.ld (View.read (Elt F) m.view (h.unread x)) (Rect.unit ![0, 0, 0] ![1, 128, 128] inb_S4x128x128_S1x128x128_0_0_0))⟩])
      = masked x := by
  refine (View.read_writes_eq_canon v f _ (View.cover_of_tiledL _ ![1, 128, 128] rfl)).trans ?_
  exact congrArg masked (h.read_unread x)

end Cert.MidIdeal.Run

end
-- ==== Proof.MidReads.lean ====
/-
  The middle call: what a point reads, from equal parts.
-/
module

public import proofs.«01_k».proof.Proof.MidHeld

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

/-- What a point reads is the same where each part is. -/
theorem blk_eq {x0 x0' : Vec F S256x1024 .f32} {x1 x1' : Vec F S256x1024 .f32} {x2 x2' : Vec F S256x512 .f32} {x3 x3' : Vec F S256x512 .bf16} {x4 x4' : Vec F S256x512 .bf16} {x5 x5' : Vec F S256x512 .bf16} {x6 x6' : Vec F S256x512 .bf16} {x7 x7' : Vec F S256x512 .bf16} {x8 x8' : Vec F S256x512 .bf16} {x9 x9' : Vec F S256x512 .bf16} {x10 x10' : Vec F S256x512 .bf16} {x11 x11' : Vec F S1x2048 .f32} {x12 x12' : Vec F S1x512 .f32} {x13 x13' : Vec F S1x512 .f32} {x14 x14' : Vec F S4x128x128 .f32} {x15 x15' : Vec F S4x128x1 .f32} {x16 x16' : Vec F S1x1024 .f32} {w34 w34' : Vec F S512x1024 .bf16} {w35 w35' : Vec F S512x1024 .bf16} {w36 w36' : Vec F S1024x1024 .bf16} {w37 w37' : Vec F S4x128x128 .bf16}
    (h_x0 : x0 = x0') (h_x1 : x1 = x1') (h_x2 : x2 = x2') (h_x3 : x3 = x3') (h_x4 : x4 = x4') (h_x5 : x5 = x5') (h_x6 : x6 = x6') (h_x7 : x7 = x7') (h_x8 : x8 = x8') (h_x9 : x9 = x9') (h_x10 : x10 = x10') (h_x11 : x11 = x11') (h_x12 : x12 = x12') (h_x13 : x13 = x13') (h_x14 : x14 = x14') (h_x15 : x15 = x15') (h_x16 : x16 = x16') (h_w34 : w34 = w34') (h_w35 : w35 = w35') (h_w36 : w36 = w36') (h_w37 : w37 = w37') :
    blkOf x0 x1 x2 x3 x4 x5 x6 x7 x8 x9 x10 x11 x12 x13 x14 x15 x16 w34 w35 w36 w37
      = blkOf x0' x1' x2' x3' x4' x5' x6' x7' x8' x9' x10' x11' x12' x13' x14' x15' x16' w34' w35' w36' w37' := by
  subst h_x0 h_x1 h_x2 h_x3 h_x4 h_x5 h_x6 h_x7 h_x8 h_x9 h_x10 h_x11 h_x12 h_x13 h_x14 h_x15 h_x16 h_w34 h_w35 h_w36 h_w37
  rfl

/-- The whole of a block read back after a block was stored over it. -/
theorem readCov_stored {sp : Space} {s : Shape} {e : EltTy} (v : View sig .tc sp s e) (w : Vec F s e) {off off' : Fin s.rank → ℕ}
    (inb : ∀ a, off a + s.size a ≤ s.size a) (inb' : ∀ a, off' a + s.size a ≤ s.size a) :
    v.readCov [⟨Rect.unit off' s.size inb', w⟩] (Rect.unit off s.size inb).toLoadRect = w :=
  View.readCov_full v inb inb' w []

/-- The residual path's gradient from what it is computed of. -/
theorem dx_of (b : Blk F) {h h2 : FVec F S256x1024 .f32} {fg : Vec F S1x1024 .f32} {t : Vec F S256x1024 .f32} (e : h = b.h) (e2 : h2 = b.h2)
    (ef : fg = b.fg) (et : t = b.t) :
    k0_pay97 (k0_pay88 h2) (k0_pay89 h h2) (k0_pay95 h h2 fg t) (k0_pay96 h h2 fg t) = b.dx := by
  subst e e2 ef et; rfl

end Cert.MidIdeal.Run

end
-- ==== Proof.MidFirst.lean ====
/-
  The middle call: its body at the first point of the grid.
-/
module

public import proofs.«01_k».proof.Proof.MidReads

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

/-- The residual path after the block from what it is computed of. -/
theorem h_of (b : Blk F) {bg : Vec F S1x2048 .f32} {ya : FVec F S256x512 .bf16} {yb : FVec F S256x512 .bf16} {p79 : FVec F S256x1024 .f32} {p80 : FVec F S256x1024 .f32}
    {tb0 tb1 : Vec F S256x512 .bf16} {wpa wpb : Vec F S512x1024 .bf16} {x : Vec F S256x1024 .f32} {wout : Vec F S1024x1024 .bf16}
    (e1 : bg = b.bg) (e2 : ya = b.ya) (e3 : yb = b.yb) (e4 : p79 = k0_pay79 b.ta0 b.ta1) (e5 : p80 = k0_pay80 b.bg) (e6 : tb0 = b.tb0) (e7 : tb1 = b.tb1)
    (e8 : wpa = b.wpa) (e9 : wpb = b.wpb) (e10 : x = b.x) (e11 : wout = b.wout) :
    k0_pay86 bg ya yb p79 p80 tb0 tb1 wpa wpb x wout = b.h := by
  subst e1 e2 e3 e4 e5 e6 e7 e8 e9 e10 e11; rfl

/-- The same path's square from what it is computed of. -/
theorem h2_of (b : Blk F) {bg : Vec F S1x2048 .f32} {ya : FVec F S256x512 .bf16} {yb : FVec F S256x512 .bf16} {p79 : FVec F S256x1024 .f32} {p80 : FVec F S256x1024 .f32}
    {tb0 tb1 : Vec F S256x512 .bf16} {wpa wpb : Vec F S512x1024 .bf16} {x : Vec F S256x1024 .f32} {wout : Vec F S1024x1024 .bf16}
    (e1 : bg = b.bg) (e2 : ya = b.ya) (e3 : yb = b.yb) (e4 : p79 = k0_pay79 b.ta0 b.ta1) (e5 : p80 = k0_pay80 b.bg) (e6 : tb0 = b.tb0) (e7 : tb1 = b.tb1)
    (e8 : wpa = b.wpa) (e9 : wpb = b.wpb) (e10 : x = b.x) (e11 : wout = b.wout) :
    k0_pay87 bg ya yb p79 p80 tb0 tb1 wpa wpb x wout = b.h2 := by
  subst e1 e2 e3 e4 e5 e6 e7 e8 e9 e10 e11; rfl

/-- The final gain's gradient with a point's share added, from what it is computed of. -/
theorem gain_of (b : Blk F) {h h2 : FVec F S256x1024 .f32} {fg : Vec F S1x1024 .f32} {t : Vec F S256x1024 .f32} {y y' : Vec F S1x1024 .f32}
    (e : h = b.h) (e2 : h2 = b.h2) (ef : fg = b.fg) (et : t = b.t) (ey : y = y') : k0_pay94 h h2 fg t y = b.gain y' := by
  subst e e2 ef et ey; rfl

/-- The loss with a point's share added, from what it is computed of. -/
theorem loss_of (b : Blk F) {h h2 : FVec F S256x1024 .f32} {fg : Vec F S1x1024 .f32} {t : Vec F S256x1024 .f32} {y y' : Vec F S1x1 .f32}
    (e : h = b.h) (e2 : h2 = b.h2) (ef : fg = b.fg) (et : t = b.t) (ey : y = y') : k0_pay92 h h2 fg t y = b.loss y' := by
  subst e e2 ef et ey; rfl

set_option maxHeartbeats 8000000 in
/-- The body at the first point of the grid: what the three blocks hold after it. -/
theorem first_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg15 : Memref sig .tc .vmem S1x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .f32) (harg18 : arg18.IsWhole) (arg19 : Memref sig .tc .vmem S4x128x1 .f32) (harg19 : arg19.IsWhole) (arg20 : Memref sig .tc .vmem S1x1024 .f32) (harg20 : arg20.IsWhole) (arg21 : Memref sig .tc .vmem S256x1024 .f32) (harg21 : arg21.IsWhole) (arg22 : Memref sig .tc .vmem S256x512 .bf16) (harg22 : arg22.IsWhole) (arg23 : Memref sig .tc .vmem S256x4096 .bf16) (harg23 : arg23.IsWhole) (arg27 : Memref sig .tc .vmem S1x2048 .f32) (harg27 : arg27.IsWhole) (arg28 : Memref sig .tc .vmem S1x1024 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S4x128x128 .f32) (harg31 : arg31.IsWhole) (arg32 : Memref sig .tc .vmem S4x128x1 .f32) (harg32 : arg32.IsWhole) (arg33 : Memref sig .tc .vmem S1x1 .f32) (harg33 : arg33.IsWhole) (arg34 : Memref sig .tc .vmem S512x1024 .bf16) (harg34 : arg34.IsWhole) (arg35 : Memref sig .tc .vmem S512x1024 .bf16) (harg35 : arg35.IsWhole) (arg36 : Memref sig .tc .vmem S1024x1024 .bf16) (harg36 : arg36.IsWhole) (arg37 : Memref sig .tc .vmem S4x128x128 .bf16) (harg37 : arg37.IsWhole) (arg38 : Memref sig .tc .vmem S1024x1024 .f32) (harg38 : arg38.IsWhole) (arg39 : Memref sig .tc .vmem S512x1024 .f32) (harg39 : arg39.IsWhole) (arg40 : Memref sig .tc .vmem S512x1024 .f32) (harg40 : arg40.IsWhole) (arg41 : Memref sig .tc .vmem S8x128x1024 .bf16) (harg41 : arg41.IsWhole) (arg42 : Memref sig .tc .vmem S8x512x128 .bf16) (harg42 : arg42.IsWhole) (arg43 : Memref sig .tc .vmem S8x512x128 .bf16) (harg43 : arg43.IsWhole)
    (hc0 : cond0_0 i) (hc1 : ¬cond0_1 i)
    (x0 : Vec F S256x1024 .f32) (x1 : Vec F S256x1024 .f32) (x2 : Vec F S256x512 .f32) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S1x2048 .f32) (x12 : Vec F S1x512 .f32) (x13 : Vec F S1x512 .f32) (x14 : Vec F S4x128x128 .f32) (x15 : Vec F S4x128x1 .f32) (x16 : Vec F S1x1024 .f32) (fh0 : HbBuf0 (F := F) c hbM0_0) (fh1 : HbBuf0 (F := F) c hbM0_1) (fh2 : HbBuf0 (F := F) c hbM0_2)  (K : PUnit → sProp 𝕄) :
    iprop(held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 iprop(∃ d, owns (c : Thread nD τ) arg21 fullShare d) iprop(∃ d, owns (c : Thread nD τ) arg28 fullShare d) iprop(∃ d, owns (c : Thread nD τ) arg33 fullShare d) iprop(∃ d, owns (c : Thread nD τ) arg34 fullShare d) iprop(∃ d, owns (c : Thread nD τ) arg35 fullShare d) iprop(∃ d, owns (c : Thread nD τ) arg36 fullShare d) iprop(∃ d, owns (c : Thread nD τ) arg37 fullShare d) ∗ (held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 (owns (c : Thread nD τ) arg21 fullShare ((blkOf x0 x1 x2 x3 x4 x5 x6 x7 x8 x9 x10 x11 x12 x13 x14 x15 x16 fh0 fh1 fh2 (masked x14)).dx)) (owns (c : Thread nD τ) arg28 fullShare ((blkOf x0 x1 x2 x3 x4 x5 x6 x7 x8 x9 x10 x11 x12 x13 x14 x15 x16 fh0 fh1 fh2 (masked x14)).gain k0_pay14)) (owns (c : Thread nD τ) arg33 fullShare ((blkOf x0 x1 x2 x3 x4 x5 x6 x7 x8 x9 x10 x11 x12 x13 x14 x15 x16 fh0 fh1 fh2 (masked x14)).loss k0_pay47)) (owns (c : Thread nD τ) arg34 fullShare fh0) (owns (c : Thread nD τ) arg35 fullShare fh1) (owns (c : Thread nD τ) arg36 fullShare fh2) (owns (c : Thread nD τ) arg37 fullShare (masked x14)) -∗ K ⟨⟩))
      ⊢ wp frame (wpE (defs₀ (F := F)) Variants.none c none) Set.univ (cc0_mid_fwd_bwd i arg1 harg1 arg2 harg2 arg3 harg3 arg4 harg4 arg5 harg5 arg6 harg6 arg7 harg7 arg8 harg8 arg9 harg9 arg10 harg10 arg11 harg11 (Memref.whole main_v7) (Memref.isWhole_whole _) (Memref.whole main_v9) (Memref.isWhole_whole _) (Memref.whole main_v11) (Memref.isWhole_whole _) arg15 harg15 arg16 harg16 arg17 harg17 arg18 harg18 arg19 harg19 arg20 harg20 arg21 harg21 arg22 harg22 arg23 harg23 (Memref.whole main_v15_3) (Memref.isWhole_whole _) (Memref.whole main_v15_4) (Memref.isWhole_whole _) (Memref.whole main_v15_5) (Memref.isWhole_whole _) arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 cc0_scratch10) K := by
  generalize hK : iprop(held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 (owns (c : Thread nD τ) arg21 fullShare ((blkOf x0 x1 x2 x3 x4 x5 x6 x7 x8 x9 x10 x11 x12 x13 x14 x15 x16 fh0 fh1 fh2 (masked x14)).dx)) (owns (c : Thread nD τ) arg28 fullShare ((blkOf x0 x1 x2 x3 x4 x5 x6 x7 x8 x9 x10 x11 x12 x13 x14 x15 x16 fh0 fh1 fh2 (masked x14)).gain k0_pay14)) (owns (c : Thread nD τ) arg33 fullShare ((blkOf x0 x1 x2 x3 x4 x5 x6 x7 x8 x9 x10 x11 x12 x13 x14 x15 x16 fh0 fh1 fh2 (masked x14)).loss k0_pay47)) (owns (c : Thread nD τ) arg34 fullShare fh0) (owns (c : Thread nD τ) arg35 fullShare fh1) (owns (c : Thread nD τ) arg36 fullShare fh2) (owns (c : Thread nD τ) arg37 fullShare (masked x14)) -∗ K ⟨⟩) = R
  unfold held owns
  simp only [cc0_mid_fwd_bwd_eq_skeleton]; unfold cc0_mid_fwd_bwd_skel
  simp only [k0_part8_eq_skeleton, k0_part1_eq_skeleton, k0_part2_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d21, %g21, %hg21, G21⟩, ⟨%d22, %g22, %hg22, G22⟩, ⟨%d23, %g23, %hg23, G23⟩, ⟨%d27, %g27, %hg27, G27⟩, ⟨%d28, %g28, %hg28, G28⟩, ⟨%d29, %g29, %hg29, G29⟩, ⟨%d30, %g30, %hg30, G30⟩, ⟨%d31, %g31, %hg31, G31⟩, ⟨%d32, %g32, %hg32, G32⟩, ⟨%d33, %g33, %hg33, G33⟩, ⟨%d34, %g34, %hg34, G34⟩, ⟨%d35, %g35, %hg35, G35⟩, ⟨%d36, %g36, %hg36, G36⟩, ⟨%d37, %g37, %hg37, G37⟩, ⟨%d38, %g38, %hg38, G38⟩, ⟨%d39, %g39, %hg39, G39⟩, ⟨%d40, %g40, %hg40, G40⟩, ⟨%d41, %g41, %hg41, G41⟩, ⟨%d42, %g42, %hg42, G42⟩, ⟨%d43, %g43, %hg43, G43⟩, S41, S42, S43, B0, B1, B2, ⟨%u3, B3⟩, ⟨%u4, B4⟩, ⟨%u5, B5⟩, ⟨%W, HW⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16
  sl_exec (disch := first | sl_exact hc0 | sl_exact hc1)
  sl_step
  subst hK
  iapply Hk
  unfold held owns
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg15.read_unread _
    iexact H11
  isplitl [H12]
  · iexists _; isplitr; · ipureintro; exact harg16.read_unread _
    iexact H12
  isplitl [H13]
  · iexists _; isplitr; · ipureintro; exact harg17.read_unread _
    iexact H13
  isplitl [H14]
  · iexists _; isplitr; · ipureintro; exact harg18.read_unread _
    iexact H14
  isplitl [H15]
  · iexists _; isplitr; · ipureintro; exact harg19.read_unread _
    iexact H15
  isplitl [H16]
  · iexists _; isplitr; · ipureintro; exact harg20.read_unread _
    iexact H16
  isplitl [G21]
  · iexists _; isplitr; swap; · iexact G21
    ipureintro; refine (View.read_writes_full _ _ _ _ _).trans ?_
    delta first_wp.sl.r_38 first_wp.sl.r_39 first_wp.sl.r_40 first_wp.sl.r_41
    refine Eq.trans (dx_of (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (arg34.view.readCov [⟨Rect.whole S512x1024, (fh0 : Vec F S512x1024 .bf16)⟩] (Rect.unit ![0, 0] S512x1024.size inb_S512x1024_S512x1024_0_0).toLoadRect) (arg35.view.readCov [⟨Rect.whole S512x1024, (fh1 : Vec F S512x1024 .bf16)⟩] (Rect.unit ![0, 0] S512x1024.size inb_S512x1024_S512x1024_0_0).toLoadRect) (arg36.view.readCov [⟨Rect.whole S1024x1024, (fh2 : Vec F S1024x1024 .bf16)⟩] (Rect.unit ![0, 0] S1024x1024.size inb_S1024x1024_S1024x1024_0_0).toLoadRect) (View.read (Elt F) arg37.view (arg37.view.writes (Elt F) arg37.view.junk
      [⟨Rect.unit ![3, 0, 0] ![1, 128, 128] inb_S4x128x128_S1x128x128_3_0_0,
          k0_pay9 (iota .tc S128x128 32 [0] iota_S128x128_d0_w32) (iota .tc S128x128 32 [1] iota_S128x128_d1_w32) (View.ld (View.read (Elt F) arg18.view (harg18.unread x14)) (Rect.unit ![3, 0, 0] ![1, 128, 128] inb_S4x128x128_S1x128x128_3_0_0))⟩,
        ⟨Rect.unit ![2, 0, 0] ![1, 128, 128] inb_S4x128x128_S1x128x128_2_0_0, k0_pay8 (k0_pay7 (View.ld (View.read (Elt F) arg18.view (harg18.unread x14)) (Rect.unit ![2, 0, 0] ![1, 128, 128] inb_S4x128x128_S1x128x128_2_0_0)))⟩,
        ⟨Rect.unit ![1, 0, 0] ![1, 128, 128] inb_S4x128x128_S1x128x128_1_0_0, k0_pay6 (View.ld (View.read (Elt F) arg18.view (harg18.unread x14)) (Rect.unit ![1, 0, 0] ![1, 128, 128] inb_S4x128x128_S1x128x128_1_0_0))⟩,
        ⟨Rect.unit ![0, 0, 0] ![1, 128, 128] inb_S4x128x128_S1x128x128_0_0_0, k0_pay5 (View.ld (View.read (Elt F) arg18.view (harg18.unread x14)) (Rect.unit ![0, 0, 0] ![1, 128, 128] inb_S4x128x128_S1x128x128_0_0_0))⟩]))) ?_ ?_ ?_ ?_) ?_
    · delta first_wp.sl.r_36
      refine h_of _ ?_ ?_ ?_ ?_ ?_ ?_ ?_ ?_ ?_ ?_ ?_
      · exact rfl
      · exact rfl
      · exact rfl
      · exact rfl
      · exact rfl
      · exact rfl
      · exact rfl
      · exact rfl
      · exact rfl
      · exact rfl
      · exact rfl
    · delta first_wp.sl.r_37
      refine h2_of _ ?_ ?_ ?_ ?_ ?_ ?_ ?_ ?_ ?_ ?_ ?_
      · exact rfl
      · exact rfl
      · exact rfl
      · exact rfl
      · exact rfl
      · exact rfl
      · exact rfl
      · exact rfl
      · exact rfl
      · exact rfl
      · exact rfl
    · exact rfl
    · exact rfl
    exact (congrArg Blk.dx (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (readCov_copied arg34.view fh0 _) (readCov_copied arg35.view fh1 _) (readCov_copied arg36.view fh2 _) (read_masked harg18 x14 arg37.view _)))
  isplitl [G22]
  · iexists _, _; isplitr; swap; · iexact G22
    ipureintro; rfl
  isplitl [G23]
  · iexists _, _; isplitr; swap; · iexact G23
    ipureintro; rfl
  isplitl [G27]
  · iexists _, _; isplitr; swap; · iexact G27
    ipureintro; rfl
  isplitl [G28]
  · iexists _; isplitr; swap; · iexact G28
    ipureintro; refine (View.read_writes_full _ _ _ _ _).trans ?_
    refine Eq.trans (gain_of (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (arg34.view.readCov [⟨Rect.whole S512x1024, (fh0 : Vec F S512x1024 .bf16)⟩] (Rect.unit ![0, 0] S512x1024.size inb_S512x1024_S512x1024_0_0).toLoadRect) (arg35.view.readCov [⟨Rect.whole S512x1024, (fh1 : Vec F S512x1024 .bf16)⟩] (Rect.unit ![0, 0] S512x1024.size inb_S512x1024_S512x1024_0_0).toLoadRect) (arg36.view.readCov [⟨Rect.whole S1024x1024, (fh2 : Vec F S1024x1024 .bf16)⟩] (Rect.unit ![0, 0] S1024x1024.size inb_S1024x1024_S1024x1024_0_0).toLoadRect) (View.read (Elt F) arg37.view (arg37.view.writes (Elt F) arg37.view.junk
      [⟨Rect.unit ![3, 0, 0] ![1, 128, 128] inb_S4x128x128_S1x128x128_3_0_0,
          k0_pay9 (iota .tc S128x128 32 [0] iota_S128x128_d0_w32) (iota .tc S128x128 32 [1] iota_S128x128_d1_w32) (View.ld (View.read (Elt F) arg18.view (harg18.unread x14)) (Rect.unit ![3, 0, 0] ![1, 128, 128] inb_S4x128x128_S1x128x128_3_0_0))⟩,
        ⟨Rect.unit ![2, 0, 0] ![1, 128, 128] inb_S4x128x128_S1x128x128_2_0_0, k0_pay8 (k0_pay7 (View.ld (View.read (Elt F) arg18.view (harg18.unread x14)) (Rect.unit ![2, 0, 0] ![1, 128, 128] inb_S4x128x128_S1x128x128_2_0_0)))⟩,
        ⟨Rect.unit ![1, 0, 0] ![1, 128, 128] inb_S4x128x128_S1x128x128_1_0_0, k0_pay6 (View.ld (View.read (Elt F) arg18.view (harg18.unread x14)) (Rect.unit ![1, 0, 0] ![1, 128, 128] inb_S4x128x128_S1x128x128_1_0_0))⟩,
        ⟨Rect.unit ![0, 0, 0] ![1, 128, 128] inb_S4x128x128_S1x128x128_0_0_0, k0_pay5 (View.ld (View.read (Elt F) arg18.view (harg18.unread x14)) (Rect.unit ![0, 0, 0] ![1, 128, 128] inb_S4x128x128_S1x128x128_0_0_0))⟩]))) ?_ ?_ ?_ ?_ (readCov_stored arg28.view k0_pay14 _ _)) ?_
    · delta first_wp.sl.r_36
      refine h_of _ ?_ ?_ ?_ ?_ ?_ ?_ ?_ ?_ ?_ ?_ ?_
      · exact rfl
      · exact rfl
      · exact rfl
      · exact rfl
      · exact rfl
      · exact rfl
      · exact rfl
      · exact rfl
      · exact rfl
      · exact rfl
      · exact rfl
    · delta first_wp.sl.r_37
      refine h2_of _ ?_ ?_ ?_ ?_ ?_ ?_ ?_ ?_ ?_ ?_ ?_
      · exact rfl
      · exact rfl
      · exact rfl
      · exact rfl
      · exact rfl
      · exact rfl
      · exact rfl
      · exact rfl
      · exact rfl
      · exact rfl
      · exact rfl
    · exact rfl
    · exact rfl
    exact (congr (congrArg Blk.gain (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (readCov_copied arg34.view fh0 _) (readCov_copied arg35.view fh1 _) (readCov_copied arg36.view fh2 _) (read_masked harg18 x14 arg37.view _))) rfl)
  isplitl [G29]
  · iexists _, _; isplitr; swap; · iexact G29
    ipureintro; rfl
  isplitl [G30]
  · iexists _, _; isplitr; swap; · iexact G30
    ipureintro; rfl
  isplitl [G31]
  · iexists _, _; isplitr; swap; · iexact G31
    ipureintro; rfl
  isplitl [G32]
  · iexists _, _; isplitr; swap; · iexact G32
    ipureintro; rfl
  isplitl [G33]
  · iexists _; isplitr; swap; · iexact G33
    ipureintro; refine (View.read_writes_full _ _ _ _ _).trans ?_
    refine Eq.trans (loss_of (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (arg34.view.readCov [⟨Rect.whole S512x1024, (fh0 : Vec F S512x1024 .bf16)⟩] (Rect.unit ![0, 0] S512x1024.size inb_S512x1024_S512x1024_0_0).toLoadRect) (arg35.view.readCov [⟨Rect.whole S512x1024, (fh1 : Vec F S512x1024 .bf16)⟩] (Rect.unit ![0, 0] S512x1024.size inb_S512x1024_S512x1024_0_0).toLoadRect) (arg36.view.readCov [⟨Rect.whole S1024x1024, (fh2 : Vec F S1024x1024 .bf16)⟩] (Rect.unit ![0, 0] S1024x1024.size inb_S1024x1024_S1024x1024_0_0).toLoadRect) (View.read (Elt F) arg37.view (arg37.view.writes (Elt F) arg37.view.junk
      [⟨Rect.unit ![3, 0, 0] ![1, 128, 128] inb_S4x128x128_S1x128x128_3_0_0,
          k0_pay9 (iota .tc S128x128 32 [0] iota_S128x128_d0_w32) (iota .tc S128x128 32 [1] iota_S128x128_d1_w32) (View.ld (View.read (Elt F) arg18.view (harg18.unread x14)) (Rect.unit ![3, 0, 0] ![1, 128, 128] inb_S4x128x128_S1x128x128_3_0_0))⟩,
        ⟨Rect.unit ![2, 0, 0] ![1, 128, 128] inb_S4x128x128_S1x128x128_2_0_0, k0_pay8 (k0_pay7 (View.ld (View.read (Elt F) arg18.view (harg18.unread x14)) (Rect.unit ![2, 0, 0] ![1, 128, 128] inb_S4x128x128_S1x128x128_2_0_0)))⟩,
        ⟨Rect.unit ![1, 0, 0] ![1, 128, 128] inb_S4x128x128_S1x128x128_1_0_0, k0_pay6 (View.ld (View.read (Elt F) arg18.view (harg18.unread x14)) (Rect.unit ![1, 0, 0] ![1, 128, 128] inb_S4x128x128_S1x128x128_1_0_0))⟩,
        ⟨Rect.unit ![0, 0, 0] ![1, 128, 128] inb_S4x128x128_S1x128x128_0_0_0, k0_pay5 (View.ld (View.read (Elt F) arg18.view (harg18.unread x14)) (Rect.unit ![0, 0, 0] ![1, 128, 128] inb_S4x128x128_S1x128x128_0_0_0))⟩]))) ?_ ?_ ?_ ?_ (readCov_stored arg33.view k0_pay47 _ _)) ?_
    · delta first_wp.sl.r_36
      refine h_of _ ?_ ?_ ?_ ?_ ?_ ?_ ?_ ?_ ?_ ?_ ?_
      · exact rfl
      · exact rfl
      · exact rfl
      · exact rfl
      · exact rfl
      · exact rfl
      · exact rfl
      · exact rfl
      · exact rfl
      · exact rfl
      · exact rfl
    · delta first_wp.sl.r_37
      refine h2_of _ ?_ ?_ ?_ ?_ ?_ ?_ ?_ ?_ ?_ ?_ ?_
      · exact rfl
      · exact rfl
      · exact rfl
      · exact rfl
      · exact rfl
      · exact rfl
      · exact rfl
      · exact rfl
      · exact rfl
      · exact rfl
      · exact rfl
    · exact rfl
    · exact rfl
    exact (congr (congrArg Blk.loss (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (readCov_copied arg34.view fh0 _) (readCov_copied arg35.view fh1 _) (readCov_copied arg36.view fh2 _) (read_masked harg18 x14 arg37.view _))) rfl)
  isplitl [G34]
  · iexists _; isplitr; swap; · iexact G34
    ipureintro; exact read_copied arg34.view _ fh0
  isplitl [G35]
  · iexists _; isplitr; swap; · iexact G35
    ipureintro; exact read_copied arg35.view _ fh1
  isplitl [G36]
  · iexists _; isplitr; swap; · iexact G36
    ipureintro; exact read_copied arg36.view _ fh2
  isplitl [G37]
  · iexists _; isplitr; swap; · iexact G37
    ipureintro; exact read_masked harg18 x14 arg37.view _
  isplitl [G38]
  · iexists _, _; isplitr; swap; · iexact G38
    ipureintro; rfl
  isplitl [G39]
  · iexists _, _; isplitr; swap; · iexact G39
    ipureintro; rfl
  isplitl [G40]
  · iexists _, _; isplitr; swap; · iexact G40
    ipureintro; rfl
  isplitl [G41]
  · iexists _, _; isplitr; swap; · iexact G41
    ipureintro; rfl
  isplitl [G42]
  · iexists _, _; isplitr; swap; · iexact G42
    ipureintro; rfl
  isplitl [G43]
  · iexists _, _; isplitr; swap; · iexact G43
    ipureintro; rfl
  isplitl [S41]; · iexact S41
  isplitl [S42]; · iexact S42
  isplitl [S43]; · iexact S43
  isplitl [B0]; · iexact B0
  isplitl [B1]; · iexact B1
  isplitl [B2]; · iexact B2
  isplitl [B3]; · iexists _; iexact B3
  isplitl [B4]; · iexists _; iexact B4
  isplitl [B5]; · iexists _; iexact B5
  iexists _; iexact HW

end Cert.MidIdeal.Run

end
-- ==== Proof.MidInner.lean ====
/-
  The middle call: its body at the inner points of the grid.
-/
module

public import proofs.«01_k».proof.Proof.MidReads

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

set_option maxHeartbeats 8000000 in
/-- The body at the inner points of the grid: what the three blocks hold after it. -/
theorem inner_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg15 : Memref sig .tc .vmem S1x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .f32) (harg18 : arg18.IsWhole) (arg19 : Memref sig .tc .vmem S4x128x1 .f32) (harg19 : arg19.IsWhole) (arg20 : Memref sig .tc .vmem S1x1024 .f32) (harg20 : arg20.IsWhole) (arg21 : Memref sig .tc .vmem S256x1024 .f32) (harg21 : arg21.IsWhole) (arg22 : Memref sig .tc .vmem S256x512 .bf16) (harg22 : arg22.IsWhole) (arg23 : Memref sig .tc .vmem S256x4096 .bf16) (harg23 : arg23.IsWhole) (arg27 : Memref sig .tc .vmem S1x2048 .f32) (harg27 : arg27.IsWhole) (arg28 : Memref sig .tc .vmem S1x1024 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S4x128x128 .f32) (harg31 : arg31.IsWhole) (arg32 : Memref sig .tc .vmem S4x128x1 .f32) (harg32 : arg32.IsWhole) (arg33 : Memref sig .tc .vmem S1x1 .f32) (harg33 : arg33.IsWhole) (arg34 : Memref sig .tc .vmem S512x1024 .bf16) (harg34 : arg34.IsWhole) (arg35 : Memref sig .tc .vmem S512x1024 .bf16) (harg35 : arg35.IsWhole) (arg36 : Memref sig .tc .vmem S1024x1024 .bf16) (harg36 : arg36.IsWhole) (arg37 : Memref sig .tc .vmem S4x128x128 .bf16) (harg37 : arg37.IsWhole) (arg38 : Memref sig .tc .vmem S1024x1024 .f32) (harg38 : arg38.IsWhole) (arg39 : Memref sig .tc .vmem S512x1024 .f32) (harg39 : arg39.IsWhole) (arg40 : Memref sig .tc .vmem S512x1024 .f32) (harg40 : arg40.IsWhole) (arg41 : Memref sig .tc .vmem S8x128x1024 .bf16) (harg41 : arg41.IsWhole) (arg42 : Memref sig .tc .vmem S8x512x128 .bf16) (harg42 : arg42.IsWhole) (arg43 : Memref sig .tc .vmem S8x512x128 .bf16) (harg43 : arg43.IsWhole)
    (hc0 : ¬cond0_0 i) (hc1 : ¬cond0_1 i)
    (x0 : Vec F S256x1024 .f32) (x1 : Vec F S256x1024 .f32) (x2 : Vec F S256x512 .f32) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S1x2048 .f32) (x12 : Vec F S1x512 .f32) (x13 : Vec F S1x512 .f32) (x14 : Vec F S4x128x128 .f32) (x15 : Vec F S4x128x1 .f32) (x16 : Vec F S1x1024 .f32) (fh0 : HbBuf0 (F := F) c hbM0_0) (fh1 : HbBuf0 (F := F) c hbM0_1) (fh2 : HbBuf0 (F := F) c hbM0_2) (y28 : Vec F S1x1024 .f32) (y33 : Vec F S1x1 .f32) (w34 : Vec F S512x1024 .bf16) (w35 : Vec F S512x1024 .bf16) (w36 : Vec F S1024x1024 .bf16) (w37 : Vec F S4x128x128 .bf16) (K : PUnit → sProp 𝕄) :
    iprop(held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 iprop(∃ d, owns (c : Thread nD τ) arg21 fullShare d) (owns (c : Thread nD τ) arg28 fullShare y28) (owns (c : Thread nD τ) arg33 fullShare y33) (owns (c : Thread nD τ) arg34 fullShare w34) (owns (c : Thread nD τ) arg35 fullShare w35) (owns (c : Thread nD τ) arg36 fullShare w36) (owns (c : Thread nD τ) arg37 fullShare w37) ∗ (held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 (owns (c : Thread nD τ) arg21 fullShare ((blkOf x0 x1 x2 x3 x4 x5 x6 x7 x8 x9 x10 x11 x12 x13 x14 x15 x16 w34 w35 w36 w37).dx)) (owns (c : Thread nD τ) arg28 fullShare ((blkOf x0 x1 x2 x3 x4 x5 x6 x7 x8 x9 x10 x11 x12 x13 x14 x15 x16 w34 w35 w36 w37).gain y28)) (owns (c : Thread nD τ) arg33 fullShare ((blkOf x0 x1 x2 x3 x4 x5 x6 x7 x8 x9 x10 x11 x12 x13 x14 x15 x16 w34 w35 w36 w37).loss y33)) (owns (c : Thread nD τ) arg34 fullShare w34) (owns (c : Thread nD τ) arg35 fullShare w35) (owns (c : Thread nD τ) arg36 fullShare w36) (owns (c : Thread nD τ) arg37 fullShare w37) -∗ K ⟨⟩))
      ⊢ wp frame (wpE (defs₀ (F := F)) Variants.none c none) Set.univ (cc0_mid_fwd_bwd i arg1 harg1 arg2 harg2 arg3 harg3 arg4 harg4 arg5 harg5 arg6 harg6 arg7 harg7 arg8 harg8 arg9 harg9 arg10 harg10 arg11 harg11 (Memref.whole main_v7) (Memref.isWhole_whole _) (Memref.whole main_v9) (Memref.isWhole_whole _) (Memref.whole main_v11) (Memref.isWhole_whole _) arg15 harg15 arg16 harg16 arg17 harg17 arg18 harg18 arg19 harg19 arg20 harg20 arg21 harg21 arg22 harg22 arg23 harg23 (Memref.whole main_v15_3) (Memref.isWhole_whole _) (Memref.whole main_v15_4) (Memref.isWhole_whole _) (Memref.whole main_v15_5) (Memref.isWhole_whole _) arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 cc0_scratch10) K := by
  generalize hK : iprop(held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 (owns (c : Thread nD τ) arg21 fullShare ((blkOf x0 x1 x2 x3 x4 x5 x6 x7 x8 x9 x10 x11 x12 x13 x14 x15 x16 w34 w35 w36 w37).dx)) (owns (c : Thread nD τ) arg28 fullShare ((blkOf x0 x1 x2 x3 x4 x5 x6 x7 x8 x9 x10 x11 x12 x13 x14 x15 x16 w34 w35 w36 w37).gain y28)) (owns (c : Thread nD τ) arg33 fullShare ((blkOf x0 x1 x2 x3 x4 x5 x6 x7 x8 x9 x10 x11 x12 x13 x14 x15 x16 w34 w35 w36 w37).loss y33)) (owns (c : Thread nD τ) arg34 fullShare w34) (owns (c : Thread nD τ) arg35 fullShare w35) (owns (c : Thread nD τ) arg36 fullShare w36) (owns (c : Thread nD τ) arg37 fullShare w37) -∗ K ⟨⟩) = R
  unfold held owns
  simp only [cc0_mid_fwd_bwd_eq_skeleton]; unfold cc0_mid_fwd_bwd_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d21, %g21, %hg21, G21⟩, ⟨%d22, %g22, %hg22, G22⟩, ⟨%d23, %g23, %hg23, G23⟩, ⟨%d27, %g27, %hg27, G27⟩, ⟨%g28, %hg28, G28⟩, ⟨%d29, %g29, %hg29, G29⟩, ⟨%d30, %g30, %hg30, G30⟩, ⟨%d31, %g31, %hg31, G31⟩, ⟨%d32, %g32, %hg32, G32⟩, ⟨%g33, %hg33, G33⟩, ⟨%g34, %hg34, G34⟩, ⟨%g35, %hg35, G35⟩, ⟨%g36, %hg36, G36⟩, ⟨%g37, %hg37, G37⟩, ⟨%d38, %g38, %hg38, G38⟩, ⟨%d39, %g39, %hg39, G39⟩, ⟨%d40, %g40, %hg40, G40⟩, ⟨%d41, %g41, %hg41, G41⟩, ⟨%d42, %g42, %hg42, G42⟩, ⟨%d43, %g43, %hg43, G43⟩, S41, S42, S43, B0, B1, B2, ⟨%u3, B3⟩, ⟨%u4, B4⟩, ⟨%u5, B5⟩, ⟨%W, HW⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16; obtain rfl := harg27.eq_unread hg27; obtain rfl := harg28.eq_unread hg28; obtain rfl := harg29.eq_unread hg29; obtain rfl := harg30.eq_unread hg30; obtain rfl := harg31.eq_unread hg31; obtain rfl := harg32.eq_unread hg32; obtain rfl := harg33.eq_unread hg33; obtain rfl := harg34.eq_unread hg34; obtain rfl := harg35.eq_unread hg35; obtain rfl := harg36.eq_unread hg36; obtain rfl := harg37.eq_unread hg37; obtain rfl := harg38.eq_unread hg38; obtain rfl := harg39.eq_unread hg39; obtain rfl := harg40.eq_unread hg40
  sl_exec (disch := first | sl_exact hc0 | sl_exact hc1)
  sl_step
  subst hK
  iapply Hk
  unfold held owns
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg15.read_unread _
    iexact H11
  isplitl [H12]
  · iexists _; isplitr; · ipureintro; exact harg16.read_unread _
    iexact H12
  isplitl [H13]
  · iexists _; isplitr; · ipureintro; exact harg17.read_unread _
    iexact H13
  isplitl [H14]
  · iexists _; isplitr; · ipureintro; exact harg18.read_unread _
    iexact H14
  isplitl [H15]
  · iexists _; isplitr; · ipureintro; exact harg19.read_unread _
    iexact H15
  isplitl [H16]
  · iexists _; isplitr; · ipureintro; exact harg20.read_unread _
    iexact H16
  isplitl [G21]
  · iexists _; isplitr; swap; · iexact G21
    ipureintro; refine (View.read_writes_full _ _ _ _ _).trans ?_
    delta inner_wp.sl.r_37 inner_wp.sl.r_38 inner_wp.sl.r_39 inner_wp.sl.r_40
    refine Eq.trans (dx_of (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (View.readAt (Elt F) arg34.view (Rect.unit ![0, 0] S512x1024.size inb_S512x1024_S512x1024_0_0).toLoadRect (harg34.unread w34)) (View.readAt (Elt F) arg35.view (Rect.unit ![0, 0] S512x1024.size inb_S512x1024_S512x1024_0_0).toLoadRect (harg35.unread w35)) (View.readAt (Elt F) arg36.view (Rect.unit ![0, 0] S1024x1024.size inb_S1024x1024_S1024x1024_0_0).toLoadRect (harg36.unread w36)) (View.read (Elt F) arg37.view (harg37.unread w37))) ?_ ?_ ?_ ?_) ?_
    · exact rfl
    · exact rfl
    · exact rfl
    · exact rfl
    exact (congrArg Blk.dx (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (read_all harg34 w34 _) (read_all harg35 w35 _) (read_all harg36 w36 _) (harg37.read_unread w37)))
  isplitl [G22]
  · iexists _, _; isplitr; swap; · iexact G22
    ipureintro; rfl
  isplitl [G23]
  · iexists _, _; isplitr; swap; · iexact G23
    ipureintro; rfl
  isplitl [G27]
  · iexists _, _; isplitr; swap; · iexact G27
    ipureintro; rfl
  isplitl [G28]
  · iexists _; isplitr; swap; · iexact G28
    ipureintro; refine (View.read_writes_full _ _ _ _ _).trans ?_
    refine Eq.trans (b := (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (View.readAt (Elt F) arg34.view (Rect.unit ![0, 0] S512x1024.size inb_S512x1024_S512x1024_0_0).toLoadRect (harg34.unread w34)) (View.readAt (Elt F) arg35.view (Rect.unit ![0, 0] S512x1024.size inb_S512x1024_S512x1024_0_0).toLoadRect (harg35.unread w35)) (View.readAt (Elt F) arg36.view (Rect.unit ![0, 0] S1024x1024.size inb_S1024x1024_S1024x1024_0_0).toLoadRect (harg36.unread w36)) (View.read (Elt F) arg37.view (harg37.unread w37))).gain (View.readAt (Elt F) arg28.view (Rect.unit ![0, 0] S1x1024.size inb_S1x1024_S1x1024_0_0).toLoadRect (harg28.unread y28))) rfl ?_
    exact (congr (congrArg Blk.gain (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (read_all harg34 w34 _) (read_all harg35 w35 _) (read_all harg36 w36 _) (harg37.read_unread w37))) (read_all harg28 y28 _))
  isplitl [G29]
  · iexists _, _; isplitr; swap; · iexact G29
    ipureintro; rfl
  isplitl [G30]
  · iexists _, _; isplitr; swap; · iexact G30
    ipureintro; rfl
  isplitl [G31]
  · iexists _, _; isplitr; swap; · iexact G31
    ipureintro; rfl
  isplitl [G32]
  · iexists _, _; isplitr; swap; · iexact G32
    ipureintro; rfl
  isplitl [G33]
  · iexists _; isplitr; swap; · iexact G33
    ipureintro; refine (View.read_writes_full _ _ _ _ _).trans ?_
    refine Eq.trans (b := (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (View.readAt (Elt F) arg34.view (Rect.unit ![0, 0] S512x1024.size inb_S512x1024_S512x1024_0_0).toLoadRect (harg34.unread w34)) (View.readAt (Elt F) arg35.view (Rect.unit ![0, 0] S512x1024.size inb_S512x1024_S512x1024_0_0).toLoadRect (harg35.unread w35)) (View.readAt (Elt F) arg36.view (Rect.unit ![0, 0] S1024x1024.size inb_S1024x1024_S1024x1024_0_0).toLoadRect (harg36.unread w36)) (View.read (Elt F) arg37.view (harg37.unread w37))).loss (View.readAt (Elt F) arg33.view (Rect.unit ![0, 0] S1x1.size inb_S1x1_S1x1_0_0).toLoadRect (harg33.unread y33))) rfl ?_
    exact (congr (congrArg Blk.loss (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (read_all harg34 w34 _) (read_all harg35 w35 _) (read_all harg36 w36 _) (harg37.read_unread w37))) (read_all harg33 y33 _))
  isplitl [G34]
  · iexists _; isplitr; swap; · iexact G34
    ipureintro; exact harg34.read_unread _
  isplitl [G35]
  · iexists _; isplitr; swap; · iexact G35
    ipureintro; exact harg35.read_unread _
  isplitl [G36]
  · iexists _; isplitr; swap; · iexact G36
    ipureintro; exact harg36.read_unread _
  isplitl [G37]
  · iexists _; isplitr; swap; · iexact G37
    ipureintro; exact harg37.read_unread _
  isplitl [G38]
  · iexists _, _; isplitr; swap; · iexact G38
    ipureintro; rfl
  isplitl [G39]
  · iexists _, _; isplitr; swap; · iexact G39
    ipureintro; rfl
  isplitl [G40]
  · iexists _, _; isplitr; swap; · iexact G40
    ipureintro; rfl
  isplitl [G41]
  · iexists _, _; isplitr; swap; · iexact G41
    ipureintro; rfl
  isplitl [G42]
  · iexists _, _; isplitr; swap; · iexact G42
    ipureintro; rfl
  isplitl [G43]
  · iexists _, _; isplitr; swap; · iexact G43
    ipureintro; rfl
  isplitl [S41]; · iexact S41
  isplitl [S42]; · iexact S42
  isplitl [S43]; · iexact S43
  isplitl [B0]; · iexact B0
  isplitl [B1]; · iexact B1
  isplitl [B2]; · iexact B2
  isplitl [B3]; · iexists _; iexact B3
  isplitl [B4]; · iexists _; iexact B4
  isplitl [B5]; · iexists _; iexact B5
  iexists _; iexact HW

end Cert.MidIdeal.Run

end
-- ==== Proof.MidLast.lean ====
/-
  The middle call: its body at the last point of the grid.
-/
module

public import proofs.«01_k».proof.Proof.MidReads

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

set_option maxHeartbeats 8000000 in
/-- The body at the last point of the grid: what the three blocks hold after it. -/
theorem last_wp (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg15 : Memref sig .tc .vmem S1x2048 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S4x128x128 .f32) (harg18 : arg18.IsWhole) (arg19 : Memref sig .tc .vmem S4x128x1 .f32) (harg19 : arg19.IsWhole) (arg20 : Memref sig .tc .vmem S1x1024 .f32) (harg20 : arg20.IsWhole) (arg21 : Memref sig .tc .vmem S256x1024 .f32) (harg21 : arg21.IsWhole) (arg22 : Memref sig .tc .vmem S256x512 .bf16) (harg22 : arg22.IsWhole) (arg23 : Memref sig .tc .vmem S256x4096 .bf16) (harg23 : arg23.IsWhole) (arg27 : Memref sig .tc .vmem S1x2048 .f32) (harg27 : arg27.IsWhole) (arg28 : Memref sig .tc .vmem S1x1024 .f32) (harg28 : arg28.IsWhole) (arg29 : Memref sig .tc .vmem S1x512 .f32) (harg29 : arg29.IsWhole) (arg30 : Memref sig .tc .vmem S1x512 .f32) (harg30 : arg30.IsWhole) (arg31 : Memref sig .tc .vmem S4x128x128 .f32) (harg31 : arg31.IsWhole) (arg32 : Memref sig .tc .vmem S4x128x1 .f32) (harg32 : arg32.IsWhole) (arg33 : Memref sig .tc .vmem S1x1 .f32) (harg33 : arg33.IsWhole) (arg34 : Memref sig .tc .vmem S512x1024 .bf16) (harg34 : arg34.IsWhole) (arg35 : Memref sig .tc .vmem S512x1024 .bf16) (harg35 : arg35.IsWhole) (arg36 : Memref sig .tc .vmem S1024x1024 .bf16) (harg36 : arg36.IsWhole) (arg37 : Memref sig .tc .vmem S4x128x128 .bf16) (harg37 : arg37.IsWhole) (arg38 : Memref sig .tc .vmem S1024x1024 .f32) (harg38 : arg38.IsWhole) (arg39 : Memref sig .tc .vmem S512x1024 .f32) (harg39 : arg39.IsWhole) (arg40 : Memref sig .tc .vmem S512x1024 .f32) (harg40 : arg40.IsWhole) (arg41 : Memref sig .tc .vmem S8x128x1024 .bf16) (harg41 : arg41.IsWhole) (arg42 : Memref sig .tc .vmem S8x512x128 .bf16) (harg42 : arg42.IsWhole) (arg43 : Memref sig .tc .vmem S8x512x128 .bf16) (harg43 : arg43.IsWhole)
    (hc0 : ¬cond0_0 i) (hc1 : cond0_1 i)
    (x0 : Vec F S256x1024 .f32) (x1 : Vec F S256x1024 .f32) (x2 : Vec F S256x512 .f32) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S1x2048 .f32) (x12 : Vec F S1x512 .f32) (x13 : Vec F S1x512 .f32) (x14 : Vec F S4x128x128 .f32) (x15 : Vec F S4x128x1 .f32) (x16 : Vec F S1x1024 .f32) (fh0 : HbBuf0 (F := F) c hbM0_0) (fh1 : HbBuf0 (F := F) c hbM0_1) (fh2 : HbBuf0 (F := F) c hbM0_2) (y28 : Vec F S1x1024 .f32) (y33 : Vec F S1x1 .f32) (w34 : Vec F S512x1024 .bf16) (w35 : Vec F S512x1024 .bf16) (w36 : Vec F S1024x1024 .bf16) (w37 : Vec F S4x128x128 .bf16) (K : PUnit → sProp 𝕄) :
    iprop(held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 iprop(∃ d, owns (c : Thread nD τ) arg21 fullShare d) (owns (c : Thread nD τ) arg28 fullShare y28) (owns (c : Thread nD τ) arg33 fullShare y33) (owns (c : Thread nD τ) arg34 fullShare w34) (owns (c : Thread nD τ) arg35 fullShare w35) (owns (c : Thread nD τ) arg36 fullShare w36) (owns (c : Thread nD τ) arg37 fullShare w37) ∗ (held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 (owns (c : Thread nD τ) arg21 fullShare ((blkOf x0 x1 x2 x3 x4 x5 x6 x7 x8 x9 x10 x11 x12 x13 x14 x15 x16 w34 w35 w36 w37).dx)) (owns (c : Thread nD τ) arg28 fullShare ((blkOf x0 x1 x2 x3 x4 x5 x6 x7 x8 x9 x10 x11 x12 x13 x14 x15 x16 w34 w35 w36 w37).gain y28)) (owns (c : Thread nD τ) arg33 fullShare ((blkOf x0 x1 x2 x3 x4 x5 x6 x7 x8 x9 x10 x11 x12 x13 x14 x15 x16 w34 w35 w36 w37).loss y33)) (owns (c : Thread nD τ) arg34 fullShare w34) (owns (c : Thread nD τ) arg35 fullShare w35) (owns (c : Thread nD τ) arg36 fullShare w36) (owns (c : Thread nD τ) arg37 fullShare w37) -∗ K ⟨⟩))
      ⊢ wp frame (wpE (defs₀ (F := F)) Variants.none c none) Set.univ (cc0_mid_fwd_bwd i arg1 harg1 arg2 harg2 arg3 harg3 arg4 harg4 arg5 harg5 arg6 harg6 arg7 harg7 arg8 harg8 arg9 harg9 arg10 harg10 arg11 harg11 (Memref.whole main_v7) (Memref.isWhole_whole _) (Memref.whole main_v9) (Memref.isWhole_whole _) (Memref.whole main_v11) (Memref.isWhole_whole _) arg15 harg15 arg16 harg16 arg17 harg17 arg18 harg18 arg19 harg19 arg20 harg20 arg21 harg21 arg22 harg22 arg23 harg23 (Memref.whole main_v15_3) (Memref.isWhole_whole _) (Memref.whole main_v15_4) (Memref.isWhole_whole _) (Memref.whole main_v15_5) (Memref.isWhole_whole _) arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 cc0_scratch10) K := by
  generalize hK : iprop(held c arg1 arg2 arg3 arg4 arg5 arg6 arg7 arg8 arg9 arg10 arg11 arg15 arg16 arg17 arg18 arg19 arg20 arg21 arg22 arg23 arg27 arg28 arg29 arg30 arg31 arg32 arg33 arg34 arg35 arg36 arg37 arg38 arg39 arg40 arg41 arg42 arg43 x0 x1 x2 x3 x4 x5 x6 x7 x8 x9 x10 x11 x12 x13 x14 x15 x16 fh0 fh1 fh2 (owns (c : Thread nD τ) arg21 fullShare ((blkOf x0 x1 x2 x3 x4 x5 x6 x7 x8 x9 x10 x11 x12 x13 x14 x15 x16 w34 w35 w36 w37).dx)) (owns (c : Thread nD τ) arg28 fullShare ((blkOf x0 x1 x2 x3 x4 x5 x6 x7 x8 x9 x10 x11 x12 x13 x14 x15 x16 w34 w35 w36 w37).gain y28)) (owns (c : Thread nD τ) arg33 fullShare ((blkOf x0 x1 x2 x3 x4 x5 x6 x7 x8 x9 x10 x11 x12 x13 x14 x15 x16 w34 w35 w36 w37).loss y33)) (owns (c : Thread nD τ) arg34 fullShare w34) (owns (c : Thread nD τ) arg35 fullShare w35) (owns (c : Thread nD τ) arg36 fullShare w36) (owns (c : Thread nD τ) arg37 fullShare w37) -∗ K ⟨⟩) = R
  unfold held owns
  simp only [cc0_mid_fwd_bwd_eq_skeleton]; unfold cc0_mid_fwd_bwd_skel
  simp only [k0_part8_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d21, %g21, %hg21, G21⟩, ⟨%d22, %g22, %hg22, G22⟩, ⟨%d23, %g23, %hg23, G23⟩, ⟨%d27, %g27, %hg27, G27⟩, ⟨%g28, %hg28, G28⟩, ⟨%d29, %g29, %hg29, G29⟩, ⟨%d30, %g30, %hg30, G30⟩, ⟨%d31, %g31, %hg31, G31⟩, ⟨%d32, %g32, %hg32, G32⟩, ⟨%g33, %hg33, G33⟩, ⟨%g34, %hg34, G34⟩, ⟨%g35, %hg35, G35⟩, ⟨%g36, %hg36, G36⟩, ⟨%g37, %hg37, G37⟩, ⟨%d38, %g38, %hg38, G38⟩, ⟨%d39, %g39, %hg39, G39⟩, ⟨%d40, %g40, %hg40, G40⟩, ⟨%d41, %g41, %hg41, G41⟩, ⟨%d42, %g42, %hg42, G42⟩, ⟨%d43, %g43, %hg43, G43⟩, S41, S42, S43, B0, B1, B2, ⟨%u3, B3⟩, ⟨%u4, B4⟩, ⟨%u5, B5⟩, ⟨%W, HW⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16; obtain rfl := harg27.eq_unread hg27; obtain rfl := harg28.eq_unread hg28; obtain rfl := harg29.eq_unread hg29; obtain rfl := harg30.eq_unread hg30; obtain rfl := harg31.eq_unread hg31; obtain rfl := harg32.eq_unread hg32; obtain rfl := harg33.eq_unread hg33; obtain rfl := harg34.eq_unread hg34; obtain rfl := harg35.eq_unread hg35; obtain rfl := harg36.eq_unread hg36; obtain rfl := harg37.eq_unread hg37; obtain rfl := harg38.eq_unread hg38; obtain rfl := harg39.eq_unread hg39; obtain rfl := harg40.eq_unread hg40
  sl_exec (disch := first | sl_exact hc0 | sl_exact hc1)
  sl_step
  subst hK
  iapply Hk
  unfold held owns
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg15.read_unread _
    iexact H11
  isplitl [H12]
  · iexists _; isplitr; · ipureintro; exact harg16.read_unread _
    iexact H12
  isplitl [H13]
  · iexists _; isplitr; · ipureintro; exact harg17.read_unread _
    iexact H13
  isplitl [H14]
  · iexists _; isplitr; · ipureintro; exact harg18.read_unread _
    iexact H14
  isplitl [H15]
  · iexists _; isplitr; · ipureintro; exact harg19.read_unread _
    iexact H15
  isplitl [H16]
  · iexists _; isplitr; · ipureintro; exact harg20.read_unread _
    iexact H16
  isplitl [G21]
  · iexists _; isplitr; swap; · iexact G21
    ipureintro; refine (View.read_writes_full _ _ _ _ _).trans ?_
    delta last_wp.sl.r_37 last_wp.sl.r_38 last_wp.sl.r_39 last_wp.sl.r_40
    refine Eq.trans (dx_of (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (View.readAt (Elt F) arg34.view (Rect.unit ![0, 0] S512x1024.size inb_S512x1024_S512x1024_0_0).toLoadRect (harg34.unread w34)) (View.readAt (Elt F) arg35.view (Rect.unit ![0, 0] S512x1024.size inb_S512x1024_S512x1024_0_0).toLoadRect (harg35.unread w35)) (View.readAt (Elt F) arg36.view (Rect.unit ![0, 0] S1024x1024.size inb_S1024x1024_S1024x1024_0_0).toLoadRect (harg36.unread w36)) (View.read (Elt F) arg37.view (harg37.unread w37))) ?_ ?_ ?_ ?_) ?_
    · exact rfl
    · exact rfl
    · exact rfl
    · exact rfl
    exact (congrArg Blk.dx (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (read_all harg34 w34 _) (read_all harg35 w35 _) (read_all harg36 w36 _) (harg37.read_unread w37)))
  isplitl [G22]
  · iexists _, _; isplitr; swap; · iexact G22
    ipureintro; rfl
  isplitl [G23]
  · iexists _, _; isplitr; swap; · iexact G23
    ipureintro; rfl
  isplitl [G27]
  · iexists _, _; isplitr; swap; · iexact G27
    ipureintro; rfl
  isplitl [G28]
  · iexists _; isplitr; swap; · iexact G28
    ipureintro; refine (View.read_writes_full _ _ _ _ _).trans ?_
    refine Eq.trans (b := (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (View.readAt (Elt F) arg34.view (Rect.unit ![0, 0] S512x1024.size inb_S512x1024_S512x1024_0_0).toLoadRect (harg34.unread w34)) (View.readAt (Elt F) arg35.view (Rect.unit ![0, 0] S512x1024.size inb_S512x1024_S512x1024_0_0).toLoadRect (harg35.unread w35)) (View.readAt (Elt F) arg36.view (Rect.unit ![0, 0] S1024x1024.size inb_S1024x1024_S1024x1024_0_0).toLoadRect (harg36.unread w36)) (View.read (Elt F) arg37.view (harg37.unread w37))).gain (View.readAt (Elt F) arg28.view (Rect.unit ![0, 0] S1x1024.size inb_S1x1024_S1x1024_0_0).toLoadRect (harg28.unread y28))) rfl ?_
    exact (congr (congrArg Blk.gain (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (read_all harg34 w34 _) (read_all harg35 w35 _) (read_all harg36 w36 _) (harg37.read_unread w37))) (read_all harg28 y28 _))
  isplitl [G29]
  · iexists _, _; isplitr; swap; · iexact G29
    ipureintro; rfl
  isplitl [G30]
  · iexists _, _; isplitr; swap; · iexact G30
    ipureintro; rfl
  isplitl [G31]
  · iexists _, _; isplitr; swap; · iexact G31
    ipureintro; rfl
  isplitl [G32]
  · iexists _, _; isplitr; swap; · iexact G32
    ipureintro; rfl
  isplitl [G33]
  · iexists _; isplitr; swap; · iexact G33
    ipureintro; refine (View.read_writes_full _ _ _ _ _).trans ?_
    refine Eq.trans (b := (blkOf (View.readAt (Elt F) arg1.view (Rect.unit ![0, 0] S256x1024.size inb_S256x1024_S256x1024_0_0).toLoadRect (harg1.unread x0)) (View.readAt (Elt F) arg2.view (Rect.unit ![0, 0] S256x1024.size inb_S256x1024_S256x1024_0_0).toLoadRect (harg2.unread x1)) (View.readAt (Elt F) arg3.view (Rect.unit ![0, 0] S256x512.size inb_S256x512_S256x512_0_0).toLoadRect (harg3.unread x2)) (View.readAt (Elt F) arg4.view (Rect.unit ![0, 0] S256x512.size inb_S256x512_S256x512_0_0).toLoadRect (harg4.unread x3)) (View.readAt (Elt F) arg5.view (Rect.unit ![0, 0] S256x512.size inb_S256x512_S256x512_0_0).toLoadRect (harg5.unread x4)) (View.readAt (Elt F) arg6.view (Rect.unit ![0, 0] S256x512.size inb_S256x512_S256x512_0_0).toLoadRect (harg6.unread x5)) (View.readAt (Elt F) arg7.view (Rect.unit ![0, 0] S256x512.size inb_S256x512_S256x512_0_0).toLoadRect (harg7.unread x6)) (View.readAt (Elt F) arg8.view (Rect.unit ![0, 0] S256x512.size inb_S256x512_S256x512_0_0).toLoadRect (harg8.unread x7)) (View.readAt (Elt F) arg9.view (Rect.unit ![0, 0] S256x512.size inb_S256x512_S256x512_0_0).toLoadRect (harg9.unread x8)) (View.readAt (Elt F) arg10.view (Rect.unit ![0, 0] S256x512.size inb_S256x512_S256x512_0_0).toLoadRect (harg10.unread x9)) (View.readAt (Elt F) arg11.view (Rect.unit ![0, 0] S256x512.size inb_S256x512_S256x512_0_0).toLoadRect (harg11.unread x10)) (View.readAt (Elt F) arg15.view (Rect.unit ![0, 0] S1x2048.size inb_S1x2048_S1x2048_0_0).toLoadRect (harg15.unread x11)) (View.readAt (Elt F) arg16.view (Rect.unit ![0, 0] S1x512.size inb_S1x512_S1x512_0_0).toLoadRect (harg16.unread x12)) (View.readAt (Elt F) arg17.view (Rect.unit ![0, 0] S1x512.size inb_S1x512_S1x512_0_0).toLoadRect (harg17.unread x13)) (View.read (Elt F) arg18.view (harg18.unread x14)) (View.read (Elt F) arg19.view (harg19.unread x15)) (View.readAt (Elt F) arg20.view (Rect.unit ![0, 0] S1x1024.size inb_S1x1024_S1x1024_0_0).toLoadRect (harg20.unread x16)) (View.readAt (Elt F) arg34.view (Rect.unit ![0, 0] S512x1024.size inb_S512x1024_S512x1024_0_0).toLoadRect (harg34.unread w34)) (View.readAt (Elt F) arg35.view (Rect.unit ![0, 0] S512x1024.size inb_S512x1024_S512x1024_0_0).toLoadRect (harg35.unread w35)) (View.readAt (Elt F) arg36.view (Rect.unit ![0, 0] S1024x1024.size inb_S1024x1024_S1024x1024_0_0).toLoadRect (harg36.unread w36)) (View.read (Elt F) arg37.view (harg37.unread w37))).loss (View.readAt (Elt F) arg33.view (Rect.unit ![0, 0] S1x1.size inb_S1x1_S1x1_0_0).toLoadRect (harg33.unread y33))) rfl ?_
    exact (congr (congrArg Blk.loss (blk_eq (read_all harg1 x0 _) (read_all harg2 x1 _) (read_all harg3 x2 _) (read_all harg4 x3 _) (read_all harg5 x4 _) (read_all harg6 x5 _) (read_all harg7 x6 _) (read_all harg8 x7 _) (read_all harg9 x8 _) (read_all harg10 x9 _) (read_all harg11 x10 _) (read_all harg15 x11 _) (read_all harg16 x12 _) (read_all harg17 x13 _) (harg18.read_unread x14) (harg19.read_unread x15) (read_all harg20 x16 _) (read_all harg34 w34 _) (read_all harg35 w35 _) (read_all harg36 w36 _) (harg37.read_unread w37))) (read_all harg33 y33 _))
  isplitl [G34]
  · iexists _; isplitr; swap; · iexact G34
    ipureintro; exact harg34.read_unread _
  isplitl [G35]
  · iexists _; isplitr; swap; · iexact G35
    ipureintro; exact harg35.read_unread _
  isplitl [G36]
  · iexists _; isplitr; swap; · iexact G36
    ipureintro; exact harg36.read_unread _
  isplitl [G37]
  · iexists _; isplitr; swap; · iexact G37
    ipureintro; exact harg37.read_unread _
  isplitl [G38]
  · iexists _, _; isplitr; swap; · iexact G38
    ipureintro; rfl
  isplitl [G39]
  · iexists _, _; isplitr; swap; · iexact G39
    ipureintro; rfl
  isplitl [G40]
  · iexists _, _; isplitr; swap; · iexact G40
    ipureintro; rfl
  isplitl [G41]
  · iexists _, _; isplitr; swap; · iexact G41
    ipureintro; rfl
  isplitl [G42]
  · iexists _, _; isplitr; swap; · iexact G42
    ipureintro; rfl
  isplitl [G43]
  · iexists _, _; isplitr; swap; · iexact G43
    ipureintro; rfl
  isplitl [S41]; · iexact S41
  isplitl [S42]; · iexact S42
  isplitl [S43]; · iexact S43
  isplitl [B0]; · iexact B0
  isplitl [B1]; · iexact B1
  isplitl [B2]; · iexact B2
  isplitl [B3]; · iexists _; iexact B3
  isplitl [B4]; · iexists _; iexact B4
  isplitl [B5]; · iexists _; iexact B5
  iexists _; iexact HW

end Cert.MidIdeal.Run

end
-- ==== Proof.MidPoint.lean ====
/-
  The middle call: what each point reads, and the running sums over the points.
-/
module

public import proofs.«01_k».proof.Proof.MidHeld

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

variable (m : (ℓ : Loc nD τ sig) → Buf (Elt F) ℓ) (c : Dev nD)

/-- The mixing matrices masked. -/
def masks : Vec F S4x128x128 .bf16 := masked (iblk m c 14 ⟨0, by rw [show cfg0.N = 16 from N_0]; norm_num⟩)

/-- What a point reads: its rows of the arrays, the copied weights, the mixing matrices masked. -/
def pointBlk (t : Fin cfg0.N) : Blk F :=
  blkOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (V m c main_v7) (V m c main_v9) (V m c main_v11) (masks m c)

/-- The final gain's gradient summed over the points up to one. -/
def gainUpto : (n : ℕ) → n < cfg0.N → Vec F S1x1024 .f32
  | 0, h => (pointBlk m c ⟨0, h⟩).gain k0_pay14
  | n + 1, h => (pointBlk m c ⟨n + 1, h⟩).gain (gainUpto n (Nat.lt_of_succ_lt h))

/-- The loss summed over the points up to one. -/
def lossUpto : (n : ℕ) → n < cfg0.N → Vec F S1x1 .f32
  | 0, h => (pointBlk m c ⟨0, h⟩).loss k0_pay47
  | n + 1, h => (pointBlk m c ⟨n + 1, h⟩).loss (lossUpto n (Nat.lt_of_succ_lt h))

end Cert.MidIdeal.Run

end
-- ==== Proof.MidFrame.lean ====
/-
  The middle call: its launch. Of the blocks that it writes, three are named: the residual path's gradient, and the running
  sums of the final gain's gradient and of the loss.
-/
module

public import proofs.«01_k».proof.Proof.MidFirst
public import proofs.«01_k».proof.Proof.MidInner
public import proofs.«01_k».proof.Proof.MidLast
public import proofs.«01_k».proof.Proof.MidPoint
public import Idealize.ShloMosaic.Lib.Pipeline.DatRel
public import Idealize.ShloMosaic.Lib.Tactic

@[expose] public section

set_option maxRecDepth 16384

noncomputable section

namespace Cert.MidIdeal.Run

open Cert.MidIdeal Cert.MidIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four scratch buffers that the body reads after the first point, at given assertions, and the rest of what the body
    is lent. -/
def phiWith (c : Dev nD) (P34 P35 P36 P37 : sProp 𝕄) : sProp 𝕄 :=
  iprop(iprop(P34 ∗ P35 ∗ P36 ∗ P37 ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r) ∗ iprop(semVal ((c : Thread nD τ), SemLoc.dma 41) 0 ∗ semVal ((c : Thread nD τ), SemLoc.dma 42) 0 ∗ semVal ((c : Thread nD τ), SemLoc.dma 43) 0) ∗ iprop(hbPt0 c hbM0_0 (V m c main_v7) ∗ hbPt0 c hbM0_1 (V m c main_v9) ∗ hbPt0 c hbM0_2 (V m c main_v11)) ∗ iprop((∃ f, hbPt0 c hbM0_3 f) ∗ (∃ f, hbPt0 c hbM0_4 f) ∗ (∃ f, hbPt0 c hbM0_5 f)))

/-- After the first point: the copied weights and the masked matrices. -/
def phiKept (c : Dev nD) : sProp 𝕄 :=
  phiWith m c (owns (c : Thread nD τ) scM0_0 fullShare (V m c main_v7)) (owns (c : Thread nD τ) scM0_1 fullShare (V m c main_v9)) (owns (c : Thread nD τ) scM0_2 fullShare (V m c main_v11)) (owns (c : Thread nD τ) scM0_3 fullShare (masks m c))

/-- The proof data: every array as the region finds it, every input block left in place, three of the blocks
    written named, the others at anything. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (pointBlk m c t).dx
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, _⟩ => gainUpto m c t.val t.isLt
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, _⟩ => lossUpto m c t.val t.isLt
    | ⟨_ + 27, h⟩ => absurd h (Nat.not_lt.2 (Nat.le_add_left _ _))
  Φ t := if t.val = 0 then Pipeline.ΦDR osem0 spec0 H0 R0 (V m) c else phiKept m c
  q w := Pipeline.shareOf spec0 w
  owed _ := 0

/-- The windows of which nothing is said: seven of the ten written. -/
def forgot : Fin cfg0.W → Bool := fun w => match w with
  | ⟨18, _⟩ => true
  | ⟨19, _⟩ => true
  | ⟨20, _⟩ => true
  | ⟨22, _⟩ => true
  | ⟨23, _⟩ => true
  | ⟨24, _⟩ => true
  | ⟨25, _⟩ => true
  | ⟨_, _⟩ => false

theorem Phi_zero (c : Dev nD) (t : Fin (cfg0.N + 1)) (h : t.val = 0) : (dats m 0 c).Φ t = Pipeline.ΦDR osem0 spec0 H0 R0 (V m) c := by
  dsimp only [dats]; exact if_pos h
theorem Phi_pos (c : Dev nD) (t : Fin (cfg0.N + 1)) (h : t.val ≠ 0) : (dats m 0 c).Φ t = phiKept m c := by
  dsimp only [dats]; exact if_neg h

/-- What is lent at the first point, with the four scratch buffers at anything. -/
theorem Phi_any (c : Dev nD) : (Pipeline.ΦDR osem0 spec0 H0 R0 (V m) c : sProp 𝕄)
    = phiWith m c iprop(∃ d, owns (c : Thread nD τ) scM0_0 fullShare d) iprop(∃ d, owns (c : Thread nD τ) scM0_1 fullShare d) iprop(∃ d, owns (c : Thread nD τ) scM0_2 fullShare d) iprop(∃ d, owns (c : Thread nD τ) scM0_3 fullShare d) :=
  PhiDR0_eq m c

theorem of_eq {P Q : sProp 𝕄} (h : P = Q) : P ⊢ Q := h ▸ .rfl

/-- What is kept is forgotten when the launch ends. -/
theorem Phi_end (c : Dev nD) : phiKept m c ⊢ (Pipeline.ΦDR osem0 spec0 H0 R0 (V m) c : sProp 𝕄) := by
  rw [Phi_any]
  unfold phiKept phiWith
  iintro ⟨⟨C0, C1, C2, C3, C4⟩, H⟩
  isplitl [C0 C1 C2 C3 C4]
  · isplitl [C0]; · iexists _; iexact C0
    isplitl [C1]; · iexists _; iexact C1
    isplitl [C2]; · iexists _; iexact C2
    isplitl [C3]; · iexists _; iexact C3
    iexact C4
  iexact H

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before0_11_of m (dats m 0 c) (A_eq m c 11) (after11 m c) t d
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before0_12_of m (dats m 0 c) (A_eq m c 12) (after12 m c) t d
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before0_13_of m (dats m 0 c) (A_eq m c 13) (after13 m c) t d
theorem after14 (c : Dev nD) (t : Fin cfg0.N) : (dats m 0 c).after 14 t = iblk m c 14 t := by dsimp only [dats]
theorem before14 (c : Dev nD) (t : Fin cfg0.N) (d) : (dats m 0 c).before 14 t d = iblk m c 14 t :=
  before0_14_of m (dats m 0 c) (A_eq m c 14) (after14 m c) t d
theorem after15 (c : Dev nD) (t : Fin cfg0.N) : (dats m 0 c).after 15 t = iblk m c 15 t := by dsimp only [dats]
theorem before15 (c : Dev nD) (t : Fin cfg0.N) (d) : (dats m 0 c).before 15 t d = iblk m c 15 t :=
  before0_15_of m (dats m 0 c) (A_eq m c 15) (after15 m c) t d
theorem after16 (c : Dev nD) (t : Fin cfg0.N) : (dats m 0 c).after 16 t = iblk m c 16 t := by dsimp only [dats]
theorem before16 (c : Dev nD) (t : Fin cfg0.N) (d) : (dats m 0 c).before 16 t d = iblk m c 16 t :=
  before0_16_of m (dats m 0 c) (A_eq m c 16) (after16 m c) t d

theorem after17 (c : Dev nD) (t : Fin cfg0.N) : (dats m 0 c).after 17 t = (pointBlk m c t).dx := by dsimp only [dats]
theorem after21 (c : Dev nD) (t : Fin cfg0.N) : (dats m 0 c).after 21 t = gainUpto m c t.val t.isLt := by dsimp only [dats]
theorem after26 (c : Dev nD) (t : Fin cfg0.N) : (dats m 0 c).after 26 t = lossUpto m c t.val t.isLt := by dsimp only [dats]

theorem before21 (c : Dev nD) (n : ℕ) (h : n + 1 < cfg0.N) (d) : (dats m 0 c).before 21 ⟨n + 1, h⟩ d = gainUpto m c n (Nat.lt_of_succ_lt h) := by
  have hN := lt_of_lt_of_eq h (show cfg0.N = 16 from N_0)
  refine ((dats m 0 c).before_out_kept 21 rfl ⟨n + 1, h⟩ (Nat.succ_ne_zero n) ?_ (fun _ => rfl) (fun _ _ => rfl) d).trans (after21 m c _)
  refine Bool.eq_false_iff.2 fun hf => ?_
  have := (flush0_21 _).1 hf
  have : n % 16 = 15 := this
  omega
theorem before26 (c : Dev nD) (n : ℕ) (h : n + 1 < cfg0.N) (d) : (dats m 0 c).before 26 ⟨n + 1, h⟩ d = lossUpto m c n (Nat.lt_of_succ_lt h) := by
  have hN := lt_of_lt_of_eq h (show cfg0.N = 16 from N_0)
  refine ((dats m 0 c).before_out_kept 26 rfl ⟨n + 1, h⟩ (Nat.succ_ne_zero n) ?_ (fun _ => rfl) (fun _ _ => rfl) d).trans (after26 m c _)
  refine Bool.eq_false_iff.2 fun hf => ?_
  have := (flush0_26 _).1 hf
  have : n % 16 = 15 := this
  omega

/-! ## The body obligation -/

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ X, owns (c : Thread nD τ) (ms0_18 t) fullShare X) ∗ (∃ X, owns (c : Thread nD τ) (ms0_19 t) fullShare X) ∗ (∃ X, owns (c : Thread nD τ) (ms0_20 t) fullShare X) ∗ (∃ d, owns (c : Thread nD τ) (ms0_21 t) fullShare ((dats m 0 c).before 21 t d)) ∗ (∃ X, owns (c : Thread nD τ) (ms0_22 t) fullShare X) ∗ (∃ X, owns (c : Thread nD τ) (ms0_23 t) fullShare X) ∗ (∃ X, owns (c : Thread nD τ) (ms0_24 t) fullShare X) ∗ (∃ X, owns (c : Thread nD τ) (ms0_25 t) fullShare X) ∗ (∃ d, owns (c : Thread nD τ) (ms0_26 t) fullShare ((dats m 0 c).before 26 t d)))
/-- What the body returns at point `t`. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ (∃ X, owns (c : Thread nD τ) (ms0_18 t) fullShare X) ∗ (∃ X, owns (c : Thread nD τ) (ms0_19 t) fullShare X) ∗ (∃ X, owns (c : Thread nD τ) (ms0_20 t) fullShare X) ∗ owns (c : Thread nD τ) (ms0_21 t) fullShare ((dats m 0 c).after 21 t) ∗ (∃ X, owns (c : Thread nD τ) (ms0_22 t) fullShare X) ∗ (∃ X, owns (c : Thread nD τ) (ms0_23 t) fullShare X) ∗ (∃ X, owns (c : Thread nD τ) (ms0_24 t) fullShare X) ∗ (∃ X, owns (c : Thread nD τ) (ms0_25 t) fullShare X) ∗ owns (c : Thread nD τ) (ms0_26 t) fullShare ((dats m 0 c).after 26 t))

/-- What the body holds at point `t`, of the buffers that the point uses, seven of them at given assertions. -/
def heldAt (c : Dev nD) (t : Fin cfg0.N) (P21 P28 P33 P34 P35 P36 P37 : sProp 𝕄) : sProp 𝕄 :=
  held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) (ms0_19 t) (ms0_20 t) (ms0_21 t) (ms0_22 t) (ms0_23 t) (ms0_24 t) (ms0_25 t) (ms0_26 t) scM0_0 scM0_1 scM0_2 scM0_3 scM0_4 scM0_5 scM0_6 scM0_7 scM0_8 scM0_9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9) (V m c main_v11) P21 P28 P33 P34 P35 P36 P37

/-- What it holds after point `t`, from the running sums before it. -/
def leftAt (c : Dev nD) (t : Fin cfg0.N) (y28 : Vec F S1x1024 .f32) (y33 : Vec F S1x1 .f32) : sProp 𝕄 :=
  heldAt m c t (owns (c : Thread nD τ) (ms0_17 t) fullShare (pointBlk m c t).dx) (owns (c : Thread nD τ) (ms0_21 t) fullShare ((pointBlk m c t).gain y28)) (owns (c : Thread nD τ) (ms0_26 t) fullShare ((pointBlk m c t).loss y33)) (owns (c : Thread nD τ) scM0_0 fullShare (V m c main_v7)) (owns (c : Thread nD τ) scM0_1 fullShare (V m c main_v9)) (owns (c : Thread nD τ) scM0_2 fullShare (V m c main_v11)) (owns (c : Thread nD τ) scM0_3 fullShare (masks m c))

/-- The first point. -/
theorem point_first (c : Dev nD) (t : Fin cfg0.N) (h0 : t.val = 0) (K : PUnit → sProp 𝕄) :
    iprop(heldAt m c t iprop(∃ d, owns (c : Thread nD τ) (ms0_17 t) fullShare d) iprop(∃ d, owns (c : Thread nD τ) (ms0_21 t) fullShare d) iprop(∃ d, owns (c : Thread nD τ) (ms0_26 t) fullShare d) iprop(∃ d, owns (c : Thread nD τ) scM0_0 fullShare d) iprop(∃ d, owns (c : Thread nD τ) scM0_1 fullShare d) iprop(∃ d, owns (c : Thread nD τ) scM0_2 fullShare d) iprop(∃ d, owns (c : Thread nD τ) scM0_3 fullShare d) ∗ (leftAt m c t k0_pay14 k0_pay47 -∗ K ⟨⟩)) ⊢ wp frame (wpE (defs₀ (F := F)) Variants.none c none) Set.univ (bodyAt0 t) K := by
  obtain rfl : t = ⟨0, by rw [show cfg0.N = 16 from N_0]; norm_num⟩ := Fin.ext h0
  generalize ht : (⟨0, by rw [show cfg0.N = 16 from N_0]; norm_num⟩ : Fin cfg0.N) = t at *
  have hm : masks m c = masked (iblk m c 14 t) := by rw [← ht]; rfl
  unfold leftAt pointBlk
  rw [hm]
  unfold heldAt bodyAt0
  exact first_wp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)
    ((hcond0_0 t).mpr (by omega)) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9) (V m c main_v11) K

/-- A later point, from the running sums before it. -/
theorem point_next (c : Dev nD) (t : Fin cfg0.N) (h0 : t.val ≠ 0) (y28 : Vec F S1x1024 .f32) (y33 : Vec F S1x1 .f32) (K : PUnit → sProp 𝕄) :
    iprop(heldAt m c t iprop(∃ d, owns (c : Thread nD τ) (ms0_17 t) fullShare d) (owns (c : Thread nD τ) (ms0_21 t) fullShare y28) (owns (c : Thread nD τ) (ms0_26 t) fullShare y33) (owns (c : Thread nD τ) scM0_0 fullShare (V m c main_v7)) (owns (c : Thread nD τ) scM0_1 fullShare (V m c main_v9)) (owns (c : Thread nD τ) scM0_2 fullShare (V m c main_v11)) (owns (c : Thread nD τ) scM0_3 fullShare (masks m c)) ∗ (leftAt m c t y28 y33 -∗ K ⟨⟩)) ⊢ wp frame (wpE (defs₀ (F := F)) Variants.none c none) Set.univ (bodyAt0 t) K := by
  have hN : t.val < 16 := lt_of_lt_of_eq t.isLt (show cfg0.N = 16 from N_0)
  unfold leftAt pointBlk heldAt bodyAt0
  by_cases h1 : t.val % 16 = 15
  · exact last_wp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)
      (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9) (V m c main_v11) y28 y33 (V m c main_v7) (V m c main_v9) (V m c main_v11) (masks m c) K
  · exact inner_wp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _)
      (fun h => absurd ((hcond0_0 t).mp h) (by omega)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (V m c main_v7) (V m c main_v9) (V m c main_v11) y28 y33 (V m c main_v7) (V m c main_v9) (V m c main_v11) (masks m c) K

set_option maxHeartbeats 4000000 in
/-- The body at a point, from what holds before it of the running sums and of the scratch buffers. -/
theorem body_of (c : Dev nD) (t : Fin cfg0.N) (P28 P33 P34 P35 P36 P37 : sProp 𝕄) (y28 : Vec F S1x1024 .f32) (y33 : Vec F S1x1 .f32)
    (hpoint : ∀ K : PUnit → sProp 𝕄, iprop(heldAt m c t iprop(∃ d, owns (c : Thread nD τ) (ms0_17 t) fullShare d) P28 P33 P34 P35 P36 P37 ∗ (leftAt m c t y28 y33 -∗ K ⟨⟩))
      ⊢ wp frame (wpE (defs₀ (F := F)) Variants.none c none) Set.univ (bodyAt0 t) K)
    (hΦ : (dats m 0 c).Φ t.castSucc = phiWith m c P34 P35 P36 P37)
    (h28 : iprop(∃ d, owns (c : Thread nD τ) (ms0_21 t) fullShare ((dats m 0 c).before 21 t d)) ⊢ P28)
    (h33 : iprop(∃ d, owns (c : Thread nD τ) (ms0_26 t) fullShare ((dats m 0 c).before 26 t d)) ⊢ P33)
    (hg : gainUpto m c t.val t.isLt = (pointBlk m c t).gain y28) (hl : lossUpto m c t.val t.isLt = (pointBlk m c t).loss y33) :
    bodyPre m c t ⊢ wp frame (wpE (defs₀ (F := F)) Variants.none c none) Set.univ (bodyAt0 t) (fun _ => bodyPost m c t) := by
  unfold bodyPre bodyPost
  simp only [before0, after0, before1, after1, before2, after2, before3, after3, before4, after4, before5, after5, before6, after6, before7, after7, before8, after8, before9, after9, before10, after10, before11, after11, before12, after12, before13, after13, before14, after14, before15, after15, before16, after16, after17, after21, after26, hg, hl]
  rw [hΦ, Phi_pos m c t.succ (Nat.succ_ne_zero t.val)]
  unfold phiKept phiWith
  unfold Dat.owesAt Pipeline.owesWithin
  rw [show (dats m 0 c).owed t.castSucc = 0 from rfl, show (dats m 0 c).owed t.succ = 0 from rfl]
  iintro ⟨⟨⟨C0, C1, C2, C3, C4, C5, C6, C7, C8, C9⟩, Hg, ⟨S41, S42, S43⟩, ⟨B0, B1, B2⟩, ⟨B3, B4, B5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19, H20, ⟨%d21, H21⟩, H22, H23, H24, H25, ⟨%d26, H26⟩⟩
  iapply hpoint
  unfold leftAt heldAt held
  isplitl [H0 H1 H2 H3 H4 H5 H6 H7 H8 H9 H10 H11 H12 H13 H14 H15 H16 H17 H18 H19 H20 H21 H22 H23 H24 H25 H26 C0 C1 C2 C3 C4 C5 C6 C7 C8 C9 S41 S42 S43 B0 B1 B2 B3 B4 B5 HW]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexact H19
    isplitl [H20]; · iexact H20
    isplitl [H21]; · iapply h28; iexists d21; iexact H21
    isplitl [H22]; · iexact H22
    isplitl [H23]; · iexact H23
    isplitl [H24]; · iexact H24
    isplitl [H25]; · iexact H25
    isplitl [H26]; · iapply h33; iexists d26; iexact H26
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [S41]; · iexact S41
    isplitl [S42]; · iexact S42
    isplitl [S43]; · iexact S43
    isplitl [B0]; · iexact B0
    isplitl [B1]; · iexact B1
    isplitl [B2]; · iexact B2
    isplitl [B3]; · iexact B3
    isplitl [B4]; · iexact B4
    isplitl [B5]; · iexact B5
    iexists W; iexact HW
  iintro ⟨H0, H1, H2, H3, H4, H5, H6, H7, H8, H9, H10, H11, H12, H13, H14, H15, H16, H17, H18, H19, H20, H21, H22, H23, H24, H25, H26, C0, C1, C2, C3, C4, C5, C6, C7, C8, C9, S41, S42, S43, B0, B1, B2, B3, B4, B5, ⟨%W', HW⟩⟩
  isplitl [C0 C1 C2 C3 C4 C5 C6 C7 C8 C9 S41 S42 S43 B0 B1 B2 B3 B4 B5 Hg]
  · isplitl [C0 C1 C2 C3 C4 C5 C6 C7 C8 C9]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      iexact C9
    isplitl [Hg]; · iexact Hg
    isplitl [S41 S42 S43]
    · isplitl [S41]; · iexact S41
      isplitl [S42]; · iexact S42
      iexact S43
    isplitl [B0 B1 B2]
    · isplitl [B0]; · iexact B0
      isplitl [B1]; · iexact B1
      iexact B2
    isplitl [B3]; · iexact B3
    isplitl [B4]; · iexact B4
    iexact B5
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body at every point. -/
theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  cases n with
  | zero =>
    refine body_of m c ⟨0, hn⟩ _ _ _ _ _ _ k0_pay14 k0_pay47 (point_first m c ⟨0, hn⟩ rfl) ((Phi_zero m c _ rfl).trans (Phi_any m c)) ?_ ?_ rfl rfl
    · iintro ⟨%d, H⟩
      iexists _; iexact H
    · iintro ⟨%d, H⟩
      iexists _; iexact H
  | succ n =>
    refine body_of m c ⟨n + 1, hn⟩ _ _ _ _ _ _ (gainUpto m c n (Nat.lt_of_succ_lt hn)) (lossUpto m c n (Nat.lt_of_succ_lt hn))
      (point_next m c ⟨n + 1, hn⟩ (Nat.succ_ne_zero n) _ _) (Phi_pos m c _ (Nat.succ_ne_zero n)) ?_ ?_ rfl rfl
    · iintro ⟨%d, H⟩
      rw [before21]
      iexact H
    · iintro ⟨%d, H⟩
      rw [before26]
      iexact H

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ forgot := fun t => by
  rw [bigSep_W0, bigSep_W0, defs₀_row]
  exact triple_restated (sound_body m c t) rfl .rfl fun _ => .rfl

/-! ## The launch -/

set_option backward.isDefEq.respectTransparency.types false in
/-- Every run of the program ends, at the counters zero, with the arrays that it only reads as the region found them. -/
theorem run_main : θ_run defs (onTc (τ := τ) (main (F := F))) (s₀ m ρ)
    (fun r => RDat.FramePostR (cfgs 0) (fun c => (dats m 0 c).toRForget forgot) R0 (V m) r ∧ r.2.sem = fun _ => 0) :=
  Pipeline.θ_run_frame_dmaR_forget_shared (Q' := _) cfgs (dats m) (0 : Fin 1) launch₀0 osem0 defs₀ Variants.none forgot ownSemFacts0 H0 R0 H0_sub R0_sub m ρ main
    (hbody := fun c => body_obligation m c) (hq := fun _ _ _ => rfl)
    (howed := fun _ _ => rfl) (V := V m) (hmain := hmain m Variants.none) (hA := A_eq m)
    (hin := fun c => of_eq (Phi_zero m c 0 rfl).symm)
    (hout := fun c => (of_eq (Phi_pos m c _ (by show cfg0.N ≠ 0; rw [show cfg0.N = 16 from N_0]; norm_num))).trans (Phi_end m c))

set_option maxHeartbeats 2000000 in
/-- The frame: the thirteen arguments end as they began and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (RDat.FramePostR.arr_in h.1 c 11 rfl).trans (V_main_arg3 m c),
      (RDat.FramePostR.arr_in h.1 c 12 rfl).trans (V_main_arg4 m c),
      (RDat.FramePostR.arr_in h.1 c 13 rfl).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      ((h.1 c).2 main_arg12 (Finset.mem_sdiff.mpr ⟨Pipeline.mem_restRefs_of main_arg12 (by decide) (by decide), by decide⟩)).trans (V_main_arg12 m c)⟩, h.2⟩) (run_main m ρ)

set_option maxHeartbeats 2000000 in
/-- The three results named, at the contents that the launch leaves, and the arguments as they began. -/
theorem run_blocks : θ_run defs (onTc (τ := τ) (main (F := F))) ⟨m, fun _ => 0, ρ⟩ (fun r => ∀ c : Dev nD,
      r.2.mem ((c.tc : Thread nD τ).loc main_v15_0) = (dats m 0 c).arrAt 17 cfg0.N
      ∧ r.2.mem ((c.tc : Thread nD τ).loc main_v15_7) = (dats m 0 c).arrAt 21 cfg0.N
      ∧ r.2.mem ((c.tc : Thread nD τ).loc main_v15_12) = (dats m 0 c).arrAt 26 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      ((dats m 0 c).toRForget_arrAt_iff (fgt := forgot) (w := 17) rfl _ _).1 ((h.1 c).1 17),
      ((dats m 0 c).toRForget_arrAt_iff (fgt := forgot) (w := 21) rfl _ _).1 ((h.1 c).1 21),
      ((dats m 0 c).toRForget_arrAt_iff (fgt := forgot) (w := 26) rfl _ _).1 ((h.1 c).1 26),
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (RDat.FramePostR.arr_in h.1 c 11 rfl).trans (V_main_arg3 m c),
      (RDat.FramePostR.arr_in h.1 c 12 rfl).trans (V_main_arg4 m c),
      (RDat.FramePostR.arr_in h.1 c 13 rfl).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c),
      ((h.1 c).2 main_arg11 (Finset.mem_sdiff.mpr ⟨Pipeline.mem_restRefs_of main_arg11 (by decide) (by decide), by decide⟩)).trans (V_main_arg11 m c),
      ((h.1 c).2 main_arg12 (Finset.mem_sdiff.mpr ⟨Pipeline.mem_restRefs_of main_arg12 (by decide) (by decide), by decide⟩)).trans (V_main_arg12 m c)⟩) (run_main m ρ)

end Cert.MidIdeal.Run

end
-- ==== Proof.MidFrames.lean ====
/-
  The middle call's frames. No constant of it is named, so the idealized program read over words is the kernel as printed,
  and one run serves both.
-/
module
public import proofs.«01_k».proof.Proof.MidFrame
public import proofs.«01_k».proof.Proof.Gen.Mid.Frame.Runs
public import proofs.«01_k».proof.Defs
@[expose] public section
set_option maxRecDepth 16384
noncomputable section
open Idealize.ShloMosaic Idealize.ShloMosaic.TcCoe Idealize.SL.Sem

namespace Cert.MidFrames

/-- The frame of the idealized program read over words. -/
def bitsFrame : Prop :=
  ∀ (m : (ℓ : Loc MidIdeal.nD MidIdeal.τ MidIdeal.sig) → Buf (Elt Bits) ℓ) (g : Dev MidIdeal.nD → PrngReg), True →
    θ_run (MidIdeal.defs (F := Bits)) (onTc (τ := MidIdeal.τ) (MidIdeal.main (F := Bits))) ⟨m, fun _ => 0, g⟩ (fun r => (∀ c : Dev MidIdeal.nD,
      r.2.mem ((c.tc : Thread MidIdeal.nD MidIdeal.τ).loc MidIdeal.main_arg0) = m ((c.tc : Thread MidIdeal.nD MidIdeal.τ).loc MidIdeal.main_arg0)
      ∧ r.2.mem ((c.tc : Thread MidIdeal.nD MidIdeal.τ).loc MidIdeal.main_arg1) = m ((c.tc : Thread MidIdeal.nD MidIdeal.τ).loc MidIdeal.main_arg1)
      ∧ r.2.mem ((c.tc : Thread MidIdeal.nD MidIdeal.τ).loc MidIdeal.main_arg2) = m ((c.tc : Thread MidIdeal.nD MidIdeal.τ).loc MidIdeal.main_arg2)
      ∧ r.2.mem ((c.tc : Thread MidIdeal.nD MidIdeal.τ).loc MidIdeal.main_arg3) = m ((c.tc : Thread MidIdeal.nD MidIdeal.τ).loc MidIdeal.main_arg3)
      ∧ r.2.mem ((c.tc : Thread MidIdeal.nD MidIdeal.τ).loc MidIdeal.main_arg4) = m ((c.tc : Thread MidIdeal.nD MidIdeal.τ).loc MidIdeal.main_arg4)
      ∧ r.2.mem ((c.tc : Thread MidIdeal.nD MidIdeal.τ).loc MidIdeal.main_arg5) = m ((c.tc : Thread MidIdeal.nD MidIdeal.τ).loc MidIdeal.main_arg5)
      ∧ r.2.mem ((c.tc : Thread MidIdeal.nD MidIdeal.τ).loc MidIdeal.main_arg6) = m ((c.tc : Thread MidIdeal.nD MidIdeal.τ).loc MidIdeal.main_arg6)
      ∧ r.2.mem ((c.tc : Thread MidIdeal.nD MidIdeal.τ).loc MidIdeal.main_arg7) = m ((c.tc : Thread MidIdeal.nD MidIdeal.τ).loc MidIdeal.main_arg7)
      ∧ r.2.mem ((c.tc : Thread MidIdeal.nD MidIdeal.τ).loc MidIdeal.main_arg8) = m ((c.tc : Thread MidIdeal.nD MidIdeal.τ).loc MidIdeal.main_arg8)
      ∧ r.2.mem ((c.tc : Thread MidIdeal.nD MidIdeal.τ).loc MidIdeal.main_arg9) = m ((c.tc : Thread MidIdeal.nD MidIdeal.τ).loc MidIdeal.main_arg9)
      ∧ r.2.mem ((c.tc : Thread MidIdeal.nD MidIdeal.τ).loc MidIdeal.main_arg10) = m ((c.tc : Thread MidIdeal.nD MidIdeal.τ).loc MidIdeal.main_arg10)
      ∧ r.2.mem ((c.tc : Thread MidIdeal.nD MidIdeal.τ).loc MidIdeal.main_arg11) = m ((c.tc : Thread MidIdeal.nD MidIdeal.τ).loc MidIdeal.main_arg11)
      ∧ r.2.mem ((c.tc : Thread MidIdeal.nD MidIdeal.τ).loc MidIdeal.main_arg12) = m ((c.tc : Thread MidIdeal.nD MidIdeal.τ).loc MidIdeal.main_arg12))
      ∧ r.2.sem = fun _ => 0)

theorem bitsFrame_eq : Cert.quiescent_Mid (hMid := Cert.Mid.Gen.facts) = bitsFrame := by sl_kernel_rfl

theorem frame_Mid : Cert.quiescent_Mid (hMid := Cert.Mid.Gen.facts) := by
  rw [bitsFrame_eq]
  exact fun m ρ _ => Cert.MidIdeal.Run.frame_main (F := Bits) m ρ
theorem frame_MidIdeal : Cert.quiescent_MidIdeal (hMidIdeal := Cert.MidIdeal.Gen.facts) :=
  fun m ρ _ => Cert.MidIdeal.Run.frame_main (F := Ideal) m ρ

end Cert.MidFrames
end
-- ==== Proof.MidMath.lean ====
/-
  The middle of the network over the reals, row by row: the two gated branches, their projections, the residual path, its
  norm, the loss, and the gradients of the residual path and of the final gain.
-/
module

public import proofs.«01_k».proof.Proof.NormMath

@[expose] public section

noncomputable section

namespace Cert.MidMath

open Idealize.ShloMosaic Cert.AttnMath Cert.NormMath

/-- The logistic function. -/
def sg (t : ℝ) : ℝ := 1 / (1 + Real.exp (-t))

theorem sg_tanh (t : ℝ) : 1 / 2 * Real.tanh (1 / 2 * t) + 1 / 2 = sg t := by
  have hab : Real.exp (1 / 2 * t) * Real.exp (-(1 / 2 * t)) = 1 := by rw [← Real.exp_add, add_neg_cancel, Real.exp_zero]
  have hb : Real.exp (-t) = Real.exp (-(1 / 2 * t)) * Real.exp (-(1 / 2 * t)) := by rw [← Real.exp_add]; congr 1; ring
  have hp := Real.exp_pos (1 / 2 * t)
  have hq := Real.exp_pos (-(1 / 2 * t))
  rw [Real.tanh_eq_sinh_div_cosh, Real.sinh_eq, Real.cosh_eq, sg, hb]
  generalize Real.exp (1 / 2 * t) = a at *
  generalize Real.exp (-(1 / 2 * t)) = b at *
  have h1 : 1 / 2 * ((a - b) / 2 / ((a + b) / 2)) + 1 / 2 = a / (a + b) := by
    have : a + b ≠ 0 := by positivity
    field_simp
    ring
  rw [h1, div_eq_div_iff (by positivity) (by positivity)]
  linear_combination b * hab

/-- The two constants of the smooth rectifier, as the programs' words give them. -/
def gA : ℝ := (0xB72713 : ℝ) * 2 ^ (-28 : ℤ)
def gC : ℝ := (0xCC422A : ℝ) * 2 ^ (-24 : ℤ)

theorem gA_word : Ideal.ofBits .f32 0x3D372713#32 = ((gA : ℝ) : EReal) := by
  simp [Ideal.ofBits, Ideal.ieee, gA]

theorem gC_word : Ideal.ofBits .f32 0x3F4C422A#32 = ((gC : ℝ) : EReal) := by
  simp [Ideal.ofBits, Ideal.ieee, gC]

theorem half_word : Ideal.ofBits .f32 0x3F000000#32 = ((1 / 2 : ℝ) : EReal) := by
  simp [Ideal.ofBits, Ideal.ieee]
  rw [← EReal.coe_mul]
  norm_num

theorem one_word : Ideal.ofBits .f32 0x3F800000#32 = ((1 : ℝ) : EReal) := by
  simp [Ideal.ofBits, Ideal.ieee]
  rw [← EReal.coe_mul]
  norm_num

theorem two_word : Ideal.ofBits .f32 0x40000000#32 = ((2 : ℝ) : EReal) := by
  simp [Ideal.ofBits, Ideal.ieee]
  rw [← EReal.coe_mul]
  norm_num

theorem minus_word : Ideal.ofBits .f32 0xBF000000#32 = ((-(1 / 2) : ℝ) : EReal) := by
  simp [Ideal.ofBits, Ideal.ieee]
  rw [← EReal.coe_mul]
  norm_num

theorem cols_word : Ideal.ofBits .f32 0x44000000#32 = ((512 : ℝ) : EReal) := by
  simp [Ideal.ofBits, Ideal.ieee]
  rw [← EReal.coe_mul]
  norm_num

theorem share_word : Ideal.ofBits .f32 0x3A000000#32 = ((1 / 2048 : ℝ) : EReal) := by
  simp [Ideal.ofBits, Ideal.ieee]
  rw [← EReal.coe_mul]
  norm_num

theorem slope_word : Ideal.ofBits .f32 0x3A800000#32 = ((1 / 1024 : ℝ) : EReal) := by
  simp [Ideal.ofBits, Ideal.ieee]
  rw [← EReal.coe_mul]
  norm_num

/-- The smooth rectifier. -/
def gelu (t : ℝ) : ℝ := t * (1 / 2 * (1 + Real.tanh (gC * (t + gA * (t * t * t)))))

theorem tanh_real (t : ℝ) : Ideal.tanh (t : EReal) = ((Real.tanh t : ℝ) : EReal) := rfl

theorem sg_kernel (t : ℝ) : ((1 / 2 : ℝ) : EReal) * Ideal.tanh (((1 / 2 : ℝ) : EReal) * (t : EReal)) + ((1 / 2 : ℝ) : EReal) = (sg t : EReal) := by
  rw [← EReal.coe_mul, tanh_real, ← EReal.coe_mul, ← EReal.coe_add, sg_tanh]

theorem sg_host (t : ℝ) : Ideal.div ((1 : ℝ) : EReal) (((1 : ℝ) : EReal) + Ideal.exp (-(t : EReal))) = (sg t : EReal) := by
  rw [← EReal.coe_neg, show Ideal.exp ((-t : ℝ) : EReal) = ((Real.exp (-t) : ℝ) : EReal) from rfl, ← EReal.coe_add, div_real _ _ (by positivity)]
  rfl

theorem gelu_kernel (t : ℝ) : (t : EReal) * (((1 / 2 : ℝ) : EReal) * (((1 : ℝ) : EReal) + Ideal.tanh ((gC : EReal) * ((t : EReal) + (gA : EReal) * (t : EReal) * ((t : EReal) * (t : EReal)))))) = (gelu t : EReal) := by
  simp only [← EReal.coe_mul, ← EReal.coe_add, tanh_real]
  rw [gelu, show gA * t * (t * t) = gA * (t * t * t) by ring]

theorem gelu_host (t : ℝ) : (t : EReal) * (((1 / 2 : ℝ) : EReal) * (((1 : ℝ) : EReal) + Ideal.tanh ((gC : EReal) * ((t : EReal) + (gA : EReal) * ((t : EReal) * (t : EReal) * (t : EReal)))))) = (gelu t : EReal) := by
  simp only [← EReal.coe_mul, ← EReal.coe_add, tanh_real]
  rfl

/-- The real numbers that the arguments hold. -/
structure In where
  x : ℕ → ℕ → ℝ
  oa : ℕ → ℕ → ℝ
  z : ℕ → ℕ → ℝ
  bg : ℕ → ℝ
  lng : ℕ → ℝ
  lnb : ℕ → ℝ
  w : ℕ → ℕ → ℕ → ℝ
  bs : ℕ → ℕ → ℝ
  wpa : ℕ → ℕ → ℝ
  wpb : ℕ → ℕ → ℝ
  wo : ℕ → ℕ → ℝ
  fg : ℕ → ℝ
  t : ℕ → ℕ → ℝ

namespace In

variable (I : In) (n : ℕ)

/-- The attention's branch, gated. -/
def ya (k : ℕ) : ℝ := I.oa n k * (I.z n (1536 + k) * sg (I.z n (1536 + k)))
/-- The gating branch's two halves. -/
def u (k : ℕ) : ℝ := gelu (I.z n (2048 + k))
def v (k : ℕ) : ℝ := gelu (I.z n (2560 + k))
/-- The second half, normed. -/
def mean : ℝ := (∑ k : Fin 512, I.v n k.val) / 512
def off (k : ℕ) : ℝ := I.v n k - I.mean n
def var : ℝ := (∑ k : Fin 512, I.off n k.val * I.off n k.val) / 512 + eps
def irs : ℝ := (Real.sqrt (I.var n))⁻¹
def vn (k : ℕ) : ℝ := I.off n k * I.irs n * I.lng k + I.lnb k
/-- The mix of the rows of a chunk of 128, those after the row hidden. -/
def mixed (g a q k : ℕ) : ℝ := (∑ s : Fin 128, (if s.val ≤ a then I.w g a s.val else 0) * I.vn (128 * q + s.val) k) + I.bs g a
def mix (k : ℕ) : ℝ := I.mixed (k / 128) (n % 128) (n / 128) k
def yb (k : ℕ) : ℝ := I.u n k * I.mix n k * (I.z n (3072 + k) * sg (I.z n (3072 + k)))
/-- The two branches' projections, gated and added. -/
def mg (d : ℕ) : ℝ := sg (I.z n (3584 + d) + I.bg d) * (∑ e : Fin 512, I.ya n e.val * I.wpa e.val d)
  + sg (I.z n (4608 + d) + I.bg (1024 + d)) * (∑ e : Fin 512, I.yb n e.val * I.wpb e.val d)
/-- The residual path. -/
def h (l : ℕ) : ℝ := I.x n l + ∑ d : Fin 1024, I.mg n d.val * I.wo d.val l
def hr (k : Fin 1024) : ℝ := I.h n k.val
/-- The error, one row's loss, and its gradients. -/
def e (l : ℕ) : ℝ := I.h n l * rs (I.hr n) * I.fg l - I.t n l
def ls : ℝ := ∑ l : Fin 1024, I.e n l.val * I.e n l.val
def dfg (l : ℕ) : ℝ := I.e n l * (1 / 1024) * (I.h n l * rs (I.hr n))
def dx (l : Fin 1024) : ℝ := back (I.hr n) (fun k => I.e n k.val * (1 / 1024) * I.fg k.val) l
def loss : ℝ := (∑ n : Fin 4096, I.ls n.val) * (1 / 2048)
def gain (l : ℕ) : ℝ := ∑ n : Fin 4096, I.dfg n.val l

theorem var_pos : 0 < I.var n :=
  add_pos_of_nonneg_of_pos (div_nonneg (Finset.sum_nonneg fun k _ => mul_self_nonneg _) (by norm_num)) eps_pos

theorem rsqrt_var : Ideal.rsqrt ((I.var n : ℝ) : EReal) = (I.irs n : EReal) := by
  rw [Ideal.rsqrt_coe, if_neg (I.var_pos n).not_gt, if_neg (I.var_pos n).ne']
  rfl

end In

end Cert.MidMath

end
-- ==== Proof.MidKernel.lean ====
/-
  The middle call's body over the reals, on one block of 256 rows.
-/
module

public import proofs.«01_k».proof.Proof.MidMath
public import proofs.«01_k».proof.Proof.MidChain
public import Idealize.ShloMosaic.Lib.Pointwise

public import Idealize.ShloMosaic.Lib.Ring

@[expose] public section

set_option maxRecDepth 16384

noncomputable section

namespace Cert.MidIdeal.Run

open Idealize.ShloMosaic Idealize.ShloMosaic.TcCoe Idealize.SL.Sem
open Cert.MidIdeal Cert.MidIdeal.Gen Cert.AttnMath Cert.NormMath Cert.MidMath

/-- The blocks hold the numbers of rows `256 q` on. -/
structure Reads (I : In) (q : ℕ) (b : Blk Ideal) : Prop where
  x : ∀ (r : Fin 256) (l : Fin 1024), b.x (ix2 r l) = (I.x (256 * q + r.val) l.val : EReal)
  t : ∀ (r : Fin 256) (l : Fin 1024), b.t (ix2 r l) = (I.t (256 * q + r.val) l.val : EReal)
  oa : ∀ (r : Fin 256) (k : Fin 512), b.oa (ix2 r k) = (I.oa (256 * q + r.val) k.val : EReal)
  ga : ∀ (r : Fin 256) (k : Fin 512), b.ga (ix2 r k) = (I.z (256 * q + r.val) (1536 + k.val) : EReal)
  ub : ∀ (r : Fin 256) (k : Fin 512), b.ub (ix2 r k) = (I.z (256 * q + r.val) (2048 + k.val) : EReal)
  vb : ∀ (r : Fin 256) (k : Fin 512), b.vb (ix2 r k) = (I.z (256 * q + r.val) (2560 + k.val) : EReal)
  gb : ∀ (r : Fin 256) (k : Fin 512), b.gb (ix2 r k) = (I.z (256 * q + r.val) (3072 + k.val) : EReal)
  ta0 : ∀ (r : Fin 256) (k : Fin 512), b.ta0 (ix2 r k) = (I.z (256 * q + r.val) (3584 + k.val) : EReal)
  ta1 : ∀ (r : Fin 256) (k : Fin 512), b.ta1 (ix2 r k) = (I.z (256 * q + r.val) (4096 + k.val) : EReal)
  tb0 : ∀ (r : Fin 256) (k : Fin 512), b.tb0 (ix2 r k) = (I.z (256 * q + r.val) (4608 + k.val) : EReal)
  tb1 : ∀ (r : Fin 256) (k : Fin 512), b.tb1 (ix2 r k) = (I.z (256 * q + r.val) (5120 + k.val) : EReal)
  bg : ∀ k : Fin 2048, b.bg (ix2 0 k) = (I.bg k.val : EReal)
  lng : ∀ k : Fin 512, b.lng (ix2 0 k) = (I.lng k.val : EReal)
  lnb : ∀ k : Fin 512, b.lnb (ix2 0 k) = (I.lnb k.val : EReal)
  bs : ∀ (g : Fin 4) (a : Fin 128), b.bs (ix3 g a 0) = (I.bs g.val a.val : EReal)
  fg : ∀ l : Fin 1024, b.fg (ix2 0 l) = (I.fg l.val : EReal)
  wpa : ∀ (e : Fin 512) (d : Fin 1024), b.wpa (ix2 e d) = (I.wpa e.val d.val : EReal)
  wpb : ∀ (e : Fin 512) (d : Fin 1024), b.wpb (ix2 e d) = (I.wpb e.val d.val : EReal)
  wout : ∀ (d l : Fin 1024), b.wout (ix2 d l) = (I.wo d.val l.val : EReal)
  wmix : ∀ (g : Fin 4) (a s : Fin 128), b.wmix (ix3 g a s) = ((if s.val ≤ a.val then I.w g.val a.val s.val else 0 : ℝ) : EReal)

namespace Reads

variable {I : In} {q : ℕ} {b : Blk Ideal} (R : Reads I q b)
include R

theorem ya (r : Fin 256) (k : Fin 512) : b.ya (ix2 r k) = (I.ya (256 * q + r.val) k.val : EReal) := by
  pointwise [Blk.ya, k0_pay55, k0_pay54, k0_pay53, k0_pay52, k0_pay48]
  rw [R.oa, R.ga, half_word, sg_kernel, ← EReal.coe_mul, ← EReal.coe_mul]
  rfl

theorem u (r : Fin 256) (k : Fin 512) : b.u (ix2 r k) = (I.u (256 * q + r.val) k.val : EReal) := by
  pointwise [Blk.u, k0_pay60, k0_pay59, k0_pay58, k0_pay57, k0_pay56, k0_pay49]
  rw [R.ub, half_word, gA_word, gC_word, ← EReal.coe_one, gelu_kernel]
  rfl

theorem v (r : Fin 256) (k : Fin 512) : b.v (ix2 r k) = (I.v (256 * q + r.val) k.val : EReal) := by
  pointwise [Blk.v, k0_pay65, k0_pay64, k0_pay63, k0_pay62, k0_pay50]
  rw [R.vb, half_word, gA_word, gC_word, ← EReal.coe_one, gelu_kernel]
  rfl

theorem off (r : Fin 256) (k : Fin 512) : k0_pay67 b.v (ix2 r k) = (I.off (256 * q + r.val) k.val : EReal) := by
  pointwise [k0_pay67]
  simp only [R.v, cols_word, ← coe_sum]
  rw [div_real _ _ (by norm_num), ← EReal.coe_sub]
  rfl

theorem irs (r : Fin 256) : k0_pay68 b.v (ix2 r 0) = (I.irs (256 * q + r.val) : EReal) := by
  unfold k0_pay68
  have R' := R.off
  generalize k0_pay67 b.v = o at R'
  pointwise
  simp only [R', cols_word, eps_word, ← EReal.coe_mul, ← coe_sum]
  rw [div_real _ _ (by norm_num), ← EReal.coe_add, ← I.rsqrt_var]
  rfl

theorem vn (r : Fin 256) (k : Fin 512) : b.vn (ix2 r k) = (I.vn (256 * q + r.val) k.val : EReal) := by
  unfold Blk.vn k0_pay70 k0_pay69
  have R' := R.off
  have R'' := R.irs
  generalize k0_pay67 b.v = o at R'
  generalize k0_pay68 b.v = o' at R''
  pointwise
  rw [R', R'', R.lng, R.lnb, ← EReal.coe_mul, ← EReal.coe_mul, ← EReal.coe_add]
  rfl

theorem mixed_at (g : Fin 4) (a : Fin 128) (p k : ℕ) (hg : k / 128 = g.val) (f : Fin 128 → EReal)
    (hf : ∀ s, f s = (I.vn (128 * p + s.val) k : EReal)) :
    ∑ s, b.wmix (ix3 g a s) * f s + b.bs (ix3 g a 0) = (I.mixed (k / 128) a.val p k : EReal) := by
  simp only [R.wmix, R.bs, hf, ← EReal.coe_mul, ← coe_sum, ← EReal.coe_add]
  rw [hg]
  rfl

theorem top (r : Fin 128) (k : Fin 512) : b.top (ix2 r k) = (I.mixed (k.val / 128) r.val (2 * q) k.val : EReal) := by
  unfold Blk.top k0_pay74 k0_pay73 Blk.w0 Blk.w1 Blk.w2 Blk.w3 Blk.b0 Blk.b1 Blk.b2 Blk.b3
  have R' := R.vn
  change (concatenate _ _ [⟨_, addf (matmul _ _ _ (extractStridedSlice _ _ b.vn _) _) _⟩, _, _, _] _ : FVec Ideal S128x512 .f32) _ = _
  generalize b.vn = o at R'
  pointwise
  have hk := k.isLt
  by_cases h0 : k.val < 128
  · rw [dif_pos h0]
    refine R.mixed_at 0 r (2 * q) k.val (by show _ = 0; omega) _ fun s => (R' _ _).trans ?_
    exact congrArg₂ (fun n k => ((I.vn n k : ℝ) : EReal)) (by dsimp only; omega) rfl
  rw [dif_neg h0]
  by_cases h1 : k.val - 128 < 128
  · rw [dif_pos h1]
    refine R.mixed_at 1 r (2 * q) k.val (by show _ = 1; omega) _ fun s => (R' _ _).trans ?_
    exact congrArg₂ (fun n k => ((I.vn n k : ℝ) : EReal)) (by dsimp only; omega) (by dsimp only; omega)
  rw [dif_neg h1]
  by_cases h2 : k.val - 128 - 128 < 128
  · rw [dif_pos h2]
    refine R.mixed_at 2 r (2 * q) k.val (by show _ = 2; omega) _ fun s => (R' _ _).trans ?_
    exact congrArg₂ (fun n k => ((I.vn n k : ℝ) : EReal)) (by dsimp only; omega) (by dsimp only; omega)
  rw [dif_neg h2]
  refine R.mixed_at 3 r (2 * q) k.val (by show _ = 3; omega) _ fun s => (R' _ _).trans ?_
  exact congrArg₂ (fun n k => ((I.vn n k : ℝ) : EReal)) (by dsimp only; omega) (by dsimp only; omega)

set_option maxHeartbeats 1000000 in
/-- The mix of both chunks of the block. -/
theorem mix (r : Fin 256) (k : Fin 512) :
    k0_pay76 b.vn b.top (k0_pay75 b.vn b.w0 b.b0) b.w1 b.b1 b.w2 b.b2 b.w3 b.b3 (ix2 r k) = (I.mix (256 * q + r.val) k.val : EReal) := by
  unfold k0_pay76 k0_pay75 Blk.w0 Blk.w1 Blk.w2 Blk.w3 Blk.b0 Blk.b1 Blk.b2 Blk.b3
  have R' := R.vn
  have R'' := R.top
  generalize b.top = o' at R''
  generalize b.vn = o at R'
  pointwise
  have hk := k.isLt
  have hr := r.isLt
  unfold In.mix
  by_cases h : r.val < 128
  · rw [dif_pos h, R'', show (256 * q + r.val) % 128 = r.val by omega, show (256 * q + r.val) / 128 = 2 * q by omega]
  rw [dif_neg h, show (256 * q + r.val) % 128 = r.val - 128 by omega, show (256 * q + r.val) / 128 = 2 * q + 1 by omega]
  by_cases h0 : k.val < 128
  · rw [dif_pos h0]
    refine R.mixed_at 0 ⟨r.val - 128, by omega⟩ (2 * q + 1) k.val (by show _ = 0; omega) _ fun s => (R' _ _).trans ?_
    exact congrArg₂ (fun n k => ((I.vn n k : ℝ) : EReal)) (by dsimp only; omega) rfl
  rw [dif_neg h0]
  by_cases h1 : k.val - 128 < 128
  · rw [dif_pos h1]
    refine R.mixed_at 1 ⟨r.val - 128, by omega⟩ (2 * q + 1) k.val (by show _ = 1; omega) _ fun s => (R' _ _).trans ?_
    exact congrArg₂ (fun n k => ((I.vn n k : ℝ) : EReal)) (by dsimp only; omega) (by dsimp only; omega)
  rw [dif_neg h1]
  by_cases h2 : k.val - 128 - 128 < 128
  · rw [dif_pos h2]
    refine R.mixed_at 2 ⟨r.val - 128, by omega⟩ (2 * q + 1) k.val (by show _ = 2; omega) _ fun s => (R' _ _).trans ?_
    exact congrArg₂ (fun n k => ((I.vn n k : ℝ) : EReal)) (by dsimp only; omega) (by dsimp only; omega)
  rw [dif_neg h2]
  refine R.mixed_at 3 ⟨r.val - 128, by omega⟩ (2 * q + 1) k.val (by show _ = 3; omega) _ fun s => (R' _ _).trans ?_
  exact congrArg₂ (fun n k => ((I.vn n k : ℝ) : EReal)) (by dsimp only; omega) (by dsimp only; omega)

theorem yb (r : Fin 256) (k : Fin 512) : b.yb (ix2 r k) = (I.yb (256 * q + r.val) k.val : EReal) := by
  unfold Blk.yb k0_pay78 k0_pay77
  have h1 := R.mix
  have h2 := R.u
  generalize k0_pay76 b.vn b.top (k0_pay75 b.vn b.w0 b.b0) b.w1 b.b1 b.w2 b.b2 b.w3 b.b3 = o at h1
  generalize b.u = o' at h2
  pointwise [k0_pay72, k0_pay71, k0_pay51]
  rw [h1, h2, R.gb, half_word, sg_kernel, ← EReal.coe_mul, ← EReal.coe_mul, ← EReal.coe_mul]
  rfl

theorem gateA (r : Fin 256) (d : Fin 1024) : k0_pay81 (k0_pay79 b.ta0 b.ta1) (k0_pay80 b.bg) (ix2 r d)
    = (sg (I.z (256 * q + r.val) (3584 + d.val) + I.bg d.val) : EReal) := by
  pointwise [k0_pay81, k0_pay79, k0_pay80]
  rw [half_word, ← sg_kernel, EReal.coe_add]
  by_cases h : d.val < 512
  · rw [dif_pos h, R.ta0, R.bg]
  · rw [dif_neg h, R.ta1, R.bg]
    dsimp only
    rw [show 4096 + (d.val - 512) = 3584 + d.val by omega]

theorem gateB (r : Fin 256) (d : Fin 1024) : k0_pay82 b.bg b.tb0 b.tb1 (ix2 r d)
    = (sg (I.z (256 * q + r.val) (4608 + d.val) + I.bg (1024 + d.val)) : EReal) := by
  pointwise [k0_pay82]
  rw [half_word, ← sg_kernel, EReal.coe_add]
  by_cases h : d.val < 512
  · rw [dif_pos h, R.tb0, R.bg]
  · rw [dif_neg h, R.tb1, R.bg]
    dsimp only
    rw [show 5120 + (d.val - 512) = 4608 + d.val by omega]

theorem mg (r : Fin 256) (d : Fin 1024) :
    k0_pay85 b.bg b.ya b.yb (k0_pay79 b.ta0 b.ta1) (k0_pay80 b.bg) b.tb0 b.tb1 b.wpa b.wpb (ix2 r d) = (I.mg (256 * q + r.val) d.val : EReal) := by
  unfold k0_pay85 k0_pay84 k0_pay83
  have h1 := R.gateA
  have h2 := R.gateB
  have h3 := R.ya
  have h4 := R.yb
  generalize k0_pay81 (k0_pay79 b.ta0 b.ta1) (k0_pay80 b.bg) = o1 at h1
  generalize k0_pay82 b.bg b.tb0 b.tb1 = o2 at h2
  generalize b.ya = o3 at h3
  generalize b.yb = o4 at h4
  pointwise
  simp only [h1, h2, h3, h4, R.wpa, R.wpb, ← EReal.coe_mul, ← coe_sum, ← EReal.coe_add]
  rfl

theorem h (r : Fin 256) (l : Fin 1024) : b.h (ix2 r l) = (I.h (256 * q + r.val) l.val : EReal) := by
  unfold Blk.h k0_pay86
  have h1 := R.mg
  generalize k0_pay85 b.bg b.ya b.yb (k0_pay79 b.ta0 b.ta1) (k0_pay80 b.bg) b.tb0 b.tb1 b.wpa b.wpb = o1 at h1
  pointwise
  simp only [h1, R.x, R.wout, ← EReal.coe_mul, ← coe_sum, ← EReal.coe_add]
  rfl

theorem h2 (r : Fin 256) (l : Fin 1024) : b.h2 (ix2 r l) = (I.h (256 * q + r.val) l.val * I.h (256 * q + r.val) l.val : EReal) := by
  rw [← R.h]
  rfl

theorem scale (r : Fin 256) : k0_pay88 b.h2 (ix2 r 0) = (rs (I.hr (256 * q + r.val)) : EReal) := by
  unfold k0_pay88
  have h1 := R.h2
  generalize b.h2 = o at h1
  pointwise
  simp only [h1, width_word, eps_word, ← EReal.coe_mul, ← coe_sum]
  rw [div_real _ _ (by norm_num), ← EReal.coe_add, ← rsqrt_ms]
  rfl

theorem hn (r : Fin 256) (l : Fin 1024) : k0_pay89 b.h b.h2 (ix2 r l) = ((I.h (256 * q + r.val) l.val * rs (I.hr (256 * q + r.val)) : ℝ) : EReal) := by
  unfold k0_pay89
  have h1 := R.scale
  have h2 := R.h
  generalize k0_pay88 b.h2 = o at h1
  generalize b.h = o' at h2
  pointwise
  rw [h1, h2, ← EReal.coe_mul]

theorem e (r : Fin 256) (l : Fin 1024) : k0_pay91 b.h b.h2 b.fg b.t (ix2 r l) = (I.e (256 * q + r.val) l.val : EReal) := by
  unfold k0_pay91 k0_pay90
  have h1 := R.hn
  generalize k0_pay89 b.h b.h2 = o at h1
  pointwise
  rw [h1, R.fg, R.t, ← EReal.coe_mul, ← EReal.coe_sub]
  rfl

theorem loss (y : Vec Ideal S1x1 .f32) : b.loss y (ix2 0 0) = y (ix2 0 0) + (((∑ r : Fin 256, I.ls (256 * q + r.val)) * (1 / 2048) : ℝ) : EReal) := by
  unfold Blk.loss k0_pay92
  have h1 := R.e
  generalize k0_pay91 b.h b.h2 b.fg b.t = o at h1
  pointwise
  simp only [h1, share_word, ← EReal.coe_mul, ← coe_sum]
  rfl

theorem slope (r : Fin 256) (l : Fin 1024) : k0_pay93 b.h b.h2 b.fg b.t (ix2 r l) = ((I.e (256 * q + r.val) l.val * (1 / 1024) : ℝ) : EReal) := by
  unfold k0_pay93
  have h1 := R.e
  generalize k0_pay91 b.h b.h2 b.fg b.t = o at h1
  pointwise
  rw [h1, slope_word, ← EReal.coe_mul]

theorem gain (y : Vec Ideal S1x1024 .f32) (l : Fin 1024) : b.gain y (ix2 0 l) = y (ix2 0 l) + ((∑ r : Fin 256, I.dfg (256 * q + r.val) l.val : ℝ) : EReal) := by
  unfold Blk.gain k0_pay94
  have h1 := R.slope
  have h2 := R.hn
  generalize k0_pay93 b.h b.h2 b.fg b.t = o at h1
  generalize k0_pay89 b.h b.h2 = o' at h2
  pointwise
  simp only [h1, h2, ← EReal.coe_mul, ← coe_sum]
  rfl

theorem dx (r : Fin 256) (l : Fin 1024) : b.dx (ix2 r l) = (I.dx (256 * q + r.val) l : EReal) := by
  unfold Blk.dx k0_pay97 k0_pay96 k0_pay95 k0_pay90
  have h1 := R.slope
  have h2 := R.hn
  have h3 := R.scale
  generalize k0_pay93 b.h b.h2 b.fg b.t = o at h1
  generalize k0_pay89 b.h b.h2 = o' at h2
  generalize k0_pay88 b.h2 = o'' at h3
  pointwise
  simp only [h1, h2, h3, R.fg, width_word, ← EReal.coe_mul, ← coe_sum]
  rw [div_real _ _ (by norm_num), ← EReal.coe_mul, ← EReal.coe_sub, ← EReal.coe_mul]
  rfl

end Reads

/-- Entry (a, s) lies on or below the diagonal when s ≤ a. -/
theorem below (a s : Fin 128) : IntOp.cmpi CmpIPredicate.sle (BitVec.ofNat 32 s.val) (BitVec.ofNat 32 a.val)
    = if s.val ≤ a.val then 1 else 0 :=
  (by decide +kernel : ∀ a s : Fin 128, IntOp.cmpi CmpIPredicate.sle (BitVec.ofNat 32 s.val) (BitVec.ofNat 32 a.val)
    = if s.val ≤ a.val then 1 else 0) a s

theorem pick (a s : Fin 128) (v : EReal) :
    Scalar.select (IntOp.cmpi CmpIPredicate.sle (BitVec.ofNat 32 s.val) (BitVec.ofNat 32 a.val)) v 0 = if s.val ≤ a.val then v else 0 := by
  rw [below]
  split_ifs <;> rfl

theorem first_at (v : Vec Ideal S1x128x128 .f32) (a s : Fin 128) : k0_pay5 v (ix3 0 a s) = if s.val ≤ a.val then v (ix3 0 a s) else 0 := by
  pointwise [k0_pay5]
  exact pick a s _

theorem second_at (v : Vec Ideal S1x128x128 .f32) (a s : Fin 128) : k0_pay6 v (ix3 0 a s) = if s.val ≤ a.val then v (ix3 0 a s) else 0 := by
  pointwise [k0_pay6]
  exact pick a s _

theorem third_at (v : Vec Ideal S1x128x128 .f32) (a s : Fin 128) : k0_pay8 (k0_pay7 v) (ix3 0 a s) = if s.val ≤ a.val then v (ix3 0 a s) else 0 := by
  pointwise [k0_pay8, k0_pay7]
  exact pick a s _

theorem fourth_at (v : Vec Ideal S1x128x128 .f32) (a s : Fin 128) :
    k0_pay9 (iota .tc S128x128 32 [0] iota_S128x128_d0_w32) (iota .tc S128x128 32 [1] iota_S128x128_d1_w32) v (ix3 0 a s)
      = if s.val ≤ a.val then v (ix3 0 a s) else 0 := by
  pointwise [k0_pay9]
  exact pick a s _

/-- One matrix of the four, masked and stored in its place. -/
theorem place (w : Vec Ideal S4x128x128 .f32) (g : ℕ) (inb : ∀ a : Fin 3, (![g, 0, 0] : Fin 3 → ℕ) a + (![1, 128, 128] : Fin 3 → ℕ) a ≤ S4x128x128.size a)
    (P : Vec Ideal S1x128x128 .f32 → FVec Ideal S1x128x128 .bf16)
    (hP : ∀ v (a s : Fin 128), P v (ix3 0 a s) = if s.val ≤ a.val then v (ix3 0 a s) else 0) (x : Shape.Idx S1x128x128) :
    P (View.ld w (Rect.unit (s := S4x128x128) ![g, 0, 0] ![1, 128, 128] inb)) x
      = if ((Rect.unit (s := S4x128x128) ![g, 0, 0] ![1, 128, 128] inb).emb x 2).val ≤ ((Rect.unit (s := S4x128x128) ![g, 0, 0] ![1, 128, 128] inb).emb x 1).val
        then w ((Rect.unit (s := S4x128x128) ![g, 0, 0] ![1, 128, 128] inb).emb x) else 0 := by
  have hx : x = ix3 0 (x 1) (x 2) := funext fun a => match a with
    | ⟨0, _⟩ => Fin.ext (Nat.lt_one_iff.1 (x 0).isLt)
    | ⟨1, _⟩ => rfl
    | ⟨2, _⟩ => rfl
  have h1 : ((Rect.unit (s := S4x128x128) ![g, 0, 0] ![1, 128, 128] inb).emb x 1).val = (x 1).val := by
    show 0 + 1 * (x 1).val = _
    omega
  have h2 : ((Rect.unit (s := S4x128x128) ![g, 0, 0] ![1, 128, 128] inb).emb x 2).val = (x 2).val := by
    show 0 + 1 * (x 2).val = _
    omega
  rw [h1, h2]
  refine (congrArg _ hx).trans ((hP _ (x 1) (x 2)).trans ?_)
  exact congrArg (fun v : EReal => if (x 2).val ≤ (x 1).val then v else 0)
    (congrArg (View.ld w (Rect.unit (s := S4x128x128) ![g, 0, 0] ![1, 128, 128] inb)) hx.symm)

/-- The masked matrices' entries. -/
theorem masked_at (w : Vec Ideal S4x128x128 .f32) (y : Shape.Idx S4x128x128) :
    masked w y = if (y 2).val ≤ (y 1).val then w y else 0 := by
  unfold masked
  refine View.canon_apply_of_pieces (e := .bf16) (Val := Elt Ideal) (fun y : Shape.Idx S4x128x128 => (if (y 2).val ≤ (y 1).val then w y else 0 : EReal)) _ ?_ y
    (View.cover_of_tiledL _ ![1, 128, 128] rfl y)
  intro p hp x
  simp only [List.mem_cons, List.not_mem_nil, or_false] at hp
  rcases hp with rfl | rfl | rfl | rfl
  · exact place w 3 _ (k0_pay9 _ _) fourth_at x
  · exact place w 2 _ (fun v => k0_pay8 (k0_pay7 v)) third_at x
  · exact place w 1 _ k0_pay6 second_at x
  · exact place w 0 _ k0_pay5 first_at x

end Cert.MidIdeal.Run

end
-- ==== Proof.MidHost.lean ====
/-
  The middle call's blocks: the host's arrangement of the arguments, read through the windows.
-/
module

public import proofs.«01_k».proof.Proof.MidKernel
public import proofs.«01_k».proof.Proof.MidPoint
public import Idealize.ShloMosaic.Lib.StableHlo.RunLoop
public import Idealize.ShloMosaic.Lib.Claim
public import Idealize.ShloMosaic.Lib.KernelVsHost

@[expose] public section

set_option maxRecDepth 16384

noncomputable section

namespace Cert.MidIdeal.Run

open Idealize.ShloMosaic Idealize.ShloMosaic.TcCoe Idealize.SL.Sem
open Cert.MidIdeal Cert.MidIdeal.Gen Cert.AttnMath Cert.NormMath Cert.MidMath

variable (m : (ℓ : Loc nD τ sig) → Buf (Elt Ideal) ℓ) (c : Dev nD)

theorem v2_at (n : Fin 4096) (j : Fin 5632) : V m c main_v2 (ix2 (⟨512 + n.val, by omega⟩ : Fin 4608) j) = m ((c : Thread nD τ).loc main_arg2) (ix3 0 n j) := by
  unfold V; simp only [hostOps0, hostOps0_1, hostOps0_2, List.flatten_cons, List.flatten_nil, List.append_nil, List.cons_append, List.nil_append]
  entry_read
  pointwise
  change (pad S4608x5632 ![512, 0] ![0, 0] ![0, 0] (fun i : Shape.Idx S4096x5632 => m ((c : Thread nD τ).loc main_arg2) (ix3 0 (i 0) (i 1)))
    (sitofp .f32 (constantI S_ 32 0#32) : FVec Ideal S_ .f32) pads_S4096x5632_S4608x5632_51200_000 h_S_ : FVec Ideal S4608x5632 .f32) (ix2 (⟨512 + n.val, by omega⟩ : Fin 4608) j) = _
  refine (pad_apply_of_inside ![512, 0] ![0, 0] ![0, 0] _ _ _ _ (ix2 (⟨512 + n.val, by omega⟩ : Fin 4608) j) (ix2 n j) fun a => ?_).trans rfl
  match a with
  | ⟨0, _⟩ => show 512 + n.val = 512 + n.val * (0 + 1); omega
  | ⟨1, _⟩ => show j.val = 0 + j.val * (0 + 1); omega

theorem v3_at (n : Fin 4096) (l : Fin 1024) : V m c main_v3 (ix2 n l) = m ((c : Thread nD τ).loc main_arg0) (ix3 0 n l) := by
  unfold V; simp only [hostOps0, hostOps0_1, hostOps0_2, List.flatten_cons, List.flatten_nil, List.append_nil, List.cons_append, List.nil_append]
  entry_read
  pointwise

theorem v4_at (n : Fin 4096) (l : Fin 1024) : V m c main_v4 (ix2 n l) = m ((c : Thread nD τ).loc main_arg12) (ix3 0 n l) := by
  unfold V; simp only [hostOps0, hostOps0_1, hostOps0_2, List.flatten_cons, List.flatten_nil, List.append_nil, List.cons_append, List.nil_append]
  entry_read
  pointwise

theorem v5_at (n : Fin 4096) (k : Fin 512) : V m c main_v5 (ix2 n k) = m ((c : Thread nD τ).loc main_arg1) (ix3 0 n k) := by
  unfold V; simp only [hostOps0, hostOps0_1, hostOps0_2, List.flatten_cons, List.flatten_nil, List.append_nil, List.cons_append, List.nil_append]
  entry_read
  pointwise

theorem v7_at (e : Fin 512) (d : Fin 1024) : V m c main_v7 (ix2 e d) = m ((c : Thread nD τ).loc main_arg8) (ix3 0 e d) := by
  unfold V; simp only [hostOps0, hostOps0_1, hostOps0_2, List.flatten_cons, List.flatten_nil, List.append_nil, List.cons_append, List.nil_append]
  entry_read
  pointwise

theorem v9_at (e : Fin 512) (d : Fin 1024) : V m c main_v9 (ix2 e d) = m ((c : Thread nD τ).loc main_arg9) (ix3 0 e d) := by
  unfold V; simp only [hostOps0, hostOps0_1, hostOps0_2, List.flatten_cons, List.flatten_nil, List.append_nil, List.cons_append, List.nil_append]
  entry_read
  pointwise

theorem v11_at (d l : Fin 1024) : V m c main_v11 (ix2 d l) = m ((c : Thread nD τ).loc main_arg10) (ix3 0 d l) := by
  unfold V; simp only [hostOps0, hostOps0_1, hostOps0_2, List.flatten_cons, List.flatten_nil, List.append_nil, List.cons_append, List.nil_append]
  entry_read
  pointwise

theorem v12_at (g : Fin 4) (a s : Fin 128) : V m c main_v12 (ix3 g a s) = m ((c : Thread nD τ).loc main_arg6) (ix4 0 g a s) := by
  unfold V; simp only [hostOps0, hostOps0_1, hostOps0_2, List.flatten_cons, List.flatten_nil, List.append_nil, List.cons_append, List.nil_append]
  entry_read
  pointwise

theorem v13_at (g : Fin 4) (a : Fin 128) : V m c main_v13 (ix3 g a 0) = m ((c : Thread nD τ).loc main_arg7) (ix3 0 g a) := by
  unfold V; simp only [hostOps0, hostOps0_1, hostOps0_2, List.flatten_cons, List.flatten_nil, List.append_nil, List.cons_append, List.nil_append]
  entry_read
  pointwise

theorem v14_at (l : Fin 1024) : V m c main_v14 (ix2 0 l) = m ((c : Thread nD τ).loc main_arg11) (ix1 l) := by
  unfold V; simp only [hostOps0, hostOps0_1, hostOps0_2, List.flatten_cons, List.flatten_nil, List.append_nil, List.cons_append, List.nil_append]
  entry_read
  pointwise

theorem idx : ∀ t : Fin cfg0.N, win0_0.index t = ![t.val, 0] ∧ win0_1.index t = ![t.val, 0] ∧ win0_2.index t = ![t.val, 0] ∧ win0_3.index t = ![2 + t.val, 3] ∧ win0_4.index t = ![2 + t.val, 4] ∧ win0_5.index t = ![2 + t.val, 5] ∧ win0_6.index t = ![2 + t.val, 6] ∧ win0_7.index t = ![2 + t.val, 7] ∧ win0_8.index t = ![2 + t.val, 8] ∧ win0_9.index t = ![2 + t.val, 9] ∧ win0_10.index t = ![2 + t.val, 10] ∧ win0_11.index t = ![0, 0] ∧ win0_12.index t = ![0, 0] ∧ win0_13.index t = ![0, 0] ∧ win0_16.index t = ![0, 0] ∧ win0_14.index t = ![0, 0, 0] ∧ win0_15.index t = ![0, 0, 0] ∧ win0_17.index t = ![t.val, 0] ∧ win0_21.index t = ![0, 0] ∧ win0_26.index t = ![0, 0] :=
  (by decide +kernel : ∀ t : Fin grid0.N, _)

variable (t : Fin cfg0.N)

theorem row_lt (r : Fin 256) : 256 * t.val + r.val < 4096 := by
  have := lt_of_lt_of_eq t.isLt N_0
  omega

theorem blk0 (r : Fin 256) (l : Fin 1024) : iblk m c 0 t (ix2 r l) = m ((c : Thread nD τ).loc main_arg0) (ix3 0 ⟨256 * t.val + r.val, row_lt t r⟩ l) := by
  refine Eq.trans ?_ (v3_at m c ⟨256 * t.val + r.val, row_lt t r⟩ l)
  blk_ext [iblk, idx t]

theorem blk1 (r : Fin 256) (l : Fin 1024) : iblk m c 1 t (ix2 r l) = m ((c : Thread nD τ).loc main_arg12) (ix3 0 ⟨256 * t.val + r.val, row_lt t r⟩ l) := by
  refine Eq.trans ?_ (v4_at m c ⟨256 * t.val + r.val, row_lt t r⟩ l)
  blk_ext [iblk, idx t]

theorem blk2 (r : Fin 256) (k : Fin 512) : iblk m c 2 t (ix2 r k) = m ((c : Thread nD τ).loc main_arg1) (ix3 0 ⟨256 * t.val + r.val, row_lt t r⟩ k) := by
  refine Eq.trans ?_ (v5_at m c ⟨256 * t.val + r.val, row_lt t r⟩ k)
  blk_ext [iblk, idx t]

theorem blk3 (r : Fin 256) (k : Fin 512) : iblk m c 3 t (ix2 r k) = m ((c : Thread nD τ).loc main_arg2) (ix3 0 ⟨256 * t.val + r.val, row_lt t r⟩ ⟨1536 + k.val, by omega⟩) := by
  refine Eq.trans ?_ (v2_at m c ⟨256 * t.val + r.val, row_lt t r⟩ ⟨1536 + k.val, by omega⟩)
  blk_ext [iblk, idx t]

theorem blk4 (r : Fin 256) (k : Fin 512) : iblk m c 4 t (ix2 r k) = m ((c : Thread nD τ).loc main_arg2) (ix3 0 ⟨256 * t.val + r.val, row_lt t r⟩ ⟨2048 + k.val, by omega⟩) := by
  refine Eq.trans ?_ (v2_at m c ⟨256 * t.val + r.val, row_lt t r⟩ ⟨2048 + k.val, by omega⟩)
  blk_ext [iblk, idx t]

theorem blk5 (r : Fin 256) (k : Fin 512) : iblk m c 5 t (ix2 r k) = m ((c : Thread nD τ).loc main_arg2) (ix3 0 ⟨256 * t.val + r.val, row_lt t r⟩ ⟨2560 + k.val, by omega⟩) := by
  refine Eq.trans ?_ (v2_at m c ⟨256 * t.val + r.val, row_lt t r⟩ ⟨2560 + k.val, by omega⟩)
  blk_ext [iblk, idx t]

theorem blk6 (r : Fin 256) (k : Fin 512) : iblk m c 6 t (ix2 r k) = m ((c : Thread nD τ).loc main_arg2) (ix3 0 ⟨256 * t.val + r.val, row_lt t r⟩ ⟨3072 + k.val, by omega⟩) := by
  refine Eq.trans ?_ (v2_at m c ⟨256 * t.val + r.val, row_lt t r⟩ ⟨3072 + k.val, by omega⟩)
  blk_ext [iblk, idx t]

theorem blk7 (r : Fin 256) (k : Fin 512) : iblk m c 7 t (ix2 r k) = m ((c : Thread nD τ).loc main_arg2) (ix3 0 ⟨256 * t.val + r.val, row_lt t r⟩ ⟨3584 + k.val, by omega⟩) := by
  refine Eq.trans ?_ (v2_at m c ⟨256 * t.val + r.val, row_lt t r⟩ ⟨3584 + k.val, by omega⟩)
  blk_ext [iblk, idx t]

theorem blk8 (r : Fin 256) (k : Fin 512) : iblk m c 8 t (ix2 r k) = m ((c : Thread nD τ).loc main_arg2) (ix3 0 ⟨256 * t.val + r.val, row_lt t r⟩ ⟨4096 + k.val, by omega⟩) := by
  refine Eq.trans ?_ (v2_at m c ⟨256 * t.val + r.val, row_lt t r⟩ ⟨4096 + k.val, by omega⟩)
  blk_ext [iblk, idx t]

theorem blk9 (r : Fin 256) (k : Fin 512) : iblk m c 9 t (ix2 r k) = m ((c : Thread nD τ).loc main_arg2) (ix3 0 ⟨256 * t.val + r.val, row_lt t r⟩ ⟨4608 + k.val, by omega⟩) := by
  refine Eq.trans ?_ (v2_at m c ⟨256 * t.val + r.val, row_lt t r⟩ ⟨4608 + k.val, by omega⟩)
  blk_ext [iblk, idx t]

theorem blk10 (r : Fin 256) (k : Fin 512) : iblk m c 10 t (ix2 r k) = m ((c : Thread nD τ).loc main_arg2) (ix3 0 ⟨256 * t.val + r.val, row_lt t r⟩ ⟨5120 + k.val, by omega⟩) := by
  refine Eq.trans ?_ (v2_at m c ⟨256 * t.val + r.val, row_lt t r⟩ ⟨5120 + k.val, by omega⟩)
  blk_ext [iblk, idx t]

theorem blk11 (k : Fin 2048) : iblk m c 11 t (ix2 0 k) = m ((c : Thread nD τ).loc main_arg3) (ix2 0 k) := by
  rw [← V_main_arg3 m c]
  blk_ext [iblk, idx t]

theorem blk12 (k : Fin 512) : iblk m c 12 t (ix2 0 k) = m ((c : Thread nD τ).loc main_arg4) (ix2 0 k) := by
  rw [← V_main_arg4 m c]
  blk_ext [iblk, idx t]

theorem blk13 (k : Fin 512) : iblk m c 13 t (ix2 0 k) = m ((c : Thread nD τ).loc main_arg5) (ix2 0 k) := by
  rw [← V_main_arg5 m c]
  blk_ext [iblk, idx t]

theorem blk14 (g : Fin 4) (a s : Fin 128) : iblk m c 14 t (ix3 g a s) = m ((c : Thread nD τ).loc main_arg6) (ix4 0 g a s) := by
  refine Eq.trans ?_ (v12_at m c g a s)
  blk_ext [iblk, idx t]

theorem blk15 (g : Fin 4) (a : Fin 128) : iblk m c 15 t (ix3 g a 0) = m ((c : Thread nD τ).loc main_arg7) (ix3 0 g a) := by
  refine Eq.trans ?_ (v13_at m c g a)
  blk_ext [iblk, idx t]

theorem blk16 (l : Fin 1024) : iblk m c 16 t (ix2 0 l) = m ((c : Thread nD τ).loc main_arg11) (ix1 l) := by
  refine Eq.trans ?_ (v14_at m c l)
  blk_ext [iblk, idx t]

/-- The real numbers that the arguments hold. -/
structure Holds (I : In) : Prop where
  x : ∀ (n : Fin 4096) (l : Fin 1024), m ((c : Thread nD τ).loc main_arg0) (ix3 0 n l) = (I.x n.val l.val : EReal)
  oa : ∀ (n : Fin 4096) (k : Fin 512), m ((c : Thread nD τ).loc main_arg1) (ix3 0 n k) = (I.oa n.val k.val : EReal)
  z : ∀ (n : Fin 4096) (j : Fin 5632), m ((c : Thread nD τ).loc main_arg2) (ix3 0 n j) = (I.z n.val j.val : EReal)
  bg : ∀ k : Fin 2048, m ((c : Thread nD τ).loc main_arg3) (ix2 0 k) = (I.bg k.val : EReal)
  lng : ∀ k : Fin 512, m ((c : Thread nD τ).loc main_arg4) (ix2 0 k) = (I.lng k.val : EReal)
  lnb : ∀ k : Fin 512, m ((c : Thread nD τ).loc main_arg5) (ix2 0 k) = (I.lnb k.val : EReal)
  w : ∀ (g : Fin 4) (a s : Fin 128), m ((c : Thread nD τ).loc main_arg6) (ix4 0 g a s) = (I.w g.val a.val s.val : EReal)
  bs : ∀ (g : Fin 4) (a : Fin 128), m ((c : Thread nD τ).loc main_arg7) (ix3 0 g a) = (I.bs g.val a.val : EReal)
  wpa : ∀ (e : Fin 512) (d : Fin 1024), m ((c : Thread nD τ).loc main_arg8) (ix3 0 e d) = (I.wpa e.val d.val : EReal)
  wpb : ∀ (e : Fin 512) (d : Fin 1024), m ((c : Thread nD τ).loc main_arg9) (ix3 0 e d) = (I.wpb e.val d.val : EReal)
  wo : ∀ d l : Fin 1024, m ((c : Thread nD τ).loc main_arg10) (ix3 0 d l) = (I.wo d.val l.val : EReal)
  fg : ∀ l : Fin 1024, m ((c : Thread nD τ).loc main_arg11) (ix1 l) = (I.fg l.val : EReal)
  t : ∀ (n : Fin 4096) (l : Fin 1024), m ((c : Thread nD τ).loc main_arg12) (ix3 0 n l) = (I.t n.val l.val : EReal)

set_option maxHeartbeats 2000000 in
/-- Each block's entries are the arguments'. -/
theorem Holds.reads {I : In} {m : (ℓ : Loc nD τ sig) → Buf (Elt Ideal) ℓ} {c : Dev nD} (h : Holds m c I) (t : Fin cfg0.N) :
    Reads I t.val (pointBlk m c t) where
  x r l := (blk0 m c t r l).trans (h.x _ _)
  t r l := (blk1 m c t r l).trans (h.t _ _)
  oa r k := (blk2 m c t r k).trans (h.oa _ _)
  ga r k := (blk3 m c t r k).trans (h.z _ _)
  ub r k := (blk4 m c t r k).trans (h.z _ _)
  vb r k := (blk5 m c t r k).trans (h.z _ _)
  gb r k := (blk6 m c t r k).trans (h.z _ _)
  ta0 r k := (blk7 m c t r k).trans (h.z _ _)
  ta1 r k := (blk8 m c t r k).trans (h.z _ _)
  tb0 r k := (blk9 m c t r k).trans (h.z _ _)
  tb1 r k := (blk10 m c t r k).trans (h.z _ _)
  bg k := (blk11 m c t k).trans (h.bg _)
  lng k := (blk12 m c t k).trans (h.lng _)
  lnb k := (blk13 m c t k).trans (h.lnb _)
  bs g a := (blk15 m c t g a).trans (h.bs _ _)
  fg l := (blk16 m c t l).trans (h.fg _)
  wpa e d := (v7_at m c e d).trans (h.wpa _ _)
  wpb e d := (v9_at m c e d).trans (h.wpb _ _)
  wout d l := (v11_at m c d l).trans (h.wo _ _)
  wmix g a s := by
    refine (masked_at _ _).trans ?_
    show (if s.val ≤ a.val then _ else (0 : EReal)) = _
    split_ifs
    · exact (blk14 m c _ g a s).trans (h.w _ _ _)
    · rfl

end Cert.MidIdeal.Run

end
-- ==== Proof.MidArray.lean ====
/-
  The middle call's three named results as arrays: the blocks of rows put together, the sums over the points.
-/
module

public import proofs.«01_k».proof.Proof.MidHost
public import proofs.«01_k».proof.Proof.MidFrame

@[expose] public section

set_option maxRecDepth 16384

noncomputable section

namespace Cert.MidIdeal.Run

open Idealize.ShloMosaic Idealize.ShloMosaic.TcCoe Idealize.SL.Sem
open Cert.MidIdeal Cert.MidIdeal.Gen Cert.AttnMath Cert.NormMath Cert.MidMath

/-- A sum over the first 256 n rows and the next 256. -/
theorem next_rows (f : ℕ → ℝ) (n : ℕ) :
    ∑ i ∈ Finset.range (256 * (n + 1)), f i = ∑ i ∈ Finset.range (256 * n), f i + ∑ r : Fin 256, f (256 * n + r.val) := by
  rw [show 256 * (n + 1) = 256 * n + 256 by ring, Finset.sum_range_add, ← Fin.sum_univ_eq_sum_range (fun r => f (256 * n + r)) 256]

theorem zero_row (l : Fin 1024) : k0_pay14 (F := Ideal) (ix2 0 l) = ((0 : ℝ) : EReal) := by
  pointwise [k0_pay14]
  exact EReal.coe_zero.symm

theorem zero_cell : k0_pay47 (F := Ideal) (ix2 0 0) = ((0 : ℝ) : EReal) := by
  pointwise [k0_pay47]
  exact EReal.coe_zero.symm

variable {I : In} {m : (ℓ : Loc nD τ sig) → Buf (Elt Ideal) ℓ} {c : Dev nD} (h : Holds m c I)
include h

theorem gain_at (l : Fin 1024) : ∀ (n : ℕ) (hn : n < cfg0.N),
    gainUpto m c n hn (ix2 0 l) = ((∑ i ∈ Finset.range (256 * (n + 1)), I.dfg i l.val : ℝ) : EReal)
  | 0, hn => by
    refine ((h.reads ⟨0, hn⟩).gain _ l).trans ?_
    rw [zero_row, ← EReal.coe_add, next_rows]
    rfl
  | n + 1, hn => by
    refine ((h.reads ⟨n + 1, hn⟩).gain _ l).trans ?_
    rw [gain_at l n, ← EReal.coe_add, ← next_rows]

theorem loss_at : ∀ (n : ℕ) (hn : n < cfg0.N),
    lossUpto m c n hn (ix2 0 0) = (((∑ i ∈ Finset.range (256 * (n + 1)), I.ls i) * (1 / 2048) : ℝ) : EReal)
  | 0, hn => by
    refine ((h.reads ⟨0, hn⟩).loss _).trans ?_
    rw [zero_cell, ← EReal.coe_add, next_rows, add_mul]
    simp
  | n + 1, hn => by
    refine ((h.reads ⟨n + 1, hn⟩).loss _).trans ?_
    rw [loss_at n, ← EReal.coe_add, ← add_mul, ← next_rows]

theorem result17 : (dats m 0 c).arrAt 17 cfg0.N = fun y : S4096x1024.Idx => (I.dx (y 0).val (y 1) : EReal) := by
  refine (dats m 0 c).arrAt_eq_of_covers 17 _ (by decide +kernel) fun t hf y => ?_
  blk_simp
  rw [after17]
  obtain ⟨r, l, rfl⟩ : ∃ (r : Fin 256) (l : Fin 1024), y = ix2 r l := ⟨y 0, y 1, by pointwise⟩
  rw [(h.reads t).dx r l]
  have e1 : (win0_17.blk t).view.emb (ix2 r l) 1 = l := Fin.ext (by blk_simp [idx t])
  have e2 : win0_17.index t 0 * 256 + (ix2 r l 0 : Fin 256).val = 256 * t.val + r.val := by
    rw [show win0_17.index t = ![t.val, 0] by simp [idx t]]
    show t.val * 256 + r.val = 256 * t.val + r.val
    omega
  rw [e1, e2]

theorem result21 : (dats m 0 c).arrAt 21 cfg0.N = fun y : S1x1024.Idx => (I.gain (y 1).val : EReal) := by
  refine (dats m 0 c).arrAt_eq_of_covers 21 _ (by decide +kernel) fun t hf y => ?_
  have ht : t.val = 15 := by
    have h1 := lt_of_lt_of_eq t.isLt (show cfg0.N = 16 from N_0)
    have h2 := (flush0_21 t).1 hf
    omega
  blk_simp
  rw [after21]
  obtain ⟨r, l, rfl⟩ : ∃ (r : Fin 1) (l : Fin 1024), y = ix2 r l := ⟨y 0, y 1, by pointwise⟩
  obtain rfl := Subsingleton.elim r 0
  rw [gain_at h l t.val t.isLt]
  have e1 : win0_21.index t 1 * 1024 + (ix2 (0 : Fin 1) l 1 : Fin 1024).val = l.val := by
    rw [show win0_21.index t = ![0, 0] by simp [idx t]]
    show 0 * 1024 + l.val = l.val
    omega
  rw [e1, ht]
  exact congrArg _ (Fin.sum_univ_eq_sum_range (fun i => I.dfg i l.val) 4096).symm

theorem result26 : (dats m 0 c).arrAt 26 cfg0.N = fun _ : S1x1.Idx => (I.loss : EReal) := by
  refine (dats m 0 c).arrAt_eq_of_covers 26 _ (by decide +kernel) fun t hf y => ?_
  have ht : t.val = 15 := by
    have h1 := lt_of_lt_of_eq t.isLt (show cfg0.N = 16 from N_0)
    have h2 := (flush0_26 t).1 hf
    omega
  blk_simp
  rw [after26]
  obtain ⟨r, l, rfl⟩ : ∃ (r : Fin 1) (l : Fin 1), y = ix2 r l := ⟨y 0, y 1, by pointwise⟩
  obtain rfl := Subsingleton.elim r 0
  obtain rfl := Subsingleton.elim l 0
  rw [loss_at h t.val t.isLt, ht]
  exact congrArg (fun s : ℝ => ((s * (1 / 2048) : ℝ) : EReal)) (Fin.sum_univ_eq_sum_range (fun i => I.ls i) 4096).symm

end Cert.MidIdeal.Run

end
-- ==== Proof.MidRef.lean ====
/-
  The reference of the middle call as real numbers: each of its stages, row by row.
-/
module

public import proofs.«01_k».proof.Proof.MidMath
public import proofs.«01_k».proof.Proof.AttnRefScore
public import proofs.«01_k».proof.Proof.Gen.MidRefIdeal.Read
public import Idealize.ShloMosaic.Lib.Pointwise

@[expose] public section

set_option maxRecDepth 16384

noncomputable section

namespace Cert.MidRefIdeal.Val

open Idealize.ShloMosaic Idealize.ShloMosaic.TcCoe Idealize.SL.Sem
open Cert.MidRefIdeal Cert.MidRefIdeal.Gen Cert.MidRefIdeal.Read Cert.AttnMath Cert.NormMath Cert.MidMath

/-- The entries of a mixing matrix that the mask keeps. -/
theorem above (a s : Fin 128) : Scalar.select (IntOp.cmpi CmpIPredicate.sge (IntOp.addi (BitVec.ofNat 32 a.val) 0#32) (BitVec.ofNat 32 s.val)) 1#1 0#1
    = if s.val ≤ a.val then 1#1 else 0#1 :=
  (by decide +kernel : ∀ a s : Fin 128, Scalar.select (IntOp.cmpi CmpIPredicate.sge (IntOp.addi (BitVec.ofNat 32 a.val) 0#32) (BitVec.ofNat 32 s.val)) 1#1 0#1
    = if s.val ≤ a.val then 1#1 else 0#1) a s

/-- The sum over every entry of one row. -/
theorem total (y : FVec Ideal S1x4096 .f32) (i : Shape.Idx S_) :
    Host.reduceAdd y (val_main_cst_24 (F := Ideal)) reducesTo_S1x4096_S_d0_1 h_S_ i = ∑ n : Fin 4096, y (ix2 0 n) := by
  unfold val_main_cst_24
  pointwise
  exact Fin.sum_univ_one (fun a : Fin 1 => ∑ n : Fin 4096, y (ix2 a n))

/-- The sum over two axes of size one, the columns kept. -/
theorem drop_cols (y : FVec Ideal S1x1x1024 .f32) (l : Fin 1024) :
    Host.reduceAdd y (val_main_cst_30 (F := Ideal)) reducesTo_S1x1x1024_S1024_d0_1 h_S_ (ix1 l) = y (ix3 0 0 l) := by
  unfold val_main_cst_30
  pointwise
  refine (Cert.AttnRefIdeal.Val.sum_drop reducesTo_S1x1x1024_S1024_d0_1 y (ix1 l) (fun _ : Unit => ix3 0 0 l) (fun _ _ _ => rfl) (fun _ => ?_) (fun i' hi' => ⟨(), ?_⟩)).trans ?_
  · exact funext fun a => match a with | ⟨0, _⟩ => rfl
  · have h0 : (i' 2).val = l.val := congrArg Fin.val (congrFun hi' 0)
    have h3 : (i' 0).val < 1 := (i' 0).isLt
    have h4 : (i' 1).val < 1 := (i' 1).isLt
    refine funext fun a => Fin.ext ?_
    match a with
    | ⟨0, _⟩ => exact (Nat.lt_one_iff.1 h3).symm
    | ⟨1, _⟩ => exact (Nat.lt_one_iff.1 h4).symm
    | ⟨2, _⟩ => exact h0.symm
  · simp

/-- The sum over two axes of size one, the rows kept. -/
theorem drop_rows (y : FVec Ideal S1x4096x1 .f32) (n : Fin 4096) :
    Host.reduceAdd y (val_main_cst_33 (F := Ideal)) reducesTo_S1x4096x1_S4096_d0_2 h_S_ (ix1 n) = y (ix3 0 n 0) := by
  unfold val_main_cst_33
  pointwise
  refine (Cert.AttnRefIdeal.Val.sum_drop reducesTo_S1x4096x1_S4096_d0_2 y (ix1 n) (fun _ : Unit => ix3 0 n 0) (fun _ _ _ => rfl) (fun _ => ?_) (fun i' hi' => ⟨(), ?_⟩)).trans ?_
  · exact funext fun a => match a with | ⟨0, _⟩ => rfl
  · have h0 : (i' 1).val = n.val := congrArg Fin.val (congrFun hi' 0)
    have h3 : (i' 0).val < 1 := (i' 0).isLt
    have h4 : (i' 2).val < 1 := (i' 2).isLt
    refine funext fun a => Fin.ext ?_
    match a with
    | ⟨0, _⟩ => exact (Nat.lt_one_iff.1 h3).symm
    | ⟨1, _⟩ => exact h0.symm
    | ⟨2, _⟩ => exact (Nat.lt_one_iff.1 h4).symm
  · simp

/-- The arguments hold these real numbers. -/
structure Args (I : In) (x0 : FVec Ideal S1x4096x1024 .f32) (x1 : FVec Ideal S1x4096x512 .f32) (x2 : FVec Ideal S1x4096x5632 .f32) (x3 : FVec Ideal S1x2048 .f32) (x4 : FVec Ideal S1x512 .f32) (x5 : FVec Ideal S1x512 .f32) (x6 : FVec Ideal S1x4x128x128 .f32) (x7 : FVec Ideal S1x4x128 .f32) (x8 : FVec Ideal S1x512x1024 .f32) (x9 : FVec Ideal S1x512x1024 .f32) (x10 : FVec Ideal S1x1024x1024 .f32) (x11 : FVec Ideal S1024 .f32) (x12 : FVec Ideal S1x4096x1024 .f32) : Prop where
  x : ∀ (n : Fin 4096) (l : Fin 1024), x0 (ix3 0 n l) = (I.x n.val l.val : EReal)
  oa : ∀ (n : Fin 4096) (k : Fin 512), x1 (ix3 0 n k) = (I.oa n.val k.val : EReal)
  z : ∀ (n : Fin 4096) (j : Fin 5632), x2 (ix3 0 n j) = (I.z n.val j.val : EReal)
  bg : ∀ k : Fin 2048, x3 (ix2 0 k) = (I.bg k.val : EReal)
  lng : ∀ k : Fin 512, x4 (ix2 0 k) = (I.lng k.val : EReal)
  lnb : ∀ k : Fin 512, x5 (ix2 0 k) = (I.lnb k.val : EReal)
  w : ∀ (g : Fin 4) (a s : Fin 128), x6 (ix4 0 g a s) = (I.w g.val a.val s.val : EReal)
  bs : ∀ (g : Fin 4) (a : Fin 128), x7 (ix3 0 g a) = (I.bs g.val a.val : EReal)
  wpa : ∀ (e : Fin 512) (d : Fin 1024), x8 (ix3 0 e d) = (I.wpa e.val d.val : EReal)
  wpb : ∀ (e : Fin 512) (d : Fin 1024), x9 (ix3 0 e d) = (I.wpb e.val d.val : EReal)
  wo : ∀ d l : Fin 1024, x10 (ix3 0 d l) = (I.wo d.val l.val : EReal)
  fg : ∀ l : Fin 1024, x11 (ix1 l) = (I.fg l.val : EReal)
  t : ∀ (n : Fin 4096) (l : Fin 1024), x12 (ix3 0 n l) = (I.t n.val l.val : EReal)

namespace Args

variable {I : In} {x0 : FVec Ideal S1x4096x1024 .f32} {x1 : FVec Ideal S1x4096x512 .f32} {x2 : FVec Ideal S1x4096x5632 .f32} {x3 : FVec Ideal S1x2048 .f32} {x4 : FVec Ideal S1x512 .f32} {x5 : FVec Ideal S1x512 .f32} {x6 : FVec Ideal S1x4x128x128 .f32} {x7 : FVec Ideal S1x4x128 .f32} {x8 : FVec Ideal S1x512x1024 .f32} {x9 : FVec Ideal S1x512x1024 .f32} {x10 : FVec Ideal S1x1024x1024 .f32} {x11 : FVec Ideal S1024 .f32} {x12 : FVec Ideal S1x4096x1024 .f32}
  (A : Args I x0 x1 x2 x3 x4 x5 x6 x7 x8 x9 x10 x11 x12)
include A

theorem ya (n : Fin 4096) (k : Fin 512) : val_main_v7 (F := Ideal) x1 x2 (ix3 0 n k) = ((I.ya n.val k.val : ℝ) : EReal) := by
  unfold val_main_v7 val_main_v6 val_main_call0_v5 val_main_call0_v3 val_main_call0_v1 val_main_call0_v0 val_main_call0_v2 val_main_call0_cst val_main_call0_v4 val_main_call0_cst_0 val_main_v0
  pointwise
  rw [A.oa, A.z, ← EReal.coe_one, sg_host, ← EReal.coe_mul, ← EReal.coe_mul]
  rfl

theorem u (n : Fin 4096) (k : Fin 512) : val_main_v20 (F := Ideal) x2 (ix3 0 n k) = ((I.u n.val k.val : ℝ) : EReal) := by
  unfold val_main_v20 val_main_v19 val_main_v17 val_main_v15 val_main_v14 val_main_v12 val_main_v11 val_main_v9 val_main_v8 val_main_v10 val_main_cst val_main_v13 val_main_cst_0 val_main_v16 val_main_cst_1 val_main_v18 val_main_cst_2 val_main_v1
  pointwise
  rw [A.z, half_word, gA_word, gC_word, ← EReal.coe_one, gelu_host]
  rfl

theorem v (n : Fin 4096) (k : Fin 512) : val_main_v33 (F := Ideal) x2 (ix3 0 n k) = ((I.v n.val k.val : ℝ) : EReal) := by
  unfold val_main_v33 val_main_v32 val_main_v30 val_main_v28 val_main_v27 val_main_v25 val_main_v24 val_main_v22 val_main_v21 val_main_v23 val_main_cst_3 val_main_v26 val_main_cst_4 val_main_v29 val_main_cst_5 val_main_v31 val_main_cst_6 val_main_v2
  pointwise
  rw [A.z, half_word, gA_word, gC_word, ← EReal.coe_one, gelu_host]
  rfl

theorem mean (n : Fin 4096) : val_main_v41 (F := Ideal) x2 (ix3 0 n 0) = ((I.mean n.val : ℝ) : EReal) := by
  unfold val_main_v41 val_main_v40 val_main_cst_8 val_main_v39 val_main_v38 val_main_cst_7
  generalize e0 : val_main_v33 (F := Ideal) x2 = y0
  pointwise
  subst e0
  simp only [A.v, cols_word, ← coe_sum]
  rw [div_real _ _ (by norm_num)]
  rfl

theorem off (n : Fin 4096) (k : Fin 512) : val_main_v43 (F := Ideal) x2 (ix3 0 n k) = ((I.off n.val k.val : ℝ) : EReal) := by
  unfold val_main_v43 val_main_v42
  generalize e0 : val_main_v33 (F := Ideal) x2 = y0
  generalize e1 : val_main_v41 (F := Ideal) x2 = y1
  pointwise
  subst e0
  subst e1
  rw [A.v, A.mean, ← EReal.coe_sub]
  rfl

theorem off2 (n : Fin 4096) (k : Fin 512) : val_main_v50 (F := Ideal) x2 (ix3 0 n k) = ((I.off n.val k.val : ℝ) : EReal) := by
  unfold val_main_v50 val_main_v49
  generalize e0 : val_main_v33 (F := Ideal) x2 = y0
  generalize e1 : val_main_v41 (F := Ideal) x2 = y1
  pointwise
  subst e0
  subst e1
  rw [A.v, A.mean, ← EReal.coe_sub]
  rfl

theorem var (n : Fin 4096) : val_main_v52 (F := Ideal) x2 (ix3 0 n 0) = ((I.var n.val : ℝ) : EReal) := by
  unfold val_main_v52 val_main_v51 val_main_cst_11 val_main_v48 val_main_v47 val_main_cst_10 val_main_v46 val_main_v45 val_main_cst_9 val_main_v44
  generalize e0 : val_main_v43 (F := Ideal) x2 = y0
  pointwise
  subst e0
  simp only [A.off, cols_word, eps_word, ← EReal.coe_mul, ← coe_sum]
  rw [div_real _ _ (by norm_num), ← EReal.coe_add]
  rfl

theorem irs (n : Fin 4096) : val_main_v53 (F := Ideal) x2 (ix3 0 n 0) = ((I.irs n.val : ℝ) : EReal) := by
  unfold val_main_v53
  generalize e0 : val_main_v52 (F := Ideal) x2 = y0
  pointwise
  subst e0
  rw [A.var, I.rsqrt_var]

theorem vn (n : Fin 4096) (k : Fin 512) : val_main_v61 (F := Ideal) x2 x4 x5 (ix3 0 n k) = ((I.vn n.val k.val : ℝ) : EReal) := by
  unfold val_main_v61 val_main_v60 val_main_v59 val_main_v35 val_main_v58 val_main_v57 val_main_v56 val_main_v34 val_main_v55 val_main_v54
  generalize e0 : val_main_v50 (F := Ideal) x2 = y0
  generalize e1 : val_main_v53 (F := Ideal) x2 = y1
  pointwise
  subst e0
  subst e1
  rw [A.off2, A.irs, A.lng, A.lnb, ← EReal.coe_mul, ← EReal.coe_mul, ← EReal.coe_add]
  rfl

/-- The mixing matrices, the entries after the row hidden. -/
theorem wm (g : Fin 4) (a s : Fin 128) : val_main_v67 (F := Ideal) x6 (ix3 g a s) = ((if s.val ≤ a.val then I.w g.val a.val s.val else 0 : ℝ) : EReal) := by
  unfold val_main_v67 val_main_v66 val_main_cst_12 val_main_v36 val_main_call2_v0 val_main_v65 val_main_v64 val_main_call1_v5 val_main_call1_c_0 val_main_v63 val_main_c val_main_call1_v4 val_main_call1_v3 val_main_call1_v2 val_main_call1_v1 val_main_call1_c val_main_call1_v0
  pointwise
  rw [show (Scalar.select (IntOp.cmpi CmpIPredicate.sge (IntOp.addi (BitVec.ofNat 32 a.val) 0#32) (BitVec.ofNat 32 s.val)) 1#1 0#1) = if s.val ≤ a.val then 1#1 else 0#1 from above a s]
  by_cases hs : s.val ≤ a.val
  · rw [if_pos hs, if_pos hs]; exact A.w g a s
  · rw [if_neg hs, if_neg hs]; exact EReal.coe_zero.symm

/-- The normed half cut into chunks of 128 rows and groups of 128 columns. -/
theorem folded (q : Fin 32) (s : Fin 128) (g : Fin 4) (d : Fin 128) : val_main_v62 (F := Ideal) x2 x4 x5 (ix5 0 q s g d) = ((I.vn (128 * q.val + s.val) (128 * g.val + d.val) : ℝ) : EReal) := by
  rw [val_main_v62_apply]
  have hq := q.isLt
  have hs := s.isLt
  have hg := g.isLt
  have hd := d.isLt
  refine Eq.trans (congrArg _ ?_) (A.vn ⟨128 * q.val + s.val, by omega⟩ ⟨128 * g.val + d.val, by omega⟩)
  refine funext fun a => Fin.ext ?_
  match a with
  | ⟨0, _⟩ => rfl
  | ⟨1, _⟩ => show ((((0 * 32 + q.val) * 128 + s.val) * 4 + g.val) * 128 + d.val) / 512 % 4096 = 128 * q.val + s.val; omega
  | ⟨2, _⟩ => show ((((0 * 32 + q.val) * 128 + s.val) * 4 + g.val) * 128 + d.val) % 512 = 128 * g.val + d.val; omega

theorem mixed (q : Fin 32) (a : Fin 128) (g : Fin 4) (d : Fin 128) : val_main_v74 (F := Ideal) x2 x4 x5 x6 x7 (ix5 0 q a g d) = ((I.mixed g.val a.val q.val (128 * g.val + d.val) : ℝ) : EReal) := by
  unfold val_main_v74 val_main_v73 val_main_v72 val_main_v71 val_main_v70 val_main_v37 val_main_v69 val_main_v68
  generalize e0 : val_main_v62 (F := Ideal) x2 x4 x5 = y0
  generalize e1 : val_main_v67 (F := Ideal) x6 = y1
  pointwise
  subst e0
  subst e1
  simp only [A.folded, A.wm, A.bs, ← EReal.coe_mul, ← coe_sum, ← EReal.coe_add]
  refine congrArg _ ?_
  unfold In.mixed
  refine congrArg₂ _ (Finset.sum_congr rfl fun s _ => mul_comm _ _) rfl

/-- The mix, unfolded again. -/
theorem mix (n : Fin 4096) (k : Fin 512) : val_main_v75 (F := Ideal) x2 x4 x5 x6 x7 (ix3 0 n k) = ((I.mix n.val k.val : ℝ) : EReal) := by
  rw [val_main_v75_apply]
  have hn := n.isLt
  have hk := k.isLt
  refine Eq.trans (congrArg _ ?_) ((A.mixed ⟨n.val / 128, by omega⟩ ⟨n.val % 128, by omega⟩ ⟨k.val / 128, by omega⟩ ⟨k.val % 128, by omega⟩).trans ?_)
  · refine funext fun a => Fin.ext ?_
    match a with
    | ⟨0, _⟩ => rfl
    | ⟨1, _⟩ => show ((0 * 4096 + n.val) * 512 + k.val) / 65536 % 32 = n.val / 128; omega
    | ⟨2, _⟩ => show ((0 * 4096 + n.val) * 512 + k.val) / 512 % 128 = n.val % 128; omega
    | ⟨3, _⟩ => show ((0 * 4096 + n.val) * 512 + k.val) / 128 % 4 = k.val / 128; omega
    | ⟨4, _⟩ => show ((0 * 4096 + n.val) * 512 + k.val) % 128 = k.val % 128; omega
  · show ((I.mixed (k.val / 128) (n.val % 128) (n.val / 128) (128 * (k.val / 128) + k.val % 128) : ℝ) : EReal) = _
    rw [Nat.div_add_mod]
    rfl

theorem yb (n : Fin 4096) (k : Fin 512) : val_main_v78 (F := Ideal) x2 x4 x5 x6 x7 (ix3 0 n k) = ((I.yb n.val k.val : ℝ) : EReal) := by
  unfold val_main_v78 val_main_v77 val_main_call3_v5 val_main_call3_v3 val_main_call3_v1 val_main_call3_v0 val_main_call3_v2 val_main_call3_cst val_main_call3_v4 val_main_call3_cst_0 val_main_v3 val_main_v76
  generalize e0 : val_main_v20 (F := Ideal) x2 = y0
  generalize e1 : val_main_v75 (F := Ideal) x2 x4 x5 x6 x7 = y1
  pointwise
  subst e0
  subst e1
  rw [A.u, A.mix, A.z, ← EReal.coe_one, sg_host, ← EReal.coe_mul, ← EReal.coe_mul, ← EReal.coe_mul]
  rfl

theorem pa (n : Fin 4096) (l : Fin 1024) : val_main_v80 (F := Ideal) x1 x2 x8 (ix3 0 n l) = ((∑ e : Fin 512, I.ya n.val e.val * I.wpa e.val l.val : ℝ) : EReal) := by
  unfold val_main_v80 val_main_v79
  generalize e0 : val_main_v7 (F := Ideal) x1 x2 = y0
  pointwise
  subst e0
  simp only [A.ya, A.wpa, ← EReal.coe_mul, ← coe_sum]

theorem pb (n : Fin 4096) (l : Fin 1024) : val_main_v82 (F := Ideal) x2 x4 x5 x6 x7 x9 (ix3 0 n l) = ((∑ e : Fin 512, I.yb n.val e.val * I.wpb e.val l.val : ℝ) : EReal) := by
  unfold val_main_v82 val_main_v81
  generalize e0 : val_main_v78 (F := Ideal) x2 x4 x5 x6 x7 = y0
  pointwise
  subst e0
  simp only [A.yb, A.wpb, ← EReal.coe_mul, ← coe_sum]

theorem mg (n : Fin 4096) (l : Fin 1024) : val_main_v107 (F := Ideal) x1 x2 x3 x4 x5 x6 x7 x8 x9 (ix3 0 n l) = ((I.mg n.val l.val : ℝ) : EReal) := by
  unfold val_main_v107 val_main_v106 val_main_v104 val_main_v102 val_main_v100 val_main_v99 val_main_v98 val_main_v97 val_main_v96 val_main_v95 val_main_v94 val_main_v5 val_main_v101 val_main_cst_15 val_main_v103 val_main_cst_16 val_main_v105 val_main_v93 val_main_v91 val_main_v89 val_main_v88 val_main_v87 val_main_v86 val_main_v85 val_main_v84 val_main_v83 val_main_v4 val_main_v90 val_main_cst_13 val_main_v92 val_main_cst_14
  generalize e0 : val_main_v80 (F := Ideal) x1 x2 x8 = y0
  generalize e1 : val_main_v82 (F := Ideal) x2 x4 x5 x6 x7 x9 = y1
  pointwise
  subst e0
  subst e1
  simp only [A.pa, A.pb, A.z, A.bg, ← EReal.coe_one, ← EReal.coe_add, sg_host, ← EReal.coe_mul]
  rfl

theorem h (n : Fin 4096) (l : Fin 1024) : val_main_v110 (F := Ideal) x0 x1 x2 x3 x4 x5 x6 x7 x8 x9 x10 (ix3 0 n l) = ((I.h n.val l.val : ℝ) : EReal) := by
  unfold val_main_v110 val_main_v109 val_main_v108
  generalize e0 : val_main_v107 (F := Ideal) x1 x2 x3 x4 x5 x6 x7 x8 x9 = y0
  pointwise
  subst e0
  simp only [A.mg, A.x, A.wo, ← EReal.coe_mul, ← coe_sum, ← EReal.coe_add]
  rfl

theorem ms_at (n : Fin 4096) : val_main_v117 (F := Ideal) x0 x1 x2 x3 x4 x5 x6 x7 x8 x9 x10 (ix3 0 n 0) = ((ms (I.hr n.val) : ℝ) : EReal) := by
  unfold val_main_v117 val_main_v116 val_main_cst_19 val_main_v115 val_main_v114 val_main_cst_18 val_main_v113 val_main_v112 val_main_cst_17 val_main_v111
  generalize e0 : val_main_v110 (F := Ideal) x0 x1 x2 x3 x4 x5 x6 x7 x8 x9 x10 = y0
  pointwise
  subst e0
  simp only [A.h, eps_word, width_word, ← EReal.coe_mul, ← coe_sum]
  rw [div_real _ _ (by norm_num), ← EReal.coe_add]
  rfl

theorem rs_at (n : Fin 4096) : val_main_v118 (F := Ideal) x0 x1 x2 x3 x4 x5 x6 x7 x8 x9 x10 (ix3 0 n 0) = ((rs (I.hr n.val) : ℝ) : EReal) := by
  unfold val_main_v118
  generalize e0 : val_main_v117 (F := Ideal) x0 x1 x2 x3 x4 x5 x6 x7 x8 x9 x10 = y0
  pointwise
  subst e0
  rw [A.ms_at, rsqrt_ms]

theorem slope (n : Fin 4096) : val_main_v121 (F := Ideal) x0 x1 x2 x3 x4 x5 x6 x7 x8 x9 x10 (ix3 0 n 0) = ((-(1 / 2) * (rs (I.hr n.val) / ms (I.hr n.val)) : ℝ) : EReal) := by
  unfold val_main_v121 val_main_v119 val_main_v120 val_main_cst_20
  generalize e0 : val_main_v117 (F := Ideal) x0 x1 x2 x3 x4 x5 x6 x7 x8 x9 x10 = y0
  generalize e1 : val_main_v118 (F := Ideal) x0 x1 x2 x3 x4 x5 x6 x7 x8 x9 x10 = y1
  pointwise
  subst e0
  subst e1
  rw [A.ms_at, A.rs_at, minus_word, div_real _ _ (ms_pos _).ne', ← EReal.coe_mul]

theorem e (n : Fin 4096) (l : Fin 1024) : val_main_v127 (F := Ideal) x0 x1 x2 x3 x4 x5 x6 x7 x8 x9 x10 x11 x12 (ix3 0 n l) = ((I.e n.val l.val : ℝ) : EReal) := by
  unfold val_main_v127 val_main_v126 val_main_v125 val_main_v124 val_main_v123 val_main_v122
  generalize e0 : val_main_v110 (F := Ideal) x0 x1 x2 x3 x4 x5 x6 x7 x8 x9 x10 = y0
  generalize e1 : val_main_v118 (F := Ideal) x0 x1 x2 x3 x4 x5 x6 x7 x8 x9 x10 = y1
  pointwise
  subst e0
  subst e1
  rw [A.h, A.rs_at, A.fg, A.t, ← EReal.coe_mul, ← EReal.coe_mul, ← EReal.coe_sub]
  rfl

theorem cot (n : Fin 4096) (l : Fin 1024) : val_main_v141 (F := Ideal) x0 x1 x2 x3 x4 x5 x6 x7 x8 x9 x10 x11 x12 (ix3 0 n l) = ((I.e n.val l.val * (1 / 1024) : ℝ) : EReal) := by
  unfold val_main_v141 val_main_v130 val_main_v129 val_main_cst_21 val_main_v140 val_main_v139 val_main_v138 val_main_cst_28 val_main_v137 val_main_v136 val_main_cst_27 val_main_cst_26
  generalize e0 : val_main_v127 (F := Ideal) x0 x1 x2 x3 x4 x5 x6 x7 x8 x9 x10 x11 x12 = y0
  pointwise
  subst e0
  rw [A.e, half_word, two_word, width_word, div_real _ _ (by norm_num), ← EReal.coe_mul, ← EReal.coe_mul]
  refine congrArg _ ?_
  ring

theorem row_loss (n : Fin 4096) : val_main_v133 (F := Ideal) x0 x1 x2 x3 x4 x5 x6 x7 x8 x9 x10 x11 x12 (ix2 0 n) = ((I.ls n.val / 1024 : ℝ) : EReal) := by
  unfold val_main_v133 val_main_v132 val_main_cst_23 val_main_v131 val_main_cst_22 val_main_v128
  generalize e0 : val_main_v127 (F := Ideal) x0 x1 x2 x3 x4 x5 x6 x7 x8 x9 x10 x11 x12 = y0
  pointwise
  subst e0
  simp only [A.e, width_word, ← EReal.coe_mul, ← coe_sum]
  rw [div_real _ _ (by norm_num)]
  rfl

theorem loss : val_main_v165 (F := Ideal) x0 x1 x2 x3 x4 x5 x6 x7 x8 x9 x10 x11 x12 (ix2 0 0) = (I.loss : EReal) := by
  unfold val_main_v165 val_main_v135 val_main_cst_25
  generalize e0 : val_main_v134 (F := Ideal) x0 x1 x2 x3 x4 x5 x6 x7 x8 x9 x10 x11 x12 = y0
  pointwise
  subst e0
  unfold val_main_v134
  rw [total]
  simp only [A.row_loss, half_word, ← coe_sum, ← EReal.coe_mul]
  refine congrArg _ ?_
  unfold In.loss
  rw [Finset.mul_sum, Finset.sum_mul]
  exact Finset.sum_congr rfl fun n _ => by ring

theorem gain0 (l : Fin 1024) : val_main_v144 (F := Ideal) x0 x1 x2 x3 x4 x5 x6 x7 x8 x9 x10 x11 x12 (ix3 0 0 l) = ((I.gain l.val : ℝ) : EReal) := by
  unfold val_main_v144 val_main_v143 val_main_cst_29 val_main_v142 val_main_v123 val_main_v122
  generalize e0 : val_main_v110 (F := Ideal) x0 x1 x2 x3 x4 x5 x6 x7 x8 x9 x10 = y0
  generalize e1 : val_main_v118 (F := Ideal) x0 x1 x2 x3 x4 x5 x6 x7 x8 x9 x10 = y1
  generalize e2 : val_main_v141 (F := Ideal) x0 x1 x2 x3 x4 x5 x6 x7 x8 x9 x10 x11 x12 = y2
  pointwise
  subst e0
  subst e1
  subst e2
  simp only [A.h, A.rs_at, A.cot, ← EReal.coe_mul, ← coe_sum]
  refine congrArg _ (Finset.sum_congr rfl fun n _ => ?_)
  unfold In.dfg
  ring

theorem gain (l : Fin 1024) : val_main_v164 (F := Ideal) x0 x1 x2 x3 x4 x5 x6 x7 x8 x9 x10 x11 x12 (ix2 0 l) = ((I.gain l.val : ℝ) : EReal) := by
  unfold val_main_v164
  generalize e0 : val_main_v147 (F := Ideal) x0 x1 x2 x3 x4 x5 x6 x7 x8 x9 x10 x11 x12 = y0
  pointwise
  subst e0
  unfold val_main_v147
  rw [drop_cols, A.gain0]

theorem cotg (n : Fin 4096) (l : Fin 1024) : val_main_v146 (F := Ideal) x0 x1 x2 x3 x4 x5 x6 x7 x8 x9 x10 x11 x12 (ix3 0 n l) = ((I.e n.val l.val * (1 / 1024) * I.fg l.val : ℝ) : EReal) := by
  unfold val_main_v146 val_main_v145 val_main_v124
  generalize e0 : val_main_v141 (F := Ideal) x0 x1 x2 x3 x4 x5 x6 x7 x8 x9 x10 x11 x12 = y0
  pointwise
  subst e0
  rw [A.cot, A.fg, ← EReal.coe_mul]

theorem tail0 (n : Fin 4096) : val_main_v155 (F := Ideal) x0 x1 x2 x3 x4 x5 x6 x7 x8 x9 x10 x11 x12 (ix3 0 n 0) = ((tail (I.hr n.val) (fun k => I.e n.val k.val * (1 / 1024) * I.fg k.val) : ℝ) : EReal) := by
  unfold val_main_v155 val_main_v154 val_main_cst_32 val_main_v153 val_main_v150 val_main_v149 val_main_cst_31 val_main_v148
  generalize e0 : val_main_v110 (F := Ideal) x0 x1 x2 x3 x4 x5 x6 x7 x8 x9 x10 = y0
  generalize e1 : val_main_v146 (F := Ideal) x0 x1 x2 x3 x4 x5 x6 x7 x8 x9 x10 x11 x12 = y1
  generalize e2 : val_main_v121 (F := Ideal) x0 x1 x2 x3 x4 x5 x6 x7 x8 x9 x10 = y2
  pointwise
  subst e0
  subst e1
  subst e2
  simp only [A.h, A.cotg, A.slope, width_word, ← EReal.coe_mul, ← coe_sum]
  rw [div_real _ _ (by norm_num)]
  rfl

theorem dx (n : Fin 4096) (l : Fin 1024) : val_main_v163 (F := Ideal) x0 x1 x2 x3 x4 x5 x6 x7 x8 x9 x10 x11 x12 (ix2 n l) = ((I.dx n.val l : ℝ) : EReal) := by
  unfold val_main_v163 val_main_v162 val_main_v161 val_main_v160 val_main_v159 val_main_v158 val_main_v157 val_main_v152 val_main_v151
  generalize e0 : val_main_v110 (F := Ideal) x0 x1 x2 x3 x4 x5 x6 x7 x8 x9 x10 = y0
  generalize e1 : val_main_v146 (F := Ideal) x0 x1 x2 x3 x4 x5 x6 x7 x8 x9 x10 x11 x12 = y1
  generalize e2 : val_main_v118 (F := Ideal) x0 x1 x2 x3 x4 x5 x6 x7 x8 x9 x10 = y2
  generalize e3 : val_main_v156 (F := Ideal) x0 x1 x2 x3 x4 x5 x6 x7 x8 x9 x10 x11 x12 = y3
  pointwise
  subst e0
  subst e1
  subst e2
  subst e3
  unfold val_main_v156
  simp only [drop_rows, A.tail0, A.h, A.cotg, A.rs_at, ← EReal.coe_mul, ← EReal.coe_add]
  refine congrArg _ ?_
  unfold In.dx
  rw [back_eq]
  rfl

end Args

end Cert.MidRefIdeal.Val

end
-- ==== Proof.MidValue.lean ====
/-
  The middle call's value claim: from finite arguments both programs end at the same three results.
-/
module

public import proofs.«01_k».proof.Defs
public import proofs.«01_k».proof.Proof.Finite
public import proofs.«01_k».proof.Proof.MidArray
public import proofs.«01_k».proof.Proof.MidRef
public import proofs.«01_k».proof.Proof.Gen.MidRefIdeal.Run

@[expose] public section

set_option maxRecDepth 16384

noncomputable section

namespace Cert.MidValue

open Idealize.ShloMosaic Idealize.ShloMosaic.TcCoe Idealize.SL.Sem
open Cert.AttnMath Cert.NormMath Cert.MidMath Cert.Finite Cert.MidRefIdeal.Read

theorem preFacts : Cert.Pre_finite_mid.Facts := ⟨by decide, by decide, by decide, by decide, by decide, by decide, by decide, by decide, by decide, by decide⟩

attribute [local instance] preFacts

/-- The real numbers of a `1 × g × a × b` array. -/
def cubeOf {g a b : ℕ} (x : FVec Ideal ⟨4, ![1, g, a, b]⟩ .f32) (p n l : ℕ) : ℝ :=
  if h : p < g ∧ n < a ∧ l < b then EReal.toReal (x (ix4 0 ⟨p, h.1⟩ ⟨n, h.2.1⟩ ⟨l, h.2.2⟩)) else 0

theorem cubeOf_at {g a b : ℕ} {x : FVec Ideal ⟨4, ![1, g, a, b]⟩ .f32} (hx : ∀ i, x i = ((EReal.toReal (x i) : ℝ) : EReal))
    (p : Fin g) (n : Fin a) (l : Fin b) : x (ix4 0 p n l) = (cubeOf x p.val n.val l.val : EReal) := by
  rw [cubeOf, dif_pos ⟨p.isLt, n.isLt, l.isLt⟩]
  exact hx _

/-- The real numbers of an array of one axis. -/
def lineOf {a : ℕ} (x : FVec Ideal ⟨1, ![a]⟩ .f32) (l : ℕ) : ℝ :=
  if h : l < a then EReal.toReal (x (ix1 ⟨l, h⟩)) else 0

theorem lineOf_at {a : ℕ} {x : FVec Ideal ⟨1, ![a]⟩ .f32} (hx : ∀ i, x i = ((EReal.toReal (x i) : ℝ) : EReal))
    (l : Fin a) : x (ix1 l) = (lineOf x l.val : EReal) := by
  rw [lineOf, dif_pos l.isLt]
  exact hx _

variable (m : (ℓ : Loc Cert.MidIdeal.nD Cert.MidIdeal.τ Cert.MidIdeal.sig) → Buf (Elt Ideal) ℓ) (c : Dev Cert.MidIdeal.nD)

def arg0 : FVec Ideal ⟨3, ![1, 4096, 1024]⟩ .f32 := m ((c.tc : Thread Cert.MidIdeal.nD Cert.MidIdeal.τ).loc Cert.MidIdeal.main_arg0)
def arg1 : FVec Ideal ⟨3, ![1, 4096, 512]⟩ .f32 := m ((c.tc : Thread Cert.MidIdeal.nD Cert.MidIdeal.τ).loc Cert.MidIdeal.main_arg1)
def arg2 : FVec Ideal ⟨3, ![1, 4096, 5632]⟩ .f32 := m ((c.tc : Thread Cert.MidIdeal.nD Cert.MidIdeal.τ).loc Cert.MidIdeal.main_arg2)
def arg3 : FVec Ideal ⟨2, ![1, 2048]⟩ .f32 := m ((c.tc : Thread Cert.MidIdeal.nD Cert.MidIdeal.τ).loc Cert.MidIdeal.main_arg3)
def arg4 : FVec Ideal ⟨2, ![1, 512]⟩ .f32 := m ((c.tc : Thread Cert.MidIdeal.nD Cert.MidIdeal.τ).loc Cert.MidIdeal.main_arg4)
def arg5 : FVec Ideal ⟨2, ![1, 512]⟩ .f32 := m ((c.tc : Thread Cert.MidIdeal.nD Cert.MidIdeal.τ).loc Cert.MidIdeal.main_arg5)
def arg6 : FVec Ideal ⟨4, ![1, 4, 128, 128]⟩ .f32 := m ((c.tc : Thread Cert.MidIdeal.nD Cert.MidIdeal.τ).loc Cert.MidIdeal.main_arg6)
def arg7 : FVec Ideal ⟨3, ![1, 4, 128]⟩ .f32 := m ((c.tc : Thread Cert.MidIdeal.nD Cert.MidIdeal.τ).loc Cert.MidIdeal.main_arg7)
def arg8 : FVec Ideal ⟨3, ![1, 512, 1024]⟩ .f32 := m ((c.tc : Thread Cert.MidIdeal.nD Cert.MidIdeal.τ).loc Cert.MidIdeal.main_arg8)
def arg9 : FVec Ideal ⟨3, ![1, 512, 1024]⟩ .f32 := m ((c.tc : Thread Cert.MidIdeal.nD Cert.MidIdeal.τ).loc Cert.MidIdeal.main_arg9)
def arg10 : FVec Ideal ⟨3, ![1, 1024, 1024]⟩ .f32 := m ((c.tc : Thread Cert.MidIdeal.nD Cert.MidIdeal.τ).loc Cert.MidIdeal.main_arg10)
def arg11 : FVec Ideal ⟨1, ![1024]⟩ .f32 := m ((c.tc : Thread Cert.MidIdeal.nD Cert.MidIdeal.τ).loc Cert.MidIdeal.main_arg11)
def arg12 : FVec Ideal ⟨3, ![1, 4096, 1024]⟩ .f32 := m ((c.tc : Thread Cert.MidIdeal.nD Cert.MidIdeal.τ).loc Cert.MidIdeal.main_arg12)

/-- The real numbers that the arguments hold. -/
def reals : In where
  x := planeOf (arg0 m c)
  oa := planeOf (arg1 m c)
  z := planeOf (arg2 m c)
  bg := rowOf (arg3 m c)
  lng := rowOf (arg4 m c)
  lnb := rowOf (arg5 m c)
  w := cubeOf (arg6 m c)
  bs := planeOf (arg7 m c)
  wpa := planeOf (arg8 m c)
  wpb := planeOf (arg9 m c)
  wo := planeOf (arg10 m c)
  fg := lineOf (arg11 m c)
  t := planeOf (arg12 m c)

variable {m} (hp : Pre_MidIdeal_finite_mid m)
include hp

theorem real0 (i) : arg0 m c i = ((EReal.toReal (arg0 m c i) : ℝ) : EReal) :=
  real_of_below _ (by rw [← infinity_word]; exact congrFun (hp c).1 i)
theorem real1 (i) : arg1 m c i = ((EReal.toReal (arg1 m c i) : ℝ) : EReal) :=
  real_of_below _ (by rw [← infinity_word]; exact congrFun (hp c).2.1 i)
theorem real2 (i) : arg2 m c i = ((EReal.toReal (arg2 m c i) : ℝ) : EReal) :=
  real_of_below _ (by rw [← infinity_word]; exact congrFun (hp c).2.2.1 i)
theorem real3 (i) : arg3 m c i = ((EReal.toReal (arg3 m c i) : ℝ) : EReal) :=
  real_of_below _ (by rw [← infinity_word]; exact congrFun (hp c).2.2.2.1 i)
theorem real4 (i) : arg4 m c i = ((EReal.toReal (arg4 m c i) : ℝ) : EReal) :=
  real_of_below _ (by rw [← infinity_word]; exact congrFun (hp c).2.2.2.2.1 i)
theorem real5 (i) : arg5 m c i = ((EReal.toReal (arg5 m c i) : ℝ) : EReal) :=
  real_of_below _ (by rw [← infinity_word]; exact congrFun (hp c).2.2.2.2.2.1 i)
theorem real6 (i) : arg6 m c i = ((EReal.toReal (arg6 m c i) : ℝ) : EReal) :=
  real_of_below _ (by rw [← infinity_word]; exact congrFun (hp c).2.2.2.2.2.2.1 i)
theorem real7 (i) : arg7 m c i = ((EReal.toReal (arg7 m c i) : ℝ) : EReal) :=
  real_of_below _ (by rw [← infinity_word]; exact congrFun (hp c).2.2.2.2.2.2.2.1 i)
theorem real8 (i) : arg8 m c i = ((EReal.toReal (arg8 m c i) : ℝ) : EReal) :=
  real_of_below _ (by rw [← infinity_word]; exact congrFun (hp c).2.2.2.2.2.2.2.2.1 i)
theorem real9 (i) : arg9 m c i = ((EReal.toReal (arg9 m c i) : ℝ) : EReal) :=
  real_of_below _ (by rw [← infinity_word]; exact congrFun (hp c).2.2.2.2.2.2.2.2.2.1 i)
theorem real10 (i) : arg10 m c i = ((EReal.toReal (arg10 m c i) : ℝ) : EReal) :=
  real_of_below _ (by rw [← infinity_word]; exact congrFun (hp c).2.2.2.2.2.2.2.2.2.2.1 i)
theorem real11 (i) : arg11 m c i = ((EReal.toReal (arg11 m c i) : ℝ) : EReal) :=
  real_of_below _ (by rw [← infinity_word]; exact congrFun (hp c).2.2.2.2.2.2.2.2.2.2.2.1 i)
theorem real12 (i) : arg12 m c i = ((EReal.toReal (arg12 m c i) : ℝ) : EReal) :=
  real_of_below _ (by rw [← infinity_word]; exact congrFun (hp c).2.2.2.2.2.2.2.2.2.2.2.2 i)

theorem holds : Cert.MidIdeal.Run.Holds m c (reals m c) where
  x := planeOf_at (real0 c hp)
  oa := planeOf_at (real1 c hp)
  z := planeOf_at (real2 c hp)
  bg := rowOf_at (real3 c hp)
  lng := rowOf_at (real4 c hp)
  lnb := rowOf_at (real5 c hp)
  w := cubeOf_at (real6 c hp)
  bs := planeOf_at (real7 c hp)
  wpa := planeOf_at (real8 c hp)
  wpb := planeOf_at (real9 c hp)
  wo := planeOf_at (real10 c hp)
  fg := lineOf_at (real11 c hp)
  t := planeOf_at (real12 c hp)

theorem read : Cert.MidRefIdeal.Val.Args (reals m c) (arg0 m c) (arg1 m c) (arg2 m c) (arg3 m c) (arg4 m c) (arg5 m c) (arg6 m c) (arg7 m c) (arg8 m c) (arg9 m c) (arg10 m c) (arg11 m c) (arg12 m c) where
  x := planeOf_at (real0 c hp)
  oa := planeOf_at (real1 c hp)
  z := planeOf_at (real2 c hp)
  bg := rowOf_at (real3 c hp)
  lng := rowOf_at (real4 c hp)
  lnb := rowOf_at (real5 c hp)
  w := cubeOf_at (real6 c hp)
  bs := planeOf_at (real7 c hp)
  wpa := planeOf_at (real8 c hp)
  wpb := planeOf_at (real9 c hp)
  wo := planeOf_at (real10 c hp)
  fg := lineOf_at (real11 c hp)
  t := planeOf_at (real12 c hp)

/-- The residual path's gradient, of the reference. -/
theorem reference_dx : val_main_v163 (F := Ideal) (arg0 m c) (arg1 m c) (arg2 m c) (arg3 m c) (arg4 m c) (arg5 m c) (arg6 m c) (arg7 m c) (arg8 m c) (arg9 m c) (arg10 m c) (arg11 m c) (arg12 m c)
    = fun y : Cert.MidIdeal.S4096x1024.Idx => ((reals m c).dx (y 0).val (y 1) : EReal) := funext fun y => by
  obtain ⟨n, l, rfl⟩ : ∃ (n : Fin 4096) (l : Fin 1024), y = ix2 n l := ⟨y 0, y 1, by pointwise⟩
  exact (read c hp).dx n l

/-- The final gain's gradient, of the reference. -/
theorem reference_gain : val_main_v164 (F := Ideal) (arg0 m c) (arg1 m c) (arg2 m c) (arg3 m c) (arg4 m c) (arg5 m c) (arg6 m c) (arg7 m c) (arg8 m c) (arg9 m c) (arg10 m c) (arg11 m c) (arg12 m c)
    = fun y : Cert.MidIdeal.S1x1024.Idx => ((reals m c).gain (y 1).val : EReal) := funext fun y => by
  obtain ⟨r, l, rfl⟩ : ∃ (r : Fin 1) (l : Fin 1024), y = ix2 r l := ⟨y 0, y 1, by pointwise⟩
  obtain rfl := Subsingleton.elim r 0
  exact (read c hp).gain l

/-- The loss, of the reference. -/
theorem reference_loss : val_main_v165 (F := Ideal) (arg0 m c) (arg1 m c) (arg2 m c) (arg3 m c) (arg4 m c) (arg5 m c) (arg6 m c) (arg7 m c) (arg8 m c) (arg9 m c) (arg10 m c) (arg11 m c) (arg12 m c)
    = fun _ : Cert.MidIdeal.S1x1.Idx => ((reals m c).loss : EReal) := funext fun y => by
  obtain ⟨r, l, rfl⟩ : ∃ (r : Fin 1) (l : Fin 1), y = ix2 r l := ⟨y 0, y 1, by pointwise⟩
  obtain rfl := Subsingleton.elim r 0
  obtain rfl := Subsingleton.elim l 0
  exact (read c hp).loss

omit hp

theorem equal : algebraic_MidIdeal_MidRefIdeal_pre_finite_mid := by
  intro m ρ m' ρ' hp hagree
  refine ⟨fun c => fun y : Cert.MidIdeal.S4096x1024.Idx => ((reals m c).dx (y 0).val (y 1) : EReal),
    fun c => fun y : Cert.MidIdeal.S1x1024.Idx => ((reals m c).gain (y 1).val : EReal),
    fun c => fun _ : Cert.MidIdeal.S1x1.Idx => ((reals m c).loss : EReal), ?_, ?_⟩
  · refine (θ_run Cert.MidIdeal.defs _ _).mono (fun r h c => ?_) (Cert.MidIdeal.Run.run_blocks (F := Ideal) m ρ)
    exact ⟨(h c).1.trans (Cert.MidIdeal.Run.result17 (holds c hp)), (h c).2.1.trans (Cert.MidIdeal.Run.result21 (holds c hp)),
      (h c).2.2.1.trans (Cert.MidIdeal.Run.result26 (holds c hp)), (h c).2.2.2⟩
  · refine (θ_run Cert.MidRefIdeal.defs _ _).mono (fun r h c => ?_) (Cert.MidRefIdeal.Value.run (F := Ideal) m' ρ')
    obtain ⟨a0, a1, a2, a3, a4, a5, a6, a7, a8, a9, a10, a11, a12⟩ := hagree c
    refine ⟨((h c).1.trans (val_main_v163_eq (F := Ideal) (StableHlo.launchContents m' c))).trans (Eq.trans ?_ (reference_dx c hp)),
      ((h c).2.1.trans (val_main_v164_eq (F := Ideal) (StableHlo.launchContents m' c))).trans (Eq.trans ?_ (reference_gain c hp)),
      ((h c).2.2.1.trans (val_main_v165_eq (F := Ideal) (StableHlo.launchContents m' c))).trans (Eq.trans ?_ (reference_loss c hp)), (h c).2.2.2⟩
    · unfold arg0 arg1 arg2 arg3 arg4 arg5 arg6 arg7 arg8 arg9 arg10 arg11 arg12
      rw [← a0, ← a1, ← a2, ← a3, ← a4, ← a5, ← a6, ← a7, ← a8, ← a9, ← a10, ← a11, ← a12]
    · unfold arg0 arg1 arg2 arg3 arg4 arg5 arg6 arg7 arg8 arg9 arg10 arg11 arg12
      rw [← a0, ← a1, ← a2, ← a3, ← a4, ← a5, ← a6, ← a7, ← a8, ← a9, ← a10, ← a11, ← a12]
    · unfold arg0 arg1 arg2 arg3 arg4 arg5 arg6 arg7 arg8 arg9 arg10 arg11 arg12
      rw [← a0, ← a1, ← a2, ← a3, ← a4, ← a5, ← a6, ← a7, ← a8, ← a9, ← a10, ← a11, ← a12]

end Cert.MidValue

end
-- ==== Proof.lean ====
/- The assembled proof of `Cert.Claim`: the frames from the runs, generated or by hand, the value claims from the equations of the
   modules under `Proof/`. -/
module

public import proofs.«01_k».proof.Defs
public import proofs.«01_k».proof.Proof.Gen.Bias.Frame
public import proofs.«01_k».proof.Proof.Gen.BiasIdeal.Value
public import proofs.«01_k».proof.Proof.Gen.BiasRefIdeal.Run
public import proofs.«01_k».proof.Proof.BiasEq
public import proofs.«01_k».proof.Proof.AttnFrames
public import proofs.«01_k».proof.Proof.AttnValue
public import proofs.«01_k».proof.Proof.Gen.Attn.Frame
public import proofs.«01_k».proof.Proof.Gen.AttnIdeal.Frame
public import proofs.«01_k».proof.Proof.Gen.AttnIdeal.Skeleton
public import proofs.«01_k».proof.Proof.Gen.AttnRefIdeal.Read
public import proofs.«01_k».proof.Proof.Gen.AttnRefIdeal.Run
public import proofs.«01_k».proof.Proof.Gen.GradX.Frame
public import proofs.«01_k».proof.Proof.Gen.GradXIdeal.Frame
public import proofs.«01_k».proof.Proof.Gen.GradXIdeal.Value
public import proofs.«01_k».proof.Proof.Gen.GradXRefIdeal.Read
public import proofs.«01_k».proof.Proof.Gen.GradXRefIdeal.Run
public import proofs.«01_k».proof.Proof.GradXValue
public import proofs.«01_k».proof.Proof.Gen.GradW.Frame
public import proofs.«01_k».proof.Proof.Gen.GradWIdeal.Frame
public import proofs.«01_k».proof.Proof.Gen.GradWIdeal.Value
public import proofs.«01_k».proof.Proof.Gen.GradWRefIdeal.Read
public import proofs.«01_k».proof.Proof.Gen.GradWRefIdeal.Run
public import proofs.«01_k».proof.Proof.GradWValue
public import proofs.«01_k».proof.Proof.Gen.Mid.Frame.Runs
public import proofs.«01_k».proof.Proof.Gen.MidIdeal.Frame.Runs
public import proofs.«01_k».proof.Proof.MidFrames
public import proofs.«01_k».proof.Proof.MidValue
public import proofs.«01_k».proof.Proof.Gen.MidRefIdeal.Read
public import proofs.«01_k».proof.Proof.Gen.MidRefIdeal.Run
public import Idealize.ShloMosaic.PureOps.IdealRules
public import Idealize.ShloMosaic.Adequacy
public import Idealize.ShloMosaic.Init
public import Idealize.ShloMosaic.Lib.Quiescent

@[expose] public section

noncomputable section

namespace Cert.Proof

open Idealize.ShloMosaic Idealize.SL.Sem

theorem quiescent_BiasRefIdeal : quiescent_BiasRefIdeal := fun m ρ _ =>
  (θ_run Cert.BiasRefIdeal.defs _ _).mono (fun r h => ⟨fun c => (h c).2, sem_eq_zero_of_no_sems (by decide) r.2⟩)
    (Cert.BiasRefIdeal.Value.run (F := Ideal) m ρ)

theorem algebraic_BiasIdeal_BiasRefIdeal : algebraic_BiasIdeal_BiasRefIdeal := by
  intro m ρ m' ρ' _ hagree
  refine ⟨_, Cert.BiasIdeal.Value.run (F := Ideal) m ρ, ?_⟩
  refine (θ_run Cert.BiasRefIdeal.defs _ _).mono (fun _ h c => ⟨?_, (h c).2⟩) (Cert.BiasRefIdeal.Value.run (F := Ideal) m' ρ')
  rw [(h c).1]
  simp only [hagree c]
  exact Cert.BiasEq.equal _

theorem quiescent_AttnRefIdeal : quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

theorem preserves_Attn_AttnIdeal : preserves_Attn_AttnIdeal :=
  IdealRules.named_const.statement Cert.AttnIdeal.κ "mask" .f32 0xF149F2CA#32 ⊥ rfl

theorem quiescent_GradXRefIdeal : quiescent_GradXRefIdeal := fun m ρ _ =>
  (θ_run Cert.GradXRefIdeal.defs _ _).mono (fun r h => ⟨fun c => (h c).2, sem_eq_zero_of_no_sems (by decide) r.2⟩)
    (Cert.GradXRefIdeal.Value.run (F := Ideal) m ρ)

theorem quiescent_GradWRefIdeal : quiescent_GradWRefIdeal := fun m ρ _ =>
  (θ_run Cert.GradWRefIdeal.defs _ _).mono (fun r h => ⟨fun c => (h c).2.2, sem_eq_zero_of_no_sems (by decide) r.2⟩)
    (Cert.GradWRefIdeal.Value.run (F := Ideal) m ρ)

theorem quiescent_MidRefIdeal : quiescent_MidRefIdeal := fun m ρ _ =>
  (θ_run Cert.MidRefIdeal.defs _ _).mono (fun r h => ⟨fun c => (h c).2.2.2, sem_eq_zero_of_no_sems (by decide) r.2⟩)
    (Cert.MidRefIdeal.Value.run (F := Ideal) m ρ)

theorem claim : Cert.Claim := ⟨Cert.Bias.Gen.facts, Cert.BiasIdeal.Gen.facts, Cert.BiasRefIdeal.Gen.facts,
  Cert.Attn.Gen.facts, Cert.AttnIdeal.Gen.facts, Cert.AttnRefIdeal.Gen.facts,
  Cert.GradX.Gen.facts, Cert.GradXIdeal.Gen.facts, Cert.GradXRefIdeal.Gen.facts,
  Cert.GradW.Gen.facts, Cert.GradWIdeal.Gen.facts, Cert.GradWRefIdeal.Gen.facts, Cert.Mid.Gen.facts, Cert.MidIdeal.Gen.facts,
  Cert.MidRefIdeal.Gen.facts,
  Cert.AttnValue.preFacts, Cert.GradXValue.preFacts, Cert.GradWValue.preFacts, Cert.MidValue.preFacts,
  fun m ρ _ => Cert.Bias.Gen.frame m ρ, fun m ρ _ => Cert.BiasIdeal.Gen.frame m ρ, quiescent_BiasRefIdeal,
  Cert.AttnFrames.frame_Attn, Cert.AttnFrames.frame_AttnIdeal, fun m ρ _ => Cert.AttnFrames.frame_AttnIdeal m ρ trivial,
  quiescent_AttnRefIdeal, fun m ρ _ => quiescent_AttnRefIdeal m ρ trivial,
  fun m ρ _ => Cert.GradX.Gen.frame m ρ, fun m ρ _ => Cert.GradXIdeal.Gen.frame m ρ, fun m ρ _ => Cert.GradXIdeal.Gen.frame m ρ,
  quiescent_GradXRefIdeal, fun m ρ _ => quiescent_GradXRefIdeal m ρ trivial,
  fun m ρ _ => Cert.GradW.Gen.frame m ρ, fun m ρ _ => Cert.GradWIdeal.Gen.frame m ρ, fun m ρ _ => Cert.GradWIdeal.Gen.frame m ρ,
  quiescent_GradWRefIdeal, fun m ρ _ => quiescent_GradWRefIdeal m ρ trivial,
  Cert.MidFrames.frame_Mid, Cert.MidFrames.frame_MidIdeal, fun m ρ _ => Cert.MidFrames.frame_MidIdeal m ρ trivial,
  quiescent_MidRefIdeal, fun m ρ _ => quiescent_MidRefIdeal m ρ trivial,
  (trivial : preserves_Bias_BiasIdeal), algebraic_BiasIdeal_BiasRefIdeal, preserves_Attn_AttnIdeal, Cert.AttnValue.equal,
  (trivial : preserves_GradX_GradXIdeal), Cert.GradXValue.equal, (trivial : preserves_GradW_GradWIdeal), Cert.GradWValue.equal,
  (trivial : preserves_Mid_MidIdeal), Cert.MidValue.equal⟩

end Cert.Proof

end
